-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def preserves_Kernel_KernelIdeal : Prop :=
  True

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v60) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v14)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v96) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v70) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v70) = v0 c
          ∧ r.2.mem ((c.tc : Thread Cert.Reference5Ideal.nD Cert.Reference5Ideal.τ).loc Cert.Reference5Ideal.main_v75) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v152) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v88) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Kernel.lean ====
abbrev S8x4096x3072 : Shape := ⟨3, ![8, 4096, 3072]⟩
abbrev S8x256x3072 : Shape := ⟨3, ![8, 256, 3072]⟩
abbrev S16x15x31 : Shape := ⟨3, ![16, 15, 31]⟩
abbrev S16 : Shape := ⟨1, ![16]⟩
abbrev S_ : Shape := ⟨0, ![]⟩
abbrev S32768x3072 : Shape := ⟨2, ![32768, 3072]⟩
abbrev S2048x3072 : Shape := ⟨2, ![2048, 3072]⟩
abbrev S34816x3072 : Shape := ⟨2, ![34816, 3072]⟩
abbrev S34816x1024 : Shape := ⟨2, ![34816, 1024]⟩
abbrev S34816x2048 : Shape := ⟨2, ![34816, 2048]⟩
abbrev S34816x24x128 : Shape := ⟨3, ![34816, 24, 128]⟩
abbrev S24x34816x128 : Shape := ⟨3, ![24, 34816, 128]⟩
abbrev S64x64 : Shape := ⟨2, ![64, 64]⟩
abbrev S31x64x64 : Shape := ⟨3, ![31, 64, 64]⟩
abbrev S1x64x64 : Shape := ⟨3, ![1, 64, 64]⟩
abbrev S16x15x64x64 : Shape := ⟨4, ![16, 15, 64, 64]⟩
abbrev S1x1x64x64 : Shape := ⟨4, ![1, 1, 64, 64]⟩
abbrev S16x1x64x64 : Shape := ⟨4, ![16, 1, 64, 64]⟩
abbrev S16x16x64x64 : Shape := ⟨4, ![16, 16, 64, 64]⟩
abbrev S16x3x256x768 : Shape := ⟨4, ![16, 3, 256, 768]⟩
abbrev S1x16x64x64 : Shape := ⟨4, ![1, 16, 64, 64]⟩
abbrev S1x3x256x768 : Shape := ⟨4, ![1, 3, 256, 768]⟩
abbrev S64x768 : Shape := ⟨2, ![64, 768]⟩
abbrev S1x1x64x768 : Shape := ⟨4, ![1, 1, 64, 768]⟩
abbrev S8x32768x128 : Shape := ⟨3, ![8, 32768, 128]⟩
abbrev S1x4096x128 : Shape := ⟨3, ![1, 4096, 128]⟩
abbrev S1x256x128 : Shape := ⟨3, ![1, 256, 128]⟩
abbrev S2x3x256x768 : Shape := ⟨4, ![2, 3, 256, 768]⟩
abbrev S1x128 : Shape := ⟨2, ![1, 128]⟩
abbrev S256x128 : Shape := ⟨2, ![256, 128]⟩
abbrev S1 : Shape := ⟨1, ![1]⟩
abbrev S1x768x128 : Shape := ⟨3, ![1, 768, 128]⟩
abbrev S768x128 : Shape := ⟨2, ![768, 128]⟩
abbrev S256x768 : Shape := ⟨2, ![256, 768]⟩
abbrev S1x1x256x768 : Shape := ⟨4, ![1, 1, 256, 768]⟩
abbrev S256x256 : Shape := ⟨2, ![256, 256]⟩
abbrev S256 : Shape := ⟨1, ![256]⟩
abbrev S256x1 : Shape := ⟨2, ![256, 1]⟩
abbrev S32768x8x128 : Shape := ⟨3, ![32768, 8, 128]⟩
abbrev S8x4096x1024 : Shape := ⟨3, ![8, 4096, 1024]⟩

abbrev nBuf : Space → Nat
  | .hbm => 73
  | .vmem => 18
  | .smem => 2
  | _ => 0

abbrev bufTy : (tb : Table) → Fin (tcTables nBuf tb) → BufTy
  | .hbm, ⟨0, _⟩ => ⟨S8x4096x3072, .f32⟩
  | .hbm, ⟨1, _⟩ => ⟨S8x256x3072, .f32⟩
  | .hbm, ⟨2, _⟩ => ⟨S16x15x31, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S32768x3072, .f32⟩
  | .hbm, ⟨8, _⟩ => ⟨S2048x3072, .f32⟩
  | .hbm, ⟨9, _⟩ => ⟨S34816x3072, .f32⟩
  | .hbm, ⟨10, _⟩ => ⟨S34816x1024, .f32⟩
  | .hbm, ⟨11, _⟩ => ⟨S34816x1024, .f32⟩
  | .hbm, ⟨12, _⟩ => ⟨S34816x1024, .f32⟩
  | .hbm, ⟨13, _⟩ => ⟨S34816x2048, .f32⟩
  | .hbm, ⟨14, _⟩ => ⟨S34816x3072, .f32⟩
  | .hbm, ⟨15, _⟩ => ⟨S34816x3072, .bf16⟩
  | .hbm, ⟨16, _⟩ => ⟨S34816x24x128, .bf16⟩
  | .hbm, ⟨17, _⟩ => ⟨S24x34816x128, .bf16⟩
  | .hbm, ⟨18, _⟩ => ⟨S64x64, .i32⟩
  | .hbm, ⟨19, _⟩ => ⟨S64x64, .i32⟩
  | .hbm, ⟨20, _⟩ => ⟨S_, .i32⟩
  | .hbm, ⟨21, _⟩ => ⟨S64x64, .i32⟩
  | .hbm, ⟨22, _⟩ => ⟨S64x64, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S64x64, .i32⟩
  | .hbm, ⟨27, _⟩ => ⟨S64x64, .i32⟩
  | .hbm, ⟨28, _⟩ => ⟨S_, .i32⟩
  | .hbm, ⟨29, _⟩ => ⟨S64x64, .i32⟩
  | .hbm, ⟨30, _⟩ => ⟨S64x64, .i32⟩
  | .hbm, ⟨31, _⟩ => ⟨S64x64, .i1⟩
  | .hbm, ⟨32, _⟩ => ⟨S_, .i32⟩
  | .hbm, ⟨33, _⟩ => ⟨S64x64, .i32⟩
  | .hbm, ⟨34, _⟩ => ⟨S64x64, .i32⟩
  | .hbm, ⟨35, _⟩ => ⟨S64x64, .i1⟩
  | .hbm, ⟨36, _⟩ => ⟨S64x64, .i1⟩
  | .hbm, ⟨37, _⟩ => ⟨S64x64, .i32⟩
  | .hbm, ⟨38, _⟩ => ⟨S_, .i32⟩
  | .hbm, ⟨39, _⟩ => ⟨S64x64, .i32⟩
  | .hbm, ⟨40, _⟩ => ⟨S64x64, .i32⟩
  | .hbm, ⟨41, _⟩ => ⟨S_, .i32⟩
  | .hbm, ⟨42, _⟩ => ⟨S64x64, .i32⟩
  | .hbm, ⟨43, _⟩ => ⟨S64x64, .i32⟩
  | .hbm, ⟨44, _⟩ => ⟨S31x64x64, .i32⟩
  | .hbm, ⟨45, _⟩ => ⟨S1x64x64, .i32⟩
  | .hbm, ⟨46, _⟩ => ⟨S31x64x64, .i32⟩
  | .hbm, ⟨47, _⟩ => ⟨S31x64x64, .i1⟩
  | .hbm, ⟨48, _⟩ => ⟨S1x64x64, .i1⟩
  | .hbm, ⟨49, _⟩ => ⟨S31x64x64, .i1⟩
  | .hbm, ⟨50, _⟩ => ⟨S31x64x64, .i1⟩
  | .hbm, ⟨51, _⟩ => ⟨S31x64x64, .f32⟩
  | .hbm, ⟨52, _⟩ => ⟨S16x15x64x64, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S1x1x64x64, .i1⟩
  | .hbm, ⟨58, _⟩ => ⟨S16x15x64x64, .f32⟩
  | .hbm, ⟨59, _⟩ => ⟨S16x15x64x64, .f32⟩
  | .hbm, ⟨60, _⟩ => ⟨S_, .f32⟩
  | .hbm, ⟨61, _⟩ => ⟨S_, .f32⟩
  | .hbm, ⟨62, _⟩ => ⟨S16x15x64x64, .i1⟩
  | .hbm, ⟨63, _⟩ => ⟨S16x15x64x64, .f32⟩
  | .hbm, ⟨64, _⟩ => ⟨S16x15x64x64, .f32⟩
  | .hbm, ⟨65, _⟩ => ⟨S_, .f32⟩
  | .hbm, ⟨66, _⟩ => ⟨S16x1x64x64, .f32⟩
  | .hbm, ⟨67, _⟩ => ⟨S16x16x64x64, .f32⟩
  | .hbm, ⟨68, _⟩ => ⟨S16x3x256x768, .f32⟩
  | .hbm, ⟨69, _⟩ => ⟨S8x32768x128, .bf16⟩
  | .hbm, ⟨70, _⟩ => ⟨S32768x8x128, .bf16⟩
  | .hbm, ⟨71, _⟩ => ⟨S8x4096x1024, .bf16⟩
  | .hbm, ⟨72, _⟩ => ⟨S8x4096x1024, .f32⟩
  | .local _ .vmem, ⟨0, _⟩ => ⟨S1x16x64x64, .f32⟩
  | .local _ .vmem, ⟨1, _⟩ => ⟨S1x16x64x64, .f32⟩
  | .local _ .vmem, ⟨2, _⟩ => ⟨S1x3x256x768, .f32⟩
  | .local _ .vmem, ⟨3, _⟩ => ⟨S1x3x256x768, .f32⟩
  | .local _ .vmem, ⟨4, _⟩ => ⟨S1x4096x128, .bf16⟩
  | .local _ .vmem, ⟨5, _⟩ => ⟨S1x4096x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x4096x128, .bf16⟩
  | .local _ .vmem, ⟨9, _⟩ => ⟨S1x4096x128, .bf16⟩
  | .local _ .vmem, ⟨10, _⟩ => ⟨S1x256x128, .bf16⟩
  | .local _ .vmem, ⟨11, _⟩ => ⟨S1x256x128, .bf16⟩
  | .local _ .vmem, ⟨12, _⟩ => ⟨S1x256x128, .bf16⟩
  | .local _ .vmem, ⟨13, _⟩ => ⟨S1x256x128, .bf16⟩
  | .local _ .vmem, ⟨14, _⟩ => ⟨S2x3x256x768, .f32⟩
  | .local _ .vmem, ⟨15, _⟩ => ⟨S2x3x256x768, .f32⟩
  | .local _ .vmem, ⟨16, _⟩ => ⟨S1x4096x128, .bf16⟩
  | .local _ .vmem, ⟨17, _⟩ => ⟨S1x4096x128, .bf16⟩
  | .local _ .smem, ⟨0, _⟩ => ⟨S16, .i32⟩
  | .local _ .smem, ⟨1, _⟩ => ⟨S16, .i32⟩
  | _, _ => ⟨S8x4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_2 : Ref sig .tc := ⟨.hbm, 20, rfl⟩
abbrev main_v15 : Ref sig .tc := ⟨.hbm, 21, rfl⟩
abbrev main_v16 : Ref sig .tc := ⟨.hbm, 22, rfl⟩
abbrev main_c_3 : Ref sig .tc := ⟨.hbm, 23, rfl⟩
abbrev main_c_4 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v17 : Ref sig .tc := ⟨.hbm, 30, rfl⟩
abbrev main_v18 : Ref sig .tc := ⟨.hbm, 31, rfl⟩
abbrev main_c_5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_6 : Ref sig .tc := ⟨.hbm, 38, rfl⟩
abbrev main_v24 : Ref sig .tc := ⟨.hbm, 39, rfl⟩
abbrev main_v25 : Ref sig .tc := ⟨.hbm, 40, rfl⟩
abbrev main_c_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_cst_9 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_10 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v42 : Ref sig .tc := ⟨.hbm, 64, rfl⟩
abbrev main_cst_11 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x16x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![8, 8], ![false, false]⟩

abbrev pre1 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

@[reducible] def k1_t1_loop : Scf.Loop 32 :=
  let c0_i32 : BitVec 32 := 0#32
  let c16_i32 : BitVec 32 := 16#32
  let v7 : BitVec 32 := Scalar.addi c0_i32 c16_i32
  let c1_i32 : BitVec 32 := 1#32
  ⟨c0_i32, v7, c1_i32⟩
def k1_mult1 (k1_t1 : Fin k1_t1_loop.trips) : BitVec 32 :=
  let c0_i32 : BitVec 32 := 0#32
  let c1_i32 : BitVec 32 := 1#32
  let arg11 : BitVec 32 := Scf.iv c0_i32 c1_i32 k1_t1
  let c256_i32 : BitVec 32 := 256#32
  let v8 : BitVec 32 := Scalar.muli arg11 c256_i32
  v8
def k1_off1 (k1_t1 : Fin k1_t1_loop.trips) : Fin 1 → Nat :=
  let c0_i32 : BitVec 32 := 0#32
  let c1_i32 : BitVec 32 := 1#32
  let arg11 : BitVec 32 := Scf.iv c0_i32 c1_i32 k1_t1
  let v10 : Index := Scalar.indexCast arg11
  ![v10.toNat]
def k1_mult2 (v11 : BitVec 32) : BitVec 32 :=
  let c256_i32_6 : BitVec 32 := 256#32
  let v12 : BitVec 32 := Scalar.muli v11 c256_i32_6
  v12

def k1_off2 (k1_t1 : Fin k1_t1_loop.trips) : Fin 1 → Nat :=
  let c0_i32 : BitVec 32 := 0#32
  let c1_i32 : BitVec 32 := 1#32
  let arg11 : BitVec 32 := Scf.iv c0_i32 c1_i32 k1_t1
  let v14 : Index := Scalar.indexCast arg11
  ![v14.toNat]
def k1_off3 (k1_t1 : Fin k1_t1_loop.trips) : Fin 3 → Nat :=
  let c0_7 : Index := 0#32
  let c0_i32 : BitVec 32 := 0#32
  let c1_i32 : BitVec 32 := 1#32
  let arg11 : BitVec 32 := Scf.iv c0_i32 c1_i32 k1_t1
  let c256_i32 : BitVec 32 := 256#32
  let v8 : BitVec 32 := Scalar.muli arg11 c256_i32
  let v9 : BitVec 32 := v8
  let v16 : Index := Scalar.indexCast v9
  let c0_8 : Index := 0#32
  ![0, v16.toNat, 0]
def k1_off4 (v11 : BitVec 32) : Fin 3 → Nat :=
  let c0_9 : Index := 0#32
  let c256_i32_6 : BitVec 32 := 256#32
  let v12 : BitVec 32 := Scalar.muli v11 c256_i32_6
  let v13 : BitVec 32 := v12
  let v19 : Index := Scalar.indexCast v13
  let c0_10 : Index := 0#32
  ![0, v19.toNat, 0]

def k1_chk1 (v11 : BitVec 32) : Prop :=
  (256 ∣ (k1_mult2 v11).toNat) ∧
  (∀ a, (k1_off4 v11) a + S1x768x128.size a ≤ S1x4096x128.size a)
theorem k1_mult2_dvd : ∀ (v11 : BitVec 32) (k1_hw1 : k1_chk1 v11), 256 ∣ (k1_mult2 v11).toNat := fun v11 k1_hw1 => k1_hw1.1
theorem k1_off4_inb : ∀ (v11 : BitVec 32) (k1_hw1 : k1_chk1 v11), ∀ a, (k1_off4 v11) a + S1x768x128.size a ≤ S1x4096x128.size a := fun v11 k1_hw1 => k1_hw1.2

def k1_off5 (v15 : BitVec 32) : Fin 4 → Nat :=
  let c0_15 : Index := 0#32
  let v31 : Index := Scalar.indexCast v15
  let c0_16 : Index := 0#32
  let c0_17 : Index := 0#32
  ![0, v31.toNat, 0, 0]

def k1_off6 (v15 : BitVec 32) : Fin 4 → Nat :=
  let c1 : Index := 1#32
  let v66 : Index := Scalar.indexCast v15
  let c0_28 : Index := 0#32
  let c0_29 : Index := 0#32
  ![1, v66.toNat, 0, 0]

def k1_chk2 (v15 : BitVec 32) : Prop :=
  (∀ a, (k1_off5 v15) a + S1x1x256x768.size a ≤ S2x3x256x768.size a) ∧
  (∀ a, (k1_off6 v15) a + S1x1x256x768.size a ≤ S2x3x256x768.size a)
theorem k1_off5_inb : ∀ (v15 : BitVec 32) (k1_hw2 : k1_chk2 v15), ∀ a, (k1_off5 v15) a + S1x1x256x768.size a ≤ S2x3x256x768.size a := fun v15 k1_hw2 => k1_hw2.1
theorem k1_off6_inb : ∀ (v15 : BitVec 32) (k1_hw2 : k1_chk2 v15), ∀ a, (k1_off6 v15) a + S1x1x256x768.size a ≤ S2x3x256x768.size a := fun v15 k1_hw2 => k1_hw2.2

def k1_off7 (k1_t1 : Fin k1_t1_loop.trips) : Fin 3 → Nat :=
  let c0_38 : Index := 0#32
  let c0_i32 : BitVec 32 := 0#32
  let c1_i32 : BitVec 32 := 1#32
  let arg11 : BitVec 32 := Scf.iv c0_i32 c1_i32 k1_t1
  let c256_i32 : BitVec 32 := 256#32
  let v8 : BitVec 32 := Scalar.muli arg11 c256_i32
  let v9 : BitVec 32 := v8
  let v100 : Index := Scalar.indexCast v9
  let c0_39 : Index := 0#32
  ![0, v100.toNat, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![v0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![v0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c128_i32 : BitVec 32 := 128#32
  let v1 : BitVec 32 := Scalar.addi c128_i32 arg1
  let c0_i32 : BitVec 32 := 0#32
  let c0_i32_0 : BitVec 32 := 0#32
  ![v0.toNat, v1.toNat, c0_i32.toNat]

def cc1_transform_4 (i : grid1.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c128_i32 : BitVec 32 := 128#32
  let v1 : BitVec 32 := Scalar.addi c128_i32 arg1
  let c0_i32 : BitVec 32 := 0#32
  let c0_i32_0 : BitVec 32 := 0#32
  ![v0.toNat, v1.toNat, c0_i32.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x4096x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x4096x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x256x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x256x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S2x3x256x768 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x4096x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]
-- ==== ReferenceIdeal.lean ====
abbrev S8x4096x3072 : Shape := ⟨3, ![8, 4096, 3072]⟩
abbrev S8x256x3072 : Shape := ⟨3, ![8, 256, 3072]⟩
abbrev S16x15x31 : Shape := ⟨3, ![16, 15, 31]⟩
abbrev S8x4096x3x16x64 : Shape := ⟨5, ![8, 4096, 3, 16, 64]⟩
abbrev S3x8x16x4096x64 : Shape := ⟨5, ![3, 8, 16, 4096, 64]⟩
abbrev S1x8x16x4096x64 : Shape := ⟨5, ![1, 8, 16, 4096, 64]⟩
abbrev S8x16x4096x64 : Shape := ⟨4, ![8, 16, 4096, 64]⟩
abbrev S8x256x3x16x64 : Shape := ⟨5, ![8, 256, 3, 16, 64]⟩
abbrev S3x8x16x256x64 : Shape := ⟨5, ![3, 8, 16, 256, 64]⟩
abbrev S1x8x16x256x64 : Shape := ⟨5, ![1, 8, 16, 256, 64]⟩
abbrev S8x16x256x64 : Shape := ⟨4, ![8, 16, 256, 64]⟩
abbrev S_ : Shape := ⟨0, ![]⟩
abbrev S8x16x64x64x64 : Shape := ⟨5, ![8, 16, 64, 64, 64]⟩
abbrev S64 : Shape := ⟨1, ![64]⟩
abbrev S64x1 : Shape := ⟨2, ![64, 1]⟩
abbrev S8 : Shape := ⟨1, ![8]⟩
abbrev S1x8 : Shape := ⟨2, ![1, 8]⟩
abbrev S64x8 : Shape := ⟨2, ![64, 8]⟩
abbrev S16 : Shape := ⟨1, ![16]⟩
abbrev S1x16 : Shape := ⟨2, ![1, 16]⟩
abbrev S64x16 : Shape := ⟨2, ![64, 16]⟩
abbrev S64x1x8x1 : Shape := ⟨4, ![64, 1, 8, 1]⟩
abbrev S1x64x1x16 : Shape := ⟨4, ![1, 64, 1, 16]⟩
abbrev S64x64x8x16 : Shape := ⟨4, ![64, 64, 8, 16]⟩
abbrev S64x64x8x16x1 : Shape := ⟨5, ![64, 64, 8, 16, 1]⟩
abbrev S64x64x8x16x2 : Shape := ⟨5, ![64, 64, 8, 16, 2]⟩
abbrev S16x64x64x8x16 : Shape := ⟨5, ![16, 64, 64, 8, 16]⟩
abbrev S8x16x64x64x8x16x64 : Shape := ⟨7, ![8, 16, 64, 64, 8, 16, 64]⟩
abbrev S8x16x64x64x8x16 : Shape := ⟨6, ![8, 16, 64, 64, 8, 16]⟩
abbrev S1x16x64x64x8x16 : Shape := ⟨6, ![1, 16, 64, 64, 8, 16]⟩
abbrev S8x16x64x64x256 : Shape := ⟨5, ![8, 16, 64, 64, 256]⟩
abbrev S8x16x64x64x128 : Shape := ⟨5, ![8, 16, 64, 64, 128]⟩
abbrev S8x16x64x64x384 : Shape := ⟨5, ![8, 16, 64, 64, 384]⟩
abbrev S8x16x64x64 : Shape := ⟨4, ![8, 16, 64, 64]⟩
abbrev S8x16x64x64x1 : Shape := ⟨5, ![8, 16, 64, 64, 1]⟩
abbrev S8x64x64x16x64 : Shape := ⟨5, ![8, 64, 64, 16, 64]⟩
abbrev S8x4096x1024 : Shape := ⟨3, ![8, 4096, 1024]⟩

abbrev nBuf : Space → Nat
  | .hbm => 174
  | .vmem => 0
  | .smem => 0
  | _ => 0

abbrev hbmTy0_0 (i : Nat) : BufTy := match i % 128 with
  | 0 => ⟨S8x4096x3072, .f32⟩
  | 1 => ⟨S8x256x3072, .f32⟩
  | 2 => ⟨S16x15x31, .f32⟩
  | 3 => ⟨S8x4096x3x16x64, .f32⟩
  | 4 => ⟨S3x8x16x4096x64, .f32⟩
  | 5 => ⟨S1x8x16x4096x64, .f32⟩
  | 6 => ⟨S8x16x4096x64, .f32⟩
  | 7 => ⟨S1x8x16x4096x64, .f32⟩
  | 8 => ⟨S8x16x4096x64, .f32⟩
  | 9 => ⟨S1x8x16x4096x64, .f32⟩
  | 10 => ⟨S8x16x4096x64, .f32⟩
  | 11 => ⟨S8x256x3x16x64, .f32⟩
  | 12 => ⟨S3x8x16x256x64, .f32⟩
  | 13 => ⟨S1x8x16x256x64, .f32⟩
  | 14 => ⟨S8x16x256x64, .f32⟩
  | 15 => ⟨S1x8x16x256x64, .f32⟩
  | 16 => ⟨S8x16x256x64, .f32⟩
  | 17 => ⟨S1x8x16x256x64, .f32⟩
  | 18 => ⟨S8x16x256x64, .f32⟩
  | 19 => ⟨S_, .f32⟩
  | 20 => ⟨S8x16x4096x64, .f32⟩
  | 21 => ⟨S8x16x4096x64, .f32⟩
  | 22 => ⟨S8x16x64x64x64, .f32⟩
  | 23 => ⟨S8x16x64x64x64, .f32⟩
  | 24 => ⟨S8x16x64x64x64, .f32⟩
  | 25 => ⟨S64, .i32⟩
  | 26 => ⟨S_, .i32⟩
  | 27 => ⟨S64, .i32⟩
  | 28 => ⟨S64, .i32⟩
  | 29 => ⟨S_, .i32⟩
  | 30 => ⟨S_, .i32⟩
  | 31 => ⟨S_, .i32⟩
  | 32 => ⟨S64, .i32⟩
  | 33 => ⟨S64, .i32⟩
  | 34 => ⟨S_, .i32⟩
  | 35 => ⟨S64, .i32⟩
  | 36 => ⟨S64, .i32⟩
  | 37 => ⟨S64x1, .i32⟩
  | 38 => ⟨S8, .i32⟩
  | 39 => ⟨S1x8, .i32⟩
  | 40 => ⟨S64x8, .i32⟩
  | 41 => ⟨S64x8, .i32⟩
  | 42 => ⟨S64x8, .i32⟩
  | 43 => ⟨S64x1, .i32⟩
  | 44 => ⟨S64x8, .i32⟩
  | 45 => ⟨S64x8, .i32⟩
  | 46 => ⟨S_, .i32⟩
  | 47 => ⟨S64x8, .i32⟩
  | 48 => ⟨S64x8, .i32⟩
  | 49 => ⟨S_, .i32⟩
  | 50 => ⟨S64x8, .i32⟩
  | 51 => ⟨S64x8, .i32⟩
  | 52 => ⟨S64, .i32⟩
  | 53 => ⟨S_, .i32⟩
  | 54 => ⟨S64, .i32⟩
  | 55 => ⟨S64, .i32⟩
  | 56 => ⟨S_, .i32⟩
  | 57 => ⟨S_, .i32⟩
  | 58 => ⟨S_, .i32⟩
  | 59 => ⟨S64, .i32⟩
  | 60 => ⟨S64, .i32⟩
  | 61 => ⟨S_, .i32⟩
  | 62 => ⟨S64, .i32⟩
  | 63 => ⟨S64, .i32⟩
  | 64 => ⟨S64x1, .i32⟩
  | 65 => ⟨S16, .i32⟩
  | 66 => ⟨S1x16, .i32⟩
  | 67 => ⟨S64x16, .i32⟩
  | 68 => ⟨S64x16, .i32⟩
  | 69 => ⟨S64x16, .i32⟩
  | 70 => ⟨S64x1, .i32⟩
  | 71 => ⟨S64x16, .i32⟩
  | 72 => ⟨S64x16, .i32⟩
  | 73 => ⟨S_, .i32⟩
  | 74 => ⟨S64x16, .i32⟩
  | 75 => ⟨S64x16, .i32⟩
  | 76 => ⟨S_, .i32⟩
  | 77 => ⟨S64x16, .i32⟩
  | 78 => ⟨S64x16, .i32⟩
  | 79 => ⟨S64x1x8x1, .i32⟩
  | 80 => ⟨S1x64x1x16, .i32⟩
  | 81 => ⟨S_, .i32⟩
  | 82 => ⟨S64x1x8x1, .i32⟩
  | 83 => ⟨S64x1x8x1, .i1⟩
  | 84 => ⟨S_, .i32⟩
  | 85 => ⟨S64x1x8x1, .i32⟩
  | 86 => ⟨S64x1x8x1, .i32⟩
  | 87 => ⟨S64x1x8x1, .i32⟩
  | 88 => ⟨S_, .i32⟩
  | 89 => ⟨S1x64x1x16, .i32⟩
  | 90 => ⟨S1x64x1x16, .i1⟩
  | 91 => ⟨S_, .i32⟩
  | 92 => ⟨S1x64x1x16, .i32⟩
  | 93 => ⟨S1x64x1x16, .i32⟩
  | 94 => ⟨S1x64x1x16, .i32⟩
  | 95 => ⟨S64x64x8x16, .i32⟩
  | 96 => ⟨S64x64x8x16, .i32⟩
  | 97 => ⟨S64x64x8x16x1, .i32⟩
  | 98 => ⟨S64x64x8x16x1, .i32⟩
  | 99 => ⟨S64x64x8x16x2, .i32⟩
  | 100 => ⟨S16x64x64x8x16, .f32⟩
  | 101 => ⟨S64x1x8x1, .i32⟩
  | 102 => ⟨S1x64x1x16, .i32⟩
  | 103 => ⟨S_, .i32⟩
  | 104 => ⟨S64x1x8x1, .i32⟩
  | 105 => ⟨S64x1x8x1, .i1⟩
  | 106 => ⟨S_, .i32⟩
  | 107 => ⟨S64x1x8x1, .i32⟩
  | 108 => ⟨S64x1x8x1, .i32⟩
  | 109 => ⟨S64x1x8x1, .i32⟩
  | 110 => ⟨S_, .i32⟩
  | 111 => ⟨S1x64x1x16, .i32⟩
  | 112 => ⟨S1x64x1x16, .i1⟩
  | 113 => ⟨S_, .i32⟩
  | 114 => ⟨S1x64x1x16, .i32⟩
  | 115 => ⟨S1x64x1x16, .i32⟩
  | 116 => ⟨S1x64x1x16, .i32⟩
  | 117 => ⟨S64x64x8x16, .i32⟩
  | 118 => ⟨S64x64x8x16, .i32⟩
  | 119 => ⟨S64x64x8x16x1, .i32⟩
  | 120 => ⟨S64x64x8x16x1, .i32⟩
  | 121 => ⟨S64x64x8x16x2, .i32⟩
  | 122 => ⟨S8x16x64x64x8x16x64, .f32⟩
  | 123 => ⟨S64x1x8x1, .i32⟩
  | 124 => ⟨S1x64x1x16, .i32⟩
  | 125 => ⟨S_, .i32⟩
  | 126 => ⟨S64x1x8x1, .i32⟩
  | 127 => ⟨S64x1x8x1, .i1⟩
  | _ => ⟨S8x4096x3072, .f32⟩

abbrev hbmTy0_1 (i : Nat) : BufTy := match i % 128 with
  | 0 => ⟨S_, .i32⟩
  | 1 => ⟨S64x1x8x1, .i32⟩
  | 2 => ⟨S64x1x8x1, .i32⟩
  | 3 => ⟨S64x1x8x1, .i32⟩
  | 4 => ⟨S_, .i32⟩
  | 5 => ⟨S1x64x1x16, .i32⟩
  | 6 => ⟨S1x64x1x16, .i1⟩
  | 7 => ⟨S_, .i32⟩
  | 8 => ⟨S1x64x1x16, .i32⟩
  | 9 => ⟨S1x64x1x16, .i32⟩
  | 10 => ⟨S1x64x1x16, .i32⟩
  | 11 => ⟨S64x64x8x16, .i32⟩
  | 12 => ⟨S64x64x8x16, .i32⟩
  | 13 => ⟨S64x64x8x16x1, .i32⟩
  | 14 => ⟨S64x64x8x16x1, .i32⟩
  | 15 => ⟨S64x64x8x16x2, .i32⟩
  | 16 => ⟨S8x16x64x64x8x16x64, .f32⟩
  | 17 => ⟨S8x16x64x64x8x16, .f32⟩
  | 18 => ⟨S1x16x64x64x8x16, .f32⟩
  | 19 => ⟨S8x16x64x64x8x16, .f32⟩
  | 20 => ⟨S8x16x64x64x8x16, .f32⟩
  | 21 => ⟨S8x16x64x64x256, .f32⟩
  | 22 => ⟨S8x16x64x64x128, .f32⟩
  | 23 => ⟨S8x16x64x64x384, .f32⟩
  | 24 => ⟨S_, .f32⟩
  | 25 => ⟨S8x16x64x64, .f32⟩
  | 26 => ⟨S_, .f32⟩
  | 27 => ⟨S8x16x64x64, .f32⟩
  | 28 => ⟨S8x16x64x64, .f32⟩
  | 29 => ⟨S8x16x64x64x1, .f32⟩
  | 30 => ⟨S8x16x64x64x384, .f32⟩
  | 31 => ⟨S8x16x64x64x384, .f32⟩
  | 32 => ⟨S8x16x64x64x384, .f32⟩
  | 33 => ⟨S_, .f32⟩
  | 34 => ⟨S8x16x64x64, .f32⟩
  | 35 => ⟨S8x16x64x64x1, .f32⟩
  | 36 => ⟨S8x16x64x64x384, .f32⟩
  | 37 => ⟨S8x16x64x64x384, .f32⟩
  | 38 => ⟨S8x16x64x64x128, .f32⟩
  | 39 => ⟨S8x16x64x64x8x16, .f32⟩
  | 40 => ⟨S8x16x64x64x256, .f32⟩
  | 41 => ⟨S8x16x64x64x64, .f32⟩
  | 42 => ⟨S8x16x64x64x64, .f32⟩
  | 43 => ⟨S8x16x64x64x64, .f32⟩
  | 44 => ⟨S8x64x64x16x64, .f32⟩
  | 45 => ⟨S8x4096x1024, .f32⟩
  | _ => ⟨S8x4096x3072, .f32⟩

abbrev hbmTy (i : Nat) : BufTy := match i / 128 with
  | 0 => hbmTy0_0 i
  | 1 => hbmTy0_1 i
  | _ => ⟨S8x4096x3072, .f32⟩

abbrev bufTy : (tb : Table) → Fin (tcTables nBuf tb) → BufTy
  | .hbm, ⟨i, _⟩ => hbmTy i
  | _, _ => ⟨S8x4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_c : Ref sig .tc := ⟨.hbm, 26, rfl⟩
abbrev main_v22 : Ref sig .tc := ⟨.hbm, 27, rfl⟩
abbrev main_v23 : Ref sig .tc := ⟨.hbm, 28, rfl⟩
abbrev main_c_0 : Ref sig .tc := ⟨.hbm, 29, rfl⟩
abbrev main_c_1 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_2 : Ref sig .tc := ⟨.hbm, 46, rfl⟩
abbrev main_v34 : Ref sig .tc := ⟨.hbm, 47, rfl⟩
abbrev main_v35 : Ref sig .tc := ⟨.hbm, 48, rfl⟩
abbrev main_c_3 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_4 : Ref sig .tc := ⟨.hbm, 53, rfl⟩
abbrev main_v39 : Ref sig .tc := ⟨.hbm, 54, rfl⟩
abbrev main_v40 : Ref sig .tc := ⟨.hbm, 55, rfl⟩
abbrev main_c_5 : Ref sig .tc := ⟨.hbm, 56, rfl⟩
abbrev main_c_6 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_7 : Ref sig .tc := ⟨.hbm, 73, rfl⟩
abbrev main_v51 : Ref sig .tc := ⟨.hbm, 74, rfl⟩
abbrev main_v52 : Ref sig .tc := ⟨.hbm, 75, rfl⟩
abbrev main_c_8 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_9 : Ref sig .tc := ⟨.hbm, 81, rfl⟩
abbrev main_v57 : Ref sig .tc := ⟨.hbm, 82, rfl⟩
abbrev main_v58 : Ref sig .tc := ⟨.hbm, 83, rfl⟩
abbrev main_c_10 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_c_11 : Ref sig .tc := ⟨.hbm, 88, rfl⟩
abbrev main_v62 : Ref sig .tc := ⟨.hbm, 89, rfl⟩
abbrev main_v63 : Ref sig .tc := ⟨.hbm, 90, rfl⟩
abbrev main_c_12 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_c_13 : Ref sig .tc := ⟨.hbm, 103, rfl⟩
abbrev main_v75 : Ref sig .tc := ⟨.hbm, 104, rfl⟩
abbrev main_v76 : Ref sig .tc := ⟨.hbm, 105, rfl⟩
abbrev main_c_14 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_c_15 : Ref sig .tc := ⟨.hbm, 110, rfl⟩
abbrev main_v80 : Ref sig .tc := ⟨.hbm, 111, rfl⟩
abbrev main_v81 : Ref sig .tc := ⟨.hbm, 112, rfl⟩
abbrev main_c_16 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_c_17 : Ref sig .tc := ⟨.hbm, 125, rfl⟩
abbrev main_v93 : Ref sig .tc := ⟨.hbm, 126, rfl⟩
abbrev main_v94 : Ref sig .tc := ⟨.hbm, 127, rfl⟩
abbrev main_c_18 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_c_19 : Ref sig .tc := ⟨.hbm, 132, rfl⟩
abbrev main_v98 : Ref sig .tc := ⟨.hbm, 133, rfl⟩
abbrev main_v99 : Ref sig .tc := ⟨.hbm, 134, rfl⟩
abbrev main_c_20 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_cst_21 : Ref sig .tc := ⟨.hbm, 152, rfl⟩
abbrev main_v116 : Ref sig .tc := ⟨.hbm, 153, rfl⟩
abbrev main_cst_22 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_cst_23 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩

abbrev nD : Nat := 1
abbrev τ : Topo := Topo.v7x

variable {F : FTy → Type} [FloatOps F]
-- ==== Kernel2.lean ====
abbrev S8x4096x1024 : Shape := ⟨3, ![8, 4096, 1024]⟩
abbrev S4x8x6x1024 : Shape := ⟨4, ![4, 8, 6, 1024]⟩
abbrev S4x1024 : Shape := ⟨2, ![4, 1024]⟩
abbrev S1024x1024 : Shape := ⟨2, ![1024, 1024]⟩
abbrev S4x1024x4096 : Shape := ⟨3, ![4, 1024, 4096]⟩
abbrev S4x4096x1024 : Shape := ⟨3, ![4, 4096, 1024]⟩
abbrev S1024 : Shape := ⟨1, ![1024]⟩
abbrev S_ : Shape := ⟨0, ![]⟩
abbrev S4x16x6x1024 : Shape := ⟨4, ![4, 16, 6, 1024]⟩
abbrev S32768x8x128 : Shape := ⟨3, ![32768, 8, 128]⟩
abbrev S8x32768x128 : Shape := ⟨3, ![8, 32768, 128]⟩
abbrev S32768x1024 : Shape := ⟨2, ![32768, 1024]⟩
abbrev S4x1x1024 : Shape := ⟨3, ![4, 1, 1024]⟩
abbrev S1x1024 : Shape := ⟨2, ![1, 1024]⟩
abbrev S8x512x128 : Shape := ⟨3, ![8, 512, 128]⟩
abbrev S512x1024 : Shape := ⟨2, ![512, 1024]⟩
abbrev S1x1x6x1024 : Shape := ⟨4, ![1, 1, 6, 1024]⟩
abbrev S1x1x1024 : Shape := ⟨3, ![1, 1, 1024]⟩
abbrev S1x1024x4096 : Shape := ⟨3, ![1, 1024, 4096]⟩
abbrev S1x4096x1024 : Shape := ⟨3, ![1, 4096, 1024]⟩
abbrev S1x256x128 : Shape := ⟨3, ![1, 256, 128]⟩
abbrev S256x128 : Shape := ⟨2, ![256, 128]⟩
abbrev S256x1024 : Shape := ⟨2, ![256, 1024]⟩
abbrev S1x1x1x1024 : Shape := ⟨4, ![1, 1, 1, 1024]⟩
abbrev S256 : Shape := ⟨1, ![256]⟩
abbrev S256x1 : Shape := ⟨2, ![256, 1]⟩
abbrev S1024x4096 : Shape := ⟨2, ![1024, 4096]⟩
abbrev S256x4096 : Shape := ⟨2, ![256, 4096]⟩
abbrev S4096x1024 : Shape := ⟨2, ![4096, 1024]⟩

abbrev nBuf : Space → Nat
  | .hbm => 21
  | .vmem => 13
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S4x8x6x1024, .f32⟩
  | .hbm, ⟨3, _⟩ => ⟨S4x1024, .f32⟩
  | .hbm, ⟨4, _⟩ => ⟨S1024x1024, .f32⟩
  | .hbm, ⟨5, _⟩ => ⟨S4x1024x4096, .f32⟩
  | .hbm, ⟨6, _⟩ => ⟨S4x4096x1024, .f32⟩
  | .hbm, ⟨7, _⟩ => ⟨S1024, .f32⟩
  | .hbm, ⟨8, _⟩ => ⟨S_, .f32⟩
  | .hbm, ⟨9, _⟩ => ⟨S4x8x6x1024, .f32⟩
  | .hbm, ⟨10, _⟩ => ⟨S4x16x6x1024, .f32⟩
  | .hbm, ⟨11, _⟩ => ⟨S8x4096x1024, .bf16⟩
  | .hbm, ⟨12, _⟩ => ⟨S32768x8x128, .bf16⟩
  | .hbm, ⟨13, _⟩ => ⟨S8x32768x128, .bf16⟩
  | .hbm, ⟨14, _⟩ => ⟨S32768x1024, .f32⟩
  | .hbm, ⟨15, _⟩ => ⟨S4x1x1024, .f32⟩
  | .hbm, ⟨16, _⟩ => ⟨S1024x1024, .bf16⟩
  | .hbm, ⟨17, _⟩ => ⟨S4x1024x4096, .bf16⟩
  | .hbm, ⟨18, _⟩ => ⟨S4x4096x1024, .bf16⟩
  | .hbm, ⟨19, _⟩ => ⟨S1x1024, .f32⟩
  | .hbm, ⟨20, _⟩ => ⟨S32768x1024, .f32⟩
  | .local _ .vmem, ⟨0, _⟩ => ⟨S8x512x128, .bf16⟩
  | .local _ .vmem, ⟨1, _⟩ => ⟨S8x512x128, .bf16⟩
  | .local _ .vmem, ⟨2, _⟩ => ⟨S512x1024, .f32⟩
  | .local _ .vmem, ⟨3, _⟩ => ⟨S512x1024, .f32⟩
  | .local _ .vmem, ⟨4, _⟩ => ⟨S1x1x6x1024, .f32⟩
  | .local _ .vmem, ⟨5, _⟩ => ⟨S1x1x6x1024, .f32⟩
  | .local _ .vmem, ⟨6, _⟩ => ⟨S1x1x1024, .f32⟩
  | .local _ .vmem, ⟨7, _⟩ => ⟨S1024x1024, .bf16⟩
  | .local _ .vmem, ⟨8, _⟩ => ⟨S1x1024x4096, .bf16⟩
  | .local _ .vmem, ⟨9, _⟩ => ⟨S1x4096x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c512_i32 : BitVec 32 := 512#32
  let v0 : BitVec 32 := Scalar.muli arg0 c512_i32
  let c32768_i32 : BitVec 32 := 32768#32
  let v1 : BitVec 1 := Scalar.cmpi .slt v0 c32768_i32
  let c512_i32_0 : BitVec 32 := 512#32
  let v2 : BitVec 32 := Scalar.muli arg0 c512_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c8_i32 : BitVec 32 := 8#32
  let v20 : BitVec 32 := Scalar.select v1 v19 c8_i32
  let c3_i32 : BitVec 32 := 3#32
  let c0_i32_5 : BitVec 32 := 0#32
  let c0_i32_6 : BitVec 32 := 0#32
  let c0_i32_7 : BitVec 32 := 0#32
  ![c3_i32.toNat, v20.toNat, c0_i32_5.toNat, c0_i32_6.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S8x4096x1024 : Shape := ⟨3, ![8, 4096, 1024]⟩
abbrev S4x8x6x1024 : Shape := ⟨4, ![4, 8, 6, 1024]⟩
abbrev S4x1024 : Shape := ⟨2, ![4, 1024]⟩
abbrev S1024x1024 : Shape := ⟨2, ![1024, 1024]⟩
abbrev S4x1024x4096 : Shape := ⟨3, ![4, 1024, 4096]⟩
abbrev S4x4096x1024 : Shape := ⟨3, ![4, 4096, 1024]⟩
abbrev S1024 : Shape := ⟨1, ![1024]⟩
abbrev S1x8x6x1024 : Shape := ⟨4, ![1, 8, 6, 1024]⟩
abbrev S8x6x1024 : Shape := ⟨3, ![8, 6, 1024]⟩
abbrev S8x6x1x1024 : Shape := ⟨4, ![8, 6, 1, 1024]⟩
abbrev S8x1x1x1024 : Shape := ⟨4, ![8, 1, 1, 1024]⟩
abbrev S8x1x1024 : Shape := ⟨3, ![8, 1, 1024]⟩
abbrev S1x1024 : Shape := ⟨2, ![1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S8x4096x4096 : Shape := ⟨3, ![8, 4096, 4096]⟩
abbrev S32768x1024 : Shape := ⟨2, ![32768, 1024]⟩

abbrev nBuf : Space → Nat
  | .hbm => 78
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S4x8x6x1024, .f32⟩
  | .hbm, ⟨3, _⟩ => ⟨S4x1024, .f32⟩
  | .hbm, ⟨4, _⟩ => ⟨S1024x1024, .f32⟩
  | .hbm, ⟨5, _⟩ => ⟨S4x1024x4096, .f32⟩
  | .hbm, ⟨6, _⟩ => ⟨S4x4096x1024, .f32⟩
  | .hbm, ⟨7, _⟩ => ⟨S1024, .f32⟩
  | .hbm, ⟨8, _⟩ => ⟨S1x8x6x1024, .f32⟩
  | .hbm, ⟨9, _⟩ => ⟨S8x6x1024, .f32⟩
  | .hbm, ⟨10, _⟩ => ⟨S8x6x1x1024, .f32⟩
  | .hbm, ⟨11, _⟩ => ⟨S8x4096x1024, .f32⟩
  | .hbm, ⟨12, _⟩ => ⟨S8x1x1x1024, .f32⟩
  | .hbm, ⟨13, _⟩ => ⟨S8x1x1024, .f32⟩
  | .hbm, ⟨14, _⟩ => ⟨S8x4096x1024, .f32⟩
  | .hbm, ⟨15, _⟩ => ⟨S8x4096x1024, .f32⟩
  | .hbm, ⟨16, _⟩ => ⟨S8x4096x1024, .f32⟩
  | .hbm, ⟨17, _⟩ => ⟨S1x1024, .f32⟩
  | .hbm, ⟨18, _⟩ => ⟨S1024, .f32⟩
  | .hbm, ⟨19, _⟩ => ⟨S8x4096x1024, .f32⟩
  | .hbm, ⟨20, _⟩ => ⟨S_, .f32⟩
  | .hbm, ⟨21, _⟩ => ⟨S8x4096, .f32⟩
  | .hbm, ⟨22, _⟩ => ⟨S8x4096x1, .f32⟩
  | .hbm, ⟨23, _⟩ => ⟨S_, .f32⟩
  | .hbm, ⟨24, _⟩ => ⟨S8x4096x1, .f32⟩
  | .hbm, ⟨25, _⟩ => ⟨S8x4096x1, .f32⟩
  | .hbm, ⟨26, _⟩ => ⟨S_, .f32⟩
  | .hbm, ⟨27, _⟩ => ⟨S8x4096x1, .f32⟩
  | .hbm, ⟨28, _⟩ => ⟨S8x4096x1, .f32⟩
  | .hbm, ⟨29, _⟩ => ⟨S8x4096x1, .f32⟩
  | .hbm, ⟨30, _⟩ => ⟨S8x4096x1024, .f32⟩
  | .hbm, ⟨31, _⟩ => ⟨S8x4096x1024, .f32⟩
  | .hbm, ⟨32, _⟩ => ⟨S1x1x1024, .f32⟩
  | .hbm, ⟨33, _⟩ => ⟨S8x4096x1024, .f32⟩
  | .hbm, ⟨34, _⟩ => ⟨S8x4096x1024, .f32⟩
  | .hbm, ⟨35, _⟩ => ⟨S8x1x1x1024, .f32⟩
  | .hbm, ⟨36, _⟩ => ⟨S8x1x1024, .f32⟩
  | .hbm, ⟨37, _⟩ => ⟨S8x1x1x1024, .f32⟩
  | .hbm, ⟨38, _⟩ => ⟨S8x1x1024, .f32⟩
  | .hbm, ⟨39, _⟩ => ⟨S_, .f32⟩
  | .hbm, ⟨40, _⟩ => ⟨S8x1x1024, .f32⟩
  | .hbm, ⟨41, _⟩ => ⟨S8x1x1024, .f32⟩
  | .hbm, ⟨42, _⟩ => ⟨S8x4096x1024, .f32⟩
  | .hbm, ⟨43, _⟩ => ⟨S8x4096x1024, .f32⟩
  | .hbm, ⟨44, _⟩ => ⟨S8x4096x1024, .f32⟩
  | .hbm, ⟨45, _⟩ => ⟨S8x4096x1024, .f32⟩
  | .hbm, ⟨46, _⟩ => ⟨S8x1x1x1024, .f32⟩
  | .hbm, ⟨47, _⟩ => ⟨S8x1x1024, .f32⟩
  | .hbm, ⟨48, _⟩ => ⟨S1x1024x4096, .f32⟩
  | .hbm, ⟨49, _⟩ => ⟨S1024x4096, .f32⟩
  | .hbm, ⟨50, _⟩ => ⟨S1x4096x1024, .f32⟩
  | .hbm, ⟨51, _⟩ => ⟨S4096x1024, .f32⟩
  | .hbm, ⟨52, _⟩ => ⟨S8x4096x4096, .f32⟩
  | .hbm, ⟨53, _⟩ => ⟨S_, .f32⟩
  | .hbm, ⟨54, _⟩ => ⟨S8x4096x4096, .f32⟩
  | .hbm, ⟨55, _⟩ => ⟨S8x4096x4096, .f32⟩
  | .hbm, ⟨56, _⟩ => ⟨S8x4096x4096, .f32⟩
  | .hbm, ⟨57, _⟩ => ⟨S8x4096x1024, .f32⟩
  | .hbm, ⟨58, _⟩ => ⟨S8x4096x1024, .f32⟩
  | .hbm, ⟨59, _⟩ => ⟨S8x4096x1024, .f32⟩
  | .hbm, ⟨60, _⟩ => ⟨S8x4096x1024, .f32⟩
  | .hbm, ⟨61, _⟩ => ⟨S8x4096x1024, .f32⟩
  | .hbm, ⟨62, _⟩ => ⟨S_, .f32⟩
  | .hbm, ⟨63, _⟩ => ⟨S8x4096, .f32⟩
  | .hbm, ⟨64, _⟩ => ⟨S8x4096x1, .f32⟩
  | .hbm, ⟨65, _⟩ => ⟨S_, .f32⟩
  | .hbm, ⟨66, _⟩ => ⟨S8x4096x1, .f32⟩
  | .hbm, ⟨67, _⟩ => ⟨S8x4096x1, .f32⟩
  | .hbm, ⟨68, _⟩ => ⟨S_, .f32⟩
  | .hbm, ⟨69, _⟩ => ⟨S8x4096x1, .f32⟩
  | .hbm, ⟨70, _⟩ => ⟨S8x4096x1, .f32⟩
  | .hbm, ⟨71, _⟩ => ⟨S8x4096x1, .f32⟩
  | .hbm, ⟨72, _⟩ => ⟨S8x4096x1024, .f32⟩
  | .hbm, ⟨73, _⟩ => ⟨S8x4096x1024, .f32⟩
  | .hbm, ⟨74, _⟩ => ⟨S1x1x1024, .f32⟩
  | .hbm, ⟨75, _⟩ => ⟨S8x4096x1024, .f32⟩
  | .hbm, ⟨76, _⟩ => ⟨S8x4096x1024, .f32⟩
  | .hbm, ⟨77, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_call0_cst : Ref sig .tc := ⟨.hbm, 53, rfl⟩
abbrev main_call0_v0 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_3 : Ref sig .tc := ⟨.hbm, 62, rfl⟩
abbrev main_v48 : Ref sig .tc := ⟨.hbm, 63, rfl⟩
abbrev main_v49 : Ref sig .tc := ⟨.hbm, 64, rfl⟩
abbrev main_cst_4 : Ref sig .tc := ⟨.hbm, 65, rfl⟩
abbrev main_v50 : Ref sig .tc := ⟨.hbm, 66, rfl⟩
abbrev main_v51 : Ref sig .tc := ⟨.hbm, 67, rfl⟩
abbrev main_cst_5 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x256x1024 : Shape := ⟨3, ![8, 256, 1024]⟩
abbrev S4x9x6x1024 : Shape := ⟨4, ![4, 9, 6, 1024]⟩
abbrev S4x1024 : Shape := ⟨2, ![4, 1024]⟩
abbrev S1024x1024 : Shape := ⟨2, ![1024, 1024]⟩
abbrev S4x1024x4096 : Shape := ⟨3, ![4, 1024, 4096]⟩
abbrev S4x4096x1024 : Shape := ⟨3, ![4, 4096, 1024]⟩
abbrev S_ : Shape := ⟨0, ![]⟩
abbrev S4x7x6x1024 : Shape := ⟨4, ![4, 7, 6, 1024]⟩
abbrev S4x16x6x1024 : Shape := ⟨4, ![4, 16, 6, 1024]⟩
abbrev S32768x8x128 : Shape := ⟨3, ![32768, 8, 128]⟩
abbrev S8x32768x128 : Shape := ⟨3, ![8, 32768, 128]⟩
abbrev S2048x8x128 : Shape := ⟨3, ![2048, 8, 128]⟩
abbrev S8x2048x128 : Shape := ⟨3, ![8, 2048, 128]⟩
abbrev S32768x1024 : Shape := ⟨2, ![32768, 1024]⟩
abbrev S2048x1024 : Shape := ⟨2, ![2048, 1024]⟩
abbrev S4x1x1024 : Shape := ⟨3, ![4, 1, 1024]⟩
abbrev S34816x1024 : Shape := ⟨2, ![34816, 1024]⟩
abbrev S8x512x128 : Shape := ⟨3, ![8, 512, 128]⟩
abbrev S512x1024 : Shape := ⟨2, ![512, 1024]⟩
abbrev S1x1x6x1024 : Shape := ⟨4, ![1, 1, 6, 1024]⟩
abbrev S1x1x1024 : Shape := ⟨3, ![1, 1, 1024]⟩
abbrev S1x1024x4096 : Shape := ⟨3, ![1, 1024, 4096]⟩
abbrev S1x4096x1024 : Shape := ⟨3, ![1, 4096, 1024]⟩
abbrev S1x256x128 : Shape := ⟨3, ![1, 256, 128]⟩
abbrev S256x128 : Shape := ⟨2, ![256, 128]⟩
abbrev S256x1024 : Shape := ⟨2, ![256, 1024]⟩
abbrev S1x1x1x1024 : Shape := ⟨4, ![1, 1, 1, 1024]⟩
abbrev S1x1024 : Shape := ⟨2, ![1, 1024]⟩
abbrev S256 : Shape := ⟨1, ![256]⟩
abbrev S256x1 : Shape := ⟨2, ![256, 1]⟩
abbrev S1024x4096 : Shape := ⟨2, ![1024, 4096]⟩
abbrev S256x4096 : Shape := ⟨2, ![256, 4096]⟩
abbrev S4096x1024 : Shape := ⟨2, ![4096, 1024]⟩

abbrev nBuf : Space → Nat
  | .hbm => 25
  | .vmem => 16
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S8x4096x1024, .f32⟩
  | .hbm, ⟨3, _⟩ => ⟨S8x256x1024, .f32⟩
  | .hbm, ⟨4, _⟩ => ⟨S4x9x6x1024, .f32⟩
  | .hbm, ⟨5, _⟩ => ⟨S4x1024, .f32⟩
  | .hbm, ⟨6, _⟩ => ⟨S1024x1024, .f32⟩
  | .hbm, ⟨7, _⟩ => ⟨S4x1024x4096, .f32⟩
  | .hbm, ⟨8, _⟩ => ⟨S4x4096x1024, .f32⟩
  | .hbm, ⟨9, _⟩ => ⟨S_, .f32⟩
  | .hbm, ⟨10, _⟩ => ⟨S4x7x6x1024, .f32⟩
  | .hbm, ⟨11, _⟩ => ⟨S4x16x6x1024, .f32⟩
  | .hbm, ⟨12, _⟩ => ⟨S8x4096x1024, .bf16⟩
  | .hbm, ⟨13, _⟩ => ⟨S32768x8x128, .bf16⟩
  | .hbm, ⟨14, _⟩ => ⟨S8x32768x128, .bf16⟩
  | .hbm, ⟨15, _⟩ => ⟨S8x256x1024, .bf16⟩
  | .hbm, ⟨16, _⟩ => ⟨S2048x8x128, .bf16⟩
  | .hbm, ⟨17, _⟩ => ⟨S8x2048x128, .bf16⟩
  | .hbm, ⟨18, _⟩ => ⟨S32768x1024, .f32⟩
  | .hbm, ⟨19, _⟩ => ⟨S2048x1024, .f32⟩
  | .hbm, ⟨20, _⟩ => ⟨S4x1x1024, .f32⟩
  | .hbm, ⟨21, _⟩ => ⟨S1024x1024, .bf16⟩
  | .hbm, ⟨22, _⟩ => ⟨S4x1024x4096, .bf16⟩
  | .hbm, ⟨23, _⟩ => ⟨S4x4096x1024, .bf16⟩
  | .hbm, ⟨24, _⟩ => ⟨S34816x1024, .f32⟩
  | .local _ .vmem, ⟨0, _⟩ => ⟨S8x512x128, .bf16⟩
  | .local _ .vmem, ⟨1, _⟩ => ⟨S8x512x128, .bf16⟩
  | .local _ .vmem, ⟨2, _⟩ => ⟨S8x512x128, .bf16⟩
  | .local _ .vmem, ⟨3, _⟩ => ⟨S8x512x128, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1x6x1024, .f32⟩
  | .local _ .vmem, ⟨9, _⟩ => ⟨S1x1x6x1024, .f32⟩
  | .local _ .vmem, ⟨10, _⟩ => ⟨S1x1x1024, .f32⟩
  | .local _ .vmem, ⟨11, _⟩ => ⟨S1024x1024, .bf16⟩
  | .local _ .vmem, ⟨12, _⟩ => ⟨S1x1024x4096, .bf16⟩
  | .local _ .vmem, ⟨13, _⟩ => ⟨S1x4096x1024, .bf16⟩
  | .local _ .vmem, ⟨14, _⟩ => ⟨S512x1024, .f32⟩
  | .local _ .vmem, ⟨15, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![68], ![false]⟩

def cc0_transform_0 (i : grid0.Coords) : Fin 3 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 4 → Nat :=
  let arg0 : BitVec 32 := BitVec.ofNat 32 (i 0).val
  let c512_i32 : BitVec 32 := 512#32
  let v0 : BitVec 32 := Scalar.muli arg0 c512_i32
  let c32768_i32 : BitVec 32 := 32768#32
  let v1 : BitVec 1 := Scalar.cmpi .slt v0 c32768_i32
  let c512_i32_0 : BitVec 32 := 512#32
  let v2 : BitVec 32 := Scalar.muli arg0 c512_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c8_i32 : BitVec 32 := 8#32
  let v20 : BitVec 32 := Scalar.select v1 v19 c8_i32
  let c0_i32_5 : BitVec 32 := 0#32
  let c0_i32_6 : BitVec 32 := 0#32
  let c0_i32_7 : BitVec 32 := 0#32
  let c0_i32_8 : BitVec 32 := 0#32
  ![c0_i32_5.toNat, v20.toNat, c0_i32_6.toNat, c0_i32_7.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S8x4096x1024 : Shape := ⟨3, ![8, 4096, 1024]⟩
abbrev S8x256x1024 : Shape := ⟨3, ![8, 256, 1024]⟩
abbrev S4x9x6x1024 : Shape := ⟨4, ![4, 9, 6, 1024]⟩
abbrev S4x1024 : Shape := ⟨2, ![4, 1024]⟩
abbrev S1024x1024 : Shape := ⟨2, ![1024, 1024]⟩
abbrev S4x1024x4096 : Shape := ⟨3, ![4, 1024, 4096]⟩
abbrev S4x4096x1024 : Shape := ⟨3, ![4, 4096, 1024]⟩
abbrev S1x8x6x1024 : Shape := ⟨4, ![1, 8, 6, 1024]⟩
abbrev S8x6x1024 : Shape := ⟨3, ![8, 6, 1024]⟩
abbrev S8x6x1x1024 : Shape := ⟨4, ![8, 6, 1, 1024]⟩
abbrev S1x1x6x1024 : Shape := ⟨4, ![1, 1, 6, 1024]⟩
abbrev S1x6x1024 : Shape := ⟨3, ![1, 6, 1024]⟩
abbrev S1x6x1x1024 : Shape := ⟨4, ![1, 6, 1, 1024]⟩
abbrev S8x1x1x1024 : Shape := ⟨4, ![8, 1, 1, 1024]⟩
abbrev S8x1x1024 : Shape := ⟨3, ![8, 1, 1024]⟩
abbrev S1x1024 : Shape := ⟨2, ![1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S8x4096x4096 : Shape := ⟨3, ![8, 4096, 4096]⟩
abbrev S1x1x1x1024 : Shape := ⟨4, ![1, 1, 1, 1024]⟩
abbrev S8x256 : Shape := ⟨2, ![8, 256]⟩
abbrev S8x256x1 : Shape := ⟨3, ![8, 256, 1]⟩
abbrev S8x256x4096 : Shape := ⟨3, ![8, 256, 4096]⟩
abbrev S32768x1024 : Shape := ⟨2, ![32768, 1024]⟩
abbrev S2048x1024 : Shape := ⟨2, ![2048, 1024]⟩
abbrev S34816x1024 : Shape := ⟨2, ![34816, 1024]⟩

abbrev nBuf : Space → Nat
  | .hbm => 118
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S8x4096x1024, .f32⟩
  | .hbm, ⟨3, _⟩ => ⟨S8x256x1024, .f32⟩
  | .hbm, ⟨4, _⟩ => ⟨S4x9x6x1024, .f32⟩
  | .hbm, ⟨5, _⟩ => ⟨S4x1024, .f32⟩
  | .hbm, ⟨6, _⟩ => ⟨S1024x1024, .f32⟩
  | .hbm, ⟨7, _⟩ => ⟨S4x1024x4096, .f32⟩
  | .hbm, ⟨8, _⟩ => ⟨S4x4096x1024, .f32⟩
  | .hbm, ⟨9, _⟩ => ⟨S1x8x6x1024, .f32⟩
  | .hbm, ⟨10, _⟩ => ⟨S8x6x1024, .f32⟩
  | .hbm, ⟨11, _⟩ => ⟨S8x6x1x1024, .f32⟩
  | .hbm, ⟨12, _⟩ => ⟨S1x1x6x1024, .f32⟩
  | .hbm, ⟨13, _⟩ => ⟨S1x6x1024, .f32⟩
  | .hbm, ⟨14, _⟩ => ⟨S1x6x1x1024, .f32⟩
  | .hbm, ⟨15, _⟩ => ⟨S8x4096x1024, .f32⟩
  | .hbm, ⟨16, _⟩ => ⟨S8x256x1024, .f32⟩
  | .hbm, ⟨17, _⟩ => ⟨S8x1x1x1024, .f32⟩
  | .hbm, ⟨18, _⟩ => ⟨S8x1x1024, .f32⟩
  | .hbm, ⟨19, _⟩ => ⟨S8x4096x1024, .f32⟩
  | .hbm, ⟨20, _⟩ => ⟨S8x4096x1024, .f32⟩
  | .hbm, ⟨21, _⟩ => ⟨S8x4096x1024, .f32⟩
  | .hbm, ⟨22, _⟩ => ⟨S1x1024, .f32⟩
  | .hbm, ⟨23, _⟩ => ⟨S1024, .f32⟩
  | .hbm, ⟨24, _⟩ => ⟨S8x4096x1024, .f32⟩
  | .hbm, ⟨25, _⟩ => ⟨S_, .f32⟩
  | .hbm, ⟨26, _⟩ => ⟨S8x4096, .f32⟩
  | .hbm, ⟨27, _⟩ => ⟨S8x4096x1, .f32⟩
  | .hbm, ⟨28, _⟩ => ⟨S_, .f32⟩
  | .hbm, ⟨29, _⟩ => ⟨S8x4096x1, .f32⟩
  | .hbm, ⟨30, _⟩ => ⟨S8x4096x1, .f32⟩
  | .hbm, ⟨31, _⟩ => ⟨S_, .f32⟩
  | .hbm, ⟨32, _⟩ => ⟨S8x4096x1, .f32⟩
  | .hbm, ⟨33, _⟩ => ⟨S8x4096x1, .f32⟩
  | .hbm, ⟨34, _⟩ => ⟨S8x4096x1, .f32⟩
  | .hbm, ⟨35, _⟩ => ⟨S8x4096x1024, .f32⟩
  | .hbm, ⟨36, _⟩ => ⟨S8x4096x1024, .f32⟩
  | .hbm, ⟨37, _⟩ => ⟨S1x1x1024, .f32⟩
  | .hbm, ⟨38, _⟩ => ⟨S8x4096x1024, .f32⟩
  | .hbm, ⟨39, _⟩ => ⟨S8x4096x1024, .f32⟩
  | .hbm, ⟨40, _⟩ => ⟨S8x1x1x1024, .f32⟩
  | .hbm, ⟨41, _⟩ => ⟨S8x1x1024, .f32⟩
  | .hbm, ⟨42, _⟩ => ⟨S8x1x1x1024, .f32⟩
  | .hbm, ⟨43, _⟩ => ⟨S8x1x1024, .f32⟩
  | .hbm, ⟨44, _⟩ => ⟨S_, .f32⟩
  | .hbm, ⟨45, _⟩ => ⟨S8x1x1024, .f32⟩
  | .hbm, ⟨46, _⟩ => ⟨S8x1x1024, .f32⟩
  | .hbm, ⟨47, _⟩ => ⟨S8x4096x1024, .f32⟩
  | .hbm, ⟨48, _⟩ => ⟨S8x4096x1024, .f32⟩
  | .hbm, ⟨49, _⟩ => ⟨S8x4096x1024, .f32⟩
  | .hbm, ⟨50, _⟩ => ⟨S8x4096x1024, .f32⟩
  | .hbm, ⟨51, _⟩ => ⟨S8x1x1x1024, .f32⟩
  | .hbm, ⟨52, _⟩ => ⟨S8x1x1024, .f32⟩
  | .hbm, ⟨53, _⟩ => ⟨S1x1024x4096, .f32⟩
  | .hbm, ⟨54, _⟩ => ⟨S1024x4096, .f32⟩
  | .hbm, ⟨55, _⟩ => ⟨S1x4096x1024, .f32⟩
  | .hbm, ⟨56, _⟩ => ⟨S4096x1024, .f32⟩
  | .hbm, ⟨57, _⟩ => ⟨S8x4096x4096, .f32⟩
  | .hbm, ⟨58, _⟩ => ⟨S_, .f32⟩
  | .hbm, ⟨59, _⟩ => ⟨S8x4096x4096, .f32⟩
  | .hbm, ⟨60, _⟩ => ⟨S8x4096x4096, .f32⟩
  | .hbm, ⟨61, _⟩ => ⟨S8x4096x4096, .f32⟩
  | .hbm, ⟨62, _⟩ => ⟨S8x4096x1024, .f32⟩
  | .hbm, ⟨63, _⟩ => ⟨S8x4096x1024, .f32⟩
  | .hbm, ⟨64, _⟩ => ⟨S8x4096x1024, .f32⟩
  | .hbm, ⟨65, _⟩ => ⟨S8x4096x1024, .f32⟩
  | .hbm, ⟨66, _⟩ => ⟨S1x1x1x1024, .f32⟩
  | .hbm, ⟨67, _⟩ => ⟨S1x1x1024, .f32⟩
  | .hbm, ⟨68, _⟩ => ⟨S8x256x1024, .f32⟩
  | .hbm, ⟨69, _⟩ => ⟨S8x256x1024, .f32⟩
  | .hbm, ⟨70, _⟩ => ⟨S8x256x1024, .f32⟩
  | .hbm, ⟨71, _⟩ => ⟨S1x1024, .f32⟩
  | .hbm, ⟨72, _⟩ => ⟨S1024, .f32⟩
  | .hbm, ⟨73, _⟩ => ⟨S8x256x1024, .f32⟩
  | .hbm, ⟨74, _⟩ => ⟨S_, .f32⟩
  | .hbm, ⟨75, _⟩ => ⟨S8x256, .f32⟩
  | .hbm, ⟨76, _⟩ => ⟨S8x256x1, .f32⟩
  | .hbm, ⟨77, _⟩ => ⟨S_, .f32⟩
  | .hbm, ⟨78, _⟩ => ⟨S8x256x1, .f32⟩
  | .hbm, ⟨79, _⟩ => ⟨S8x256x1, .f32⟩
  | .hbm, ⟨80, _⟩ => ⟨S_, .f32⟩
  | .hbm, ⟨81, _⟩ => ⟨S8x256x1, .f32⟩
  | .hbm, ⟨82, _⟩ => ⟨S8x256x1, .f32⟩
  | .hbm, ⟨83, _⟩ => ⟨S8x256x1, .f32⟩
  | .hbm, ⟨84, _⟩ => ⟨S8x256x1024, .f32⟩
  | .hbm, ⟨85, _⟩ => ⟨S8x256x1024, .f32⟩
  | .hbm, ⟨86, _⟩ => ⟨S1x1x1024, .f32⟩
  | .hbm, ⟨87, _⟩ => ⟨S8x256x1024, .f32⟩
  | .hbm, ⟨88, _⟩ => ⟨S8x256x1024, .f32⟩
  | .hbm, ⟨89, _⟩ => ⟨S1x1x1x1024, .f32⟩
  | .hbm, ⟨90, _⟩ => ⟨S1x1x1024, .f32⟩
  | .hbm, ⟨91, _⟩ => ⟨S1x1x1x1024, .f32⟩
  | .hbm, ⟨92, _⟩ => ⟨S1x1x1024, .f32⟩
  | .hbm, ⟨93, _⟩ => ⟨S_, .f32⟩
  | .hbm, ⟨94, _⟩ => ⟨S1x1x1024, .f32⟩
  | .hbm, ⟨95, _⟩ => ⟨S1x1x1024, .f32⟩
  | .hbm, ⟨96, _⟩ => ⟨S8x256x1024, .f32⟩
  | .hbm, ⟨97, _⟩ => ⟨S8x256x1024, .f32⟩
  | .hbm, ⟨98, _⟩ => ⟨S8x256x1024, .f32⟩
  | .hbm, ⟨99, _⟩ => ⟨S8x256x1024, .f32⟩
  | .hbm, ⟨100, _⟩ => ⟨S1x1x1x1024, .f32⟩
  | .hbm, ⟨101, _⟩ => ⟨S1x1x1024, .f32⟩
  | .hbm, ⟨102, _⟩ => ⟨S1x1024x4096, .f32⟩
  | .hbm, ⟨103, _⟩ => ⟨S1024x4096, .f32⟩
  | .hbm, ⟨104, _⟩ => ⟨S1x4096x1024, .f32⟩
  | .hbm, ⟨105, _⟩ => ⟨S4096x1024, .f32⟩
  | .hbm, ⟨106, _⟩ => ⟨S8x256x4096, .f32⟩
  | .hbm, ⟨107, _⟩ => ⟨S_, .f32⟩
  | .hbm, ⟨108, _⟩ => ⟨S8x256x4096, .f32⟩
  | .hbm, ⟨109, _⟩ => ⟨S8x256x4096, .f32⟩
  | .hbm, ⟨110, _⟩ => ⟨S8x256x4096, .f32⟩
  | .hbm, ⟨111, _⟩ => ⟨S8x256x1024, .f32⟩
  | .hbm, ⟨112, _⟩ => ⟨S8x256x1024, .f32⟩
  | .hbm, ⟨113, _⟩ => ⟨S8x256x1024, .f32⟩
  | .hbm, ⟨114, _⟩ => ⟨S8x256x1024, .f32⟩
  | .hbm, ⟨115, _⟩ => ⟨S32768x1024, .f32⟩
  | .hbm, ⟨116, _⟩ => ⟨S2048x1024, .f32⟩
  | .hbm, ⟨117, _⟩ => ⟨S34816x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_v19 : Ref sig .tc := ⟨.hbm, 30, rfl⟩
abbrev main_cst_1 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_2 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_call0_cst : Ref sig .tc := ⟨.hbm, 58, rfl⟩
abbrev main_call0_v0 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_3 : Ref sig .tc := ⟨.hbm, 74, rfl⟩
abbrev main_v59 : Ref sig .tc := ⟨.hbm, 75, rfl⟩
abbrev main_v60 : Ref sig .tc := ⟨.hbm, 76, rfl⟩
abbrev main_cst_4 : Ref sig .tc := ⟨.hbm, 77, rfl⟩
abbrev main_v61 : Ref sig .tc := ⟨.hbm, 78, rfl⟩
abbrev main_v62 : Ref sig .tc := ⟨.hbm, 79, rfl⟩
abbrev main_cst_5 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_cst_6 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_call1_cst : Ref sig .tc := ⟨.hbm, 107, rfl⟩
abbrev main_call1_v0 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩

abbrev nD : Nat := 1
abbrev τ : Topo := Topo.v7x

variable {F : FTy → Type} [FloatOps F]
-- ==== Kernel4.lean ====
abbrev S8x4096x1024 : Shape := ⟨3, ![8, 4096, 1024]⟩
abbrev S8x256x1024 : Shape := ⟨3, ![8, 256, 1024]⟩
abbrev S4x9x6x1024 : Shape := ⟨4, ![4, 9, 6, 1024]⟩
abbrev S4x1024 : Shape := ⟨2, ![4, 1024]⟩
abbrev S1024x3072 : Shape := ⟨2, ![1024, 3072]⟩
abbrev S_ : Shape := ⟨0, ![]⟩
abbrev S4x7x6x1024 : Shape := ⟨4, ![4, 7, 6, 1024]⟩
abbrev S4x16x6x1024 : Shape := ⟨4, ![4, 16, 6, 1024]⟩
abbrev S32768x1024 : Shape := ⟨2, ![32768, 1024]⟩
abbrev S2048x1024 : Shape := ⟨2, ![2048, 1024]⟩
abbrev S4x1x1024 : Shape := ⟨3, ![4, 1, 1024]⟩
abbrev S24x34816x128 : Shape := ⟨3, ![24, 34816, 128]⟩
abbrev S1024x1024 : Shape := ⟨2, ![1024, 1024]⟩
abbrev S1x1x6x1024 : Shape := ⟨4, ![1, 1, 6, 1024]⟩
abbrev S1x1x1024 : Shape := ⟨3, ![1, 1, 1024]⟩
abbrev S24x1024x128 : Shape := ⟨3, ![24, 1024, 128]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1x1x1x1024 : Shape := ⟨4, ![1, 1, 1, 1024]⟩
abbrev S256x3072 : Shape := ⟨2, ![256, 3072]⟩
abbrev S256x128 : Shape := ⟨2, ![256, 128]⟩
abbrev S1x256x128 : Shape := ⟨3, ![1, 256, 128]⟩

abbrev nBuf : Space → Nat
  | .hbm => 13
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S4x9x6x1024, .f32⟩
  | .hbm, ⟨3, _⟩ => ⟨S4x1024, .f32⟩
  | .hbm, ⟨4, _⟩ => ⟨S1024x3072, .f32⟩
  | .hbm, ⟨5, _⟩ => ⟨S_, .f32⟩
  | .hbm, ⟨6, _⟩ => ⟨S4x7x6x1024, .f32⟩
  | .hbm, ⟨7, _⟩ => ⟨S4x16x6x1024, .f32⟩
  | .hbm, ⟨8, _⟩ => ⟨S32768x1024, .f32⟩
  | .hbm, ⟨9, _⟩ => ⟨S2048x1024, .f32⟩
  | .hbm, ⟨10, _⟩ => ⟨S4x1x1024, .f32⟩
  | .hbm, ⟨11, _⟩ => ⟨S1024x3072, .bf16⟩
  | .hbm, ⟨12, _⟩ => ⟨S24x34816x128, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1x6x1024, .f32⟩
  | .local _ .vmem, ⟨5, _⟩ => ⟨S1x1x6x1024, .f32⟩
  | .local _ .vmem, ⟨6, _⟩ => ⟨S1x1x1024, .f32⟩
  | .local _ .vmem, ⟨7, _⟩ => ⟨S1024x3072, .bf16⟩
  | .local _ .vmem, ⟨8, _⟩ => ⟨S24x1024x128, .bf16⟩
  | .local _ .vmem, ⟨9, _⟩ => ⟨S24x1024x128, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 4 → Nat :=
  let arg0 : BitVec 32 := BitVec.ofNat 32 (i 0).val
  let c1024_i32 : BitVec 32 := 1024#32
  let v0 : BitVec 32 := Scalar.muli arg0 c1024_i32
  let c32768_i32 : BitVec 32 := 32768#32
  let v1 : BitVec 1 := Scalar.cmpi .slt v0 c32768_i32
  let c1024_i32_0 : BitVec 32 := 1024#32
  let v2 : BitVec 32 := Scalar.muli arg0 c1024_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c8_i32 : BitVec 32 := 8#32
  let v20 : BitVec 32 := Scalar.select v1 v19 c8_i32
  let c0_i32_5 : BitVec 32 := 0#32
  let c0_i32_6 : BitVec 32 := 0#32
  let c0_i32_7 : BitVec 32 := 0#32
  let c0_i32_8 : BitVec 32 := 0#32
  ![c0_i32_5.toNat, v20.toNat, c0_i32_6.toNat, c0_i32_7.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S24x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S8x4096x1024 : Shape := ⟨3, ![8, 4096, 1024]⟩
abbrev S8x256x1024 : Shape := ⟨3, ![8, 256, 1024]⟩
abbrev S4x9x6x1024 : Shape := ⟨4, ![4, 9, 6, 1024]⟩
abbrev S4x1024 : Shape := ⟨2, ![4, 1024]⟩
abbrev S1024x3072 : Shape := ⟨2, ![1024, 3072]⟩
abbrev S1x8x6x1024 : Shape := ⟨4, ![1, 8, 6, 1024]⟩
abbrev S8x6x1024 : Shape := ⟨3, ![8, 6, 1024]⟩
abbrev S8x6x1x1024 : Shape := ⟨4, ![8, 6, 1, 1024]⟩
abbrev S1x1x6x1024 : Shape := ⟨4, ![1, 1, 6, 1024]⟩
abbrev S1x6x1024 : Shape := ⟨3, ![1, 6, 1024]⟩
abbrev S1x6x1x1024 : Shape := ⟨4, ![1, 6, 1, 1024]⟩
abbrev S1x1024 : Shape := ⟨2, ![1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1x1024 : Shape := ⟨4, ![8, 1, 1, 1024]⟩
abbrev S8x1x1024 : Shape := ⟨3, ![8, 1, 1024]⟩
abbrev S8x256 : Shape := ⟨2, ![8, 256]⟩
abbrev S8x256x1 : Shape := ⟨3, ![8, 256, 1]⟩
abbrev S1x1x1x1024 : Shape := ⟨4, ![1, 1, 1, 1024]⟩
abbrev S8x4096x3072 : Shape := ⟨3, ![8, 4096, 3072]⟩
abbrev S32768x3072 : Shape := ⟨2, ![32768, 3072]⟩
abbrev S8x256x3072 : Shape := ⟨3, ![8, 256, 3072]⟩
abbrev S2048x3072 : Shape := ⟨2, ![2048, 3072]⟩
abbrev S34816x3072 : Shape := ⟨2, ![34816, 3072]⟩
abbrev S34816x1024 : Shape := ⟨2, ![34816, 1024]⟩
abbrev S34816x2048 : Shape := ⟨2, ![34816, 2048]⟩
abbrev S34816x24x128 : Shape := ⟨3, ![34816, 24, 128]⟩
abbrev S24x34816x128 : Shape := ⟨3, ![24, 34816, 128]⟩

abbrev nBuf : Space → Nat
  | .hbm => 86
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S4x9x6x1024, .f32⟩
  | .hbm, ⟨3, _⟩ => ⟨S4x1024, .f32⟩
  | .hbm, ⟨4, _⟩ => ⟨S1024x3072, .f32⟩
  | .hbm, ⟨5, _⟩ => ⟨S1x8x6x1024, .f32⟩
  | .hbm, ⟨6, _⟩ => ⟨S8x6x1024, .f32⟩
  | .hbm, ⟨7, _⟩ => ⟨S8x6x1x1024, .f32⟩
  | .hbm, ⟨8, _⟩ => ⟨S1x1x6x1024, .f32⟩
  | .hbm, ⟨9, _⟩ => ⟨S1x6x1024, .f32⟩
  | .hbm, ⟨10, _⟩ => ⟨S1x6x1x1024, .f32⟩
  | .hbm, ⟨11, _⟩ => ⟨S1x1024, .f32⟩
  | .hbm, ⟨12, _⟩ => ⟨S1024, .f32⟩
  | .hbm, ⟨13, _⟩ => ⟨S8x4096x1024, .f32⟩
  | .hbm, ⟨14, _⟩ => ⟨S_, .f32⟩
  | .hbm, ⟨15, _⟩ => ⟨S8x4096, .f32⟩
  | .hbm, ⟨16, _⟩ => ⟨S8x4096x1, .f32⟩
  | .hbm, ⟨17, _⟩ => ⟨S_, .f32⟩
  | .hbm, ⟨18, _⟩ => ⟨S8x4096x1, .f32⟩
  | .hbm, ⟨19, _⟩ => ⟨S8x4096x1, .f32⟩
  | .hbm, ⟨20, _⟩ => ⟨S_, .f32⟩
  | .hbm, ⟨21, _⟩ => ⟨S8x4096x1, .f32⟩
  | .hbm, ⟨22, _⟩ => ⟨S8x4096x1, .f32⟩
  | .hbm, ⟨23, _⟩ => ⟨S8x4096x1, .f32⟩
  | .hbm, ⟨24, _⟩ => ⟨S8x4096x1024, .f32⟩
  | .hbm, ⟨25, _⟩ => ⟨S8x4096x1024, .f32⟩
  | .hbm, ⟨26, _⟩ => ⟨S1x1x1024, .f32⟩
  | .hbm, ⟨27, _⟩ => ⟨S8x4096x1024, .f32⟩
  | .hbm, ⟨28, _⟩ => ⟨S8x4096x1024, .f32⟩
  | .hbm, ⟨29, _⟩ => ⟨S8x1x1x1024, .f32⟩
  | .hbm, ⟨30, _⟩ => ⟨S8x1x1024, .f32⟩
  | .hbm, ⟨31, _⟩ => ⟨S8x1x1x1024, .f32⟩
  | .hbm, ⟨32, _⟩ => ⟨S8x1x1024, .f32⟩
  | .hbm, ⟨33, _⟩ => ⟨S_, .f32⟩
  | .hbm, ⟨34, _⟩ => ⟨S8x1x1024, .f32⟩
  | .hbm, ⟨35, _⟩ => ⟨S8x1x1024, .f32⟩
  | .hbm, ⟨36, _⟩ => ⟨S8x4096x1024, .f32⟩
  | .hbm, ⟨37, _⟩ => ⟨S8x4096x1024, .f32⟩
  | .hbm, ⟨38, _⟩ => ⟨S8x4096x1024, .f32⟩
  | .hbm, ⟨39, _⟩ => ⟨S8x4096x1024, .f32⟩
  | .hbm, ⟨40, _⟩ => ⟨S1x1024, .f32⟩
  | .hbm, ⟨41, _⟩ => ⟨S1024, .f32⟩
  | .hbm, ⟨42, _⟩ => ⟨S8x256x1024, .f32⟩
  | .hbm, ⟨43, _⟩ => ⟨S_, .f32⟩
  | .hbm, ⟨44, _⟩ => ⟨S8x256, .f32⟩
  | .hbm, ⟨45, _⟩ => ⟨S8x256x1, .f32⟩
  | .hbm, ⟨46, _⟩ => ⟨S_, .f32⟩
  | .hbm, ⟨47, _⟩ => ⟨S8x256x1, .f32⟩
  | .hbm, ⟨48, _⟩ => ⟨S8x256x1, .f32⟩
  | .hbm, ⟨49, _⟩ => ⟨S_, .f32⟩
  | .hbm, ⟨50, _⟩ => ⟨S8x256x1, .f32⟩
  | .hbm, ⟨51, _⟩ => ⟨S8x256x1, .f32⟩
  | .hbm, ⟨52, _⟩ => ⟨S8x256x1, .f32⟩
  | .hbm, ⟨53, _⟩ => ⟨S8x256x1024, .f32⟩
  | .hbm, ⟨54, _⟩ => ⟨S8x256x1024, .f32⟩
  | .hbm, ⟨55, _⟩ => ⟨S1x1x1024, .f32⟩
  | .hbm, ⟨56, _⟩ => ⟨S8x256x1024, .f32⟩
  | .hbm, ⟨57, _⟩ => ⟨S8x256x1024, .f32⟩
  | .hbm, ⟨58, _⟩ => ⟨S1x1x1x1024, .f32⟩
  | .hbm, ⟨59, _⟩ => ⟨S1x1x1024, .f32⟩
  | .hbm, ⟨60, _⟩ => ⟨S1x1x1x1024, .f32⟩
  | .hbm, ⟨61, _⟩ => ⟨S1x1x1024, .f32⟩
  | .hbm, ⟨62, _⟩ => ⟨S_, .f32⟩
  | .hbm, ⟨63, _⟩ => ⟨S1x1x1024, .f32⟩
  | .hbm, ⟨64, _⟩ => ⟨S1x1x1024, .f32⟩
  | .hbm, ⟨65, _⟩ => ⟨S8x256x1024, .f32⟩
  | .hbm, ⟨66, _⟩ => ⟨S8x256x1024, .f32⟩
  | .hbm, ⟨67, _⟩ => ⟨S8x256x1024, .f32⟩
  | .hbm, ⟨68, _⟩ => ⟨S8x256x1024, .f32⟩
  | .hbm, ⟨69, _⟩ => ⟨S8x4096x3072, .f32⟩
  | .hbm, ⟨70, _⟩ => ⟨S32768x3072, .f32⟩
  | .hbm, ⟨71, _⟩ => ⟨S8x256x3072, .f32⟩
  | .hbm, ⟨72, _⟩ => ⟨S2048x3072, .f32⟩
  | .hbm, ⟨73, _⟩ => ⟨S34816x3072, .f32⟩
  | .hbm, ⟨74, _⟩ => ⟨S34816x1024, .f32⟩
  | .hbm, ⟨75, _⟩ => ⟨S_, .f32⟩
  | .hbm, ⟨76, _⟩ => ⟨S34816x1024, .f32⟩
  | .hbm, ⟨77, _⟩ => ⟨S34816x1024, .f32⟩
  | .hbm, ⟨78, _⟩ => ⟨S_, .f32⟩
  | .hbm, ⟨79, _⟩ => ⟨S34816x1024, .f32⟩
  | .hbm, ⟨80, _⟩ => ⟨S34816x1024, .f32⟩
  | .hbm, ⟨81, _⟩ => ⟨S34816x2048, .f32⟩
  | .hbm, ⟨82, _⟩ => ⟨S34816x3072, .f32⟩
  | .hbm, ⟨83, _⟩ => ⟨S34816x24x128, .f32⟩
  | .hbm, ⟨84, _⟩ => ⟨S24x34816x128, .f32⟩
  | .hbm, ⟨85, _⟩ => ⟨S24x34816x128, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_6 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_7 : Ref sig .tc := ⟨.hbm, 75, rfl⟩
abbrev main_v62 : Ref sig .tc := ⟨.hbm, 76, rfl⟩
abbrev main_v63 : Ref sig .tc := ⟨.hbm, 77, rfl⟩
abbrev main_cst_8 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩

abbrev nD : Nat := 1
abbrev τ : Topo := Topo.v7x

variable {F : FTy → Type} [FloatOps F]
-- ==== Kernel5.lean ====
abbrev S34816x1024 : Shape := ⟨2, ![34816, 1024]⟩
abbrev S4x9x6x1024 : Shape := ⟨4, ![4, 9, 6, 1024]⟩
abbrev S4x1024 : Shape := ⟨2, ![4, 1024]⟩
abbrev S1024x3072 : Shape := ⟨2, ![1024, 3072]⟩
abbrev S_ : Shape := ⟨0, ![]⟩
abbrev S4x7x6x1024 : Shape := ⟨4, ![4, 7, 6, 1024]⟩
abbrev S4x16x6x1024 : Shape := ⟨4, ![4, 16, 6, 1024]⟩
abbrev S4x1x1024 : Shape := ⟨3, ![4, 1, 1024]⟩
abbrev S1024x1024 : Shape := ⟨2, ![1024, 1024]⟩
abbrev S1x1x6x1024 : Shape := ⟨4, ![1, 1, 6, 1024]⟩
abbrev S1x1x1024 : Shape := ⟨3, ![1, 1, 1024]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1x1x1x1024 : Shape := ⟨4, ![1, 1, 1, 1024]⟩
abbrev S256x3072 : Shape := ⟨2, ![256, 3072]⟩

abbrev nBuf : Space → Nat
  | .hbm => 11
  | .vmem => 10
  | .smem => 0
  | _ => 0

abbrev bufTy : (tb : Table) → Fin (tcTables nBuf tb) → BufTy
  | .hbm, ⟨0, _⟩ => ⟨S34816x1024, .f32⟩
  | .hbm, ⟨1, _⟩ => ⟨S4x9x6x1024, .f32⟩
  | .hbm, ⟨2, _⟩ => ⟨S4x1024, .f32⟩
  | .hbm, ⟨3, _⟩ => ⟨S1024x3072, .f32⟩
  | .hbm, ⟨4, _⟩ => ⟨S_, .f32⟩
  | .hbm, ⟨5, _⟩ => ⟨S4x7x6x1024, .f32⟩
  | .hbm, ⟨6, _⟩ => ⟨S4x16x6x1024, .f32⟩
  | .hbm, ⟨7, _⟩ => ⟨S4x1x1024, .f32⟩
  | .hbm, ⟨8, _⟩ => ⟨S1024x3072, .bf16⟩
  | .hbm, ⟨9, _⟩ => ⟨S34816x1024, .f32⟩
  | .hbm, ⟨10, _⟩ => ⟨S34816x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1x1x1024, .f32⟩
  | .local _ .vmem, ⟨5, _⟩ => ⟨S1024x3072, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | _, _ => ⟨S34816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c1024_i32 : BitVec 32 := 1024#32
  let v0 : BitVec 32 := Scalar.muli arg0 c1024_i32
  let c32768_i32 : BitVec 32 := 32768#32
  let v1 : BitVec 1 := Scalar.cmpi .slt v0 c32768_i32
  let c1024_i32_0 : BitVec 32 := 1024#32
  let v2 : BitVec 32 := Scalar.muli arg0 c1024_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c8_i32 : BitVec 32 := 8#32
  let v20 : BitVec 32 := Scalar.select v1 v19 c8_i32
  let c2_i32 : BitVec 32 := 2#32
  let c0_i32_5 : BitVec 32 := 0#32
  let c0_i32_6 : BitVec 32 := 0#32
  let c0_i32_7 : BitVec 32 := 0#32
  ![c2_i32.toNat, v20.toNat, c0_i32_5.toNat, c0_i32_6.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S34816x1024 : Shape := ⟨2, ![34816, 1024]⟩
abbrev S4x9x6x1024 : Shape := ⟨4, ![4, 9, 6, 1024]⟩
abbrev S4x1024 : Shape := ⟨2, ![4, 1024]⟩
abbrev S1024x3072 : Shape := ⟨2, ![1024, 3072]⟩
abbrev S32768x1024 : Shape := ⟨2, ![32768, 1024]⟩
abbrev S8x4096x1024 : Shape := ⟨3, ![8, 4096, 1024]⟩
abbrev S2048x1024 : Shape := ⟨2, ![2048, 1024]⟩
abbrev S8x256x1024 : Shape := ⟨3, ![8, 256, 1024]⟩
abbrev S1x8x6x1024 : Shape := ⟨4, ![1, 8, 6, 1024]⟩
abbrev S8x6x1024 : Shape := ⟨3, ![8, 6, 1024]⟩
abbrev S8x6x1x1024 : Shape := ⟨4, ![8, 6, 1, 1024]⟩
abbrev S1x1x6x1024 : Shape := ⟨4, ![1, 1, 6, 1024]⟩
abbrev S1x6x1024 : Shape := ⟨3, ![1, 6, 1024]⟩
abbrev S1x6x1x1024 : Shape := ⟨4, ![1, 6, 1, 1024]⟩
abbrev S1x1024 : Shape := ⟨2, ![1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1x1024 : Shape := ⟨4, ![8, 1, 1, 1024]⟩
abbrev S8x1x1024 : Shape := ⟨3, ![8, 1, 1024]⟩
abbrev S8x256 : Shape := ⟨2, ![8, 256]⟩
abbrev S8x256x1 : Shape := ⟨3, ![8, 256, 1]⟩
abbrev S1x1x1x1024 : Shape := ⟨4, ![1, 1, 1, 1024]⟩
abbrev S8x4096x3072 : Shape := ⟨3, ![8, 4096, 3072]⟩
abbrev S8x256x3072 : Shape := ⟨3, ![8, 256, 3072]⟩

abbrev nBuf : Space → Nat
  | .hbm => 88
  | .vmem => 0
  | .smem => 0
  | _ => 0

abbrev bufTy : (tb : Table) → Fin (tcTables nBuf tb) → BufTy
  | .hbm, ⟨0, _⟩ => ⟨S34816x1024, .f32⟩
  | .hbm, ⟨1, _⟩ => ⟨S4x9x6x1024, .f32⟩
  | .hbm, ⟨2, _⟩ => ⟨S4x1024, .f32⟩
  | .hbm, ⟨3, _⟩ => ⟨S1024x3072, .f32⟩
  | .hbm, ⟨4, _⟩ => ⟨S32768x1024, .f32⟩
  | .hbm, ⟨5, _⟩ => ⟨S8x4096x1024, .f32⟩
  | .hbm, ⟨6, _⟩ => ⟨S2048x1024, .f32⟩
  | .hbm, ⟨7, _⟩ => ⟨S8x256x1024, .f32⟩
  | .hbm, ⟨8, _⟩ => ⟨S1x8x6x1024, .f32⟩
  | .hbm, ⟨9, _⟩ => ⟨S8x6x1024, .f32⟩
  | .hbm, ⟨10, _⟩ => ⟨S8x6x1x1024, .f32⟩
  | .hbm, ⟨11, _⟩ => ⟨S1x1x6x1024, .f32⟩
  | .hbm, ⟨12, _⟩ => ⟨S1x6x1024, .f32⟩
  | .hbm, ⟨13, _⟩ => ⟨S1x6x1x1024, .f32⟩
  | .hbm, ⟨14, _⟩ => ⟨S1x1024, .f32⟩
  | .hbm, ⟨15, _⟩ => ⟨S1024, .f32⟩
  | .hbm, ⟨16, _⟩ => ⟨S8x4096x1024, .f32⟩
  | .hbm, ⟨17, _⟩ => ⟨S_, .f32⟩
  | .hbm, ⟨18, _⟩ => ⟨S8x4096, .f32⟩
  | .hbm, ⟨19, _⟩ => ⟨S8x4096x1, .f32⟩
  | .hbm, ⟨20, _⟩ => ⟨S_, .f32⟩
  | .hbm, ⟨21, _⟩ => ⟨S8x4096x1, .f32⟩
  | .hbm, ⟨22, _⟩ => ⟨S8x4096x1, .f32⟩
  | .hbm, ⟨23, _⟩ => ⟨S_, .f32⟩
  | .hbm, ⟨24, _⟩ => ⟨S8x4096x1, .f32⟩
  | .hbm, ⟨25, _⟩ => ⟨S8x4096x1, .f32⟩
  | .hbm, ⟨26, _⟩ => ⟨S8x4096x1, .f32⟩
  | .hbm, ⟨27, _⟩ => ⟨S8x4096x1024, .f32⟩
  | .hbm, ⟨28, _⟩ => ⟨S8x4096x1024, .f32⟩
  | .hbm, ⟨29, _⟩ => ⟨S1x1x1024, .f32⟩
  | .hbm, ⟨30, _⟩ => ⟨S8x4096x1024, .f32⟩
  | .hbm, ⟨31, _⟩ => ⟨S8x4096x1024, .f32⟩
  | .hbm, ⟨32, _⟩ => ⟨S8x1x1x1024, .f32⟩
  | .hbm, ⟨33, _⟩ => ⟨S8x1x1024, .f32⟩
  | .hbm, ⟨34, _⟩ => ⟨S8x1x1x1024, .f32⟩
  | .hbm, ⟨35, _⟩ => ⟨S8x1x1024, .f32⟩
  | .hbm, ⟨36, _⟩ => ⟨S_, .f32⟩
  | .hbm, ⟨37, _⟩ => ⟨S8x1x1024, .f32⟩
  | .hbm, ⟨38, _⟩ => ⟨S8x1x1024, .f32⟩
  | .hbm, ⟨39, _⟩ => ⟨S8x4096x1024, .f32⟩
  | .hbm, ⟨40, _⟩ => ⟨S8x4096x1024, .f32⟩
  | .hbm, ⟨41, _⟩ => ⟨S8x4096x1024, .f32⟩
  | .hbm, ⟨42, _⟩ => ⟨S8x4096x1024, .f32⟩
  | .hbm, ⟨43, _⟩ => ⟨S1x1024, .f32⟩
  | .hbm, ⟨44, _⟩ => ⟨S1024, .f32⟩
  | .hbm, ⟨45, _⟩ => ⟨S8x256x1024, .f32⟩
  | .hbm, ⟨46, _⟩ => ⟨S_, .f32⟩
  | .hbm, ⟨47, _⟩ => ⟨S8x256, .f32⟩
  | .hbm, ⟨48, _⟩ => ⟨S8x256x1, .f32⟩
  | .hbm, ⟨49, _⟩ => ⟨S_, .f32⟩
  | .hbm, ⟨50, _⟩ => ⟨S8x256x1, .f32⟩
  | .hbm, ⟨51, _⟩ => ⟨S8x256x1, .f32⟩
  | .hbm, ⟨52, _⟩ => ⟨S_, .f32⟩
  | .hbm, ⟨53, _⟩ => ⟨S8x256x1, .f32⟩
  | .hbm, ⟨54, _⟩ => ⟨S8x256x1, .f32⟩
  | .hbm, ⟨55, _⟩ => ⟨S8x256x1, .f32⟩
  | .hbm, ⟨56, _⟩ => ⟨S8x256x1024, .f32⟩
  | .hbm, ⟨57, _⟩ => ⟨S8x256x1024, .f32⟩
  | .hbm, ⟨58, _⟩ => ⟨S1x1x1024, .f32⟩
  | .hbm, ⟨59, _⟩ => ⟨S8x256x1024, .f32⟩
  | .hbm, ⟨60, _⟩ => ⟨S8x256x1024, .f32⟩
  | .hbm, ⟨61, _⟩ => ⟨S1x1x1x1024, .f32⟩
  | .hbm, ⟨62, _⟩ => ⟨S1x1x1024, .f32⟩
  | .hbm, ⟨63, _⟩ => ⟨S1x1x1x1024, .f32⟩
  | .hbm, ⟨64, _⟩ => ⟨S1x1x1024, .f32⟩
  | .hbm, ⟨65, _⟩ => ⟨S_, .f32⟩
  | .hbm, ⟨66, _⟩ => ⟨S1x1x1024, .f32⟩
  | .hbm, ⟨67, _⟩ => ⟨S1x1x1024, .f32⟩
  | .hbm, ⟨68, _⟩ => ⟨S8x256x1024, .f32⟩
  | .hbm, ⟨69, _⟩ => ⟨S8x256x1024, .f32⟩
  | .hbm, ⟨70, _⟩ => ⟨S8x256x1024, .f32⟩
  | .hbm, ⟨71, _⟩ => ⟨S8x256x1024, .f32⟩
  | .hbm, ⟨72, _⟩ => ⟨S8x4096x3072, .f32⟩
  | .hbm, ⟨73, _⟩ => ⟨S8x4096x1024, .f32⟩
  | .hbm, ⟨74, _⟩ => ⟨S8x4096x1024, .f32⟩
  | .hbm, ⟨75, _⟩ => ⟨S8x4096x1024, .f32⟩
  | .hbm, ⟨76, _⟩ => ⟨S8x256x3072, .f32⟩
  | .hbm, ⟨77, _⟩ => ⟨S8x256x1024, .f32⟩
  | .hbm, ⟨78, _⟩ => ⟨S8x256x1024, .f32⟩
  | .hbm, ⟨79, _⟩ => ⟨S8x256x1024, .f32⟩
  | .hbm, ⟨80, _⟩ => ⟨S32768x1024, .f32⟩
  | .hbm, ⟨81, _⟩ => ⟨S2048x1024, .f32⟩
  | .hbm, ⟨82, _⟩ => ⟨S34816x1024, .f32⟩
  | .hbm, ⟨83, _⟩ => ⟨S8x4096x1024, .f32⟩
  | .hbm, ⟨84, _⟩ => ⟨S32768x1024, .f32⟩
  | .hbm, ⟨85, _⟩ => ⟨S8x256x1024, .f32⟩
  | .hbm, ⟨86, _⟩ => ⟨S2048x1024, .f32⟩
  | .hbm, ⟨87, _⟩ => ⟨S34816x1024, .f32⟩
  | _, _ => ⟨S34816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_2 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_3 : Ref sig .tc := ⟨.hbm, 46, rfl⟩
abbrev main_v38 : Ref sig .tc := ⟨.hbm, 47, rfl⟩
abbrev main_v39 : Ref sig .tc := ⟨.hbm, 48, rfl⟩
abbrev main_cst_4 : Ref sig .tc := ⟨.hbm, 49, rfl⟩
abbrev main_v40 : Ref sig .tc := ⟨.hbm, 50, rfl⟩
abbrev main_v41 : Ref sig .tc := ⟨.hbm, 51, rfl⟩
abbrev main_cst_5 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_cst_6 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩

abbrev nD : Nat := 1
abbrev τ : Topo := Topo.v7x

variable {F : FTy → Type} [FloatOps F]
-- ==== Kernel6.lean ====
abbrev S34816x1024 : Shape := ⟨2, ![34816, 1024]⟩
abbrev S4x9x6x1024 : Shape := ⟨4, ![4, 9, 6, 1024]⟩
abbrev S4x1024 : Shape := ⟨2, ![4, 1024]⟩
abbrev S3x1024 : Shape := ⟨2, ![3, 1024]⟩
abbrev S1024x1024 : Shape := ⟨2, ![1024, 1024]⟩
abbrev S4x1024x4096 : Shape := ⟨3, ![4, 1024, 4096]⟩
abbrev S4x4096x1024 : Shape := ⟨3, ![4, 4096, 1024]⟩
abbrev S_ : Shape := ⟨0, ![]⟩
abbrev S4x7x6x1024 : Shape := ⟨4, ![4, 7, 6, 1024]⟩
abbrev S4x16x6x1024 : Shape := ⟨4, ![4, 16, 6, 1024]⟩
abbrev S4x1x1024 : Shape := ⟨3, ![4, 1, 1024]⟩
abbrev S8x1024 : Shape := ⟨2, ![8, 1024]⟩
abbrev S512x1024 : Shape := ⟨2, ![512, 1024]⟩
abbrev S1x1x6x1024 : Shape := ⟨4, ![1, 1, 6, 1024]⟩
abbrev S1x1x1024 : Shape := ⟨3, ![1, 1, 1024]⟩
abbrev S1x1024x4096 : Shape := ⟨3, ![1, 1024, 4096]⟩
abbrev S1x4096x1024 : Shape := ⟨3, ![1, 4096, 1024]⟩
abbrev S2x272x1024 : Shape := ⟨3, ![2, 272, 1024]⟩
abbrev S256x1024 : Shape := ⟨2, ![256, 1024]⟩
abbrev S1x8x1024 : Shape := ⟨3, ![1, 8, 1024]⟩
abbrev S1x256x1024 : Shape := ⟨3, ![1, 256, 1024]⟩
abbrev S1x1024 : Shape := ⟨2, ![1, 1024]⟩
abbrev S1x1x1x1024 : Shape := ⟨4, ![1, 1, 1, 1024]⟩
abbrev S256 : Shape := ⟨1, ![256]⟩
abbrev S256x1 : Shape := ⟨2, ![256, 1]⟩
abbrev S1024x4096 : Shape := ⟨2, ![1024, 4096]⟩
abbrev S256x4096 : Shape := ⟨2, ![256, 4096]⟩
abbrev S4096x1024 : Shape := ⟨2, ![4096, 1024]⟩

abbrev nBuf : Space → Nat
  | .hbm => 17
  | .vmem => 20
  | .smem => 0
  | _ => 0

abbrev bufTy : (tb : Table) → Fin (tcTables nBuf tb) → BufTy
  | .hbm, ⟨0, _⟩ => ⟨S34816x1024, .f32⟩
  | .hbm, ⟨1, _⟩ => ⟨S34816x1024, .f32⟩
  | .hbm, ⟨2, _⟩ => ⟨S34816x1024, .f32⟩
  | .hbm, ⟨3, _⟩ => ⟨S4x9x6x1024, .f32⟩
  | .hbm, ⟨4, _⟩ => ⟨S4x1024, .f32⟩
  | .hbm, ⟨5, _⟩ => ⟨S3x1024, .f32⟩
  | .hbm, ⟨6, _⟩ => ⟨S1024x1024, .f32⟩
  | .hbm, ⟨7, _⟩ => ⟨S4x1024x4096, .f32⟩
  | .hbm, ⟨8, _⟩ => ⟨S4x4096x1024, .f32⟩
  | .hbm, ⟨9, _⟩ => ⟨S_, .f32⟩
  | .hbm, ⟨10, _⟩ => ⟨S4x7x6x1024, .f32⟩
  | .hbm, ⟨11, _⟩ => ⟨S4x16x6x1024, .f32⟩
  | .hbm, ⟨12, _⟩ => ⟨S4x1x1024, .f32⟩
  | .hbm, ⟨13, _⟩ => ⟨S1024x1024, .bf16⟩
  | .hbm, ⟨14, _⟩ => ⟨S4x1024x4096, .bf16⟩
  | .hbm, ⟨15, _⟩ => ⟨S4x4096x1024, .bf16⟩
  | .hbm, ⟨16, _⟩ => ⟨S34816x1024, .f32⟩
  | .local _ .vmem, ⟨0, _⟩ => ⟨S8x1024, .f32⟩
  | .local _ .vmem, ⟨1, _⟩ => ⟨S8x1024, .f32⟩
  | .local _ .vmem, ⟨2, _⟩ => ⟨S512x1024, .f32⟩
  | .local _ .vmem, ⟨3, _⟩ => ⟨S512x1024, .f32⟩
  | .local _ .vmem, ⟨4, _⟩ => ⟨S8x1024, .f32⟩
  | .local _ .vmem, ⟨5, _⟩ => ⟨S8x1024, .f32⟩
  | .local _ .vmem, ⟨6, _⟩ => ⟨S512x1024, .f32⟩
  | .local _ .vmem, ⟨7, _⟩ => ⟨S512x1024, .f32⟩
  | .local _ .vmem, ⟨8, _⟩ => ⟨S3x1024, .f32⟩
  | .local _ .vmem, ⟨9, _⟩ => ⟨S512x1024, .f32⟩
  | .local _ .vmem, ⟨10, _⟩ => ⟨S512x1024, .f32⟩
  | .local _ .vmem, ⟨11, _⟩ => ⟨S1x1x6x1024, .f32⟩
  | .local _ .vmem, ⟨12, _⟩ => ⟨S1x1x6x1024, .f32⟩
  | .local _ .vmem, ⟨13, _⟩ => ⟨S1x1x1024, .f32⟩
  | .local _ .vmem, ⟨14, _⟩ => ⟨S1024x1024, .bf16⟩
  | .local _ .vmem, ⟨15, _⟩ => ⟨S1x1024x4096, .bf16⟩
  | .local _ .vmem, ⟨16, _⟩ => ⟨S1x4096x1024, .bf16⟩
  | .local _ .vmem, ⟨17, _⟩ => ⟨S512x1024, .f32⟩
  | .local _ .vmem, ⟨18, _⟩ => ⟨S512x1024, .f32⟩
  | .local _ .vmem, ⟨19, _⟩ => ⟨S2x272x1024, .f32⟩
  | _, _ => ⟨S34816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c4351_i32 : BitVec 32 := 4351#32
  let v2 : BitVec 32 := Scalar.minsi v1 c4351_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let c512_i32 : BitVec 32 := 512#32
  let v0 : BitVec 32 := Scalar.muli arg0 c512_i32
  let c32768_i32 : BitVec 32 := 32768#32
  let v1 : BitVec 1 := Scalar.cmpi .slt v0 c32768_i32
  let c512_i32_0 : BitVec 32 := 512#32
  let v2 : BitVec 32 := Scalar.muli arg0 c512_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c8_i32 : BitVec 32 := 8#32
  let v20 : BitVec 32 := Scalar.select v1 v19 c8_i32
  let c2_i32 : BitVec 32 := 2#32
  let c0_i32_5 : BitVec 32 := 0#32
  let c0_i32_6 : BitVec 32 := 0#32
  let c0_i32_7 : BitVec 32 := 0#32
  ![c2_i32.toNat, v20.toNat, c0_i32_5.toNat, c0_i32_6.toNat]

def cc0_transform_7 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_10 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x6x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x4096x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference6Ideal.lean ====
abbrev S34816x1024 : Shape := ⟨2, ![34816, 1024]⟩
abbrev S4x9x6x1024 : Shape := ⟨4, ![4, 9, 6, 1024]⟩
abbrev S4x1024 : Shape := ⟨2, ![4, 1024]⟩
abbrev S3x1024 : Shape := ⟨2, ![3, 1024]⟩
abbrev S1024x1024 : Shape := ⟨2, ![1024, 1024]⟩
abbrev S4x1024x4096 : Shape := ⟨3, ![4, 1024, 4096]⟩
abbrev S4x4096x1024 : Shape := ⟨3, ![4, 4096, 1024]⟩
abbrev S32768x1024 : Shape := ⟨2, ![32768, 1024]⟩
abbrev S8x4096x1024 : Shape := ⟨3, ![8, 4096, 1024]⟩
abbrev S2048x1024 : Shape := ⟨2, ![2048, 1024]⟩
abbrev S8x256x1024 : Shape := ⟨3, ![8, 256, 1024]⟩
abbrev S1x8x6x1024 : Shape := ⟨4, ![1, 8, 6, 1024]⟩
abbrev S8x6x1024 : Shape := ⟨3, ![8, 6, 1024]⟩
abbrev S8x6x1x1024 : Shape := ⟨4, ![8, 6, 1, 1024]⟩
abbrev S1x1x6x1024 : Shape := ⟨4, ![1, 1, 6, 1024]⟩
abbrev S1x6x1024 : Shape := ⟨3, ![1, 6, 1024]⟩
abbrev S1x6x1x1024 : Shape := ⟨4, ![1, 6, 1, 1024]⟩
abbrev S_ : Shape := ⟨0, ![]⟩
abbrev S8x4098x1024 : Shape := ⟨3, ![8, 4098, 1024]⟩
abbrev S1x1024 : Shape := ⟨2, ![1, 1024]⟩
abbrev S1024 : Shape := ⟨1, ![1024]⟩
abbrev S1x1x1024 : Shape := ⟨3, ![1, 1, 1024]⟩
abbrev S8x258x1024 : Shape := ⟨3, ![8, 258, 1024]⟩
abbrev S8x1x1x1024 : Shape := ⟨4, ![8, 1, 1, 1024]⟩
abbrev S8x1x1024 : Shape := ⟨3, ![8, 1, 1024]⟩
abbrev S8x4096 : Shape := ⟨2, ![8, 4096]⟩
abbrev S8x4096x1 : Shape := ⟨3, ![8, 4096, 1]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S8x4096x4096 : Shape := ⟨3, ![8, 4096, 4096]⟩
abbrev S1x1x1x1024 : Shape := ⟨4, ![1, 1, 1, 1024]⟩
abbrev S8x256 : Shape := ⟨2, ![8, 256]⟩
abbrev S8x256x1 : Shape := ⟨3, ![8, 256, 1]⟩
abbrev S8x256x4096 : Shape := ⟨3, ![8, 256, 4096]⟩

abbrev nBuf : Space → Nat
  | .hbm => 176
  | .vmem => 0
  | .smem => 0
  | _ => 0

abbrev hbmTy0_0 (i : Nat) : BufTy := match i % 128 with
  | 0 => ⟨S34816x1024, .f32⟩
  | 1 => ⟨S34816x1024, .f32⟩
  | 2 => ⟨S34816x1024, .f32⟩
  | 3 => ⟨S4x9x6x1024, .f32⟩
  | 4 => ⟨S4x1024, .f32⟩
  | 5 => ⟨S3x1024, .f32⟩
  | 6 => ⟨S1024x1024, .f32⟩
  | 7 => ⟨S4x1024x4096, .f32⟩
  | 8 => ⟨S4x4096x1024, .f32⟩
  | 9 => ⟨S32768x1024, .f32⟩
  | 10 => ⟨S8x4096x1024, .f32⟩
  | 11 => ⟨S32768x1024, .f32⟩
  | 12 => ⟨S8x4096x1024, .f32⟩
  | 13 => ⟨S32768x1024, .f32⟩
  | 14 => ⟨S8x4096x1024, .f32⟩
  | 15 => ⟨S2048x1024, .f32⟩
  | 16 => ⟨S8x256x1024, .f32⟩
  | 17 => ⟨S2048x1024, .f32⟩
  | 18 => ⟨S8x256x1024, .f32⟩
  | 19 => ⟨S2048x1024, .f32⟩
  | 20 => ⟨S8x256x1024, .f32⟩
  | 21 => ⟨S1x8x6x1024, .f32⟩
  | 22 => ⟨S8x6x1024, .f32⟩
  | 23 => ⟨S8x6x1x1024, .f32⟩
  | 24 => ⟨S1x1x6x1024, .f32⟩
  | 25 => ⟨S1x6x1024, .f32⟩
  | 26 => ⟨S1x6x1x1024, .f32⟩
  | 27 => ⟨S_, .f32⟩
  | 28 => ⟨S8x4098x1024, .f32⟩
  | 29 => ⟨S1x1024, .f32⟩
  | 30 => ⟨S1024, .f32⟩
  | 31 => ⟨S8x4096x1024, .f32⟩
  | 32 => ⟨S1x1x1024, .f32⟩
  | 33 => ⟨S8x4096x1024, .f32⟩
  | 34 => ⟨S8x4096x1024, .f32⟩
  | 35 => ⟨S1x1024, .f32⟩
  | 36 => ⟨S1024, .f32⟩
  | 37 => ⟨S8x4096x1024, .f32⟩
  | 38 => ⟨S1x1x1024, .f32⟩
  | 39 => ⟨S8x4096x1024, .f32⟩
  | 40 => ⟨S8x4096x1024, .f32⟩
  | 41 => ⟨S8x4096x1024, .f32⟩
  | 42 => ⟨S1x1024, .f32⟩
  | 43 => ⟨S1024, .f32⟩
  | 44 => ⟨S8x4096x1024, .f32⟩
  | 45 => ⟨S1x1x1024, .f32⟩
  | 46 => ⟨S8x4096x1024, .f32⟩
  | 47 => ⟨S8x4096x1024, .f32⟩
  | 48 => ⟨S8x4096x1024, .f32⟩
  | 49 => ⟨S8x4096x1024, .f32⟩
  | 50 => ⟨S8x4096x1024, .f32⟩
  | 51 => ⟨S_, .f32⟩
  | 52 => ⟨S8x258x1024, .f32⟩
  | 53 => ⟨S1x1024, .f32⟩
  | 54 => ⟨S1024, .f32⟩
  | 55 => ⟨S8x256x1024, .f32⟩
  | 56 => ⟨S1x1x1024, .f32⟩
  | 57 => ⟨S8x256x1024, .f32⟩
  | 58 => ⟨S8x256x1024, .f32⟩
  | 59 => ⟨S1x1024, .f32⟩
  | 60 => ⟨S1024, .f32⟩
  | 61 => ⟨S8x256x1024, .f32⟩
  | 62 => ⟨S1x1x1024, .f32⟩
  | 63 => ⟨S8x256x1024, .f32⟩
  | 64 => ⟨S8x256x1024, .f32⟩
  | 65 => ⟨S8x256x1024, .f32⟩
  | 66 => ⟨S1x1024, .f32⟩
  | 67 => ⟨S1024, .f32⟩
  | 68 => ⟨S8x256x1024, .f32⟩
  | 69 => ⟨S1x1x1024, .f32⟩
  | 70 => ⟨S8x256x1024, .f32⟩
  | 71 => ⟨S8x256x1024, .f32⟩
  | 72 => ⟨S8x256x1024, .f32⟩
  | 73 => ⟨S8x256x1024, .f32⟩
  | 74 => ⟨S8x256x1024, .f32⟩
  | 75 => ⟨S8x1x1x1024, .f32⟩
  | 76 => ⟨S8x1x1024, .f32⟩
  | 77 => ⟨S8x4096x1024, .f32⟩
  | 78 => ⟨S8x4096x1024, .f32⟩
  | 79 => ⟨S8x4096x1024, .f32⟩
  | 80 => ⟨S1x1024, .f32⟩
  | 81 => ⟨S1024, .f32⟩
  | 82 => ⟨S8x4096x1024, .f32⟩
  | 83 => ⟨S_, .f32⟩
  | 84 => ⟨S8x4096, .f32⟩
  | 85 => ⟨S8x4096x1, .f32⟩
  | 86 => ⟨S_, .f32⟩
  | 87 => ⟨S8x4096x1, .f32⟩
  | 88 => ⟨S8x4096x1, .f32⟩
  | 89 => ⟨S_, .f32⟩
  | 90 => ⟨S8x4096x1, .f32⟩
  | 91 => ⟨S8x4096x1, .f32⟩
  | 92 => ⟨S8x4096x1, .f32⟩
  | 93 => ⟨S8x4096x1024, .f32⟩
  | 94 => ⟨S8x4096x1024, .f32⟩
  | 95 => ⟨S1x1x1024, .f32⟩
  | 96 => ⟨S8x4096x1024, .f32⟩
  | 97 => ⟨S8x4096x1024, .f32⟩
  | 98 => ⟨S8x1x1x1024, .f32⟩
  | 99 => ⟨S8x1x1024, .f32⟩
  | 100 => ⟨S8x1x1x1024, .f32⟩
  | 101 => ⟨S8x1x1024, .f32⟩
  | 102 => ⟨S_, .f32⟩
  | 103 => ⟨S8x1x1024, .f32⟩
  | 104 => ⟨S8x1x1024, .f32⟩
  | 105 => ⟨S8x4096x1024, .f32⟩
  | 106 => ⟨S8x4096x1024, .f32⟩
  | 107 => ⟨S8x4096x1024, .f32⟩
  | 108 => ⟨S8x4096x1024, .f32⟩
  | 109 => ⟨S8x1x1x1024, .f32⟩
  | 110 => ⟨S8x1x1024, .f32⟩
  | 111 => ⟨S1x1024x4096, .f32⟩
  | 112 => ⟨S1024x4096, .f32⟩
  | 113 => ⟨S1x4096x1024, .f32⟩
  | 114 => ⟨S4096x1024, .f32⟩
  | 115 => ⟨S8x4096x4096, .f32⟩
  | 116 => ⟨S_, .f32⟩
  | 117 => ⟨S8x4096x4096, .f32⟩
  | 118 => ⟨S8x4096x4096, .f32⟩
  | 119 => ⟨S8x4096x4096, .f32⟩
  | 120 => ⟨S8x4096x1024, .f32⟩
  | 121 => ⟨S8x4096x1024, .f32⟩
  | 122 => ⟨S8x4096x1024, .f32⟩
  | 123 => ⟨S8x4096x1024, .f32⟩
  | 124 => ⟨S1x1x1x1024, .f32⟩
  | 125 => ⟨S1x1x1024, .f32⟩
  | 126 => ⟨S8x256x1024, .f32⟩
  | 127 => ⟨S8x256x1024, .f32⟩
  | _ => ⟨S34816x1024, .f32⟩

abbrev hbmTy0_1 (i : Nat) : BufTy := match i % 128 with
  | 0 => ⟨S8x256x1024, .f32⟩
  | 1 => ⟨S1x1024, .f32⟩
  | 2 => ⟨S1024, .f32⟩
  | 3 => ⟨S8x256x1024, .f32⟩
  | 4 => ⟨S_, .f32⟩
  | 5 => ⟨S8x256, .f32⟩
  | 6 => ⟨S8x256x1, .f32⟩
  | 7 => ⟨S_, .f32⟩
  | 8 => ⟨S8x256x1, .f32⟩
  | 9 => ⟨S8x256x1, .f32⟩
  | 10 => ⟨S_, .f32⟩
  | 11 => ⟨S8x256x1, .f32⟩
  | 12 => ⟨S8x256x1, .f32⟩
  | 13 => ⟨S8x256x1, .f32⟩
  | 14 => ⟨S8x256x1024, .f32⟩
  | 15 => ⟨S8x256x1024, .f32⟩
  | 16 => ⟨S1x1x1024, .f32⟩
  | 17 => ⟨S8x256x1024, .f32⟩
  | 18 => ⟨S8x256x1024, .f32⟩
  | 19 => ⟨S1x1x1x1024, .f32⟩
  | 20 => ⟨S1x1x1024, .f32⟩
  | 21 => ⟨S1x1x1x1024, .f32⟩
  | 22 => ⟨S1x1x1024, .f32⟩
  | 23 => ⟨S_, .f32⟩
  | 24 => ⟨S1x1x1024, .f32⟩
  | 25 => ⟨S1x1x1024, .f32⟩
  | 26 => ⟨S8x256x1024, .f32⟩
  | 27 => ⟨S8x256x1024, .f32⟩
  | 28 => ⟨S8x256x1024, .f32⟩
  | 29 => ⟨S8x256x1024, .f32⟩
  | 30 => ⟨S1x1x1x1024, .f32⟩
  | 31 => ⟨S1x1x1024, .f32⟩
  | 32 => ⟨S1x1024x4096, .f32⟩
  | 33 => ⟨S1024x4096, .f32⟩
  | 34 => ⟨S1x4096x1024, .f32⟩
  | 35 => ⟨S4096x1024, .f32⟩
  | 36 => ⟨S8x256x4096, .f32⟩
  | 37 => ⟨S_, .f32⟩
  | 38 => ⟨S8x256x4096, .f32⟩
  | 39 => ⟨S8x256x4096, .f32⟩
  | 40 => ⟨S8x256x4096, .f32⟩
  | 41 => ⟨S8x256x1024, .f32⟩
  | 42 => ⟨S8x256x1024, .f32⟩
  | 43 => ⟨S8x256x1024, .f32⟩
  | 44 => ⟨S8x256x1024, .f32⟩
  | 45 => ⟨S32768x1024, .f32⟩
  | 46 => ⟨S2048x1024, .f32⟩
  | 47 => ⟨S34816x1024, .f32⟩
  | _ => ⟨S34816x1024, .f32⟩

abbrev hbmTy (i : Nat) : BufTy := match i / 128 with
  | 0 => hbmTy0_0 i
  | 1 => hbmTy0_1 i
  | _ => ⟨S34816x1024, .f32⟩

abbrev bufTy : (tb : Table) → Fin (tcTables nBuf tb) → BufTy
  | .hbm, ⟨i, _⟩ => hbmTy i
  | _, _ => ⟨S34816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_0 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_cst_1 : Ref sig .tc := ⟨.hbm, 83, rfl⟩
abbrev main_v72 : Ref sig .tc := ⟨.hbm, 84, rfl⟩
abbrev main_v73 : Ref sig .tc := ⟨.hbm, 85, rfl⟩
abbrev main_cst_2 : Ref sig .tc := ⟨.hbm, 86, rfl⟩
abbrev main_v74 : Ref sig .tc := ⟨.hbm, 87, rfl⟩
abbrev main_v75 : Ref sig .tc := ⟨.hbm, 88, rfl⟩
abbrev main_cst_3 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_cst_4 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_call0_cst : Ref sig .tc := ⟨.hbm, 116, rfl⟩
abbrev main_call0_v0 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_cst_5 : Ref sig .tc := ⟨.hbm, 132, rfl⟩
abbrev main_v115 : Ref sig .tc := ⟨.hbm, 133, rfl⟩
abbrev main_v116 : Ref sig .tc := ⟨.hbm, 134, rfl⟩
abbrev main_cst_6 : Ref sig .tc := ⟨.hbm, 135, rfl⟩
abbrev main_v117 : Ref sig .tc := ⟨.hbm, 136, rfl⟩
abbrev main_v118 : Ref sig .tc := ⟨.hbm, 137, rfl⟩
abbrev main_cst_7 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_cst_8 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_call1_cst : Ref sig .tc := ⟨.hbm, 165, rfl⟩
abbrev main_call1_v0 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩

abbrev nD : Nat := 1
abbrev τ : Topo := Topo.v7x

variable {F : FTy → Type} [FloatOps F]
-- ==== Kernel7.lean ====
abbrev S34816x1024 : Shape := ⟨2, ![34816, 1024]⟩
abbrev S4x9x6x1024 : Shape := ⟨4, ![4, 9, 6, 1024]⟩
abbrev S4x1024 : Shape := ⟨2, ![4, 1024]⟩
abbrev S1024x2048 : Shape := ⟨2, ![1024, 2048]⟩
abbrev S2048 : Shape := ⟨1, ![2048]⟩
abbrev S_ : Shape := ⟨0, ![]⟩
abbrev S4x7x6x1024 : Shape := ⟨4, ![4, 7, 6, 1024]⟩
abbrev S4x16x6x1024 : Shape := ⟨4, ![4, 16, 6, 1024]⟩
abbrev S4x1x1024 : Shape := ⟨3, ![4, 1, 1024]⟩
abbrev S1x2048 : Shape := ⟨2, ![1, 2048]⟩
abbrev S1024x1024 : Shape := ⟨2, ![1024, 1024]⟩
abbrev S1x1x6x1024 : Shape := ⟨4, ![1, 1, 6, 1024]⟩
abbrev S1x1x1024 : Shape := ⟨3, ![1, 1, 1024]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1x1x1x1024 : Shape := ⟨4, ![1, 1, 1, 1024]⟩
abbrev S256x2048 : Shape := ⟨2, ![256, 2048]⟩

abbrev nBuf : Space → Nat
  | .hbm => 12
  | .vmem => 9
  | .smem => 0
  | _ => 0

abbrev bufTy : (tb : Table) → Fin (tcTables nBuf tb) → BufTy
  | .hbm, ⟨0, _⟩ => ⟨S34816x1024, .f32⟩
  | .hbm, ⟨1, _⟩ => ⟨S4x9x6x1024, .f32⟩
  | .hbm, ⟨2, _⟩ => ⟨S4x1024, .f32⟩
  | .hbm, ⟨3, _⟩ => ⟨S1024x2048, .f32⟩
  | .hbm, ⟨4, _⟩ => ⟨S2048, .f32⟩
  | .hbm, ⟨5, _⟩ => ⟨S_, .f32⟩
  | .hbm, ⟨6, _⟩ => ⟨S4x7x6x1024, .f32⟩
  | .hbm, ⟨7, _⟩ => ⟨S4x16x6x1024, .f32⟩
  | .hbm, ⟨8, _⟩ => ⟨S4x1x1024, .f32⟩
  | .hbm, ⟨9, _⟩ => ⟨S1024x2048, .bf16⟩
  | .hbm, ⟨10, _⟩ => ⟨S1x2048, .f32⟩
  | .hbm, ⟨11, _⟩ => ⟨S34816x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1x1x1024, .f32⟩
  | .local _ .vmem, ⟨5, _⟩ => ⟨S1024x2048, .bf16⟩
  | .local _ .vmem, ⟨6, _⟩ => ⟨S1x2048, .f32⟩
  | .local _ .vmem, ⟨7, _⟩ => ⟨S1024x1024, .f32⟩
  | .local _ .vmem, ⟨8, _⟩ => ⟨S1024x1024, .f32⟩
  | _, _ => ⟨S34816x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c1024_i32 : BitVec 32 := 1024#32
  let v0 : BitVec 32 := Scalar.muli arg0 c1024_i32
  let c32768_i32 : BitVec 32 := 32768#32
  let v1 : BitVec 1 := Scalar.cmpi .slt v0 c32768_i32
  let c1024_i32_0 : BitVec 32 := 1024#32
  let v2 : BitVec 32 := Scalar.muli arg0 c1024_i32_0
  let c4096_i32 : BitVec 32 := 4096#32
  let v3 : BitVec 32 := Scalar.divsi v2 c4096_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c8_i32 : BitVec 32 := 8#32
  let v20 : BitVec 32 := Scalar.select v1 v19 c8_i32
  let c1_i32_5 : BitVec 32 := 1#32
  let c0_i32_6 : BitVec 32 := 0#32
  let c0_i32_7 : BitVec 32 := 0#32
  let c0_i32_8 : BitVec 32 := 0#32
  ![c1_i32_5.toNat, v20.toNat, c0_i32_6.toNat, c0_i32_7.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S34816x1024 : Shape := ⟨2, ![34816, 1024]⟩
abbrev S4x9x6x1024 : Shape := ⟨4, ![4, 9, 6, 1024]⟩
abbrev S4x1024 : Shape := ⟨2, ![4, 1024]⟩
abbrev S1024x2048 : Shape := ⟨2, ![1024, 2048]⟩
abbrev S2048 : Shape := ⟨1, ![2048]⟩
abbrev S32768x1024 : Shape := ⟨2, ![32768, 1024]⟩
abbrev S8x4096x1024 : Shape := ⟨3, ![8, 4096, 1024]⟩
abbrev S2048x1024 : Shape := ⟨2, ![2048, 1024]⟩
abbrev S8x256x1024 : Shape := ⟨3, ![8, 256, 1024]⟩
abbrev S1x8x6x1024 : Shape := ⟨4, ![1, 8, 6, 1024]⟩
abbrev S8x6x1024 : Shape := ⟨3, ![8, 6, 1024]⟩
abbrev S8x6x1x1024 : Shape := ⟨4, ![8, 6, 1, 1024]⟩
abbrev S1x1x6x1024 : Shape := ⟨4, ![1, 1, 6, 1024]⟩
abbrev S1x6x1024 : Shape := ⟨3, ![1, 6, 1024]⟩
abbrev S1x6x1x1024 : Shape := ⟨4, ![1, 6, 1, 1024]⟩
abbrev S1x1024 : Shape := ⟨2, ![1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1x1024 : Shape := ⟨4, ![8, 1, 1, 1024]⟩
abbrev S8x1x1024 : Shape := ⟨3, ![8, 1, 1024]⟩
abbrev S8x256 : Shape := ⟨2, ![8, 256]⟩
abbrev S8x256x1 : Shape := ⟨3, ![8, 256, 1]⟩
abbrev S1x1x1x1024 : Shape := ⟨4, ![1, 1, 1, 1024]⟩
abbrev S8x4096x2048 : Shape := ⟨3, ![8, 4096, 2048]⟩
abbrev S1x1x2048 : Shape := ⟨3, ![1, 1, 2048]⟩
abbrev S8x256x2048 : Shape := ⟨3, ![8, 256, 2048]⟩

abbrev nBuf : Space → Nat
  | .hbm => 106
  | .vmem => 0
  | .smem => 0
  | _ => 0

abbrev bufTy : (tb : Table) → Fin (tcTables nBuf tb) → BufTy
  | .hbm, ⟨0, _⟩ => ⟨S34816x1024, .f32⟩
  | .hbm, ⟨1, _⟩ => ⟨S4x9x6x1024, .f32⟩
  | .hbm, ⟨2, _⟩ => ⟨S4x1024, .f32⟩
  | .hbm, ⟨3, _⟩ => ⟨S1024x2048, .f32⟩
  | .hbm, ⟨4, _⟩ => ⟨S2048, .f32⟩
  | .hbm, ⟨5, _⟩ => ⟨S32768x1024, .f32⟩
  | .hbm, ⟨6, _⟩ => ⟨S8x4096x1024, .f32⟩
  | .hbm, ⟨7, _⟩ => ⟨S2048x1024, .f32⟩
  | .hbm, ⟨8, _⟩ => ⟨S8x256x1024, .f32⟩
  | .hbm, ⟨9, _⟩ => ⟨S1x8x6x1024, .f32⟩
  | .hbm, ⟨10, _⟩ => ⟨S8x6x1024, .f32⟩
  | .hbm, ⟨11, _⟩ => ⟨S8x6x1x1024, .f32⟩
  | .hbm, ⟨12, _⟩ => ⟨S1x1x6x1024, .f32⟩
  | .hbm, ⟨13, _⟩ => ⟨S1x6x1024, .f32⟩
  | .hbm, ⟨14, _⟩ => ⟨S1x6x1x1024, .f32⟩
  | .hbm, ⟨15, _⟩ => ⟨S1x1024, .f32⟩
  | .hbm, ⟨16, _⟩ => ⟨S1024, .f32⟩
  | .hbm, ⟨17, _⟩ => ⟨S8x4096x1024, .f32⟩
  | .hbm, ⟨18, _⟩ => ⟨S_, .f32⟩
  | .hbm, ⟨19, _⟩ => ⟨S8x4096, .f32⟩
  | .hbm, ⟨20, _⟩ => ⟨S8x4096x1, .f32⟩
  | .hbm, ⟨21, _⟩ => ⟨S_, .f32⟩
  | .hbm, ⟨22, _⟩ => ⟨S8x4096x1, .f32⟩
  | .hbm, ⟨23, _⟩ => ⟨S8x4096x1, .f32⟩
  | .hbm, ⟨24, _⟩ => ⟨S_, .f32⟩
  | .hbm, ⟨25, _⟩ => ⟨S8x4096x1, .f32⟩
  | .hbm, ⟨26, _⟩ => ⟨S8x4096x1, .f32⟩
  | .hbm, ⟨27, _⟩ => ⟨S8x4096x1, .f32⟩
  | .hbm, ⟨28, _⟩ => ⟨S8x4096x1024, .f32⟩
  | .hbm, ⟨29, _⟩ => ⟨S8x4096x1024, .f32⟩
  | .hbm, ⟨30, _⟩ => ⟨S1x1x1024, .f32⟩
  | .hbm, ⟨31, _⟩ => ⟨S8x4096x1024, .f32⟩
  | .hbm, ⟨32, _⟩ => ⟨S8x4096x1024, .f32⟩
  | .hbm, ⟨33, _⟩ => ⟨S8x1x1x1024, .f32⟩
  | .hbm, ⟨34, _⟩ => ⟨S8x1x1024, .f32⟩
  | .hbm, ⟨35, _⟩ => ⟨S8x1x1x1024, .f32⟩
  | .hbm, ⟨36, _⟩ => ⟨S8x1x1024, .f32⟩
  | .hbm, ⟨37, _⟩ => ⟨S_, .f32⟩
  | .hbm, ⟨38, _⟩ => ⟨S8x1x1024, .f32⟩
  | .hbm, ⟨39, _⟩ => ⟨S8x1x1024, .f32⟩
  | .hbm, ⟨40, _⟩ => ⟨S8x4096x1024, .f32⟩
  | .hbm, ⟨41, _⟩ => ⟨S8x4096x1024, .f32⟩
  | .hbm, ⟨42, _⟩ => ⟨S8x4096x1024, .f32⟩
  | .hbm, ⟨43, _⟩ => ⟨S8x4096x1024, .f32⟩
  | .hbm, ⟨44, _⟩ => ⟨S1x1024, .f32⟩
  | .hbm, ⟨45, _⟩ => ⟨S1024, .f32⟩
  | .hbm, ⟨46, _⟩ => ⟨S8x256x1024, .f32⟩
  | .hbm, ⟨47, _⟩ => ⟨S_, .f32⟩
  | .hbm, ⟨48, _⟩ => ⟨S8x256, .f32⟩
  | .hbm, ⟨49, _⟩ => ⟨S8x256x1, .f32⟩
  | .hbm, ⟨50, _⟩ => ⟨S_, .f32⟩
  | .hbm, ⟨51, _⟩ => ⟨S8x256x1, .f32⟩
  | .hbm, ⟨52, _⟩ => ⟨S8x256x1, .f32⟩
  | .hbm, ⟨53, _⟩ => ⟨S_, .f32⟩
  | .hbm, ⟨54, _⟩ => ⟨S8x256x1, .f32⟩
  | .hbm, ⟨55, _⟩ => ⟨S8x256x1, .f32⟩
  | .hbm, ⟨56, _⟩ => ⟨S8x256x1, .f32⟩
  | .hbm, ⟨57, _⟩ => ⟨S8x256x1024, .f32⟩
  | .hbm, ⟨58, _⟩ => ⟨S8x256x1024, .f32⟩
  | .hbm, ⟨59, _⟩ => ⟨S1x1x1024, .f32⟩
  | .hbm, ⟨60, _⟩ => ⟨S8x256x1024, .f32⟩
  | .hbm, ⟨61, _⟩ => ⟨S8x256x1024, .f32⟩
  | .hbm, ⟨62, _⟩ => ⟨S1x1x1x1024, .f32⟩
  | .hbm, ⟨63, _⟩ => ⟨S1x1x1024, .f32⟩
  | .hbm, ⟨64, _⟩ => ⟨S1x1x1x1024, .f32⟩
  | .hbm, ⟨65, _⟩ => ⟨S1x1x1024, .f32⟩
  | .hbm, ⟨66, _⟩ => ⟨S_, .f32⟩
  | .hbm, ⟨67, _⟩ => ⟨S1x1x1024, .f32⟩
  | .hbm, ⟨68, _⟩ => ⟨S1x1x1024, .f32⟩
  | .hbm, ⟨69, _⟩ => ⟨S8x256x1024, .f32⟩
  | .hbm, ⟨70, _⟩ => ⟨S8x256x1024, .f32⟩
  | .hbm, ⟨71, _⟩ => ⟨S8x256x1024, .f32⟩
  | .hbm, ⟨72, _⟩ => ⟨S8x256x1024, .f32⟩
  | .hbm, ⟨73, _⟩ => ⟨S8x4096x2048, .f32⟩
  | .hbm, ⟨74, _⟩ => ⟨S1x1x2048, .f32⟩
  | .hbm, ⟨75, _⟩ => ⟨S8x4096x2048, .f32⟩
  | .hbm, ⟨76, _⟩ => ⟨S8x4096x2048, .f32⟩
  | .hbm, ⟨77, _⟩ => ⟨S8x4096x1024, .f32⟩
  | .hbm, ⟨78, _⟩ => ⟨S8x4096x1024, .f32⟩
  | .hbm, ⟨79, _⟩ => ⟨S8x4096x1024, .f32⟩
  | .hbm, ⟨80, _⟩ => ⟨S8x4096x1024, .f32⟩
  | .hbm, ⟨81, _⟩ => ⟨S_, .f32⟩
  | .hbm, ⟨82, _⟩ => ⟨S8x4096x1024, .f32⟩
  | .hbm, ⟨83, _⟩ => ⟨S8x4096x1024, .f32⟩
  | .hbm, ⟨84, _⟩ => ⟨S_, .f32⟩
  | .hbm, ⟨85, _⟩ => ⟨S8x4096x1024, .f32⟩
  | .hbm, ⟨86, _⟩ => ⟨S8x4096x1024, .f32⟩
  | .hbm, ⟨87, _⟩ => ⟨S8x4096x1024, .f32⟩
  | .hbm, ⟨88, _⟩ => ⟨S32768x1024, .f32⟩
  | .hbm, ⟨89, _⟩ => ⟨S8x256x2048, .f32⟩
  | .hbm, ⟨90, _⟩ => ⟨S1x1x2048, .f32⟩
  | .hbm, ⟨91, _⟩ => ⟨S8x256x2048, .f32⟩
  | .hbm, ⟨92, _⟩ => ⟨S8x256x2048, .f32⟩
  | .hbm, ⟨93, _⟩ => ⟨S8x256x1024, .f32⟩
  | .hbm, ⟨94, _⟩ => ⟨S8x256x1024, .f32⟩
  | .hbm, ⟨95, _⟩ => ⟨S8x256x1024, .f32⟩
  | .hbm, ⟨96, _⟩ => ⟨S8x256x1024, .f32⟩
  | .hbm, ⟨97, _⟩ => ⟨S_, .f32⟩
  | .hbm, ⟨98, _⟩ => ⟨S8x256x1024, .f32⟩
  | .hbm, ⟨99, _⟩ => ⟨S8x256x1024, .f32⟩
  | .hbm, ⟨100, _⟩ => ⟨S_, .f32⟩
  | .hbm, ⟨101, _⟩ => ⟨S8x256x1024, .f32⟩
  | .hbm, ⟨102, _⟩ => ⟨S8x256x1024, .f32⟩
  | .hbm, ⟨103, _⟩ => ⟨S8x256x1024, .f32⟩
  | .hbm, ⟨104, _⟩ => ⟨S2048x1024, .f32⟩
  | .hbm, ⟨105, _⟩ => ⟨S34816x1024, .f32⟩
  | _, _ => ⟨S34816x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_2 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_3 : Ref sig .tc := ⟨.hbm, 47, rfl⟩
abbrev main_v38 : Ref sig .tc := ⟨.hbm, 48, rfl⟩
abbrev main_v39 : Ref sig .tc := ⟨.hbm, 49, rfl⟩
abbrev main_cst_4 : Ref sig .tc := ⟨.hbm, 50, rfl⟩
abbrev main_v40 : Ref sig .tc := ⟨.hbm, 51, rfl⟩
abbrev main_v41 : Ref sig .tc := ⟨.hbm, 52, rfl⟩
abbrev main_cst_5 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_6 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_cst_7 : Ref sig .tc := ⟨.hbm, 81, rfl⟩
abbrev main_v68 : Ref sig .tc := ⟨.hbm, 82, rfl⟩
abbrev main_v69 : Ref sig .tc := ⟨.hbm, 83, rfl⟩
abbrev main_cst_8 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_cst_9 : Ref sig .tc := ⟨.hbm, 97, rfl⟩
abbrev main_v82 : Ref sig .tc := ⟨.hbm, 98, rfl⟩
abbrev main_v83 : Ref sig .tc := ⟨.hbm, 99, rfl⟩
abbrev main_cst_10 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩

abbrev nD : Nat := 1
abbrev τ : Topo := Topo.v7x

variable {F : FTy → Type} [FloatOps F]
-- ==== Proof.PostPay.lean ====
module

public import proofs.«01_k».proof.Proof.Gen.Kernel2Ideal.Value
public import Idealize.ShloMosaic.Lib.Pointwise
public import Idealize.ShloMosaic.Lib.Pipeline.ValueKit

@[expose] public section

set_option maxRecDepth 16384

noncomputable section

namespace Cert.Proof.Post

open Cert.Kernel2Ideal Cert.Kernel2Ideal.Gen Idealize.ShloMosaic

/-- A vector of 1024 features. -/
abbrev Row := Fin 1024 → EReal

/-- The root-mean-square norm of a row, scaled by `g`. -/
def rnorm (v g : Row) (j : Fin 1024) : EReal :=
  v j * Ideal.rsqrt (Ideal.div (∑ k, v k * v k) (Ideal.ofBits .f32 0x44800000#32) + Ideal.ofBits .f32 0x358637BD#32) * g j

/-- The residual stream after the mixer: `x + gate · (a · wo)`. -/
def res (x a gate : Row) (wo : Fin 1024 → Row) (j : Fin 1024) : EReal := x j + gate j * ∑ k, a k * wo k j

/-- The modulated normed row the MLP reads. -/
def modr (x1 g sc sh : Row) (k : Fin 1024) : EReal := rnorm x1 g k * (1 + sc k) + sh k

/-- A hidden unit of the MLP: the squared positive part. -/
def hid (x1 g sc sh : Row) (w1 : Fin 1024 → Fin 4096 → EReal) (f : Fin 4096) : EReal :=
  max (∑ k, modr x1 g sc sh k * w1 k f) 0 * max (∑ k, modr x1 g sc sh k * w1 k f) 0

/-- The residual stream after the MLP. -/
def res2 (x1 gate : Row) (h : Fin 4096 → EReal) (w2 : Fin 4096 → Row) (j : Fin 1024) : EReal :=
  x1 j + gate j * ∑ f, h f * w2 f j

/-- One row of the layer's tail with the final norm. -/
def post (x a gate sh sc gate2 n2 : Row) (wo : Fin 1024 → Row) (w1 : Fin 1024 → Fin 4096 → EReal) (w2 : Fin 4096 → Row)
    (fg : Row) (j : Fin 1024) : EReal :=
  rnorm (res2 (res x a gate wo) gate2 (hid (res x a gate wo) n2 sc sh w1) w2) fg j

/-- The lane-group pieces of a row, side by side, are the row. -/
def lanes (x0 : Vec Ideal S8x512x128 .bf16) (r : Fin 512) (k : Fin 1024) : EReal :=
  x0 (ix3 (⟨k.val / 128, by omega⟩ : Fin 8) r (⟨k.val % 128, by omega⟩ : Fin 128))

/-- The first chunk's residual row at an index. -/
theorem first_res (x0 : Vec Ideal S8x512x128 .bf16) (x1 : Vec Ideal S512x1024 .f32) (x2 : Vec Ideal S1x1x6x1024 .f32) (x3 : Vec Ideal S1x1x1024 .f32) (x4 : Vec Ideal S1024x1024 .bf16) (x5 : Vec Ideal S1x1024x4096 .bf16) (x6 : Vec Ideal S1x4096x1024 .bf16) (x7 : Vec Ideal S1x1024 .f32)
    (r : Fin 256) (l : Fin 1024) :
    k0_pay3 (k0_pay17 x0 x1 x2 x3 x4 x5 x6 x7) (k0_pay18 x0 x1 x2 x3 x4 x5 x6 x7) (ix2 r l)
      = res (fun k => x1 (ix2 (⟨r.val, by omega⟩ : Fin 512) k)) (lanes x0 ⟨r.val, by omega⟩) (fun k => x2 (ix4 0 0 2 k)) (fun i j => x4 (ix2 i j)) l := by
  unfold res lanes
  pointwise [k0_pay3, k0_pay17, k0_pay18, k0_pay1, k0_pay2]
  congr 2

/-- The second chunk's residual row at an index. -/
theorem second_res (x0 : Vec Ideal S8x512x128 .bf16) (x1 : Vec Ideal S512x1024 .f32) (x2 : Vec Ideal S1x1x6x1024 .f32) (x3 : Vec Ideal S1x1x1024 .f32) (x4 : Vec Ideal S1024x1024 .bf16) (x5 : Vec Ideal S1x1024x4096 .bf16) (x6 : Vec Ideal S1x4096x1024 .bf16) (x7 : Vec Ideal S1x1024 .f32)
    (r : Fin 256) (l : Fin 1024) :
    k0_pay12 (k0_pay19 x0 x1 x2 x3 x4 x5 x6 x7) (k0_pay20 x0 x1 x2 x3 x4 x5 x6 x7) (k0_pay21 x0 x1 x2 x3 x4 x5 x6 x7) (k0_pay22 x0 x1 x2 x3 x4 x5 x6 x7) (k0_pay23 x0 x1 x2 x3 x4 x5 x6 x7) (View.ld x0 r0_23) (View.ld x0 r0_24) (View.ld x0 r0_25) (View.ld x4 r0_8) (View.ld x1 r0_26) (View.ld x2 r0_10) (ix2 r l)
      = res (fun k => x1 (ix2 (⟨256 + r.val, by omega⟩ : Fin 512) k)) (lanes x0 ⟨256 + r.val, by omega⟩) (fun k => x2 (ix4 0 0 2 k)) (fun i j => x4 (ix2 i j)) l := by
  unfold res lanes
  pointwise [k0_pay12, k0_pay19, k0_pay20, k0_pay21, k0_pay22, k0_pay23, k0_pay7, k0_pay8, k0_pay9, k0_pay10, k0_pay11]
  congr 2

/-- The first chunk's stored row at an index. -/
theorem first_at (x0 : Vec Ideal S8x512x128 .bf16) (x1 : Vec Ideal S512x1024 .f32) (x2 : Vec Ideal S1x1x6x1024 .f32) (x3 : Vec Ideal S1x1x1024 .f32) (x4 : Vec Ideal S1024x1024 .bf16) (x5 : Vec Ideal S1x1024x4096 .bf16) (x6 : Vec Ideal S1x4096x1024 .bf16) (x7 : Vec Ideal S1x1024 .f32)
    (r : Fin 256) (l : Fin 1024) :
    k0_pay6 (k0_pay3 (k0_pay17 x0 x1 x2 x3 x4 x5 x6 x7) (k0_pay18 x0 x1 x2 x3 x4 x5 x6 x7)) (k0_pay4 (k0_pay17 x0 x1 x2 x3 x4 x5 x6 x7) (k0_pay18 x0 x1 x2 x3 x4 x5 x6 x7) (View.ld x3 r0_11) (View.ld x2 r0_12) (View.ld x2 r0_13) (View.ld x5 r0_14)) (k0_pay5 (View.ld x2 r0_15)) (View.ld x6 r0_16) (View.ld x7 r0_17) (ix2 r l)
      = post (fun k => x1 (ix2 (⟨r.val, by omega⟩ : Fin 512) k)) (lanes x0 ⟨r.val, by omega⟩) (fun k => x2 (ix4 0 0 2 k)) (fun k => x2 (ix4 0 0 3 k)) (fun k => x2 (ix4 0 0 4 k)) (fun k => x2 (ix4 0 0 5 k)) (fun k => x3 (ix3 0 0 k)) (fun i j => x4 (ix2 i j)) (fun i j => x5 (ix3 0 i j)) (fun i j => x6 (ix3 0 i j)) (fun k => x7 (ix2 0 k)) l := by
  unfold post
  have e : ∀ k, k0_pay3 (k0_pay17 x0 x1 x2 x3 x4 x5 x6 x7) (k0_pay18 x0 x1 x2 x3 x4 x5 x6 x7) (ix2 r k) = _ := first_res x0 x1 x2 x3 x4 x5 x6 x7 r
  generalize k0_pay17 x0 x1 x2 x3 x4 x5 x6 x7 = A at e ⊢
  generalize k0_pay18 x0 x1 x2 x3 x4 x5 x6 x7 = B at e ⊢
  pointwise [k0_pay6, k0_pay4, k0_pay5]
  simp only [e]
  generalize res _ _ _ _ = X
  rfl

/-- The second chunk's stored row at an index. -/
theorem second_at (x0 : Vec Ideal S8x512x128 .bf16) (x1 : Vec Ideal S512x1024 .f32) (x2 : Vec Ideal S1x1x6x1024 .f32) (x3 : Vec Ideal S1x1x1024 .f32) (x4 : Vec Ideal S1024x1024 .bf16) (x5 : Vec Ideal S1x1024x4096 .bf16) (x6 : Vec Ideal S1x4096x1024 .bf16) (x7 : Vec Ideal S1x1024 .f32)
    (r : Fin 256) (l : Fin 1024) :
    k0_pay16 (k0_pay12 (k0_pay19 x0 x1 x2 x3 x4 x5 x6 x7) (k0_pay20 x0 x1 x2 x3 x4 x5 x6 x7) (k0_pay21 x0 x1 x2 x3 x4 x5 x6 x7) (k0_pay22 x0 x1 x2 x3 x4 x5 x6 x7) (k0_pay23 x0 x1 x2 x3 x4 x5 x6 x7) (View.ld x0 r0_23) (View.ld x0 r0_24) (View.ld x0 r0_25) (View.ld x4 r0_8) (View.ld x1 r0_26) (View.ld x2 r0_10)) (k0_pay13 (k0_pay19 x0 x1 x2 x3 x4 x5 x6 x7) (k0_pay20 x0 x1 x2 x3 x4 x5 x6 x7) (k0_pay21 x0 x1 x2 x3 x4 x5 x6 x7) (k0_pay22 x0 x1 x2 x3 x4 x5 x6 x7) (k0_pay23 x0 x1 x2 x3 x4 x5 x6 x7) (View.ld x0 r0_23) (View.ld x0 r0_24) (View.ld x0 r0_25) (View.ld x4 r0_8) (View.ld x1 r0_26) (View.ld x2 r0_10) (View.ld x3 r0_11)) (k0_pay14 (View.ld x2 r0_12)) (k0_pay15 (F := Ideal)) (View.ld x2 r0_13) (View.ld x5 r0_14) (View.ld x2 r0_15) (View.ld x6 r0_16) (View.ld x7 r0_17) (ix2 r l)
      = post (fun k => x1 (ix2 (⟨256 + r.val, by omega⟩ : Fin 512) k)) (lanes x0 ⟨256 + r.val, by omega⟩) (fun k => x2 (ix4 0 0 2 k)) (fun k => x2 (ix4 0 0 3 k)) (fun k => x2 (ix4 0 0 4 k)) (fun k => x2 (ix4 0 0 5 k)) (fun k => x3 (ix3 0 0 k)) (fun i j => x4 (ix2 i j)) (fun i j => x5 (ix3 0 i j)) (fun i j => x6 (ix3 0 i j)) (fun k => x7 (ix2 0 k)) l := by
  unfold post
  have e := second_res x0 x1 x2 x3 x4 x5 x6 x7 r
  unfold k0_pay13
  generalize k0_pay12 (k0_pay19 x0 x1 x2 x3 x4 x5 x6 x7) (k0_pay20 x0 x1 x2 x3 x4 x5 x6 x7) (k0_pay21 x0 x1 x2 x3 x4 x5 x6 x7) (k0_pay22 x0 x1 x2 x3 x4 x5 x6 x7) (k0_pay23 x0 x1 x2 x3 x4 x5 x6 x7) (View.ld x0 r0_23) (View.ld x0 r0_24) (View.ld x0 r0_25) (View.ld x4 r0_8) (View.ld x1 r0_26) (View.ld x2 r0_10) = A at e ⊢
  pointwise [k0_pay16, k0_pay14, k0_pay15]
  simp only [e]
  generalize res _ _ _ _ = X
  rfl

/-- A row of the output block, by its row number in the block. -/
theorem block_at (x0 : Vec Ideal S8x512x128 .bf16) (x1 : Vec Ideal S512x1024 .f32) (x2 : Vec Ideal S1x1x6x1024 .f32) (x3 : Vec Ideal S1x1x1024 .f32) (x4 : Vec Ideal S1024x1024 .bf16) (x5 : Vec Ideal S1x1024x4096 .bf16) (x6 : Vec Ideal S1x4096x1024 .bf16) (x7 : Vec Ideal S1x1024 .f32)
    (r : Fin 512) (l : Fin 1024) :
    out0_8 x0 x1 x2 x3 x4 x5 x6 x7 (ix2 r l)
      = post (fun k => x1 (ix2 r k)) (lanes x0 r) (fun k => x2 (ix4 0 0 2 k)) (fun k => x2 (ix4 0 0 3 k)) (fun k => x2 (ix4 0 0 4 k)) (fun k => x2 (ix4 0 0 5 k)) (fun k => x3 (ix3 0 0 k)) (fun i j => x4 (ix2 i j)) (fun i j => x5 (ix3 0 i j)) (fun i j => x6 (ix3 0 i j)) (fun k => x7 (ix2 0 k)) l := by
  unfold out0_8
  canon_tiles x h
  · obtain ⟨a, b, rfl⟩ : ∃ (a : Fin 256) (b : Fin 1024), x = ix2 a b := ⟨x 0, x 1, eq_ix2 x⟩
    rw [second_at]
    rw [show (⟨256 + a.val, by omega⟩ : Fin 512) = r from Fin.ext h0.symm, show b = l from Fin.ext h1.symm]
  · obtain ⟨a, b, rfl⟩ : ∃ (a : Fin 256) (b : Fin 1024), x = ix2 a b := ⟨x 0, x 1, eq_ix2 x⟩
    rw [first_at]
    rw [show (⟨a.val, by omega⟩ : Fin 512) = r from Fin.ext h0.symm, show b = l from Fin.ext h1.symm]
end Cert.Proof.Post
end
-- ==== Proof.PostRef.lean ====
module

public import proofs.«01_k».proof.Proof.PostPay
public import proofs.«01_k».proof.Proof.Gen.Reference2Ideal.Run
public import Idealize.ShloMosaic.Lib.Claim

@[expose] public section

set_option maxRecDepth 16384

noncomputable section

namespace Cert.Proof.Post

open Idealize.ShloMosaic Idealize.ShloMosaic.TcCoe Idealize.SL.Sem

/-- The result array at row `R` and feature `l`, from the argument arrays. -/
def target (A X : FVec Ideal ⟨3, ![8, 4096, 1024]⟩ .f32) (M : FVec Ideal ⟨4, ![4, 8, 6, 1024]⟩ .f32) (N2 : FVec Ideal ⟨2, ![4, 1024]⟩ .f32)
    (WO : FVec Ideal ⟨2, ![1024, 1024]⟩ .f32) (W1 : FVec Ideal ⟨3, ![4, 1024, 4096]⟩ .f32) (W2 : FVec Ideal ⟨3, ![4, 4096, 1024]⟩ .f32) (FG : FVec Ideal ⟨1, ![1024]⟩ .f32)
    (R : Fin 32768) (l : Fin 1024) : EReal :=
  post (fun k => X (ix3 (⟨R.val / 4096, by omega⟩ : Fin 8) (⟨R.val % 4096, by omega⟩ : Fin 4096) k))
    (fun k => A (ix3 (⟨R.val / 4096, by omega⟩ : Fin 8) (⟨R.val % 4096, by omega⟩ : Fin 4096) k))
    (fun k => M (ix4 3 (⟨R.val / 4096, by omega⟩ : Fin 8) 2 k)) (fun k => M (ix4 3 (⟨R.val / 4096, by omega⟩ : Fin 8) 3 k))
    (fun k => M (ix4 3 (⟨R.val / 4096, by omega⟩ : Fin 8) 4 k)) (fun k => M (ix4 3 (⟨R.val / 4096, by omega⟩ : Fin 8) 5 k))
    (fun k => N2 (ix2 3 k)) (fun i j => WO (ix2 i j)) (fun i j => W1 (ix3 3 i j)) (fun i j => W2 (ix3 3 i j)) (fun k => FG (ix1 k)) l

open Cert.Reference2Ideal Cert.Reference2Ideal.Gen

/-- The layer's modulation vectors. -/
def hMod (M : FVec Ideal S4x8x6x1024 .f32) : FVec Ideal S8x6x1x1024 .f32 :=
  shapeCast S8x6x1x1024 (shapeCast S8x6x1024 (extractStridedSlice S1x8x6x1024 ![3, 0, 0, 0] M slices_S4x8x6x1024_S1x8x6x1024_3_0_0_0) shapeCasts_S1x8x6x1024_S8x6x1024) shapeCasts_S8x6x1024_S8x6x1x1024

/-- The reference's root-mean-square norm of every token. -/
def hNorm (v : FVec Ideal S8x4096x1024 .f32) (g : FVec Ideal S1024 .f32) : FVec Ideal S8x4096x1024 .f32 :=
  mulf (mulf v (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf v v) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 g))

/-- The reference's residual stream after the mixer. -/
def hX1 (A X : FVec Ideal S8x4096x1024 .f32) (M : FVec Ideal S4x8x6x1024 .f32) (WO : FVec Ideal S1024x1024 .f32) : FVec Ideal S8x4096x1024 .f32 :=
  addf X (mulf (broadcastInDim S8x4096x1024 ![0, 1, 2] bcast_S8x1x1024_S8x4096x1024_0_1_2 (shapeCast S8x1x1024 (extractStridedSlice S8x1x1x1024 ![0, 2, 0, 0] (hMod M) slices_S8x6x1x1024_S8x1x1x1024_0_2_0_0) shapeCasts_S8x1x1x1024_S8x1x1024)) (Host.dotGeneral dot_S8x4096x1024_S1024x1024_S8x4096x1024_2_0_01_1_n_n none A WO))

/-- The reference's modulated normed tokens. -/
def hModr (x1 : FVec Ideal S8x4096x1024 .f32) (M : FVec Ideal S4x8x6x1024 .f32) (N2 : FVec Ideal S4x1024 .f32) : FVec Ideal S8x4096x1024 .f32 :=
  addf (mulf (hNorm x1 (shapeCast S1024 (extractStridedSlice S1x1024 ![3, 0] N2 slices_S4x1024_S1x1024_3_0) shapeCasts_S1x1024_S1024)) (broadcastInDim S8x4096x1024 ![0, 1, 2] bcast_S8x1x1024_S8x4096x1024_0_1_2 (addf (broadcastInDim S8x1x1024 ![] bcast_S_S8x1x1024 (constant S_ .f32 0x3F800000#32)) (shapeCast S8x1x1024 (extractStridedSlice S8x1x1x1024 ![0, 4, 0, 0] (hMod M) slices_S8x6x1x1024_S8x1x1x1024_0_4_0_0) shapeCasts_S8x1x1x1024_S8x1x1024)))) (broadcastInDim S8x4096x1024 ![0, 1, 2] bcast_S8x1x1024_S8x4096x1024_0_1_2 (shapeCast S8x1x1024 (extractStridedSlice S8x1x1x1024 ![0, 3, 0, 0] (hMod M) slices_S8x6x1x1024_S8x1x1x1024_0_3_0_0) shapeCasts_S8x1x1x1024_S8x1x1024))

/-- The reference's hidden units before the square. -/
def hRelu (mr : FVec Ideal S8x4096x1024 .f32) (W1 : FVec Ideal S4x1024x4096 .f32) : FVec Ideal S8x4096x4096 .f32 :=
  maximumf (Host.dotGeneral dot_S8x4096x1024_S1024x4096_S8x4096x4096_2_0_01_1_n_n none mr (shapeCast S1024x4096 (extractStridedSlice S1x1024x4096 ![3, 0, 0] W1 slices_S4x1024x4096_S1x1024x4096_3_0_0) shapeCasts_S1x1024x4096_S1024x4096)) (broadcastInDim S8x4096x4096 ![] bcast_S_S8x4096x4096 (constant S_ .f32 0x00000000#32))

/-- The reference's residual stream after the MLP. -/
def hX2 (x1 : FVec Ideal S8x4096x1024 .f32) (h : FVec Ideal S8x4096x4096 .f32) (M : FVec Ideal S4x8x6x1024 .f32) (W2 : FVec Ideal S4x4096x1024 .f32) : FVec Ideal S8x4096x1024 .f32 :=
  addf x1 (mulf (broadcastInDim S8x4096x1024 ![0, 1, 2] bcast_S8x1x1024_S8x4096x1024_0_1_2 (shapeCast S8x1x1024 (extractStridedSlice S8x1x1x1024 ![0, 5, 0, 0] (hMod M) slices_S8x6x1x1024_S8x1x1x1024_0_5_0_0) shapeCasts_S8x1x1x1024_S8x1x1024)) (Host.dotGeneral dot_S8x4096x4096_S4096x1024_S8x4096x1024_2_0_01_1_n_n none (mulf h h) (shapeCast S4096x1024 (extractStridedSlice S1x4096x1024 ![3, 0, 0] W2 slices_S4x4096x1024_S1x4096x1024_3_0_0) shapeCasts_S1x4096x1024_S4096x1024)))

/-- The norm at an index. -/
theorem hNorm_at (v : FVec Ideal S8x4096x1024 .f32) (g : FVec Ideal S1024 .f32) (b : Fin 8) (r : Fin 4096) (l : Fin 1024) :
    hNorm v g (ix3 b r l) = rnorm (fun k => v (ix3 b r k)) (fun k => g (ix1 k)) l := by
  unfold rnorm
  pointwise [hNorm]

/-- The residual stream after the mixer at an index. -/
theorem hX1_at (A X : FVec Ideal S8x4096x1024 .f32) (M : FVec Ideal S4x8x6x1024 .f32) (WO : FVec Ideal S1024x1024 .f32) (b : Fin 8) (r : Fin 4096) (l : Fin 1024) :
    hX1 A X M WO (ix3 b r l) = res (fun k => X (ix3 b r k)) (fun k => A (ix3 b r k)) (fun k => M (ix4 3 b 2 k)) (fun i j => WO (ix2 i j)) l := by
  unfold res
  pointwise [hX1, hMod]

/-- The modulated normed row at an index. -/
theorem hModr_at (x1 : FVec Ideal S8x4096x1024 .f32) (M : FVec Ideal S4x8x6x1024 .f32) (N2 : FVec Ideal S4x1024 .f32) (b : Fin 8) (r : Fin 4096) (l : Fin 1024) :
    hModr x1 M N2 (ix3 b r l) = modr (fun k => x1 (ix3 b r k)) (fun k => N2 (ix2 3 k)) (fun k => M (ix4 3 b 4 k)) (fun k => M (ix4 3 b 3 k)) l := by
  unfold modr
  pointwise [hModr, hMod, hNorm_at]

/-- The hidden units at an index. -/
theorem hRelu_at (mr : FVec Ideal S8x4096x1024 .f32) (W1 : FVec Ideal S4x1024x4096 .f32) (b : Fin 8) (r : Fin 4096) (l : Fin 4096) :
    hRelu mr W1 (ix3 b r l) = max (∑ k, mr (ix3 b r k) * W1 (ix3 3 k l)) 0 := by
  pointwise [hRelu]

/-- The residual stream after the MLP at an index. -/
theorem hX2_at (x1 : FVec Ideal S8x4096x1024 .f32) (h : FVec Ideal S8x4096x4096 .f32) (M : FVec Ideal S4x8x6x1024 .f32) (W2 : FVec Ideal S4x4096x1024 .f32) (b : Fin 8) (r : Fin 4096) (l : Fin 1024) :
    hX2 x1 h M W2 (ix3 b r l) = res2 (fun k => x1 (ix3 b r k)) (fun k => M (ix4 3 b 5 k)) (fun f => h (ix3 b r f) * h (ix3 b r f)) (fun i j => W2 (ix3 3 i j)) l := by
  unfold res2
  pointwise [hX2, hMod]

/-- The reference's result at an index. -/
theorem ref_at (m : (ℓ : Loc nD τ sig) → Buf (Elt Ideal) ℓ) (c : Dev nD) (R : Fin 32768) (l : Fin 1024) :
    Cert.Reference2Ideal.Value.res_out0 m c (ix2 R l) = target (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) R l := by
  have e : Cert.Reference2Ideal.Value.res_out0 m c = fun i => shapeCast S32768x1024 (hNorm (hX2 (hX1 (m ((c : Thread nD τ).loc main_arg0)) (m ((c : Thread nD τ).loc main_arg1)) (m ((c : Thread nD τ).loc main_arg2)) (m ((c : Thread nD τ).loc main_arg4)))
      (hRelu (hModr (hX1 (m ((c : Thread nD τ).loc main_arg0)) (m ((c : Thread nD τ).loc main_arg1)) (m ((c : Thread nD τ).loc main_arg2)) (m ((c : Thread nD τ).loc main_arg4))) (m ((c : Thread nD τ).loc main_arg2)) (m ((c : Thread nD τ).loc main_arg3))) (m ((c : Thread nD τ).loc main_arg5)))
      (m ((c : Thread nD τ).loc main_arg2)) (m ((c : Thread nD τ).loc main_arg6))) (m ((c : Thread nD τ).loc main_arg7))) shapeCasts_S8x4096x1024_S32768x1024 i := rfl
  rw [e]
  pointwise
  simp only [hNorm_at, hX2_at, hRelu_at, hModr_at, hX1_at]
  rfl

end Cert.Proof.Post
end
-- ==== Proof.PostValue.lean ====
module

public import proofs.«01_k».proof.Proof.PostPay
public import proofs.«01_k».proof.Proof.PostRef
public import Idealize.ShloMosaic.Lib.Claim

@[expose] public section

set_option maxRecDepth 16384

noncomputable section

namespace Cert.Proof.Post

open Cert.Kernel2Ideal Cert.Kernel2Ideal.Gen Idealize.ShloMosaic Idealize.ShloMosaic.TcCoe Idealize.SL.Sem

variable (m : (ℓ : Loc nD τ sig) → Buf (Elt Ideal) ℓ)

/-- Where each window's block stands at a grid point. -/
theorem idx_facts : ∀ t : Fin cfg0.N, win0_0.index t = ![0, t.val, 0] ∧ win0_1.index t = ![t.val, 0] ∧ win0_2.index t = ![3, t.val / 8, 0, 0]
    ∧ win0_3.index t = ![3, 0, 0] ∧ win0_4.index t = ![0, 0] ∧ win0_5.index t = ![3, 0, 0] ∧ win0_6.index t = ![3, 0, 0] ∧ win0_7.index t = ![0, 0]
    ∧ win0_8.index t = ![t.val, 0] := by
  decide +kernel

/-- A window's block at an index, from the argument array. -/
theorem blk0 (c : Dev nD) (t : Fin cfg0.N) (r : Fin 512) (k : Fin 1024) (R : Fin 32768) (hR : R.val = t.val * 512 + r.val) :
    lanes (iblk m c 0 t) r k = m ((c : Thread nD τ).loc main_arg0) (ix3 (⟨R.val / 4096, by omega⟩ : Fin 8) (⟨R.val % 4096, by omega⟩ : Fin 4096) k) := by
  unfold lanes
  blk_simp [iblk]; entry_read; pointwise
  blk_ext [idx_facts t]

/-- A window's block at an index, from the argument array. -/
theorem blk1 (c : Dev nD) (t : Fin cfg0.N) (r : Fin 512) (k : Fin 1024) (R : Fin 32768) (hR : R.val = t.val * 512 + r.val) :
    iblk m c 1 t (ix2 r k) = m ((c : Thread nD τ).loc main_arg1) (ix3 (⟨R.val / 4096, by omega⟩ : Fin 8) (⟨R.val % 4096, by omega⟩ : Fin 4096) k) := by
  blk_simp [iblk]; entry_read; pointwise
  blk_ext [idx_facts t]

/-- A window's block at an index, from the argument array. -/
theorem blk2 (c : Dev nD) (t : Fin cfg0.N) (i : Fin 6) (k : Fin 1024) (r : Fin 512) (R : Fin 32768) (hR : R.val = t.val * 512 + r.val) :
    iblk m c 2 t (ix4 0 0 i k) = m ((c : Thread nD τ).loc main_arg2) (ix4 3 (⟨R.val / 4096, by omega⟩ : Fin 8) i k) := by
  blk_simp [iblk]; entry_read; pointwise
  have ht : t.val < 64 := t.isLt
  have hb : ((win0_2.blk t).view.emb (ix4 0 0 i k) 1).val = t.val / 8 := by blk_simp [idx_facts t]; exact Nat.add_zero _
  rw [dif_pos (lt_of_eq_of_lt hb (by omega))]
  blk_ext [idx_facts t]

/-- A window's block at an index, from the argument array. -/
theorem blk3 (c : Dev nD) (t : Fin cfg0.N) (k : Fin 1024) :
    iblk m c 3 t (ix3 0 0 k) = m ((c : Thread nD τ).loc main_arg3) (ix2 3 k) := by
  blk_simp [iblk]; entry_read; pointwise
  blk_ext [idx_facts t]

/-- A window's block at an index, from the argument array. -/
theorem blk4 (c : Dev nD) (t : Fin cfg0.N) (i j : Fin 1024) :
    iblk m c 4 t (ix2 i j) = m ((c : Thread nD τ).loc main_arg4) (ix2 i j) := by
  blk_ext [iblk, V, idx_facts t]

/-- A window's block at an index, from the argument array. -/
theorem blk5 (c : Dev nD) (t : Fin cfg0.N) (i : Fin 1024) (j : Fin 4096) :
    iblk m c 5 t (ix3 0 i j) = m ((c : Thread nD τ).loc main_arg5) (ix3 3 i j) := by
  blk_ext [iblk, V, idx_facts t]

/-- A window's block at an index, from the argument array. -/
theorem blk6 (c : Dev nD) (t : Fin cfg0.N) (i : Fin 4096) (j : Fin 1024) :
    iblk m c 6 t (ix3 0 i j) = m ((c : Thread nD τ).loc main_arg6) (ix3 3 i j) := by
  blk_ext [iblk, V, idx_facts t]

/-- A window's block at an index, from the argument array. -/
theorem blk7 (c : Dev nD) (t : Fin cfg0.N) (j : Fin 1024) :
    iblk m c 7 t (ix2 0 j) = m ((c : Thread nD τ).loc main_arg7) (ix1 j) := by
  blk_simp [iblk]; entry_read; pointwise
  blk_ext [idx_facts t]

/-- A block of the result at an index. -/
theorem out_at (c : Dev nD) (t : Fin cfg0.N) (r : Fin 512) (l : Fin 1024) (R : Fin 32768) (hR : R.val = t.val * 512 + r.val) :
    out0_8 (iblk m c 0 t) (iblk m c 1 t) (iblk m c 2 t) (iblk m c 3 t) (iblk m c 4 t) (iblk m c 5 t) (iblk m c 6 t) (iblk m c 7 t) (ix2 r l)
      = target (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) R l := by
  rw [block_at, target]
  simp only [blk3, blk4, blk5, blk6, blk7]
  rw [show lanes (iblk m c 0 t) r = _ from funext fun k => blk0 m c t r k R hR,
    show (fun k => iblk m c 1 t (ix2 r k)) = _ from funext fun k => blk1 m c t r k R hR,
    show (fun k => iblk m c 2 t (ix4 0 0 2 k)) = _ from funext fun k => blk2 m c t 2 k r R hR,
    show (fun k => iblk m c 2 t (ix4 0 0 3 k)) = _ from funext fun k => blk2 m c t 3 k r R hR,
    show (fun k => iblk m c 2 t (ix4 0 0 4 k)) = _ from funext fun k => blk2 m c t 4 k r R hR,
    show (fun k => iblk m c 2 t (ix4 0 0 5 k)) = _ from funext fun k => blk2 m c t 5 k r R hR]

/-- The kernel's result array, at every index. -/
theorem kernel_final (c : Dev nD) :
    (dats m 0 c).arrAt 8 cfg0.N = fun i => target (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) (i 0) (i 1) := by
  refine (dats m 0 c).arrAt_eq_of_covers 8 _ (by decide +kernel) fun t hf y => ?_
  blk_simp
  rw [after0_8]
  have e0 : ((win0_8.blk t).view.emb y 0).val = t.val * 512 + (y 0).val := by blk_simp [idx_facts t]
  have e1 : (win0_8.blk t).view.emb y 1 = y 1 := Fin.ext (by blk_simp [idx_facts t])
  rw [e1]
  exact (congrArg _ (eq_ix2 y)).trans (out_at m c t (y 0) (y 1) _ e0)

end Cert.Proof.Post
end
-- ==== Proof.Post.lean ====
module

public import proofs.«01_k».proof.Defs
public import proofs.«01_k».proof.Proof.PostValue
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import Idealize.ShloMosaic.Adequacy
public import Idealize.ShloMosaic.Init

@[expose] public section

set_option maxRecDepth 16384

noncomputable section

namespace Cert.Proof.Post

open Idealize.ShloMosaic Idealize.SL.Sem

/-- The last layer's projection and MLP, as compiled: it leaves its arguments alone and its counters at zero. -/
theorem frame_kernel : Cert.quiescent_Kernel2 := fun m ρ _ => Cert.Kernel2.Gen.frame m ρ

/-- The same over the extended reals. -/
theorem frame_ideal : Cert.quiescent_Kernel2Ideal := fun m ρ _ => Cert.Kernel2Ideal.Gen.frame m ρ

/-- The reference's run leaves its arguments alone; it declares no semaphore. -/
theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- Both results are the plain formula's, read from the arguments the two programs share. -/
theorem algebraic : Cert.algebraic_Kernel2Ideal_Reference2Ideal := by
  intro m g m' g' _ h
  refine ⟨fun c => (Cert.Kernel2Ideal.Gen.dats m 0 c).arrAt 8 Cert.Kernel2Ideal.cfg0.N, Cert.Kernel2Ideal.Value.run_blocks m g, ?_⟩
  refine (θ_run Cert.Reference2Ideal.defs _ _).mono (fun r hr c => ⟨(hr c).1.trans ?_, (hr c).2⟩) (Cert.Reference2Ideal.Value.run (F := Ideal) m' g')
  obtain ⟨h0, h1, h2, h3, h4, h5, h6, h7⟩ := h c
  refine Eq.trans ?_ (kernel_final m c).symm
  funext i
  rw [eq_ix2 i]
  refine (ref_at m' c (i 0) (i 1)).trans ?_
  rw [h0, h1, h2, h3, h4, h5, h6, h7]
  rfl

end Cert.Proof.Post
end
-- ==== Proof.Post3Pay.lean ====
module

public import proofs.«01_k».proof.Proof.PostPay
public import proofs.«01_k».proof.Proof.Gen.Kernel3Ideal.Value
public import Idealize.ShloMosaic.Lib.Pointwise
public import Idealize.ShloMosaic.Lib.Pipeline.ValueKit

@[expose] public section

set_option maxRecDepth 16384

noncomputable section

namespace Cert.Proof.Post3

open Cert.Kernel3Ideal Cert.Kernel3Ideal.Gen Idealize.ShloMosaic
open Cert.Proof.Post (Row rnorm res modr hid res2)

/-- One row of the layer's tail without a final norm. -/
def post (x a gate sh sc gate2 n2 : Row) (wo : Fin 1024 → Row) (w1 : Fin 1024 → Fin 4096 → EReal) (w2 : Fin 4096 → Row)
    (j : Fin 1024) : EReal :=
  res2 (res x a gate wo) gate2 (hid (res x a gate wo) n2 sc sh w1) w2 j

/-- The lane-group pieces of a row, side by side, are the row. -/
def lanes (x0 : Vec Ideal S8x512x128 .bf16) (r : Fin 512) (k : Fin 1024) : EReal :=
  x0 (ix3 (⟨k.val / 128, by omega⟩ : Fin 8) r (⟨k.val % 128, by omega⟩ : Fin 128))

/-- The block the tile reads: the latent tokens' on a latent tile, the context's past them. -/
def pick {α : Type} (b : BitVec 1) (p q : α) : α := if b = 1#1 then p else q

/-- The first chunk's residual row at an index. -/
theorem first_res (i : grid0.Coords) (b : BitVec 1) (hb : Scalar.cmpi .slt (BitVec.ofNat 32 (i 0).val) 64#32 = b) (x0 x1 : Vec Ideal S8x512x128 .bf16) (x2 x3 : Vec Ideal S512x1024 .f32) (x4 : Vec Ideal S1x1x6x1024 .f32) (x5 : Vec Ideal S1x1x1024 .f32) (x6 : Vec Ideal S1024x1024 .bf16) (x7 : Vec Ideal S1x1024x4096 .bf16) (x8 : Vec Ideal S1x4096x1024 .bf16)
    (r : Fin 256) (l : Fin 1024) :
    k0_pay9 (k0_pay22 i x0 x1 x2 x3 x4 x5 x6 x7 x8) (Scalar.cmpi .slt (BitVec.ofNat 32 (i 0).val) 64#32) (k0_pay23 i x0 x1 x2 x3 x4 x5 x6 x7 x8) (View.ld x3 r0_9) (View.ld x4 r0_10) (ix2 r l)
      = res (fun k => pick b x2 x3 (ix2 (⟨r.val, by omega⟩ : Fin 512) k)) (lanes (pick b x0 x1) ⟨r.val, by omega⟩) (fun k => x4 (ix4 0 0 2 k)) (fun i j => x6 (ix2 i j)) l := by
  unfold res lanes pick
  obtain rfl | rfl : b = 1#1 ∨ b = 0#1 := (by decide : ∀ b : BitVec 1, b = 1#1 ∨ b = 0#1) b
  · pointwise [k0_pay9, k0_pay22, k0_pay23, k0_pay2, k0_pay3, k0_pay4, k0_pay5, k0_pay6, k0_pay7, k0_pay8]
    simp only [hb, Scalar.select, show ((1#1 : BitVec 1) = 1) = True from eq_true rfl, if_true]
    pointwise
    congr 2
  · pointwise [k0_pay9, k0_pay22, k0_pay23, k0_pay2, k0_pay3, k0_pay4, k0_pay5, k0_pay6, k0_pay7, k0_pay8]
    simp only [hb, Scalar.select, show ((0#1 : BitVec 1) = 1) = False from eq_false (by decide), show ((0#1 : BitVec 1) = 1#1) = False from eq_false (by decide), if_false]
    pointwise
    congr 2

/-- The second chunk's residual row at an index. -/
theorem second_res (i : grid0.Coords) (b : BitVec 1) (hb : Scalar.cmpi .slt (BitVec.ofNat 32 (i 0).val) 64#32 = b) (x0 x1 : Vec Ideal S8x512x128 .bf16) (x2 x3 : Vec Ideal S512x1024 .f32) (x4 : Vec Ideal S1x1x6x1024 .f32) (x5 : Vec Ideal S1x1x1024 .f32) (x6 : Vec Ideal S1024x1024 .bf16) (x7 : Vec Ideal S1x1024x4096 .bf16) (x8 : Vec Ideal S1x4096x1024 .bf16)
    (r : Fin 256) (l : Fin 1024) :
    k0_pay20 (BitVec.ofNat 32 (i 0).val) (k0_pay24 i x0 x1 x2 x3 x4 x5 x6 x7 x8) (k0_pay25 i x0 x1 x2 x3 x4 x5 x6 x7 x8) (k0_pay26 i x0 x1 x2 x3 x4 x5 x6 x7 x8) (k0_pay27 i x0 x1 x2 x3 x4 x5 x6 x7 x8) (k0_pay28 i x0 x1 x2 x3 x4 x5 x6 x7 x8) (k0_pay29 i x0 x1 x2 x3 x4 x5 x6 x7 x8) (k0_pay30 i x0 x1 x2 x3 x4 x5 x6 x7 x8) (Scalar.cmpi .slt (BitVec.ofNat 32 (i 0).val) 64#32) (View.ld x0 r0_24) (View.ld x1 r0_24) (View.ld x6 r0_8) (View.ld x2 r0_25) (View.ld x3 r0_25) (View.ld x4 r0_10) (ix2 r l)
      = res (fun k => pick b x2 x3 (ix2 (⟨256 + r.val, by omega⟩ : Fin 512) k)) (lanes (pick b x0 x1) ⟨256 + r.val, by omega⟩) (fun k => x4 (ix4 0 0 2 k)) (fun i j => x6 (ix2 i j)) l := by
  unfold res lanes pick
  obtain rfl | rfl : b = 1#1 ∨ b = 0#1 := (by decide : ∀ b : BitVec 1, b = 1#1 ∨ b = 0#1) b
  · pointwise [k0_pay20, k0_pay24, k0_pay25, k0_pay26, k0_pay27, k0_pay28, k0_pay29, k0_pay30, k0_pay12, k0_pay13, k0_pay14, k0_pay15, k0_pay16, k0_pay17, k0_pay18, k0_pay19]
    simp only [hb, Scalar.select, show ((1#1 : BitVec 1) = 1) = True from eq_true rfl, if_true]
    pointwise
    congr 2
  · pointwise [k0_pay20, k0_pay24, k0_pay25, k0_pay26, k0_pay27, k0_pay28, k0_pay29, k0_pay30, k0_pay12, k0_pay13, k0_pay14, k0_pay15, k0_pay16, k0_pay17, k0_pay18, k0_pay19]
    simp only [hb, Scalar.select, show ((0#1 : BitVec 1) = 1) = False from eq_false (by decide), show ((0#1 : BitVec 1) = 1#1) = False from eq_false (by decide), if_false]
    pointwise
    congr 2

/-- The first chunk's stored row at an index. -/
theorem first_at (i : grid0.Coords) (b : BitVec 1) (hb : Scalar.cmpi .slt (BitVec.ofNat 32 (i 0).val) 64#32 = b) (x0 x1 : Vec Ideal S8x512x128 .bf16) (x2 x3 : Vec Ideal S512x1024 .f32) (x4 : Vec Ideal S1x1x6x1024 .f32) (x5 : Vec Ideal S1x1x1024 .f32) (x6 : Vec Ideal S1024x1024 .bf16) (x7 : Vec Ideal S1x1024x4096 .bf16) (x8 : Vec Ideal S1x4096x1024 .bf16)
    (r : Fin 256) (l : Fin 1024) :
    k0_pay11 (k0_pay9 (k0_pay22 i x0 x1 x2 x3 x4 x5 x6 x7 x8) (Scalar.cmpi .slt (BitVec.ofNat 32 (i 0).val) 64#32) (k0_pay23 i x0 x1 x2 x3 x4 x5 x6 x7 x8) (View.ld x3 r0_9) (View.ld x4 r0_10)) (k0_pay10 (k0_pay22 i x0 x1 x2 x3 x4 x5 x6 x7 x8) (Scalar.cmpi .slt (BitVec.ofNat 32 (i 0).val) 64#32) (k0_pay23 i x0 x1 x2 x3 x4 x5 x6 x7 x8) (View.ld x3 r0_9) (View.ld x4 r0_10) (View.ld x5 r0_11) (View.ld x4 r0_12) (View.ld x4 r0_13) (View.ld x7 r0_14)) (Scalar.ofBits .f32 0x00000000#32) (View.ld x4 r0_15) (View.ld x8 r0_16) (ix2 r l)
      = post (fun k => pick b x2 x3 (ix2 (⟨r.val, by omega⟩ : Fin 512) k)) (lanes (pick b x0 x1) ⟨r.val, by omega⟩) (fun k => x4 (ix4 0 0 2 k)) (fun k => x4 (ix4 0 0 3 k)) (fun k => x4 (ix4 0 0 4 k)) (fun k => x4 (ix4 0 0 5 k)) (fun k => x5 (ix3 0 0 k)) (fun i j => x6 (ix2 i j)) (fun i j => x7 (ix3 0 i j)) (fun i j => x8 (ix3 0 i j)) l := by
  unfold post
  have e := first_res i b hb x0 x1 x2 x3 x4 x5 x6 x7 x8 r
  unfold k0_pay10
  generalize k0_pay9 (k0_pay22 i x0 x1 x2 x3 x4 x5 x6 x7 x8) (Scalar.cmpi .slt (BitVec.ofNat 32 (i 0).val) 64#32) (k0_pay23 i x0 x1 x2 x3 x4 x5 x6 x7 x8) (View.ld x3 r0_9) (View.ld x4 r0_10) = A at e ⊢
  pointwise [k0_pay11]
  simp only [e]
  generalize res _ _ _ _ = X
  rfl

/-- The second chunk's stored row at an index. -/
theorem second_at (i : grid0.Coords) (b : BitVec 1) (hb : Scalar.cmpi .slt (BitVec.ofNat 32 (i 0).val) 64#32 = b) (x0 x1 : Vec Ideal S8x512x128 .bf16) (x2 x3 : Vec Ideal S512x1024 .f32) (x4 : Vec Ideal S1x1x6x1024 .f32) (x5 : Vec Ideal S1x1x1024 .f32) (x6 : Vec Ideal S1024x1024 .bf16) (x7 : Vec Ideal S1x1024x4096 .bf16) (x8 : Vec Ideal S1x4096x1024 .bf16)
    (r : Fin 256) (l : Fin 1024) :
    k0_pay1 (k0_pay20 (BitVec.ofNat 32 (i 0).val) (k0_pay24 i x0 x1 x2 x3 x4 x5 x6 x7 x8) (k0_pay25 i x0 x1 x2 x3 x4 x5 x6 x7 x8) (k0_pay26 i x0 x1 x2 x3 x4 x5 x6 x7 x8) (k0_pay27 i x0 x1 x2 x3 x4 x5 x6 x7 x8) (k0_pay28 i x0 x1 x2 x3 x4 x5 x6 x7 x8) (k0_pay29 i x0 x1 x2 x3 x4 x5 x6 x7 x8) (k0_pay30 i x0 x1 x2 x3 x4 x5 x6 x7 x8) (Scalar.cmpi .slt (BitVec.ofNat 32 (i 0).val) 64#32) (View.ld x0 r0_24) (View.ld x1 r0_24) (View.ld x6 r0_8) (View.ld x2 r0_25) (View.ld x3 r0_25) (View.ld x4 r0_10)) (k0_pay21 (BitVec.ofNat 32 (i 0).val) (k0_pay24 i x0 x1 x2 x3 x4 x5 x6 x7 x8) (k0_pay25 i x0 x1 x2 x3 x4 x5 x6 x7 x8) (k0_pay26 i x0 x1 x2 x3 x4 x5 x6 x7 x8) (k0_pay27 i x0 x1 x2 x3 x4 x5 x6 x7 x8) (k0_pay28 i x0 x1 x2 x3 x4 x5 x6 x7 x8) (k0_pay29 i x0 x1 x2 x3 x4 x5 x6 x7 x8) (k0_pay30 i x0 x1 x2 x3 x4 x5 x6 x7 x8) (Scalar.cmpi .slt (BitVec.ofNat 32 (i 0).val) 64#32) (View.ld x0 r0_24) (View.ld x1 r0_24) (View.ld x6 r0_8) (View.ld x2 r0_25) (View.ld x3 r0_25) (View.ld x4 r0_10) (View.ld x5 r0_11)) (View.ld x4 r0_12) (View.ld x4 r0_13) (View.ld x7 r0_14) (View.ld x4 r0_15) (View.ld x8 r0_16) (ix2 r l)
      = post (fun k => pick b x2 x3 (ix2 (⟨256 + r.val, by omega⟩ : Fin 512) k)) (lanes (pick b x0 x1) ⟨256 + r.val, by omega⟩) (fun k => x4 (ix4 0 0 2 k)) (fun k => x4 (ix4 0 0 3 k)) (fun k => x4 (ix4 0 0 4 k)) (fun k => x4 (ix4 0 0 5 k)) (fun k => x5 (ix3 0 0 k)) (fun i j => x6 (ix2 i j)) (fun i j => x7 (ix3 0 i j)) (fun i j => x8 (ix3 0 i j)) l := by
  unfold post
  have e := second_res i b hb x0 x1 x2 x3 x4 x5 x6 x7 x8 r
  unfold k0_pay21
  generalize k0_pay20 (BitVec.ofNat 32 (i 0).val) (k0_pay24 i x0 x1 x2 x3 x4 x5 x6 x7 x8) (k0_pay25 i x0 x1 x2 x3 x4 x5 x6 x7 x8) (k0_pay26 i x0 x1 x2 x3 x4 x5 x6 x7 x8) (k0_pay27 i x0 x1 x2 x3 x4 x5 x6 x7 x8) (k0_pay28 i x0 x1 x2 x3 x4 x5 x6 x7 x8) (k0_pay29 i x0 x1 x2 x3 x4 x5 x6 x7 x8) (k0_pay30 i x0 x1 x2 x3 x4 x5 x6 x7 x8) (Scalar.cmpi .slt (BitVec.ofNat 32 (i 0).val) 64#32) (View.ld x0 r0_24) (View.ld x1 r0_24) (View.ld x6 r0_8) (View.ld x2 r0_25) (View.ld x3 r0_25) (View.ld x4 r0_10) = A at e ⊢
  pointwise [k0_pay1]
  simp only [e]
  generalize res _ _ _ _ = X
  rfl

/-- A row of the output block, by its row number in the block. -/
theorem block_at (i : grid0.Coords) (b : BitVec 1) (hb : Scalar.cmpi .slt (BitVec.ofNat 32 (i 0).val) 64#32 = b) (x0 x1 : Vec Ideal S8x512x128 .bf16) (x2 x3 : Vec Ideal S512x1024 .f32) (x4 : Vec Ideal S1x1x6x1024 .f32) (x5 : Vec Ideal S1x1x1024 .f32) (x6 : Vec Ideal S1024x1024 .bf16) (x7 : Vec Ideal S1x1024x4096 .bf16) (x8 : Vec Ideal S1x4096x1024 .bf16)
    (r : Fin 512) (l : Fin 1024) :
    out0_9 i x0 x1 x2 x3 x4 x5 x6 x7 x8 (ix2 r l)
      = post (fun k => pick b x2 x3 (ix2 r k)) (lanes (pick b x0 x1) r) (fun k => x4 (ix4 0 0 2 k)) (fun k => x4 (ix4 0 0 3 k)) (fun k => x4 (ix4 0 0 4 k)) (fun k => x4 (ix4 0 0 5 k)) (fun k => x5 (ix3 0 0 k)) (fun i j => x6 (ix2 i j)) (fun i j => x7 (ix3 0 i j)) (fun i j => x8 (ix3 0 i j)) l := by
  unfold out0_9
  canon_tiles x h
  · obtain ⟨p, q, rfl⟩ : ∃ (p : Fin 256) (q : Fin 1024), x = ix2 p q := ⟨x 0, x 1, eq_ix2 x⟩
    rw [second_at i b hb]
    rw [show (⟨256 + p.val, by omega⟩ : Fin 512) = r from Fin.ext h0.symm, show q = l from Fin.ext h1.symm]
  · obtain ⟨p, q, rfl⟩ : ∃ (p : Fin 256) (q : Fin 1024), x = ix2 p q := ⟨x 0, x 1, eq_ix2 x⟩
    rw [first_at i b hb]
    rw [show (⟨p.val, by omega⟩ : Fin 512) = r from Fin.ext h0.symm, show q = l from Fin.ext h1.symm]

end Cert.Proof.Post3
end
-- ==== Proof.Post3Ref.lean ====
module

public import proofs.«01_k».proof.Proof.Post3Pay
public import proofs.«01_k».proof.Proof.Gen.Reference3Ideal.Run
public import Idealize.ShloMosaic.Lib.Claim

@[expose] public section

set_option maxRecDepth 16384

noncomputable section

namespace Cert.Proof.Post3

open Idealize.ShloMosaic Idealize.ShloMosaic.TcCoe Idealize.SL.Sem
open Cert.Proof.Post (Row rnorm res modr hid res2)

/-- The result array at row `R` and feature `l`, from the argument arrays: latent tokens first, then the context's. -/
def target (A : FVec Ideal ⟨3, ![8, 4096, 1024]⟩ .f32) (AC : FVec Ideal ⟨3, ![8, 256, 1024]⟩ .f32) (X : FVec Ideal ⟨3, ![8, 4096, 1024]⟩ .f32) (C : FVec Ideal ⟨3, ![8, 256, 1024]⟩ .f32)
    (M : FVec Ideal ⟨4, ![4, 9, 6, 1024]⟩ .f32) (N2 : FVec Ideal ⟨2, ![4, 1024]⟩ .f32)
    (WO : FVec Ideal ⟨2, ![1024, 1024]⟩ .f32) (W1 : FVec Ideal ⟨3, ![4, 1024, 4096]⟩ .f32) (W2 : FVec Ideal ⟨3, ![4, 4096, 1024]⟩ .f32)
    (R : Fin 34816) (l : Fin 1024) : EReal :=
  if h : R.val < 32768 then
    post (fun k => X (ix3 (⟨R.val / 4096, by omega⟩ : Fin 8) (⟨R.val % 4096, by omega⟩ : Fin 4096) k))
      (fun k => A (ix3 (⟨R.val / 4096, by omega⟩ : Fin 8) (⟨R.val % 4096, by omega⟩ : Fin 4096) k))
      (fun k => M (ix4 0 (⟨R.val / 4096, by omega⟩ : Fin 9) 2 k)) (fun k => M (ix4 0 (⟨R.val / 4096, by omega⟩ : Fin 9) 3 k))
      (fun k => M (ix4 0 (⟨R.val / 4096, by omega⟩ : Fin 9) 4 k)) (fun k => M (ix4 0 (⟨R.val / 4096, by omega⟩ : Fin 9) 5 k))
      (fun k => N2 (ix2 0 k)) (fun i j => WO (ix2 i j)) (fun i j => W1 (ix3 0 i j)) (fun i j => W2 (ix3 0 i j)) l
  else
    post (fun k => C (ix3 (⟨(R.val - 32768) / 256, by omega⟩ : Fin 8) (⟨(R.val - 32768) % 256, by omega⟩ : Fin 256) k))
      (fun k => AC (ix3 (⟨(R.val - 32768) / 256, by omega⟩ : Fin 8) (⟨(R.val - 32768) % 256, by omega⟩ : Fin 256) k))
      (fun k => M (ix4 0 8 2 k)) (fun k => M (ix4 0 8 3 k)) (fun k => M (ix4 0 8 4 k)) (fun k => M (ix4 0 8 5 k))
      (fun k => N2 (ix2 0 k)) (fun i j => WO (ix2 i j)) (fun i j => W1 (ix3 0 i j)) (fun i j => W2 (ix3 0 i j)) l

open Cert.Reference3Ideal Cert.Reference3Ideal.Gen

/-- The latent tokens' modulation vectors. -/
def lMod (M : FVec Ideal S4x9x6x1024 .f32) : FVec Ideal S8x6x1x1024 .f32 :=
  shapeCast S8x6x1x1024 (shapeCast S8x6x1024 (extractStridedSlice S1x8x6x1024 ![0, 0, 0, 0] M slices_S4x9x6x1024_S1x8x6x1024_0_0_0_0) shapeCasts_S1x8x6x1024_S8x6x1024) shapeCasts_S8x6x1024_S8x6x1x1024

/-- The context tokens' modulation vectors. -/
def cMod (M : FVec Ideal S4x9x6x1024 .f32) : FVec Ideal S1x6x1x1024 .f32 :=
  shapeCast S1x6x1x1024 (shapeCast S1x6x1024 (extractStridedSlice S1x1x6x1024 ![0, 8, 0, 0] M slices_S4x9x6x1024_S1x1x6x1024_0_8_0_0) shapeCasts_S1x1x6x1024_S1x6x1024) shapeCasts_S1x6x1024_S1x6x1x1024

/-- The reference's root-mean-square norm of the latent tokens. -/
def lNorm (v : FVec Ideal S8x4096x1024 .f32) (g : FVec Ideal S1024 .f32) : FVec Ideal S8x4096x1024 .f32 :=
  mulf (mulf v (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf v v) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 g))

/-- The reference's latent tokens after the mixer. -/
def lX1 (A X : FVec Ideal S8x4096x1024 .f32) (M : FVec Ideal S4x9x6x1024 .f32) (WO : FVec Ideal S1024x1024 .f32) : FVec Ideal S8x4096x1024 .f32 :=
  addf X (mulf (broadcastInDim S8x4096x1024 ![0, 1, 2] bcast_S8x1x1024_S8x4096x1024_0_1_2 (shapeCast S8x1x1024 (extractStridedSlice S8x1x1x1024 ![0, 2, 0, 0] (lMod M) slices_S8x6x1x1024_S8x1x1x1024_0_2_0_0) shapeCasts_S8x1x1x1024_S8x1x1024)) (Host.dotGeneral dot_S8x4096x1024_S1024x1024_S8x4096x1024_2_0_01_1_n_n none A WO))

/-- The reference's modulated normed latent tokens. -/
def lModr (x1 : FVec Ideal S8x4096x1024 .f32) (M : FVec Ideal S4x9x6x1024 .f32) (N2 : FVec Ideal S4x1024 .f32) : FVec Ideal S8x4096x1024 .f32 :=
  addf (mulf (lNorm x1 (shapeCast S1024 (extractStridedSlice S1x1024 ![0, 0] N2 slices_S4x1024_S1x1024_0_0) shapeCasts_S1x1024_S1024)) (broadcastInDim S8x4096x1024 ![0, 1, 2] bcast_S8x1x1024_S8x4096x1024_0_1_2 (addf (broadcastInDim S8x1x1024 ![] bcast_S_S8x1x1024 (constant S_ .f32 0x3F800000#32)) (shapeCast S8x1x1024 (extractStridedSlice S8x1x1x1024 ![0, 4, 0, 0] (lMod M) slices_S8x6x1x1024_S8x1x1x1024_0_4_0_0) shapeCasts_S8x1x1x1024_S8x1x1024)))) (broadcastInDim S8x4096x1024 ![0, 1, 2] bcast_S8x1x1024_S8x4096x1024_0_1_2 (shapeCast S8x1x1024 (extractStridedSlice S8x1x1x1024 ![0, 3, 0, 0] (lMod M) slices_S8x6x1x1024_S8x1x1x1024_0_3_0_0) shapeCasts_S8x1x1x1024_S8x1x1024))

/-- The reference's hidden units of the latent tokens before the square. -/
def lRelu (mr : FVec Ideal S8x4096x1024 .f32) (W1 : FVec Ideal S4x1024x4096 .f32) : FVec Ideal S8x4096x4096 .f32 :=
  maximumf (Host.dotGeneral dot_S8x4096x1024_S1024x4096_S8x4096x4096_2_0_01_1_n_n none mr (shapeCast S1024x4096 (extractStridedSlice S1x1024x4096 ![0, 0, 0] W1 slices_S4x1024x4096_S1x1024x4096_0_0_0) shapeCasts_S1x1024x4096_S1024x4096)) (broadcastInDim S8x4096x4096 ![] bcast_S_S8x4096x4096 (constant S_ .f32 0x00000000#32))

/-- The reference's latent tokens after the MLP. -/
def lX2 (x1 : FVec Ideal S8x4096x1024 .f32) (h : FVec Ideal S8x4096x4096 .f32) (M : FVec Ideal S4x9x6x1024 .f32) (W2 : FVec Ideal S4x4096x1024 .f32) : FVec Ideal S8x4096x1024 .f32 :=
  addf x1 (mulf (broadcastInDim S8x4096x1024 ![0, 1, 2] bcast_S8x1x1024_S8x4096x1024_0_1_2 (shapeCast S8x1x1024 (extractStridedSlice S8x1x1x1024 ![0, 5, 0, 0] (lMod M) slices_S8x6x1x1024_S8x1x1x1024_0_5_0_0) shapeCasts_S8x1x1x1024_S8x1x1024)) (Host.dotGeneral dot_S8x4096x4096_S4096x1024_S8x4096x1024_2_0_01_1_n_n none (mulf h h) (shapeCast S4096x1024 (extractStridedSlice S1x4096x1024 ![0, 0, 0] W2 slices_S4x4096x1024_S1x4096x1024_0_0_0) shapeCasts_S1x4096x1024_S4096x1024)))

/-- The norm at an index. -/
theorem lNorm_at (v : FVec Ideal S8x4096x1024 .f32) (g : FVec Ideal S1024 .f32) (b : Fin 8) (r : Fin 4096) (l : Fin 1024) :
    lNorm v g (ix3 b r l) = rnorm (fun k => v (ix3 b r k)) (fun k => g (ix1 k)) l := by
  unfold rnorm
  pointwise [lNorm]

/-- The residual stream after the mixer at an index. -/
theorem lX1_at (A X : FVec Ideal S8x4096x1024 .f32) (M : FVec Ideal S4x9x6x1024 .f32) (WO : FVec Ideal S1024x1024 .f32) (b : Fin 8) (r : Fin 4096) (l : Fin 1024) :
    lX1 A X M WO (ix3 b r l) = res (fun k => X (ix3 b r k)) (fun k => A (ix3 b r k)) (fun k => M (ix4 0 (⟨b.val, by omega⟩ : Fin 9) 2 k)) (fun i j => WO (ix2 i j)) l := by
  unfold res
  pointwise [lX1, lMod]

/-- The modulated normed row at an index. -/
theorem lModr_at (x1 : FVec Ideal S8x4096x1024 .f32) (M : FVec Ideal S4x9x6x1024 .f32) (N2 : FVec Ideal S4x1024 .f32) (b : Fin 8) (r : Fin 4096) (l : Fin 1024) :
    lModr x1 M N2 (ix3 b r l) = modr (fun k => x1 (ix3 b r k)) (fun k => N2 (ix2 0 k)) (fun k => M (ix4 0 (⟨b.val, by omega⟩ : Fin 9) 4 k)) (fun k => M (ix4 0 (⟨b.val, by omega⟩ : Fin 9) 3 k)) l := by
  unfold modr
  pointwise [lModr, lMod, lNorm_at]

/-- The hidden units at an index. -/
theorem lRelu_at (mr : FVec Ideal S8x4096x1024 .f32) (W1 : FVec Ideal S4x1024x4096 .f32) (b : Fin 8) (r : Fin 4096) (l : Fin 4096) :
    lRelu mr W1 (ix3 b r l) = max (∑ k, mr (ix3 b r k) * W1 (ix3 0 k l)) 0 := by
  pointwise [lRelu]

/-- The residual stream after the MLP at an index. -/
theorem lX2_at (x1 : FVec Ideal S8x4096x1024 .f32) (h : FVec Ideal S8x4096x4096 .f32) (M : FVec Ideal S4x9x6x1024 .f32) (W2 : FVec Ideal S4x4096x1024 .f32) (b : Fin 8) (r : Fin 4096) (l : Fin 1024) :
    lX2 x1 h M W2 (ix3 b r l) = res2 (fun k => x1 (ix3 b r k)) (fun k => M (ix4 0 (⟨b.val, by omega⟩ : Fin 9) 5 k)) (fun f => h (ix3 b r f) * h (ix3 b r f)) (fun i j => W2 (ix3 0 i j)) l := by
  unfold res2
  pointwise [lX2, lMod]

/-- The reference's latent tokens at the layer's end. -/
def lAll (A X : FVec Ideal S8x4096x1024 .f32) (M : FVec Ideal S4x9x6x1024 .f32) (N2 : FVec Ideal S4x1024 .f32) (WO : FVec Ideal S1024x1024 .f32) (W1 : FVec Ideal S4x1024x4096 .f32) (W2 : FVec Ideal S4x4096x1024 .f32) : FVec Ideal S8x4096x1024 .f32 :=
  lX2 (lX1 A X M WO) (lRelu (lModr (lX1 A X M WO) M N2) W1) M W2

/-- The layer's end at an index. -/
theorem lAll_at (A X : FVec Ideal S8x4096x1024 .f32) (M : FVec Ideal S4x9x6x1024 .f32) (N2 : FVec Ideal S4x1024 .f32) (WO : FVec Ideal S1024x1024 .f32) (W1 : FVec Ideal S4x1024x4096 .f32) (W2 : FVec Ideal S4x4096x1024 .f32) (b : Fin 8) (r : Fin 4096) (l : Fin 1024) :
    lAll A X M N2 WO W1 W2 (ix3 b r l) = post (fun k => X (ix3 b r k)) (fun k => A (ix3 b r k)) (fun k => M (ix4 0 (⟨b.val, by omega⟩ : Fin 9) 2 k)) (fun k => M (ix4 0 (⟨b.val, by omega⟩ : Fin 9) 3 k))
      (fun k => M (ix4 0 (⟨b.val, by omega⟩ : Fin 9) 4 k)) (fun k => M (ix4 0 (⟨b.val, by omega⟩ : Fin 9) 5 k)) (fun k => N2 (ix2 0 k)) (fun i j => WO (ix2 i j)) (fun i j => W1 (ix3 0 i j)) (fun i j => W2 (ix3 0 i j)) l := by
  unfold lAll
  simp only [lX2_at, lRelu_at, lModr_at, lX1_at]
  rfl

/-- The reference's root-mean-square norm of the context tokens. -/
def cNorm (v : FVec Ideal S8x256x1024 .f32) (g : FVec Ideal S1024 .f32) : FVec Ideal S8x256x1024 .f32 :=
  mulf (mulf v (broadcastInDim S8x256x1024 ![0, 1, 2] bcast_S8x256x1_S8x256x1024_0_1_2 (Host.rsqrt (addf (Host.divf (broadcastInDim S8x256x1 ![0, 1] bcast_S8x256_S8x256x1_0_1 (Host.reduceAdd (mulf v v) (constant S_ .f32 0x00000000#32) reducesTo_S8x256x1024_S8x256_d2 h_S_)) (broadcastInDim S8x256x1 ![] bcast_S_S8x256x1 (constant S_ .f32 0x44800000#32))) (broadcastInDim S8x256x1 ![] bcast_S_S8x256x1 (constant S_ .f32 0x358637BD#32)))))) (broadcastInDim S8x256x1024 ![0, 1, 2] bcast_S1x1x1024_S8x256x1024_0_1_2 (broadcastInDim S1x1x1024 ![2] bcast_S1024_S1x1x1024_2 g))

/-- The reference's context tokens after the mixer. -/
def cX1 (A X : FVec Ideal S8x256x1024 .f32) (M : FVec Ideal S4x9x6x1024 .f32) (WO : FVec Ideal S1024x1024 .f32) : FVec Ideal S8x256x1024 .f32 :=
  addf X (mulf (broadcastInDim S8x256x1024 ![0, 1, 2] bcast_S1x1x1024_S8x256x1024_0_1_2 (shapeCast S1x1x1024 (extractStridedSlice S1x1x1x1024 ![0, 2, 0, 0] (cMod M) slices_S1x6x1x1024_S1x1x1x1024_0_2_0_0) shapeCasts_S1x1x1x1024_S1x1x1024)) (Host.dotGeneral dot_S8x256x1024_S1024x1024_S8x256x1024_2_0_01_1_n_n none A WO))

/-- The reference's modulated normed context tokens. -/
def cModr (x1 : FVec Ideal S8x256x1024 .f32) (M : FVec Ideal S4x9x6x1024 .f32) (N2 : FVec Ideal S4x1024 .f32) : FVec Ideal S8x256x1024 .f32 :=
  addf (mulf (cNorm x1 (shapeCast S1024 (extractStridedSlice S1x1024 ![0, 0] N2 slices_S4x1024_S1x1024_0_0) shapeCasts_S1x1024_S1024)) (broadcastInDim S8x256x1024 ![0, 1, 2] bcast_S1x1x1024_S8x256x1024_0_1_2 (addf (broadcastInDim S1x1x1024 ![] bcast_S_S1x1x1024 (constant S_ .f32 0x3F800000#32)) (shapeCast S1x1x1024 (extractStridedSlice S1x1x1x1024 ![0, 4, 0, 0] (cMod M) slices_S1x6x1x1024_S1x1x1x1024_0_4_0_0) shapeCasts_S1x1x1x1024_S1x1x1024)))) (broadcastInDim S8x256x1024 ![0, 1, 2] bcast_S1x1x1024_S8x256x1024_0_1_2 (shapeCast S1x1x1024 (extractStridedSlice S1x1x1x1024 ![0, 3, 0, 0] (cMod M) slices_S1x6x1x1024_S1x1x1x1024_0_3_0_0) shapeCasts_S1x1x1x1024_S1x1x1024))

/-- The reference's hidden units of the context tokens before the square. -/
def cRelu (mr : FVec Ideal S8x256x1024 .f32) (W1 : FVec Ideal S4x1024x4096 .f32) : FVec Ideal S8x256x4096 .f32 :=
  maximumf (Host.dotGeneral dot_S8x256x1024_S1024x4096_S8x256x4096_2_0_01_1_n_n none mr (shapeCast S1024x4096 (extractStridedSlice S1x1024x4096 ![0, 0, 0] W1 slices_S4x1024x4096_S1x1024x4096_0_0_0) shapeCasts_S1x1024x4096_S1024x4096)) (broadcastInDim S8x256x4096 ![] bcast_S_S8x256x4096 (constant S_ .f32 0x00000000#32))

/-- The reference's context tokens after the MLP. -/
def cX2 (x1 : FVec Ideal S8x256x1024 .f32) (h : FVec Ideal S8x256x4096 .f32) (M : FVec Ideal S4x9x6x1024 .f32) (W2 : FVec Ideal S4x4096x1024 .f32) : FVec Ideal S8x256x1024 .f32 :=
  addf x1 (mulf (broadcastInDim S8x256x1024 ![0, 1, 2] bcast_S1x1x1024_S8x256x1024_0_1_2 (shapeCast S1x1x1024 (extractStridedSlice S1x1x1x1024 ![0, 5, 0, 0] (cMod M) slices_S1x6x1x1024_S1x1x1x1024_0_5_0_0) shapeCasts_S1x1x1x1024_S1x1x1024)) (Host.dotGeneral dot_S8x256x4096_S4096x1024_S8x256x1024_2_0_01_1_n_n none (mulf h h) (shapeCast S4096x1024 (extractStridedSlice S1x4096x1024 ![0, 0, 0] W2 slices_S4x4096x1024_S1x4096x1024_0_0_0) shapeCasts_S1x4096x1024_S4096x1024)))

/-- The norm at an index. -/
theorem cNorm_at (v : FVec Ideal S8x256x1024 .f32) (g : FVec Ideal S1024 .f32) (b : Fin 8) (r : Fin 256) (l : Fin 1024) :
    cNorm v g (ix3 b r l) = rnorm (fun k => v (ix3 b r k)) (fun k => g (ix1 k)) l := by
  unfold rnorm
  pointwise [cNorm]

/-- The residual stream after the mixer at an index. -/
theorem cX1_at (A X : FVec Ideal S8x256x1024 .f32) (M : FVec Ideal S4x9x6x1024 .f32) (WO : FVec Ideal S1024x1024 .f32) (b : Fin 8) (r : Fin 256) (l : Fin 1024) :
    cX1 A X M WO (ix3 b r l) = res (fun k => X (ix3 b r k)) (fun k => A (ix3 b r k)) (fun k => M (ix4 0 8 2 k)) (fun i j => WO (ix2 i j)) l := by
  unfold res
  pointwise [cX1, cMod]

/-- The modulated normed row at an index. -/
theorem cModr_at (x1 : FVec Ideal S8x256x1024 .f32) (M : FVec Ideal S4x9x6x1024 .f32) (N2 : FVec Ideal S4x1024 .f32) (b : Fin 8) (r : Fin 256) (l : Fin 1024) :
    cModr x1 M N2 (ix3 b r l) = modr (fun k => x1 (ix3 b r k)) (fun k => N2 (ix2 0 k)) (fun k => M (ix4 0 8 4 k)) (fun k => M (ix4 0 8 3 k)) l := by
  unfold modr
  pointwise [cModr, cMod, cNorm_at]

/-- The hidden units at an index. -/
theorem cRelu_at (mr : FVec Ideal S8x256x1024 .f32) (W1 : FVec Ideal S4x1024x4096 .f32) (b : Fin 8) (r : Fin 256) (l : Fin 4096) :
    cRelu mr W1 (ix3 b r l) = max (∑ k, mr (ix3 b r k) * W1 (ix3 0 k l)) 0 := by
  pointwise [cRelu]

/-- The residual stream after the MLP at an index. -/
theorem cX2_at (x1 : FVec Ideal S8x256x1024 .f32) (h : FVec Ideal S8x256x4096 .f32) (M : FVec Ideal S4x9x6x1024 .f32) (W2 : FVec Ideal S4x4096x1024 .f32) (b : Fin 8) (r : Fin 256) (l : Fin 1024) :
    cX2 x1 h M W2 (ix3 b r l) = res2 (fun k => x1 (ix3 b r k)) (fun k => M (ix4 0 8 5 k)) (fun f => h (ix3 b r f) * h (ix3 b r f)) (fun i j => W2 (ix3 0 i j)) l := by
  unfold res2
  pointwise [cX2, cMod]

/-- The reference's context tokens at the layer's end. -/
def cAll (A X : FVec Ideal S8x256x1024 .f32) (M : FVec Ideal S4x9x6x1024 .f32) (N2 : FVec Ideal S4x1024 .f32) (WO : FVec Ideal S1024x1024 .f32) (W1 : FVec Ideal S4x1024x4096 .f32) (W2 : FVec Ideal S4x4096x1024 .f32) : FVec Ideal S8x256x1024 .f32 :=
  cX2 (cX1 A X M WO) (cRelu (cModr (cX1 A X M WO) M N2) W1) M W2

/-- The layer's end at an index. -/
theorem cAll_at (A X : FVec Ideal S8x256x1024 .f32) (M : FVec Ideal S4x9x6x1024 .f32) (N2 : FVec Ideal S4x1024 .f32) (WO : FVec Ideal S1024x1024 .f32) (W1 : FVec Ideal S4x1024x4096 .f32) (W2 : FVec Ideal S4x4096x1024 .f32) (b : Fin 8) (r : Fin 256) (l : Fin 1024) :
    cAll A X M N2 WO W1 W2 (ix3 b r l) = post (fun k => X (ix3 b r k)) (fun k => A (ix3 b r k)) (fun k => M (ix4 0 8 2 k)) (fun k => M (ix4 0 8 3 k))
      (fun k => M (ix4 0 8 4 k)) (fun k => M (ix4 0 8 5 k)) (fun k => N2 (ix2 0 k)) (fun i j => WO (ix2 i j)) (fun i j => W1 (ix3 0 i j)) (fun i j => W2 (ix3 0 i j)) l := by
  unfold cAll
  simp only [cX2_at, cRelu_at, cModr_at, cX1_at]
  rfl

/-- The reference's result at an index. -/
theorem ref_at (m : (ℓ : Loc nD τ sig) → Buf (Elt Ideal) ℓ) (c : Dev nD) (R : Fin 34816) (l : Fin 1024) :
    Cert.Reference3Ideal.Value.res_out0 m c (ix2 R l) = target (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) R l := by
  have e : Cert.Reference3Ideal.Value.res_out0 m c = fun i => concatenate S34816x1024 0
      [⟨S32768x1024, shapeCast S32768x1024 (lAll (m ((c : Thread nD τ).loc main_arg0)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8))) shapeCasts_S8x4096x1024_S32768x1024⟩,
       ⟨S2048x1024, shapeCast S2048x1024 (cAll (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) shapeCasts_S8x256x1024_S2048x1024⟩]
      concatenates_S32768x1024_S2048x1024_S34816x1024_d0 i := rfl
  rw [e]
  unfold target
  pointwise [lAll_at, cAll_at]

end Cert.Proof.Post3
end
-- ==== Proof.Post3Value.lean ====
module

public import proofs.«01_k».proof.Proof.Post3Pay
public import proofs.«01_k».proof.Proof.Post3Ref
public import Idealize.ShloMosaic.Lib.Claim

@[expose] public section

set_option maxRecDepth 16384

noncomputable section

namespace Cert.Proof.Post3

open Cert.Kernel3Ideal Cert.Kernel3Ideal.Gen Idealize.ShloMosaic Idealize.ShloMosaic.TcCoe Idealize.SL.Sem

variable (m : (ℓ : Loc nD τ sig) → Buf (Elt Ideal) ℓ)

/-- Where each window's block stands at a grid point. -/
theorem idx_facts : ∀ t : Fin cfg0.N, win0_5.index t = ![0, 0, 0] ∧ win0_6.index t = ![0, 0] ∧ win0_7.index t = ![0, 0, 0]
    ∧ win0_8.index t = ![0, 0, 0] ∧ win0_9.index t = ![t.val, 0] := by
  decide +kernel

/-- Where the token windows stand at a tile of latent tokens. -/
theorem idx_lat : ∀ t : Fin cfg0.N, t.val < 64 → win0_0.index t = ![0, t.val, 0] ∧ win0_2.index t = ![t.val, 0] ∧ win0_4.index t = ![0, t.val / 8, 0, 0]
    ∧ Scalar.cmpi .slt (BitVec.ofNat 32 (grid0.coords t 0).val) 64#32 = 1#1 := by
  decide +kernel

/-- Where they stand at a tile of context tokens. -/
theorem idx_ctx : ∀ t : Fin cfg0.N, ¬ t.val < 64 → win0_1.index t = ![0, t.val - 64, 0] ∧ win0_3.index t = ![t.val - 64, 0] ∧ win0_4.index t = ![0, 8, 0, 0]
    ∧ Scalar.cmpi .slt (BitVec.ofNat 32 (grid0.coords t 0).val) 64#32 = 0#1 := by
  decide +kernel

/-- A window's block at an index, from the argument array. -/
theorem blk0 (c : Dev nD) (t : Fin cfg0.N) (ht : t.val < 64) (r : Fin 512) (k : Fin 1024) (R : Fin 34816) (hR : R.val = t.val * 512 + r.val) :
    lanes (iblk m c 0 t) r k = (m ((c : Thread nD τ).loc main_arg0)) (ix3 (⟨R.val / 4096, by omega⟩ : Fin 8) (⟨R.val % 4096, by omega⟩ : Fin 4096) k) := by
  unfold lanes
  blk_simp [iblk]; entry_read; pointwise
  blk_ext [idx_lat t ht]

/-- A window's block at an index, from the argument array. -/
theorem blk1 (c : Dev nD) (t : Fin cfg0.N) (ht : ¬ t.val < 64) (r : Fin 512) (k : Fin 1024) (R : Fin 34816) (hR : R.val = t.val * 512 + r.val) :
    lanes (iblk m c 1 t) r k = (m ((c : Thread nD τ).loc main_arg1)) (ix3 (⟨(R.val - 32768) / 256, by omega⟩ : Fin 8) (⟨(R.val - 32768) % 256, by omega⟩ : Fin 256) k) := by
  unfold lanes
  blk_simp [iblk]; entry_read; pointwise
  blk_ext [idx_ctx t ht]

/-- A window's block at an index, from the argument array. -/
theorem blk2 (c : Dev nD) (t : Fin cfg0.N) (ht : t.val < 64) (r : Fin 512) (k : Fin 1024) (R : Fin 34816) (hR : R.val = t.val * 512 + r.val) :
    iblk m c 2 t (ix2 r k) = (m ((c : Thread nD τ).loc main_arg2)) (ix3 (⟨R.val / 4096, by omega⟩ : Fin 8) (⟨R.val % 4096, by omega⟩ : Fin 4096) k) := by
  blk_simp [iblk]; entry_read; pointwise
  blk_ext [idx_lat t ht]

/-- A window's block at an index, from the argument array. -/
theorem blk3 (c : Dev nD) (t : Fin cfg0.N) (ht : ¬ t.val < 64) (r : Fin 512) (k : Fin 1024) (R : Fin 34816) (hR : R.val = t.val * 512 + r.val) :
    iblk m c 3 t (ix2 r k) = (m ((c : Thread nD τ).loc main_arg3)) (ix3 (⟨(R.val - 32768) / 256, by omega⟩ : Fin 8) (⟨(R.val - 32768) % 256, by omega⟩ : Fin 256) k) := by
  blk_simp [iblk]; entry_read; pointwise
  blk_ext [idx_ctx t ht]

/-- A window's block at an index, from the argument array. -/
theorem blk4 (c : Dev nD) (t : Fin cfg0.N) (ht : t.val < 64) (i : Fin 6) (k : Fin 1024) (r : Fin 512) (R : Fin 34816) (hR : R.val = t.val * 512 + r.val) :
    iblk m c 4 t (ix4 0 0 i k) = (m ((c : Thread nD τ).loc main_arg4)) (ix4 0 (⟨R.val / 4096, by omega⟩ : Fin 9) i k) := by
  blk_simp [iblk]; entry_read; pointwise
  have hb : ((win0_4.blk t).view.emb (ix4 0 0 i k) 1).val = t.val / 8 := by blk_simp [idx_lat t ht]; exact Nat.add_zero _
  rw [dif_pos (lt_of_eq_of_lt hb (by omega))]
  blk_ext [idx_lat t ht]

/-- A window's block at an index, from the argument array. -/
theorem blk4c (c : Dev nD) (t : Fin cfg0.N) (ht : ¬ t.val < 64) (i : Fin 6) (k : Fin 1024) :
    iblk m c 4 t (ix4 0 0 i k) = (m ((c : Thread nD τ).loc main_arg4)) (ix4 0 8 i k) := by
  blk_simp [iblk]; entry_read; pointwise
  have hb : ((win0_4.blk t).view.emb (ix4 0 0 i k) 1).val = 8 := by blk_simp [idx_ctx t ht]; exact Nat.add_zero _
  rw [dif_pos (lt_of_eq_of_lt hb (by omega))]
  blk_ext [idx_ctx t ht]

/-- A window's block at an index, from the argument array. -/
theorem blk5 (c : Dev nD) (t : Fin cfg0.N) (k : Fin 1024) :
    iblk m c 5 t (ix3 0 0 k) = (m ((c : Thread nD τ).loc main_arg5)) (ix2 0 k) := by
  blk_simp [iblk]; entry_read; pointwise
  blk_ext [idx_facts t]

/-- A window's block at an index, from the argument array. -/
theorem blk6 (c : Dev nD) (t : Fin cfg0.N) (i j : Fin 1024) :
    iblk m c 6 t (ix2 i j) = (m ((c : Thread nD τ).loc main_arg6)) (ix2 i j) := by
  blk_ext [iblk, V, idx_facts t]

/-- A window's block at an index, from the argument array. -/
theorem blk7 (c : Dev nD) (t : Fin cfg0.N) (i : Fin 1024) (j : Fin 4096) :
    iblk m c 7 t (ix3 0 i j) = (m ((c : Thread nD τ).loc main_arg7)) (ix3 0 i j) := by
  blk_ext [iblk, V, idx_facts t]

/-- A window's block at an index, from the argument array. -/
theorem blk8 (c : Dev nD) (t : Fin cfg0.N) (i : Fin 4096) (j : Fin 1024) :
    iblk m c 8 t (ix3 0 i j) = (m ((c : Thread nD τ).loc main_arg8)) (ix3 0 i j) := by
  blk_ext [iblk, V, idx_facts t]

/-- A block of the result at an index. -/
theorem out_at (c : Dev nD) (t : Fin cfg0.N) (r : Fin 512) (l : Fin 1024) (R : Fin 34816) (hR : R.val = t.val * 512 + r.val) :
    out0_9 (grid0.coords t) (iblk m c 0 t) (iblk m c 1 t) (iblk m c 2 t) (iblk m c 3 t) (iblk m c 4 t) (iblk m c 5 t) (iblk m c 6 t) (iblk m c 7 t) (iblk m c 8 t) (ix2 r l)
      = target (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) R l := by
  have hr := r.isLt
  by_cases ht : t.val < 64
  · rw [block_at (grid0.coords t) 1#1 (idx_lat t ht).2.2.2, target, dif_pos (by omega)]
    simp only [pick, if_true, blk5, blk6, blk7, blk8]
    rw [show lanes (iblk m c 0 t) r = _ from funext fun k => blk0 m c t ht r k R hR,
      show (fun k => iblk m c 2 t (ix2 r k)) = _ from funext fun k => blk2 m c t ht r k R hR,
      show (fun k => iblk m c 4 t (ix4 0 0 2 k)) = _ from funext fun k => blk4 m c t ht 2 k r R hR,
      show (fun k => iblk m c 4 t (ix4 0 0 3 k)) = _ from funext fun k => blk4 m c t ht 3 k r R hR,
      show (fun k => iblk m c 4 t (ix4 0 0 4 k)) = _ from funext fun k => blk4 m c t ht 4 k r R hR,
      show (fun k => iblk m c 4 t (ix4 0 0 5 k)) = _ from funext fun k => blk4 m c t ht 5 k r R hR]
  · rw [block_at (grid0.coords t) 0#1 (idx_ctx t ht).2.2.2, target, dif_neg (by omega)]
    simp only [pick, show ((0#1 : BitVec 1) = 1#1) = False from eq_false (by decide), if_false, blk5, blk6, blk7, blk8]
    rw [show lanes (iblk m c 1 t) r = _ from funext fun k => blk1 m c t ht r k R hR,
      show (fun k => iblk m c 3 t (ix2 r k)) = _ from funext fun k => blk3 m c t ht r k R hR,
      show (fun k => iblk m c 4 t (ix4 0 0 2 k)) = _ from funext fun k => blk4c m c t ht 2 k,
      show (fun k => iblk m c 4 t (ix4 0 0 3 k)) = _ from funext fun k => blk4c m c t ht 3 k,
      show (fun k => iblk m c 4 t (ix4 0 0 4 k)) = _ from funext fun k => blk4c m c t ht 4 k,
      show (fun k => iblk m c 4 t (ix4 0 0 5 k)) = _ from funext fun k => blk4c m c t ht 5 k]

/-- The kernel's result array, at every index. -/
theorem kernel_final (c : Dev nD) :
    (dats m 0 c).arrAt 9 cfg0.N = fun i => target (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (i 0) (i 1) := by
  refine (dats m 0 c).arrAt_eq_of_covers 9 _ (by decide +kernel) fun t hf y => ?_
  blk_simp
  rw [after0_9]
  have e0 : ((win0_9.blk t).view.emb y 0).val = t.val * 512 + (y 0).val := by blk_simp [idx_facts t]
  have e1 : (win0_9.blk t).view.emb y 1 = y 1 := Fin.ext (by blk_simp [idx_facts t])
  rw [e1]
  exact (congrArg _ (eq_ix2 y)).trans (out_at m c t (y 0) (y 1) _ e0)

end Cert.Proof.Post3
end
-- ==== Proof.Post3.lean ====
module

public import proofs.«01_k».proof.Defs
public import proofs.«01_k».proof.Proof.Post3Value
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import Idealize.ShloMosaic.Adequacy
public import Idealize.ShloMosaic.Init

@[expose] public section

set_option maxRecDepth 16384

noncomputable section

namespace Cert.Proof.Post3

open Idealize.ShloMosaic Idealize.SL.Sem

/-- The first layer's projection and MLP, as compiled: it leaves its arguments alone and its counters at zero. -/
theorem frame_kernel : Cert.quiescent_Kernel3 := fun m ρ _ => Cert.Kernel3.Gen.frame m ρ

/-- The same over the extended reals. -/
theorem frame_ideal : Cert.quiescent_Kernel3Ideal := fun m ρ _ => Cert.Kernel3Ideal.Gen.frame m ρ

/-- The reference's run leaves its arguments alone; it declares no semaphore. -/
theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- Both results are the plain formula's, read from the arguments the two programs share. -/
theorem algebraic : Cert.algebraic_Kernel3Ideal_Reference3Ideal := by
  intro m g m' g' _ h
  refine ⟨fun c => (Cert.Kernel3Ideal.Gen.dats m 0 c).arrAt 9 Cert.Kernel3Ideal.cfg0.N, Cert.Kernel3Ideal.Value.run_blocks m g, ?_⟩
  refine (θ_run Cert.Reference3Ideal.defs _ _).mono (fun r hr c => ⟨(hr c).1.trans ?_, (hr c).2⟩) (Cert.Reference3Ideal.Value.run (F := Ideal) m' g')
  obtain ⟨h0, h1, h2, h3, h4, h5, h6, h7, h8⟩ := h c
  refine Eq.trans ?_ (kernel_final m c).symm
  funext i
  rw [eq_ix2 i]
  refine (ref_at m' c (i 0) (i 1)).trans ?_
  rw [h0, h1, h2, h3, h4, h5, h6, h7, h8]
  rfl

end Cert.Proof.Post3
end
-- ==== Proof.Attn0.lean ====
/- The bias-table kernel of the attention program: what its body leaves in the table's block, the proof data of its
   pipeline and its body obligation, over any float values. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The body's accesses -/

abbrev r0_0 : Rect S1x16x64x64 := Rect.unit (s := S1x16x64x64) ![0, 7, 0, 0] S1x1x64x64.size inb_S1x16x64x64_S1x1x64x64_0_7_0_0
abbrev r0_1 : Rect S1x16x64x64 := Rect.unit (s := S1x16x64x64) ![0, 8, 0, 0] S1x1x64x64.size inb_S1x16x64x64_S1x1x64x64_0_8_0_0
abbrev r0_2 : Rect S1x16x64x64 := Rect.unit (s := S1x16x64x64) ![0, 9, 0, 0] S1x1x64x64.size inb_S1x16x64x64_S1x1x64x64_0_9_0_0
abbrev r0_3 : Rect S1x16x64x64 := Rect.unit (s := S1x16x64x64) ![0, 10, 0, 0] S1x1x64x64.size inb_S1x16x64x64_S1x1x64x64_0_10_0_0
abbrev r0_4 : Rect S1x16x64x64 := Rect.unit (s := S1x16x64x64) ![0, 11, 0, 0] S1x1x64x64.size inb_S1x16x64x64_S1x1x64x64_0_11_0_0
abbrev r0_5 : Rect S1x16x64x64 := Rect.unit (s := S1x16x64x64) ![0, 12, 0, 0] S1x1x64x64.size inb_S1x16x64x64_S1x1x64x64_0_12_0_0
abbrev r0_6 : Rect S1x16x64x64 := Rect.unit (s := S1x16x64x64) ![0, 13, 0, 0] S1x1x64x64.size inb_S1x16x64x64_S1x1x64x64_0_13_0_0
abbrev r0_7 : Rect S1x16x64x64 := Rect.unit (s := S1x16x64x64) ![0, 14, 0, 0] S1x1x64x64.size inb_S1x16x64x64_S1x1x64x64_0_14_0_0
abbrev r0_8 : Rect S1x16x64x64 := Rect.unit (s := S1x16x64x64) ![0, 15, 0, 0] S1x1x64x64.size inb_S1x16x64x64_S1x1x64x64_0_15_0_0
abbrev r0_9 : Rect S1x3x256x768 := Rect.unit (s := S1x3x256x768) ![0, 0, 0, 0] S1x1x64x768.size inb_S1x3x256x768_S1x1x64x768_0_0_0_0
abbrev r0_10 : Rect S1x16x64x64 := Rect.unit (s := S1x16x64x64) ![0, 6, 0, 0] S1x1x64x64.size inb_S1x16x64x64_S1x1x64x64_0_6_0_0
abbrev r0_11 : Rect S1x3x256x768 := Rect.unit (s := S1x3x256x768) ![0, 0, 64, 0] S1x1x64x768.size inb_S1x3x256x768_S1x1x64x768_0_0_64_0
abbrev r0_12 : Rect S1x16x64x64 := Rect.unit (s := S1x16x64x64) ![0, 5, 0, 0] S1x1x64x64.size inb_S1x16x64x64_S1x1x64x64_0_5_0_0
abbrev r0_13 : Rect S1x3x256x768 := Rect.unit (s := S1x3x256x768) ![0, 0, 128, 0] S1x1x64x768.size inb_S1x3x256x768_S1x1x64x768_0_0_128_0
abbrev r0_14 : Rect S1x16x64x64 := Rect.unit (s := S1x16x64x64) ![0, 4, 0, 0] S1x1x64x64.size inb_S1x16x64x64_S1x1x64x64_0_4_0_0
abbrev r0_15 : Rect S1x3x256x768 := Rect.unit (s := S1x3x256x768) ![0, 0, 192, 0] S1x1x64x768.size inb_S1x3x256x768_S1x1x64x768_0_0_192_0
abbrev r0_16 : Rect S1x16x64x64 := Rect.unit (s := S1x16x64x64) ![0, 3, 0, 0] S1x1x64x64.size inb_S1x16x64x64_S1x1x64x64_0_3_0_0
abbrev r0_17 : Rect S1x3x256x768 := Rect.unit (s := S1x3x256x768) ![0, 1, 0, 0] S1x1x64x768.size inb_S1x3x256x768_S1x1x64x768_0_1_0_0
abbrev r0_18 : Rect S1x3x256x768 := Rect.unit (s := S1x3x256x768) ![0, 1, 64, 0] S1x1x64x768.size inb_S1x3x256x768_S1x1x64x768_0_1_64_0
abbrev r0_19 : Rect S1x3x256x768 := Rect.unit (s := S1x3x256x768) ![0, 1, 128, 0] S1x1x64x768.size inb_S1x3x256x768_S1x1x64x768_0_1_128_0
abbrev r0_20 : Rect S1x3x256x768 := Rect.unit (s := S1x3x256x768) ![0, 1, 192, 0] S1x1x64x768.size inb_S1x3x256x768_S1x1x64x768_0_1_192_0
abbrev r0_21 : Rect S1x3x256x768 := Rect.unit (s := S1x3x256x768) ![0, 2, 0, 0] S1x1x64x768.size inb_S1x3x256x768_S1x1x64x768_0_2_0_0
abbrev r0_22 : Rect S1x16x64x64 := Rect.unit (s := S1x16x64x64) ![0, 2, 0, 0] S1x1x64x64.size inb_S1x16x64x64_S1x1x64x64_0_2_0_0
abbrev r0_23 : Rect S1x3x256x768 := Rect.unit (s := S1x3x256x768) ![0, 2, 64, 0] S1x1x64x768.size inb_S1x3x256x768_S1x1x64x768_0_2_64_0
abbrev r0_24 : Rect S1x16x64x64 := Rect.unit (s := S1x16x64x64) ![0, 1, 0, 0] S1x1x64x64.size inb_S1x16x64x64_S1x1x64x64_0_1_0_0
abbrev r0_25 : Rect S1x3x256x768 := Rect.unit (s := S1x3x256x768) ![0, 2, 128, 0] S1x1x64x768.size inb_S1x3x256x768_S1x1x64x768_0_2_128_0
abbrev r0_26 : Rect S1x16x64x64 := Rect.unit (s := S1x16x64x64) ![0, 0, 0, 0] S1x1x64x64.size inb_S1x16x64x64_S1x1x64x64_0_0_0_0
abbrev r0_27 : Rect S1x3x256x768 := Rect.unit (s := S1x3x256x768) ![0, 2, 192, 0] S1x1x64x768.size inb_S1x3x256x768_S1x1x64x768_0_2_192_0

/-- Window 1's staging buffer after the body, from the input windows' blocks: its 12 stores as pieces, LAST
    FIRST (Lib/Pipeline/FrameBody.lean `View.canon`; the payloads are the skeleton's). -/
def out0_1 (x0 : Vec F S1x16x64x64 .f32) : Vec F S1x3x256x768 .f32 :=
  View.canon [⟨r0_27, k0_pay1 (k0_pay84 (View.ld x0 r0_8)) (k0_pay85 (View.ld x0 r0_8)) (k0_pay86 (View.ld x0 r0_8)) (k0_pay87 (View.ld x0 r0_8)) (k0_pay88 (View.ld x0 r0_26)) (k0_pay89 (View.ld x0 r0_24)) (k0_pay90 (View.ld x0 r0_22)) (k0_pay91 (View.ld x0 r0_16)) (k0_pay92 (View.ld x0 r0_14)) (k0_pay93 (View.ld x0 r0_12)) (k0_pay94 (View.ld x0 r0_10)) (View.ld x0 r0_0)⟩,
    ⟨r0_25, k0_pay83 (k0_pay79 (View.ld x0 r0_8)) (k0_pay80 (View.ld x0 r0_8)) (k0_pay81 (View.ld x0 r0_8)) (k0_pay82 (View.ld x0 r0_8)) (View.ld x0 r0_24) (View.ld x0 r0_22) (View.ld x0 r0_16) (View.ld x0 r0_14) (View.ld x0 r0_12) (View.ld x0 r0_10) (View.ld x0 r0_0) (View.ld x0 r0_1)⟩,
    ⟨r0_23, k0_pay78 (k0_pay70 (View.ld x0 r0_8)) (k0_pay71 (View.ld x0 r0_8)) (k0_pay72 (View.ld x0 r0_8)) (k0_pay73 (View.ld x0 r0_8)) (k0_pay74 (View.ld x0 r0_22)) (k0_pay75 (View.ld x0 r0_16)) (k0_pay76 (View.ld x0 r0_14)) (k0_pay77 (View.ld x0 r0_12)) (View.ld x0 r0_10) (View.ld x0 r0_0) (View.ld x0 r0_1) (View.ld x0 r0_2)⟩,
    ⟨r0_21, k0_pay69 (k0_pay58 (View.ld x0 r0_8)) (k0_pay59 (View.ld x0 r0_8)) (k0_pay60 (View.ld x0 r0_8)) (k0_pay61 (View.ld x0 r0_8)) (k0_pay62 (View.ld x0 r0_16)) (k0_pay63 (View.ld x0 r0_14)) (k0_pay64 (View.ld x0 r0_12)) (k0_pay65 (View.ld x0 r0_10)) (k0_pay66 (View.ld x0 r0_0)) (k0_pay67 (View.ld x0 r0_1)) (k0_pay68 (View.ld x0 r0_2)) (View.ld x0 r0_3)⟩,
    ⟨r0_20, k0_pay57 (k0_pay52 (View.ld x0 r0_8)) (k0_pay53 (View.ld x0 r0_8)) (k0_pay54 (View.ld x0 r0_8)) (k0_pay55 (View.ld x0 r0_16)) (k0_pay56 (View.ld x0 r0_14)) (View.ld x0 r0_12) (View.ld x0 r0_10) (View.ld x0 r0_0) (View.ld x0 r0_1) (View.ld x0 r0_2) (View.ld x0 r0_3) (View.ld x0 r0_8)⟩,
    ⟨r0_19, k0_pay51 (k0_pay43 (View.ld x0 r0_8)) (k0_pay44 (View.ld x0 r0_8)) (k0_pay45 (View.ld x0 r0_16)) (k0_pay46 (View.ld x0 r0_14)) (k0_pay47 (View.ld x0 r0_12)) (k0_pay48 (View.ld x0 r0_10)) (k0_pay49 (View.ld x0 r0_0)) (k0_pay50 (View.ld x0 r0_1)) (View.ld x0 r0_2) (View.ld x0 r0_3) (View.ld x0 r0_8) (View.ld x0 r0_8)⟩,
    ⟨r0_18, k0_pay42 (k0_pay41 (k0_pay39 (View.ld x0 r0_8)) (k0_pay40 (View.ld x0 r0_16)) (View.ld x0 r0_14) (View.ld x0 r0_12) (View.ld x0 r0_10) (View.ld x0 r0_0) (View.ld x0 r0_1) (View.ld x0 r0_2) (View.ld x0 r0_3) (View.ld x0 r0_8) (View.ld x0 r0_8) (View.ld x0 r0_8))⟩,
    ⟨r0_17, k0_pay38 (k0_pay33 (View.ld x0 r0_16)) (k0_pay34 (View.ld x0 r0_14)) (k0_pay35 (View.ld x0 r0_12)) (k0_pay36 (View.ld x0 r0_10)) (k0_pay37 (View.ld x0 r0_0)) (View.ld x0 r0_1) (View.ld x0 r0_2) (View.ld x0 r0_3) (View.ld x0 r0_8) (View.ld x0 r0_8) (View.ld x0 r0_8) (View.ld x0 r0_8)⟩,
    ⟨r0_15, k0_pay32 (k0_pay23 (View.ld x0 r0_14)) (k0_pay24 (View.ld x0 r0_12)) (k0_pay25 (View.ld x0 r0_10)) (k0_pay26 (View.ld x0 r0_0)) (k0_pay27 (View.ld x0 r0_1)) (k0_pay28 (View.ld x0 r0_2)) (k0_pay29 (View.ld x0 r0_3)) (k0_pay30 (View.ld x0 r0_4)) (k0_pay31 (View.ld x0 r0_8)) (View.ld x0 r0_8) (View.ld x0 r0_8) (View.ld x0 r0_8)⟩,
    ⟨r0_13, k0_pay22 (k0_pay21 (k0_pay19 (View.ld x0 r0_12)) (k0_pay20 (View.ld x0 r0_10)) (View.ld x0 r0_0) (View.ld x0 r0_1) (View.ld x0 r0_2) (View.ld x0 r0_3) (View.ld x0 r0_4) (View.ld x0 r0_5) (View.ld x0 r0_8) (View.ld x0 r0_8) (View.ld x0 r0_8) (View.ld x0 r0_8))⟩,
    ⟨r0_11, k0_pay18 (k0_pay12 (View.ld x0 r0_10)) (k0_pay13 (View.ld x0 r0_0)) (k0_pay14 (View.ld x0 r0_1)) (k0_pay15 (View.ld x0 r0_2)) (k0_pay16 (View.ld x0 r0_3)) (k0_pay17 (View.ld x0 r0_4)) (View.ld x0 r0_5) (View.ld x0 r0_6) (View.ld x0 r0_8) (View.ld x0 r0_8) (View.ld x0 r0_8) (View.ld x0 r0_8)⟩,
    ⟨r0_9, k0_pay11 (k0_pay2 (View.ld x0 r0_0)) (k0_pay3 (View.ld x0 r0_1)) (k0_pay4 (View.ld x0 r0_2)) (k0_pay5 (View.ld x0 r0_3)) (k0_pay6 (View.ld x0 r0_4)) (k0_pay7 (View.ld x0 r0_5)) (k0_pay8 (View.ld x0 r0_6)) (k0_pay9 (View.ld x0 r0_7)) (k0_pay10 (View.ld x0 r0_8)) (View.ld x0 r0_8) (View.ld x0 r0_8) (View.ld x0 r0_8)⟩]

/-- Its stores tile the buffer (checked by evaluation), so they cover it. -/
theorem cover0_1 (p0 : Vec F S1x1x64x768 .f32) (p1 : Vec F S1x1x64x768 .f32) (p2 : Vec F S1x1x64x768 .f32) (p3 : Vec F S1x1x64x768 .f32) (p4 : Vec F S1x1x64x768 .f32) (p5 : Vec F S1x1x64x768 .f32) (p6 : Vec F S1x1x64x768 .f32) (p7 : Vec F S1x1x64x768 .f32) (p8 : Vec F S1x1x64x768 .f32) (p9 : Vec F S1x1x64x768 .f32) (p10 : Vec F S1x1x64x768 .f32) (p11 : Vec F S1x1x64x768 .f32) (y : S1x3x256x768.Idx) :
    ∃ pc ∈ ([⟨r0_27, p0⟩, ⟨r0_25, p1⟩, ⟨r0_23, p2⟩, ⟨r0_21, p3⟩, ⟨r0_20, p4⟩, ⟨r0_19, p5⟩, ⟨r0_18, p6⟩, ⟨r0_17, p7⟩, ⟨r0_15, p8⟩, ⟨r0_13, p9⟩, ⟨r0_11, p10⟩, ⟨r0_9, p11⟩] : List (View.Piece (Elt F) S1x3x256x768 .f32)), y ∈ pc.1.set :=
  View.cover_of_tiled [⟨r0_27, p0⟩, ⟨r0_25, p1⟩, ⟨r0_23, p2⟩, ⟨r0_21, p3⟩, ⟨r0_20, p4⟩, ⟨r0_19, p5⟩, ⟨r0_18, p6⟩, ⟨r0_17, p7⟩, ⟨r0_15, p8⟩, ⟨r0_13, p9⟩, ⟨r0_11, p10⟩, ⟨r0_9, p11⟩] S1x1x64x768.size (by rfl) y

/-! ## The body -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S1x16x64x64 .f32) (harg1 : arg1.IsWhole) (arg2 : Memref sig .tc .vmem S1x3x256x768 .f32) (harg2 : arg2.IsWhole)
    (x0 : Vec F S1x16x64x64 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0_attn_bias_table i arg1 harg1 arg2 harg2) K := by
  simp only [cc0_attn_bias_table_eq_skeleton]; unfold cc0_attn_bias_table_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _ _ _ _ _ _ _ _ _ _ _ _)

/-! ## The proof data -/

/-- The buffers as the bias-table region finds them: what the host operations before it left. -/
abbrev E0 (c : Dev nD) (b : Ref sig .tc) : Buf (Elt F) ((c : Thread nD τ).loc b) := V5 m c b

/-- Window `w`'s block at point `t` of the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (E0 m c (Pipeline.arrRef spec0 w))

/-- The proof data of the bias-table pipeline: arrays as found, the input's buffer left at its block and the output's at
    `out0_1` of it; nothing owed, full shares. -/
def dat0 (c : Dev nD) : Dat τ (Elt F) Unit ℕ (UR sig nD τ) ℕ cfg0 c where
  A w := E0 m c (Pipeline.arrRef spec0 w)
  after w t := match w with
    | ⟨0, _⟩ => iblk0 m c 0 t
    | ⟨1, _⟩ => out0_1 (iblk0 m c 0 t)
  Φ _ := Pipeline.scopedRest spec0 c
  q _ := fullShare
  owed _ := 0

/-- The arrays enter as found. -/
theorem A0_eq (c : Dev nD) (w : Fin cfg0.W) : (dat0 m c).A w = E0 m c (Pipeline.arrRef spec0 w) := by dsimp only [dat0]
/-- The input's buffer is left at its block, -/
theorem after0_0 (c : Dev nD) (t : Fin cfg0.N) : (dat0 m c).after 0 t = iblk0 m c 0 t := by dsimp only [dat0]
/-- and the output's at `out0_1` of it. -/
theorem after0_1 (c : Dev nD) (t : Fin cfg0.N) : (dat0 m c).after 1 t = out0_1 (iblk0 m c 0 t) := by dsimp only [dat0]

/-- The input's buffer holds its block before the body. -/
theorem before0_0 (c : Dev nD) (t : Fin cfg0.N) (d) : (dat0 m c).before 0 t d = iblk0 m c 0 t :=
  ((dat0 m c).before_in_eq_fetched 0 rfl (fun _ => rfl) (fun _ _ _ => rfl)
    (fun t => by rw [after0_0]; unfold Dat.blockOf iblk0; rw [A0_eq]) t d).trans
    (by unfold Dat.fetched Dat.blockOf iblk0; rw [A0_eq]; try rfl)

/-- What the body is called with at point `t`, -/
def pre0 (c : Dev nD) (t : Fin cfg0.N) : sProp 𝕄 :=
  iprop((dat0 m c).Φ t.castSucc ∗ (dat0 m c).owesAt () t.castSucc
    ∗ (∃ d, owns (c : Thread nD τ) (st0_0 t) fullShare ((dat0 m c).before 0 t d))
    ∗ (∃ d, owns (c : Thread nD τ) (st0_1 t) fullShare ((dat0 m c).before 1 t d)))

/-- and what it returns. -/
def post0 (c : Dev nD) (t : Fin cfg0.N) : sProp 𝕄 :=
  iprop((dat0 m c).Φ t.succ ∗ (dat0 m c).owesAt () t.succ
    ∗ owns (c : Thread nD τ) (st0_0 t) fullShare ((dat0 m c).after 0 t)
    ∗ owns (c : Thread nD τ) (st0_1 t) fullShare ((dat0 m c).after 1 t))

/-- The body at any point, by `sound_kernel0`. -/
theorem sound_body0 (c : Dev nD) (t : Fin cfg0.N) :
    pre0 m c t ⊢ wp frame (wpE (defs₀ (F := F)) Variants.none c none) Set.univ (bodyAt0 t) (fun _ => post0 m c t) := by
  unfold pre0 post0 bodyAt0
  simp only [before0_0]
  rw [show (dat0 m c).Φ t.succ = (dat0 m c).Φ t.castSucc from rfl,
    show (dat0 m c).owesAt () t.succ = (dat0 m c).owesAt () t.castSucc from rfl,
    after0_0, after0_1]
  iintro ⟨HΦ, Ho, ⟨%d0, H0⟩, ⟨%d1, H1⟩⟩
  iapply (sound_kernel0 c Set.univ (grid0.coords t) _ _ _ _ (iblk0 m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body table's row at point `t`'s slots. -/
theorem defs₀_row0 (t : Fin cfg0.N) :
    defs₀ (F := F) .tc cfg0.body (cfg0.bodyArgs t (cfg0.slots t)) = bodyAt0 t := by
  unfold defs₀; rw [Defs.onTc_tc]

/-- The body obligation of the bias-table pipeline. -/
theorem body_obligation0 (c : Dev nD) : BodyObligation (dat0 (F := F) m c) (defs₀ (F := F)) Variants.none () Set.univ := fun t => by
  rw [bigSep_W0, bigSep_W0, defs₀_row0]
  exact triple_restated (sound_body0 m c t) rfl .rfl fun _ => .rfl

end Cert.Proof.Attn

end
-- ==== Proof.Attn1.lean ====
/- The attention kernel of the attention program: what one trip of its loop stores, what the body leaves in the
   output's block, and the body's triple, over any float values. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Regions
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The chunk word a trip reads off the first table. -/
def wd1 (t2 : Vec F S16 .i32) (k : Fin k1_t1_loop.trips) : BitVec 32 :=
  View.ld t2 (Rect.unit (s := S16) (k1_off1 k) S1.size (k1_off1_inb k)) (Shape.Idx.first (numel1_S1.symm ▸ Nat.one_pos))

/-- The class word a trip reads off the second table. -/
def wd2 (t3 : Vec F S16 .i32) (k : Fin k1_t1_loop.trips) : BitVec 32 :=
  View.ld t3 (Rect.unit (s := S16) (k1_off2 k) S1.size (k1_off2_inb k)) (Shape.Idx.first (numel1_S1.symm ▸ Nat.one_pos))

/-- What a trip stores, of the five blocks it loads and the two context blocks. -/
def trip1 (q : Vec F S1x256x128 .bf16) (kk : Vec F S1x768x128 .bf16) (vv : Vec F S1x768x128 .bf16)
    (v3 v5 : Vec F S1x256x128 .bf16) (b0 b1 : Vec F S1x1x256x768 .f32) : Vec F S1x256x128 .bf16 :=
  k1_pay4 (k1_pay15 (k1_pay3 v5) (k1_pay7 vv) (k1_pay13 k1_pay1 (k1_pay2 v3) q kk b0) (k1_pay14 k1_pay1 (k1_pay2 v3) q kk b0))
    (k1_pay22 (k1_pay2 v3) (k1_pay5 q) (k1_pay6 kk) (k1_pay8 k1_pay1) b1)
    (k1_pay23 (k1_pay2 v3) (k1_pay5 q) (k1_pay6 kk) (k1_pay7 vv) (k1_pay8 k1_pay1) b1)
    (k1_pay24 (k1_pay2 v3) (k1_pay3 v5) (k1_pay5 q) (k1_pay6 kk) (k1_pay8 k1_pay1) b1)

/-- The context blocks are loaded whole. -/
def ctx1 (x : Vec F S1x256x128 .bf16) : Vec F S1x256x128 .bf16 :=
  View.ld x (Rect.unit (s := S1x256x128) ![0, 0, 0] S1x256x128.size inb_S1x256x128_S1x256x128_0_0_0)

/-- The rows trip `k` writes and what it stores there. -/
def piece1 (t2 t3 : Vec F S16 .i32) (hc1 : ∀ k, k1_chk1 (wd1 t2 k)) (hc2 : ∀ k, k1_chk2 (wd2 t3 k))
    (x0 x1 x2 : Vec F S1x4096x128 .bf16) (v3 v5 : Vec F S1x256x128 .bf16) (x5 : Vec F S2x3x256x768 .f32)
    (k : Fin k1_t1_loop.trips) : View.Piece (Elt F) S1x4096x128 .bf16 :=
  ⟨Rect.unit (s := S1x4096x128) (k1_off7 k) S1x256x128.size (k1_off7_inb k),
    trip1 (View.ld x0 (Rect.unit (s := S1x4096x128) (k1_off3 k) S1x256x128.size (k1_off3_inb k)))
      (View.ld x1 (Rect.unit (s := S1x4096x128) (k1_off4 (wd1 t2 k)) S1x768x128.size (k1_off4_inb _ (hc1 k))))
      (View.ld x2 (Rect.unit (s := S1x4096x128) (k1_off4 (wd1 t2 k)) S1x768x128.size (k1_off4_inb _ (hc1 k))))
      v3 v5
      (View.ld x5 (Rect.unit (s := S2x3x256x768) (k1_off5 (wd2 t3 k)) S1x1x256x768.size (k1_off5_inb _ (hc2 k))))
      (View.ld x5 (Rect.unit (s := S2x3x256x768) (k1_off6 (wd2 t3 k)) S1x1x256x768.size (k1_off6_inb _ (hc2 k))))⟩

/-- The pieces of the trips before `k`, last first. -/
def pieces1 (t2 t3 : Vec F S16 .i32) (hc1 : ∀ k, k1_chk1 (wd1 t2 k)) (hc2 : ∀ k, k1_chk2 (wd2 t3 k))
    (x0 x1 x2 : Vec F S1x4096x128 .bf16) (v3 v5 : Vec F S1x256x128 .bf16) (x5 : Vec F S2x3x256x768 .f32) :
    ℕ → List (View.Piece (Elt F) S1x4096x128 .bf16)
  | 0 => []
  | k + 1 => if h : k < k1_t1_loop.trips then
      piece1 t2 t3 hc1 hc2 x0 x1 x2 v3 v5 x5 ⟨k, h⟩ :: pieces1 t2 t3 hc1 hc2 x0 x1 x2 v3 v5 x5 k
    else pieces1 t2 t3 hc1 hc2 x0 x1 x2 v3 v5 x5 k

/-- The generated pieces are these. -/
theorem pb_eq (c : Dev nD) (i : grid1.Coords) (arg2 : Memref sig .tc .smem S16 .i32) (harg2 : arg2.IsWhole) (arg3 : Memref sig .tc .smem S16 .i32) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x256x128 .bf16) (harg7 : arg7.IsWhole) (arg8 : Memref sig .tc .vmem S1x256x128 .bf16) (harg8 : arg8.IsWhole) (arg9 : Memref sig .tc .vmem S2x3x256x768 .f32) (harg9 : arg9.IsWhole) (arg10 : Memref sig .tc .vmem S1x4096x128 .bf16) (harg10 : arg10.IsWhole) (v3 v5 : Vec F S1x256x128 .bf16)
    (X2 : BufTy.Contents (Elt F) arg2.view.ty) (X3 : BufTy.Contents (Elt F) arg3.view.ty)
    (X4 : BufTy.Contents (Elt F) arg4.view.ty) (X5 : BufTy.Contents (Elt F) arg5.view.ty)
    (X6 : BufTy.Contents (Elt F) arg6.view.ty) (X9 : BufTy.Contents (Elt F) arg9.view.ty)
    (hc1 : ∀ k, k1_chk1 (wd1 (arg2.view.read (Elt F) X2) k)) (hc2 : ∀ k, k1_chk2 (wd2 (arg3.view.read (Elt F) X3) k))
    (h1 h2) (k : ℕ) (hk : k ≤ k1_t1_loop.trips) :
    pb_k1_t1 (F := F) Variants.none c none i arg2 harg2 arg3 harg3 arg4 harg4 arg5 harg5 arg6 harg6 arg7 harg7 arg8 harg8 arg9 harg9 arg10 harg10 v3 v5 X2 X3 X4 X5 X6 X9 h1 h2 k
      = pieces1 (arg2.view.read (Elt F) X2) (arg3.view.read (Elt F) X3) hc1 hc2 (arg4.view.read (Elt F) X4)
          (arg5.view.read (Elt F) X5) (arg6.view.read (Elt F) X6) v3 v5 (arg9.view.read (Elt F) X9) k := by
  induction k with
  | zero => rfl
  | succ k ih =>
    have hk' : k < k1_t1_loop.trips := hk
    rw [pb_k1_t1_succ (F := F) Variants.none c none i arg2 harg2 arg3 harg3 arg4 harg4 arg5 harg5 arg6 harg6 arg7 harg7 arg8 harg8 arg9 harg9 arg10 harg10 v3 v5 X2 X3 X4 X5 X6 X9 h1 h2 ⟨k, hk'⟩, ih (Nat.le_of_succ_le hk),
      pieces1, dif_pos hk', ← List.singleton_append]
    congr 1
    unfold tripL_k1_t1 trip_k1_t1
    rfl

/-- What the body leaves in the output's block. -/
def out1_6 (t2 t3 : Vec F S16 .i32) (hc1 : ∀ k, k1_chk1 (wd1 t2 k)) (hc2 : ∀ k, k1_chk2 (wd2 t3 k))
    (x0 x1 x2 : Vec F S1x4096x128 .bf16) (x3 x4 : Vec F S1x256x128 .bf16) (x5 : Vec F S2x3x256x768 .f32) : Vec F S1x4096x128 .bf16 :=
  View.canon (pieces1 t2 t3 hc1 hc2 x0 x1 x2 (ctx1 x3) (ctx1 x4) x5 16)

/-- The trips are sixteen. -/
theorem trips1 : k1_t1_loop.trips = 16 := by decide

/-- Every trip's piece is among the pieces. -/
theorem piece1_mem (t2 t3 : Vec F S16 .i32) (hc1 : ∀ k, k1_chk1 (wd1 t2 k)) (hc2 : ∀ k, k1_chk2 (wd2 t3 k))
    (x0 x1 x2 : Vec F S1x4096x128 .bf16) (v3 v5 : Vec F S1x256x128 .bf16) (x5 : Vec F S2x3x256x768 .f32)
    (k : Fin k1_t1_loop.trips) (n : ℕ) (hn : k.val < n) :
    piece1 t2 t3 hc1 hc2 x0 x1 x2 v3 v5 x5 k ∈ pieces1 t2 t3 hc1 hc2 x0 x1 x2 v3 v5 x5 n := by
  induction n with
  | zero => omega
  | succ n ih =>
    rw [pieces1]
    split
    · rename_i h
      by_cases hkn : k.val = n
      · exact List.mem_cons.2 (.inl (by congr 1; exact Fin.ext hkn))
      · exact List.mem_cons_of_mem _ (ih (by omega))
    · exact ih (by have := k.isLt; omega)

/-- And nothing else is. -/
theorem of_mem_pieces1 (t2 t3 : Vec F S16 .i32) (hc1 : ∀ k, k1_chk1 (wd1 t2 k)) (hc2 : ∀ k, k1_chk2 (wd2 t3 k))
    (x0 x1 x2 : Vec F S1x4096x128 .bf16) (v3 v5 : Vec F S1x256x128 .bf16) (x5 : Vec F S2x3x256x768 .f32)
    (n : ℕ) (p) (hp : p ∈ pieces1 t2 t3 hc1 hc2 x0 x1 x2 v3 v5 x5 n) :
    ∃ k, p = piece1 t2 t3 hc1 hc2 x0 x1 x2 v3 v5 x5 k := by
  induction n with
  | zero => exact absurd hp (List.not_mem_nil)
  | succ n ih =>
    rw [pieces1] at hp
    split at hp
    · rcases List.mem_cons.1 hp with rfl | h
      · exact ⟨_, rfl⟩
      · exact ih h
    · exact ih hp

/-- The rows trip `k` writes begin at `256 k`. -/
theorem off7_eq : ∀ k : Fin k1_t1_loop.trips, k1_off7 k = ![0, 256 * k.val, 0] := by decide

/-- The trips' rows cover the block. -/
theorem cover1 (t2 t3 : Vec F S16 .i32) (hc1 : ∀ k, k1_chk1 (wd1 t2 k)) (hc2 : ∀ k, k1_chk2 (wd2 t3 k))
    (x0 x1 x2 : Vec F S1x4096x128 .bf16) (v3 v5 : Vec F S1x256x128 .bf16) (x5 : Vec F S2x3x256x768 .f32) (y : S1x4096x128.Idx) :
    ∃ p ∈ pieces1 t2 t3 hc1 hc2 x0 x1 x2 v3 v5 x5 16, y ∈ p.1.set := by
  have hy1 : (y 1).val < 4096 := (y 1).isLt
  have hk : (y 1).val / 256 < k1_t1_loop.trips := by rw [trips1]; omega
  refine ⟨_, piece1_mem t2 t3 hc1 hc2 x0 x1 x2 v3 v5 x5 ⟨_, hk⟩ 16 (by show (y 1).val / 256 < 16; omega), ?_⟩
  unfold piece1
  rw [Rect.mem_set_unit]
  intro a
  rw [off7_eq]
  match a with
  | ⟨0, _⟩ => exact ⟨Nat.zero_le _, by have : (y 0).val < 1 := (y 0).isLt; show (y 0).val < 0 + 1; omega⟩
  | ⟨1, _⟩ => exact ⟨by show 256 * ((y 1).val / 256) ≤ (y 1).val; omega, by show (y 1).val < 256 * ((y 1).val / 256) + 256; omega⟩
  | ⟨2, _⟩ => exact ⟨Nat.zero_le _, by have : (y 2).val < 128 := (y 2).isLt; show (y 2).val < 0 + 128; omega⟩

set_option maxHeartbeats 4000000 in
/-- The attention body on whole staging memrefs and whole tables runs to the continuation holding everything as it was
    and the output's block at `out1_6`. -/
theorem sound_kernel1 (c : Dev nD) (i : grid1.Coords) (arg2 : Memref sig .tc .smem S16 .i32) (harg2 : arg2.IsWhole) (arg3 : Memref sig .tc .smem S16 .i32) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x256x128 .bf16) (harg7 : arg7.IsWhole) (arg8 : Memref sig .tc .vmem S1x256x128 .bf16) (harg8 : arg8.IsWhole) (arg9 : Memref sig .tc .vmem S2x3x256x768 .f32) (harg9 : arg9.IsWhole) (arg10 : Memref sig .tc .vmem S1x4096x128 .bf16) (harg10 : arg10.IsWhole)
    (t2 t3 : Vec F S16 .i32) (hc1 : ∀ k, k1_chk1 (wd1 t2 k)) (hc2 : ∀ k, k1_chk2 (wd2 t3 k))
    (x0 x1 x2 : Vec F S1x4096x128 .bf16) (x3 x4 : Vec F S1x256x128 .bf16) (x5 : Vec F S2x3x256x768 .f32) (K : PUnit → sProp 𝕄) :
    iprop(owns (c : Thread nD τ) arg2 fullShare t2 ∗ owns (c : Thread nD τ) arg3 fullShare t3
        ∗ owns (c : Thread nD τ) arg4 fullShare x0 ∗ owns (c : Thread nD τ) arg5 fullShare x1 ∗ owns (c : Thread nD τ) arg6 fullShare x2
        ∗ owns (c : Thread nD τ) arg7 fullShare x3 ∗ owns (c : Thread nD τ) arg8 fullShare x4 ∗ owns (c : Thread nD τ) arg9 fullShare x5
        ∗ (∃ d, owns (c : Thread nD τ) arg10 fullShare d)
        ∗ (iprop(owns (c : Thread nD τ) arg2 fullShare t2 ∗ owns (c : Thread nD τ) arg3 fullShare t3
        ∗ owns (c : Thread nD τ) arg4 fullShare x0 ∗ owns (c : Thread nD τ) arg5 fullShare x1 ∗ owns (c : Thread nD τ) arg6 fullShare x2
        ∗ owns (c : Thread nD τ) arg7 fullShare x3 ∗ owns (c : Thread nD τ) arg8 fullShare x4 ∗ owns (c : Thread nD τ) arg9 fullShare x5
        ∗ owns (c : Thread nD τ) arg10 fullShare (out1_6 t2 t3 hc1 hc2 x0 x1 x2 x3 x4 x5)) -∗ K ⟨⟩))
      ⊢ wp frame (wpE (defs₀ (F := F)) Variants.none c none) Set.univ (cc1_attn_latent i arg2 harg2 arg3 harg3 arg4 harg4 arg5 harg5 arg6 harg6 arg7 harg7 arg8 harg8 arg9 harg9 arg10 harg10) K := by
  simp only [cc1_attn_latent_eq_skeleton]; unfold cc1_attn_latent_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf2; subst hf3; subst hf4; subst hf5; subst hf6; subst hf7; subst hf8; subst hf9
  have k1_hw1L : ∀ (kq : ℕ) (hkq : kq < k1_t1_loop.trips), k1_chk1 (arg2.view.readAt (Elt F) (Rect.unit (s := S16) (k1_off1 ⟨kq, hkq⟩) S1.size (k1_off1_inb ⟨kq, hkq⟩)).toLoadRect f2 (Shape.Idx.first (numel1_S1.symm ▸ Nat.one_pos))) := fun kq hkq => hc1 ⟨kq, hkq⟩
  have k1_hw2L : ∀ (kq : ℕ) (hkq : kq < k1_t1_loop.trips), k1_chk2 (arg3.view.readAt (Elt F) (Rect.unit (s := S16) (k1_off2 ⟨kq, hkq⟩) S1.size (k1_off2_inb ⟨kq, hkq⟩)).toLoadRect f3 (Shape.Idx.first (numel1_S1.symm ▸ Nat.one_pos))) := fun kq hkq => hc2 ⟨kq, hkq⟩
  sl_exec
  sl_step
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]; · iexists f8; isplitr; · ipureintro; rfl
                  iexact H8
  isplitl [H9]; · iexists f9; isplitr; · ipureintro; rfl
                  iexact H9
  iexists _; isplitr
  swap; · iexact H10
  ipureintro
  refine Eq.trans ?_ (View.read_writes_eq_canon arg10.view f10 _ (cover1 (arg2.view.read (Elt F) f2) (arg3.view.read (Elt F) f3) hc1 hc2
    (arg4.view.read (Elt F) f4) (arg5.view.read (Elt F) f5) (arg6.view.read (Elt F) f6) (ctx1 (arg7.view.read (Elt F) f7))
    (ctx1 (arg8.view.read (Elt F) f8)) (arg9.view.read (Elt F) f9)))
  refine congrArg (fun L => arg10.view.read (Elt F) (arg10.view.writes (Elt F) f10 L)) ?_
  refine (pb_eq c i arg2 harg2 arg3 harg3 arg4 harg4 arg5 harg5 arg6 harg6 arg7 harg7 arg8 harg8 arg9 harg9 arg10 harg10 _ _ f2 f3 f4 f5 f6 f9 hc1 hc2 k1_hw1L k1_hw2L _ (le_refl _)).trans ?_
  rw [trips1]
  rfl

end Cert.Proof.Attn

end
-- ==== Proof.Attn2.lean ====
/- The attention kernel of the attention program: the prefetched tables, the proof data of its pipeline and its body
   obligation, over any float values. -/
module

public import proofs.«01_k».proof.Proof.Attn0
public import proofs.«01_k».proof.Proof.Attn1
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The tables -/

/-- The two prefetched tables: the constants @main writes. -/
def tabs : pre1.Contents (Elt F) := fun
  | 0 => fun i => lit0 (S16.rowMajor i)
  | 1 => fun i => lit1 (S16.rowMajor i)
  | ⟨_ + 2, h⟩ => absurd h (Nat.not_lt.2 (Nat.le_add_left _ _))

/-- The first table, -/
def t2c : Vec F S16 .i32 := fun i => lit0 (S16.rowMajor i)
/-- and the second. -/
def t3c : Vec F S16 .i32 := fun i => lit1 (S16.rowMajor i)

/-- The side conditions of the words of the first table hold, -/
theorem hc1c : ∀ k, k1_chk1 (wd1 (F := F) t2c k) :=
  (by decide +kernel : ∀ k : Fin k1_t1_loop.trips, k1_chk1 (lit0 (S16.rowMajor ((Rect.unit (s := S16) (k1_off1 k) S1.size (k1_off1_inb k)).toLoadRect.idx (Shape.Idx.first (numel1_S1.symm ▸ Nat.one_pos))))))
/-- and those of the second. -/
theorem hc2c : ∀ k, k1_chk2 (wd2 (F := F) t3c k) :=
  (by decide +kernel : ∀ k : Fin k1_t1_loop.trips, k1_chk2 (lit1 (S16.rowMajor ((Rect.unit (s := S16) (k1_off2 k) S1.size (k1_off2_inb k)).toLoadRect.idx (Shape.Idx.first (numel1_S1.symm ▸ Nat.one_pos))))))

/-- The tables are admissible. -/
def adm1 : (pcfg1 (F := F)).Adm := ⟨tabs, trivial⟩

/-- The admissible contents, call by call. -/
def adms : (p : Fin 2) → (pcfgs (F := F) p).Adm := fun
  | ⟨0, _⟩ => ⟨fun k => k.elim0, trivial⟩
  | ⟨1, _⟩ => adm1
  | ⟨_ + 2, h⟩ => absurd h (Nat.not_lt.2 (Nat.le_add_left _ _))

/-! ## The proof data -/

/-- The buffers as the attention region finds them: as before the first region, the bias table at what it left. -/
def W6 (c : Dev nD) : Valuation τ sig (Elt F) := Function.update (V5 m c) main_v45 ((dat0 m c).arrAt 1 cfg0.N)

/-- Window `w`'s block at point `t` of its array. -/
def iblk1 (c : Dev nD) (w : Fin (cfg1 (adm1 (F := F))).W) (t : Fin (cfg1 (adm1 (F := F))).N) :
    ((win1 (adm1 (F := F)) w).xblock ((cfg1 (adm1 (F := F))).grid.coords t)).Idx → Elt F (win1 (adm1 (F := F)) w).elt :=
  ((win1 (adm1 (F := F)) w).blk t).view.read (Elt F) (W6 m c (Proc.devRef .tc (Pipeline.arrRef spec1 w)))

/-- No transfer of window 0 is cut: every block the grid reaches ends inside the array. -/
theorem clip1_none_0 (i : grid1.Coords) (a) : (win1 (adm1 (F := F)) 0).clip i a = none :=
  if_pos ((by decide +kernel : ∀ (i : grid1.Coords) a, (cc1_transform_0 i a + 1) * S1x4096x128.size a ≤ S24x34816x128.size a) i a)
/-- So every index of its block is moved at every point, -/
theorem moved1_0 (t : Fin (cfg1 (adm1 (F := F))).N) (j : (win1 (adm1 (F := F)) 0).block.Idx) :
    (win1 (adm1 (F := F)) 0).moved ((cfg1 (adm1 (F := F))).grid.coords t) j = true :=
  ((win1 (adm1 (F := F)) 0).moved_iff _ j).mpr fun a => by
    unfold Pipeline.Window.xsize; rw [clip1_none_0 _ a]; exact (j a).isLt
/-- Window 0's block at point `t`. -/
def X1_0 (c : Dev nD) (t : Fin (cfg1 (adm1 (F := F))).N) : Vec F S1x4096x128 .bf16 := fun j =>
  iblk1 m c 0 t fun a => ⟨(j a).val, ((win1 (adm1 (F := F)) 0).moved_iff _ j).mp (moved1_0 t j) a⟩
/-- A fetch of it covers the whole buffer, whatever that held. -/
theorem fill1_0 (c : Dev nD) (t : Fin (cfg1 (adm1 (F := F))).N) (d : (win1 (adm1 (F := F)) 0).block.Idx → Elt F (win1 (adm1 (F := F)) 0).elt) :
    (win1 (adm1 (F := F)) 0).fill ((cfg1 (adm1 (F := F))).grid.coords t) d (iblk1 m c 0 t) = X1_0 m c t :=
  funext fun j => dif_pos (moved1_0 t j)
/-- What it moves of the block is the block. -/
theorem cut1_0 (c : Dev nD) (t : Fin (cfg1 (adm1 (F := F))).N) :
    (win1 (adm1 (F := F)) 0).cut ((cfg1 (adm1 (F := F))).grid.coords t) (X1_0 m c t) = iblk1 m c 0 t := rfl

/-- No transfer of window 1 is cut: every block the grid reaches ends inside the array. -/
theorem clip1_none_1 (i : grid1.Coords) (a) : (win1 (adm1 (F := F)) 1).clip i a = none :=
  if_pos ((by decide +kernel : ∀ (i : grid1.Coords) a, (cc1_transform_1 i a + 1) * S1x4096x128.size a ≤ S24x34816x128.size a) i a)
/-- So every index of its block is moved at every point, -/
theorem moved1_1 (t : Fin (cfg1 (adm1 (F := F))).N) (j : (win1 (adm1 (F := F)) 1).block.Idx) :
    (win1 (adm1 (F := F)) 1).moved ((cfg1 (adm1 (F := F))).grid.coords t) j = true :=
  ((win1 (adm1 (F := F)) 1).moved_iff _ j).mpr fun a => by
    unfold Pipeline.Window.xsize; rw [clip1_none_1 _ a]; exact (j a).isLt
/-- Window 1's block at point `t`. -/
def X1_1 (c : Dev nD) (t : Fin (cfg1 (adm1 (F := F))).N) : Vec F S1x4096x128 .bf16 := fun j =>
  iblk1 m c 1 t fun a => ⟨(j a).val, ((win1 (adm1 (F := F)) 1).moved_iff _ j).mp (moved1_1 t j) a⟩
/-- A fetch of it covers the whole buffer, whatever that held. -/
theorem fill1_1 (c : Dev nD) (t : Fin (cfg1 (adm1 (F := F))).N) (d : (win1 (adm1 (F := F)) 1).block.Idx → Elt F (win1 (adm1 (F := F)) 1).elt) :
    (win1 (adm1 (F := F)) 1).fill ((cfg1 (adm1 (F := F))).grid.coords t) d (iblk1 m c 1 t) = X1_1 m c t :=
  funext fun j => dif_pos (moved1_1 t j)
/-- What it moves of the block is the block. -/
theorem cut1_1 (c : Dev nD) (t : Fin (cfg1 (adm1 (F := F))).N) :
    (win1 (adm1 (F := F)) 1).cut ((cfg1 (adm1 (F := F))).grid.coords t) (X1_1 m c t) = iblk1 m c 1 t := rfl

/-- No transfer of window 2 is cut: every block the grid reaches ends inside the array. -/
theorem clip1_none_2 (i : grid1.Coords) (a) : (win1 (adm1 (F := F)) 2).clip i a = none :=
  if_pos ((by decide +kernel : ∀ (i : grid1.Coords) a, (cc1_transform_2 i a + 1) * S1x4096x128.size a ≤ S24x34816x128.size a) i a)
/-- So every index of its block is moved at every point, -/
theorem moved1_2 (t : Fin (cfg1 (adm1 (F := F))).N) (j : (win1 (adm1 (F := F)) 2).block.Idx) :
    (win1 (adm1 (F := F)) 2).moved ((cfg1 (adm1 (F := F))).grid.coords t) j = true :=
  ((win1 (adm1 (F := F)) 2).moved_iff _ j).mpr fun a => by
    unfold Pipeline.Window.xsize; rw [clip1_none_2 _ a]; exact (j a).isLt
/-- Window 2's block at point `t`. -/
def X1_2 (c : Dev nD) (t : Fin (cfg1 (adm1 (F := F))).N) : Vec F S1x4096x128 .bf16 := fun j =>
  iblk1 m c 2 t fun a => ⟨(j a).val, ((win1 (adm1 (F := F)) 2).moved_iff _ j).mp (moved1_2 t j) a⟩
/-- A fetch of it covers the whole buffer, whatever that held. -/
theorem fill1_2 (c : Dev nD) (t : Fin (cfg1 (adm1 (F := F))).N) (d : (win1 (adm1 (F := F)) 2).block.Idx → Elt F (win1 (adm1 (F := F)) 2).elt) :
    (win1 (adm1 (F := F)) 2).fill ((cfg1 (adm1 (F := F))).grid.coords t) d (iblk1 m c 2 t) = X1_2 m c t :=
  funext fun j => dif_pos (moved1_2 t j)
/-- What it moves of the block is the block. -/
theorem cut1_2 (c : Dev nD) (t : Fin (cfg1 (adm1 (F := F))).N) :
    (win1 (adm1 (F := F)) 2).cut ((cfg1 (adm1 (F := F))).grid.coords t) (X1_2 m c t) = iblk1 m c 2 t := rfl

/-- Window 3's block at point `t`. -/
def X1_3 (c : Dev nD) (t : Fin (cfg1 (adm1 (F := F))).N) : Vec F S1x256x128 .bf16 := iblk1 m c 3 t

/-- Window 4's block at point `t`. -/
def X1_4 (c : Dev nD) (t : Fin (cfg1 (adm1 (F := F))).N) : Vec F S1x256x128 .bf16 := iblk1 m c 4 t

/-- Window 5's block at point `t`. -/
def X1_5 (c : Dev nD) (t : Fin (cfg1 (adm1 (F := F))).N) : Vec F S2x3x256x768 .f32 := iblk1 m c 5 t

/-- The attention region's invariant: the scoped buffers it does not stage, the generator register and the tables. -/
def Phi1 (c : Dev nD) : sProp 𝕄 :=
  iprop((Pipeline.scopedRest spec1 c ∗ (∃ r, prngReg c r)) ∗ Pipeline.prefHeld pre1 c (fun _ => fullShare) (tabs (F := F)))

/-- The proof data of the attention pipeline. -/
def dat1 (c : Dev nD) : Dat τ (Elt F) Unit ℕ (UR sig nD τ) ℕ (cfg1 (adm1 (F := F))) c where
  A w := W6 m c (Proc.devRef .tc (Pipeline.arrRef spec1 w))
  after w t := match w with
    | ⟨0, _⟩ => X1_0 m c t
    | ⟨1, _⟩ => X1_1 m c t
    | ⟨2, _⟩ => X1_2 m c t
    | ⟨3, _⟩ => X1_3 m c t
    | ⟨4, _⟩ => X1_4 m c t
    | ⟨5, _⟩ => X1_5 m c t
    | ⟨6, _⟩ => out1_6 t2c t3c hc1c hc2c (X1_0 m c t) (X1_1 m c t) (X1_2 m c t) (X1_3 m c t) (X1_4 m c t) (X1_5 m c t)
  Φ _ := Phi1 c
  q w := Pipeline.shareOf spec1 w
  owed _ := 0

/-- The arrays enter as found. -/
theorem A1_eq (c : Dev nD) (w : Fin (cfg1 (adm1 (F := F))).W) : (dat1 m c).A w = W6 m c (Proc.devRef .tc (Pipeline.arrRef spec1 w)) := by dsimp only [dat1]
theorem after1_0 (c : Dev nD) (t : Fin (cfg1 (adm1 (F := F))).N) : (dat1 m c).after 0 t = X1_0 m c t := by dsimp only [dat1]; rfl
theorem after1_1 (c : Dev nD) (t : Fin (cfg1 (adm1 (F := F))).N) : (dat1 m c).after 1 t = X1_1 m c t := by dsimp only [dat1]; rfl
theorem after1_2 (c : Dev nD) (t : Fin (cfg1 (adm1 (F := F))).N) : (dat1 m c).after 2 t = X1_2 m c t := by dsimp only [dat1]; rfl
theorem after1_3 (c : Dev nD) (t : Fin (cfg1 (adm1 (F := F))).N) : (dat1 m c).after 3 t = X1_3 m c t := by dsimp only [dat1]; rfl
theorem after1_4 (c : Dev nD) (t : Fin (cfg1 (adm1 (F := F))).N) : (dat1 m c).after 4 t = X1_4 m c t := by dsimp only [dat1]; rfl
theorem after1_5 (c : Dev nD) (t : Fin (cfg1 (adm1 (F := F))).N) : (dat1 m c).after 5 t = X1_5 m c t := by dsimp only [dat1]; rfl
theorem after1_6 (c : Dev nD) (t : Fin (cfg1 (adm1 (F := F))).N) :
    (dat1 m c).after 6 t = out1_6 t2c t3c hc1c hc2c (X1_0 m c t) (X1_1 m c t) (X1_2 m c t) (X1_3 m c t) (X1_4 m c t) (X1_5 m c t) := by dsimp only [dat1]; rfl

/-- Window 0's buffer holds its block before the body. -/
theorem before1_0 (c : Dev nD) (t : Fin (cfg1 (adm1 (F := F))).N) (d) : (dat1 m c).before 0 t d = X1_0 m c t :=
  ((dat1 m c).before_in_eq_fetched 0 rfl (fun _ => rfl)
      (fun t t' h => funext fun a => (clip1_none_0 _ a).trans (clip1_none_0 _ a).symm)
      (fun t => (congrArg ((win1 (adm1 (F := F)) 0).cut ((cfg1 (adm1 (F := F))).grid.coords t)) (after1_0 m c t)).trans (cut1_0 m c t)) t d).trans
    (fill1_0 m c t d)

/-- Window 1's buffer holds its block before the body. -/
theorem before1_1 (c : Dev nD) (t : Fin (cfg1 (adm1 (F := F))).N) (d) : (dat1 m c).before 1 t d = X1_1 m c t :=
  ((dat1 m c).before_in_eq_fetched 1 rfl (fun _ => rfl)
      (fun t t' h => funext fun a => (clip1_none_1 _ a).trans (clip1_none_1 _ a).symm)
      (fun t => (congrArg ((win1 (adm1 (F := F)) 1).cut ((cfg1 (adm1 (F := F))).grid.coords t)) (after1_1 m c t)).trans (cut1_1 m c t)) t d).trans
    (fill1_1 m c t d)

/-- Window 2's buffer holds its block before the body. -/
theorem before1_2 (c : Dev nD) (t : Fin (cfg1 (adm1 (F := F))).N) (d) : (dat1 m c).before 2 t d = X1_2 m c t :=
  ((dat1 m c).before_in_eq_fetched 2 rfl (fun _ => rfl)
      (fun t t' h => funext fun a => (clip1_none_2 _ a).trans (clip1_none_2 _ a).symm)
      (fun t => (congrArg ((win1 (adm1 (F := F)) 2).cut ((cfg1 (adm1 (F := F))).grid.coords t)) (after1_2 m c t)).trans (cut1_2 m c t)) t d).trans
    (fill1_2 m c t d)

/-- Window 3's buffer holds its block before the body. -/
theorem before1_3 (c : Dev nD) (t : Fin (cfg1 (adm1 (F := F))).N) (d) : (dat1 m c).before 3 t d = X1_3 m c t :=
  ((dat1 m c).before_in_eq_fetched 3 rfl (fun _ => rfl) (fun _ _ _ => rfl)
    (fun t => by rw [after1_3]; unfold Dat.blockOf X1_3 iblk1; rw [A1_eq]; try rfl) t d).trans
    (by unfold Dat.fetched Dat.blockOf X1_3 iblk1; rw [A1_eq]; try rfl)

/-- Window 4's buffer holds its block before the body. -/
theorem before1_4 (c : Dev nD) (t : Fin (cfg1 (adm1 (F := F))).N) (d) : (dat1 m c).before 4 t d = X1_4 m c t :=
  ((dat1 m c).before_in_eq_fetched 4 rfl (fun _ => rfl) (fun _ _ _ => rfl)
    (fun t => by rw [after1_4]; unfold Dat.blockOf X1_4 iblk1; rw [A1_eq]; try rfl) t d).trans
    (by unfold Dat.fetched Dat.blockOf X1_4 iblk1; rw [A1_eq]; try rfl)

/-- Window 5's buffer holds its block before the body. -/
theorem before1_5 (c : Dev nD) (t : Fin (cfg1 (adm1 (F := F))).N) (d) : (dat1 m c).before 5 t d = X1_5 m c t :=
  ((dat1 m c).before_in_eq_fetched 5 rfl (fun _ => rfl) (fun _ _ _ => rfl)
    (fun t => by rw [after1_5]; unfold Dat.blockOf X1_5 iblk1; rw [A1_eq]; try rfl) t d).trans
    (by unfold Dat.fetched Dat.blockOf X1_5 iblk1; rw [A1_eq]; try rfl)

/-- Window `w`'s staging memref at point `t`. -/
abbrev st1 (w : Fin 7) (t : Fin (cfg1 (adm1 (F := F))).N) := (spec1 w).stage ((cfg1 (adm1 (F := F))).slots t w)

/-- The body at point `t`'s slots. -/
def bodyAt1 (t : Fin (cfg1 (adm1 (F := F))).N) : Prog (TpuEff nD τ sig (Elt F) Λ₀ .tc) PUnit :=
  cc1_attn_latent (grid1.coords t) (Memref.whole main_c) (Memref.isWhole_whole _) (Memref.whole main_c_0) (Memref.isWhole_whole _) (spec1_0.stage ((cfg1 (adm1 (F := F))).slots t 0)) (hstage1_0 (((cfg1 (adm1 (F := F))).slots t 0).cast nbuf1_0)) (spec1_1.stage ((cfg1 (adm1 (F := F))).slots t 1)) (hstage1_1 (((cfg1 (adm1 (F := F))).slots t 1).cast nbuf1_1)) (spec1_2.stage ((cfg1 (adm1 (F := F))).slots t 2)) (hstage1_2 (((cfg1 (adm1 (F := F))).slots t 2).cast nbuf1_2)) (spec1_3.stage ((cfg1 (adm1 (F := F))).slots t 3)) (hstage1_3 (((cfg1 (adm1 (F := F))).slots t 3).cast nbuf1_3)) (spec1_4.stage ((cfg1 (adm1 (F := F))).slots t 4)) (hstage1_4 (((cfg1 (adm1 (F := F))).slots t 4).cast nbuf1_4)) (spec1_5.stage ((cfg1 (adm1 (F := F))).slots t 5)) (hstage1_5 (((cfg1 (adm1 (F := F))).slots t 5).cast nbuf1_5)) (spec1_6.stage ((cfg1 (adm1 (F := F))).slots t 6)) (hstage1_6 (((cfg1 (adm1 (F := F))).slots t 6).cast nbuf1_6))

/-- What the body is called with at point `t`, -/
def pre1' (c : Dev nD) (t : Fin (cfg1 (adm1 (F := F))).N) : sProp 𝕄 :=
  iprop((dat1 m c).Φ t.castSucc ∗ (dat1 m c).owesAt () t.castSucc
    ∗ (∃ d, owns (c : Thread nD τ) (spec1_0.stage ((cfg1 (adm1 (F := F))).slots t 0)) fullShare ((dat1 m c).before 0 t d))
    ∗ (∃ d, owns (c : Thread nD τ) (spec1_1.stage ((cfg1 (adm1 (F := F))).slots t 1)) fullShare ((dat1 m c).before 1 t d))
    ∗ (∃ d, owns (c : Thread nD τ) (spec1_2.stage ((cfg1 (adm1 (F := F))).slots t 2)) fullShare ((dat1 m c).before 2 t d))
    ∗ (∃ d, owns (c : Thread nD τ) (spec1_3.stage ((cfg1 (adm1 (F := F))).slots t 3)) fullShare ((dat1 m c).before 3 t d))
    ∗ (∃ d, owns (c : Thread nD τ) (spec1_4.stage ((cfg1 (adm1 (F := F))).slots t 4)) fullShare ((dat1 m c).before 4 t d))
    ∗ (∃ d, owns (c : Thread nD τ) (spec1_5.stage ((cfg1 (adm1 (F := F))).slots t 5)) fullShare ((dat1 m c).before 5 t d))
    ∗ (∃ d, owns (c : Thread nD τ) (spec1_6.stage ((cfg1 (adm1 (F := F))).slots t 6)) fullShare ((dat1 m c).before 6 t d)))

/-- and what it returns. -/
def post1' (c : Dev nD) (t : Fin (cfg1 (adm1 (F := F))).N) : sProp 𝕄 :=
  iprop((dat1 m c).Φ t.succ ∗ (dat1 m c).owesAt () t.succ
    ∗ owns (c : Thread nD τ) (spec1_0.stage ((cfg1 (adm1 (F := F))).slots t 0)) fullShare ((dat1 m c).after 0 t)
    ∗ owns (c : Thread nD τ) (spec1_1.stage ((cfg1 (adm1 (F := F))).slots t 1)) fullShare ((dat1 m c).after 1 t)
    ∗ owns (c : Thread nD τ) (spec1_2.stage ((cfg1 (adm1 (F := F))).slots t 2)) fullShare ((dat1 m c).after 2 t)
    ∗ owns (c : Thread nD τ) (spec1_3.stage ((cfg1 (adm1 (F := F))).slots t 3)) fullShare ((dat1 m c).after 3 t)
    ∗ owns (c : Thread nD τ) (spec1_4.stage ((cfg1 (adm1 (F := F))).slots t 4)) fullShare ((dat1 m c).after 4 t)
    ∗ owns (c : Thread nD τ) (spec1_5.stage ((cfg1 (adm1 (F := F))).slots t 5)) fullShare ((dat1 m c).after 5 t)
    ∗ owns (c : Thread nD τ) (spec1_6.stage ((cfg1 (adm1 (F := F))).slots t 6)) fullShare ((dat1 m c).after 6 t))

/-- The tables conjoined one by one. -/
theorem tabs_eq (c : Dev nD) : (Pipeline.prefHeld pre1 c (fun _ => fullShare) (tabs (F := F)) : sProp 𝕄)
    = iprop(owns (c : Thread nD τ) (Memref.whole main_c) fullShare (t2c (F := F)) ∗ owns (c : Thread nD τ) (Memref.whole main_c_0) fullShare (t3c (F := F))) := by
  rw [owns_whole, owns_whole]
  unfold Pipeline.prefHeld
  exact (bigSep_univ_two _).trans rfl

set_option maxHeartbeats 1000000 in
/-- The body at any point, by `sound_kernel1`. -/
theorem sound_body1 (c : Dev nD) (t : Fin (cfg1 (adm1 (F := F))).N) :
    pre1' m c t ⊢ wp frame (wpE (defs₀ (F := F)) Variants.none c none) Set.univ (bodyAt1 t) (fun _ => post1' m c t) := by
  unfold pre1' post1' bodyAt1
  simp only [before1_0, before1_1, before1_2, before1_3, before1_4, before1_5]
  rw [show (dat1 m c).Φ t.succ = (dat1 m c).Φ t.castSucc from rfl, show (dat1 m c).Φ t.castSucc = Phi1 c from rfl,
    show (dat1 m c).owesAt () t.succ = (dat1 m c).owesAt () t.castSucc from rfl,
    after1_0, after1_1, after1_2, after1_3, after1_4, after1_5, after1_6]
  unfold Phi1
  rw [tabs_eq]
  iintro ⟨⟨HR, ⟨HT2, HT3⟩⟩, Ho, ⟨%d0, H0⟩, ⟨%d1, H1⟩, ⟨%d2, H2⟩, ⟨%d3, H3⟩, ⟨%d4, H4⟩, ⟨%d5, H5⟩, ⟨%d6, H6⟩⟩
  iapply (sound_kernel1 c (grid1.coords t) _ _ _ _ _ _ _ _ _ _ _ _ _ _ _ _ _ _ t2c t3c hc1c hc2c (X1_0 m c t) (X1_1 m c t) (X1_2 m c t) (X1_3 m c t) (X1_4 m c t) (X1_5 m c t) _)
  isplitl [HT2]; · iexact HT2
  isplitl [HT3]; · iexact HT3
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨HT2, HT3, H0, H1, H2, H3, H4, H5, H6⟩
  isplitl [HR HT2 HT3]
  · isplitl [HR]; · iexact HR
    isplitl [HT2]; · iexact HT2
    iexact HT3
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots. -/
theorem defs₀_row1 (t : Fin (cfg1 (adm1 (F := F))).N) :
    defs₀ (F := F) .tc (cfg1 (adm1 (F := F))).body ((cfg1 (adm1 (F := F))).bodyArgs t ((cfg1 (adm1 (F := F))).slots t)) = bodyAt1 t := by
  unfold defs₀; rw [Defs.onTc_tc]; rfl

/-- The body obligation of the attention pipeline. -/
theorem body_obligation1 (c : Dev nD) : BodyObligation (dat1 (F := F) m c) (defs₀ (F := F)) Variants.none () Set.univ := fun t => by
  rw [bigSep_W1, bigSep_W1, defs₀_row1]
  exact triple_restated (sound_body1 m c t) rfl .rfl fun _ => .rfl

end Cert.Proof.Attn

end
-- ==== Proof.AttnReg.lean ====
/- The two kernel regions of the attention program as segments of its run. -/
module

public import proofs.«01_k».proof.Proof.Attn2
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Claim
public import Idealize.ShloMosaic.Lib.Pipeline.FrameTail
public import Idealize.ShloMosaic.Lib.Pipeline.Regions
public import Idealize.ShloMosaic.Lib.Pipeline.RegionsLoop
public import Idealize.ShloMosaic.Lib.StableHlo.RunRead
public import Idealize.ShloMosaic.Lib.Pipeline.RegionArrays
public import Idealize.ShloMosaic.Lib.Ring
public import Idealize.ShloMosaic.Lib.Tactic
public import Idealize.ShloMosaic.Lib.WordCmp

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two pipelines' proof data. -/
def pdats : (p : Fin 2) → (c : Dev nD) → Dat τ (Elt F) Unit ℕ (UR sig nD τ) ℕ (Pipeline.pin (pcfgs (F := F)) adms p) c
  | ⟨0, _⟩ => fun c => dat0 m c
  | ⟨1, _⟩ => fun c => dat1 m c
  | ⟨_ + 2, h⟩ => absurd h (Nat.not_lt.2 (Nat.le_add_left _ _))

/-- The buffers after the attention region. -/
def W7 (c : Dev nD) : Valuation τ sig (Elt F) := Function.update (W6 m c) main_v46 ((dat1 m c).arrAt 6 (cfg1 (adm1 (F := F))).N)

/-- A valuation changed at a reference reads the new contents there, -/
theorem upd_self (V : Valuation τ sig (Elt F)) (r : Ref sig .tc) (v : (Proc.devRef (τ := τ) .tc r).ty.Contents (Elt F)) :
    Function.update V (Proc.devRef .tc r) v (Proc.devRef .tc r) = v := Function.update_self ..
/-- and the old ones anywhere else. -/
theorem upd_ne (V : Valuation τ sig (Elt F)) {r r' : Ref sig .tc} (h : r ≠ r') (v : (Proc.devRef (τ := τ) .tc r').ty.Contents (Elt F)) :
    Function.update V (Proc.devRef .tc r') v (Proc.devRef .tc r) = V (Proc.devRef .tc r) := Function.update_of_ne (StableHlo.devRef_ne_of_ne h) _ _

theorem W6_self (c : Dev nD) : W6 m c (Proc.devRef .tc main_v45) = (dat0 m c).arrAt 1 cfg0.N := upd_self (V5 m c) main_v45 _
theorem W6_ne (c : Dev nD) {r : Ref sig .tc} (h : r ≠ main_v45) : W6 m c (Proc.devRef .tc r) = V5 m c (Proc.devRef .tc r) := upd_ne (V5 m c) h _
theorem W7_self (c : Dev nD) : W7 m c (Proc.devRef .tc main_v46) = (dat1 m c).arrAt 6 (cfg1 (adm1 (F := F))).N := upd_self (W6 m c) main_v46 _
theorem W7_ne (c : Dev nD) {r : Ref sig .tc} (h : r ≠ main_v46) : W7 m c (Proc.devRef .tc r) = W6 m c (Proc.devRef .tc r) := upd_ne (W6 m c) h _

/-- What the regions leave: read off the buffers after the second. -/
def outs : Outs (F := F) := fun _ r c => W7 m c (Proc.devRef .tc r)

theorem V6_eq (c : Dev nD) : V6 m (outs m) c = W6 m c :=
  (congrArg (Function.update (V5 m c) (Proc.devRef .tc main_v45)) ((W7_ne m c (by decide)).trans (W6_self m c)) :)

theorem V7_eq (c : Dev nD) : V7 m (outs m) c = W7 m c :=
  (congrArg₂ (fun V v => Function.update V (Proc.devRef .tc main_v46) v) (V6_eq m c) (W7_self m c) :)

/-- The attention region finds the tables at their constants. -/
theorem tabs_W6 (c : Dev nD) (k : Fin 2) : tabs (F := F) k = W6 m c (Proc.devRef .tc (pre1.ref k)) := by
  fin_cases k
  · exact (((W6_ne m c (r := main_c) (by decide)).trans <| (V5_of m c main_c (by decide)).trans <| (V4_of m c main_c (by decide)).trans <| (V3_of m c main_c (by decide)).trans <| (V2_of m c main_c (by decide)).trans <|
      (StableHlo.after_last_write (i := 0) (hostOps0_W.drop 1) rfl rfl (by decide) (V0 m c)).trans (StableHlo.nullary_result ..)).symm :)
  · exact (((W6_ne m c (r := main_c_0) (by decide)).trans <| (V5_of m c main_c_0 (by decide)).trans <| (V4_of m c main_c_0 (by decide)).trans <| (V3_of m c main_c_0 (by decide)).trans <| (V2_of m c main_c_0 (by decide)).trans <|
      (StableHlo.after_last_write (i := 1) (hostOps0_W.drop 2) rfl rfl (by decide) (V0 m c)).trans (StableHlo.nullary_result ..)).symm :)

/-- No core owes another anything: no level is assigned. -/
abbrev L : GSem nD τ sig → Finset Unit := fun _ => ∅
abbrev lv : GSem nD τ sig → Unit → ℕ := fun _ _ => 0

/-- What rides along between the items: the generator register and the core owing nothing. -/
abbrev Rst (c : Dev nD) : sProp 𝕄 := iprop((∃ r, prngReg c r) ∗ ∃ W, owes (c : Thread nD τ) (0 : CellTallies nD τ sig Unit) W)

set_option backward.isDefEq.respectTransparency.types false in
/-- The bias-table region, entered from and left at every unscoped buffer held. -/
def reg0 : Pipeline.RegionSeg (pcfgs (F := F)) adms (pdats m) () defs₀ Variants.none L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 m c).loose
  hwaits := Pipeline.hwaits_of_owed_zero _ _ _ _ L lv 0 fun _ _ => rfl
  pre c := iprop(unscopedBufs c (fun b => V5 m c b) ∗ Rst c)
  post c := iprop(unscopedBufs c (fun b => W6 m c b) ∗ Rst c)
  X _ := BI.emp
  Y _ := BI.emp
  Z c := iprop(Pipeline.unscopedRest (Ix := Unit) (Name := ℕ) (U := UR sig nD τ) (Lvl := ℕ) spec0 c (fun b => V5 m c b) ∗ ∃ r, prngReg c r)
  hentry c := by
    rw [Pipeline.ownSems0_none]
    have hsplit := Pipeline.arrays_of_unscopedBufs (p := 0) (pcfgs (F := F)) adms (pdats m) (launch0 (F := F)).win (launch0 (F := F)).arr_whole c
      ((pdats m 0 c).share_full fun _ => rfl) (fun b => V5 m c b) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest] <;> iassumption
  hin c := by
    rw [show (pdats m 0 c).Φ 0 = Pipeline.scopedRest spec0 c from rfl]
    iintro ⟨-, -, Hr⟩; iexact Hr
  hout c := by
    rw [Pipeline.ownSems0_none, show (pdats m 0 c).Φ (Fin.last _) = Pipeline.scopedRest spec0 c from rfl]
    iintro Hr
    isplitr; · iempintro
    isplitr; · iempintro
    iexact Hr
  hexit c := by
    have hjoin := Pipeline.unscopedBufs_of_arrays (p := 0) (pcfgs (F := F)) adms (Ix := Unit) (Name := ℕ) (U := UR sig nD τ) (Lvl := ℕ) (launch0 (F := F)).win (launch0 (F := F)).arr_whole c
      (pdats m) ((pdats m 0 c).share_full fun _ => rfl) (fun b => V5 m c b) (fun b => W6 m c b) ((pdats m 0 c).arrAt · cfg0.N)
      (fun w => by
        fin_cases w
        · exact ((pdats m 0 c).arrAt_in 0 rfl _).trans (W6_ne m c (r := Pipeline.arrRef spec0 0) (by decide)).symm
        · exact (W6_self m c).symm)
      (fun b hb => W6_ne m c fun h => hb (Finset.mem_image.mpr ⟨1, Finset.mem_univ _, h.symm⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, -, HO⟩; iexists W; iexact HO

/-- An input window's array is the same after the attention region. -/
theorem keep1 (c : Dev nD) (w : Fin 7) (hin : ((cfg1 (adm1 (F := F))).win w).isOut = false) (h : Pipeline.arrRef spec1 w ≠ main_v46) :
    (dat1 m c).arrAt w (cfg1 (adm1 (F := F))).N = W7 m c (Proc.devRef .tc (Pipeline.arrRef spec1 w)) :=
  ((dat1 m c).arrAt_in w hin _).trans ((A1_eq m c w).trans (W7_ne m c h).symm)

set_option maxHeartbeats 1000000 in
set_option backward.isDefEq.respectTransparency.types false in
/-- The attention region, entered from and left at every unscoped buffer held; its tables ride through it. -/
def reg1 : Pipeline.RegionSeg (pcfgs (F := F)) adms (pdats m) () defs₀ Variants.none L lv 1 where
  win := (launch₀1 (F := F)).win
  block_pos := (launch₀1 (F := F)).block_pos
  stage_whole := (launch₀1 (F := F)).stage_whole
  K := PEmpty
  osem k := k.elim
  ho := Pipeline.OwnSemFacts.none _
  hbody c := (body_obligation1 m c).loose
  hwaits := Pipeline.hwaits_of_owed_zero _ _ _ _ L lv 1 fun _ _ => rfl
  pre c := iprop(unscopedBufs c (fun b => W6 m c b) ∗ Rst c)
  post c := iprop(unscopedBufs c (fun b => W7 m c b) ∗ Rst c)
  X c := iprop(∃ r, prngReg c r)
  Y c := iprop((∃ r, prngReg c r) ∗ Pipeline.prefHeld pre1 c (fun _ => fullShare) (tabs (F := F)))
  Z c := Pipeline.unscopedRestP (Ix := Unit) (Name := ℕ) (U := UR sig nD τ) (Lvl := ℕ) pre1 spec1 c (fun b => W6 m c b)
  hentry c := by
    rw [Pipeline.ownSems0_none]
    have hsplit := Pipeline.arrays_of_unscopedBufs_shared (p := 1) (pcfgs (F := F)) adms (pdats m) (launch₀1 (F := F)).win (launch₀1 (F := F)).sharedIn (launch₀1 (F := F)).arr_whole c
      (fun _ _ => rfl) (fun b => W6 m c b) fun _ => rfl
    have hur := Pipeline.unscopedRest_split (Ix := Unit) (Name := ℕ) (U := UR sig nD τ) (Lvl := ℕ) preFacts1 c (fun b => W6 m c b)
    rw [show (fun k => W6 m c (Proc.devRef .tc (pre1.ref k))) = tabs (F := F) from funext fun k => (tabs_W6 m c k).symm] at hur
    iintro ⟨⟨Hub, HR, HO⟩, -, -⟩
    ihave H := hsplit $$ Hub
    icases H with ⟨Ha, Hrest⟩
    ihave H2 := (Entails.of_eq hur) $$ Hrest
    icases H2 with ⟨Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [HR]; · iexact HR
    iexact Hrest
  hin c := by
    rw [show (pdats m 1 c).Φ 0 = Phi1 c from rfl]
    unfold Phi1
    iintro ⟨HX, Hpf, Hr⟩
    isplitl [HX Hr]
    · isplitl [Hr]; · iexact Hr
      iexact HX
    iexact Hpf
  hout c := by
    rw [Pipeline.ownSems0_none, show (pdats m 1 c).Φ (Fin.last _) = Phi1 c from rfl]
    unfold Phi1
    iintro ⟨⟨Hr, HX⟩, Hpf⟩
    isplitl [HX Hpf]; · isplitl [HX] <;> iassumption
    isplitr; · iempintro
    iexact Hr
  hexit c := by
    have hjoin := Pipeline.unscopedBufs_of_arrays_shared (p := 1) (pcfgs (F := F)) adms (Ix := Unit) (Name := ℕ) (U := UR sig nD τ) (Lvl := ℕ) (launch₀1 (F := F)).win (launch₀1 (F := F)).sharedIn (launch₀1 (F := F)).arr_whole c
      (pdats m) (fun _ _ => rfl) (fun b => W6 m c b) (fun b => W7 m c b) ((pdats m 1 c).arrAt · (cfg1 (adm1 (F := F))).N)
      (fun w => by
        fin_cases w
        · exact keep1 m c 0 rfl (by decide)
        · exact keep1 m c 1 rfl (by decide)
        · exact keep1 m c 2 rfl (by decide)
        · exact keep1 m c 3 rfl (by decide)
        · exact keep1 m c 4 rfl (by decide)
        · exact keep1 m c 5 rfl (by decide)
        · exact (W7_self m c).symm)
      (fun b hb => W7_ne m c fun h => hb (Finset.mem_image.mpr ⟨6, Finset.mem_univ _, h.symm⟩))
    have hur := Pipeline.unscopedRest_split (Ix := Unit) (Name := ℕ) (U := UR sig nD τ) (Lvl := ℕ) preFacts1 c (fun b => W6 m c b)
    rw [show (fun k => W6 m c (Proc.devRef .tc (pre1.ref k))) = tabs (F := F) from funext fun k => (tabs_W6 m c k).symm] at hur
    iintro ⟨Ha, HO, ⟨HX, Hpf⟩, Hrest⟩
    imodintro
    isplitl [Ha Hpf Hrest]
    · iapply hjoin; isplitl [Ha]; · iexact Ha
      iapply (Entails.of_eq hur.symm); isplitl [Hpf] <;> iassumption
    isplitl [HX]; · iexact HX
    unfold Pipeline.Dat.owesAt Pipeline.owesWithin
    icases HO with ⟨%W, -, HO⟩; iexists W; iexact HO

end Cert.Proof.Attn
-- ==== Proof.AttnRun.lean ====
/- The run of the attention program over any float values, and its frame. -/
module

public import proofs.«01_k».proof.Proof.AttnReg
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Claim
public import Idealize.ShloMosaic.Lib.Pipeline.FrameTail
public import Idealize.ShloMosaic.Lib.Pipeline.Regions
public import Idealize.ShloMosaic.Lib.Pipeline.RegionsLoop
public import Idealize.ShloMosaic.Lib.StableHlo.RunRead
public import Idealize.ShloMosaic.Lib.Pipeline.RegionArrays
public import Idealize.ShloMosaic.Lib.Ring
public import Idealize.ShloMosaic.Lib.Tactic
public import Idealize.ShloMosaic.Lib.WordCmp

@[expose] public section

set_option maxRecDepth 16384

noncomputable section

namespace Cert.Proof.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch element: every staging cell of the two pipelines at its first round. -/
abbrev u₀ : UR sig nD τ := initOf (Pipeline.cells (Pipeline.pin (pcfgs (F := F)) adms) (cellOf_inj adms)) (Pipeline.launchToks (Pipeline.pin (pcfgs (F := F)) adms) (cellOf_inj adms))

/-- What the segments are made with: the same rest at every item. -/
abbrev rests : Fin 3 → Dev nD → sProp 𝕄 := fun _ c => Rst c

/-- The items of the program as segments. -/
abbrev theSegs (c : Dev nD) : List (Pipeline.Seg (pcfgs (F := F)) adms (pdats m) () defs₀ Variants.none L lv) :=
  segs m (outs m) Variants.none L lv rests () adms (pdats m) (reg0 m) (reg1 m) c

theorem held_of (c : Dev nD) (V : Valuation τ sig (Elt F)) :
    (StableHlo.held (c.tc : Thread nD τ) (Pipeline.ucRefs τ sig) V : sProp 𝕄) = unscopedBufs c (fun b => V (Proc.devRef .tc b)) :=
  (Pipeline.unscopedBufs_held (Ix := Unit) (Name := ℕ) (U := UR sig nD τ) (Lvl := ℕ) c V).symm

theorem link5 (c : Dev nD) : iprop(StableHlo.held (c : Thread nD τ) (Pipeline.ucRefs τ sig) (V5 m c) ∗ rests 0 c) ⊢ (reg0 m).pre c := by
  rw [held_of]; exact .rfl
theorem link6 (c : Dev nD) : (reg0 m).post c ⊢ (reg1 m).pre c := .rfl
theorem link7 (c : Dev nD) : (reg1 m).post c ⊢ iprop(StableHlo.held (c : Thread nD τ) (Pipeline.ucRefs τ sig) (V7 m (outs m) c) ∗ rests 2 c) := by
  rw [V7_eq, held_of]; exact .rfl

set_option backward.isDefEq.respectTransparency.types false in
/-- Every weakly fair execution of the program terminates; at its end every unscoped buffer holds what the host operations
    and the two regions computed, and every counter is at zero. -/
theorem run_main : θ_run defs (onTc (τ := τ) (main (F := F))) ⟨m, fun _ => 0, ρ⟩ (fun r =>
    (∀ c : Dev nD, ∀ b ∈ Pipeline.ucRefs τ sig, r.2.mem (c, b) = V8 m (outs m) c b) ∧ r.2.sem = fun _ => 0) := by
  refine Pipeline.θ_run_regions_kit_dev_sems (pcfgs (F := F)) adms (pdats m) () (cellOf_inj adms) emb₁ defs₀ Variants.none L lv m ρ main
    (theSegs m)
    (fun c Q => by
      rewrite [main_chain c, Pipeline.Seg.run_eq_chain,
        show (theSegs m c).map Pipeline.Seg.prog = [StableHlo.seq hostOps0, StableHlo.seq hostOps0_1, StableHlo.seq hostOps0_2,
          StableHlo.seq hostOps0_3, StableHlo.seq hostOps0_4, Prog.lift (.customCall (Pipeline.entry 0) ()),
          Prog.lift (.customCall (Pipeline.entry 1) ()), StableHlo.seq hostOps2] from rfl]
      dsimp (config := { failIfUnchanged := false }) only
      exact .rfl)
    (fun c => by simp only [theSegs, segs, Pipeline.Seg.pipes_host, Pipeline.Seg.pipes_region, Pipeline.Seg.pipes_nil]; decide)
    (O₀ := 0) (hL := fun _ _ => rfl) (G := fun _ => iprop(emp)) (u₀ := u₀ (F := F))
    (hu₀ := by
      iintro Hu; imodintro
      isplitl [Hu]
      · iapply (show (ownU _ : sProp 𝕄) ⊢ BI.own (emb₁ (u₀ (F := F))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rests 0 c))
    (Tₙ := fun c => StableHlo.held (c : Thread nD τ) (Pipeline.ucRefs τ sig) (V8 m (outs m) c))
    (hch := fun c => ⟨.rfl, .rfl, .rfl, .rfl, .rfl, link5 m c, link6 m c, link7 m c, sep_mono .rfl (by iintro ⟨-, HO⟩; iexact HO)⟩)
    (hinit := ?_) (QY := fun c s => ∀ b ∈ Pipeline.ucRefs τ sig, s.mem (c, b) = V8 m (outs m) c b)
    (hfin := fun c s' => ?_) (hQ := fun _ h hz => ⟨h, funext fun g => hz g (.inr (regions_no_unscoped g.2))⟩)
  · refine Pipeline.initEach L lv fun c => ?_
    rw [show unscopedBufs c (fun b => m ((c.tc : Thread nD τ).loc b)) = StableHlo.held (c.tc : Thread nD τ) (Pipeline.ucRefs τ sig) (V0 m c)
          from (held_of c (V0 m c)).symm]
    iintro ⟨⟨Hh, -, HO, -, Hp, -⟩, -⟩
    imodintro
    isplitl [Hh]; · iexact Hh
    isplitl [Hp]; · iexists _; iexact Hp
    iexists _; iexact HO
  · unfold StableHlo.held
    iintro ⟨Hh, HSI⟩
    ihave Hr := (pointsTo_read_all (Pipeline.ucRefs τ sig) (fun b => ((c : Thread nD τ).1, b)) (V8 m (outs m) c) s') $$ [Hh HSI]
    · isplitl [Hh] <;> iassumption
    imodintro; iexact Hr

/-- An unscoped reference of the TensorCore, at the end of a run. -/
theorem run_at {r : Ref sig .tc} (hr : r.isScoped = false) {c : Dev nD} {μ : (ℓ : Loc nD τ sig) → Buf (Elt F) ℓ}
    (h : ∀ b ∈ Pipeline.ucRefs τ sig, μ (c, b) = V8 m (outs m) c b) : μ ((c.tc : Thread nD τ).loc r) = V8 m (outs m) c (Proc.devRef .tc r) :=
  h (Proc.devRef .tc r) (Finset.mem_filter.mpr ⟨StableHlo.devRef_mem_tcRefs r, fun h' => Bool.false_ne_true (hr.symm.trans h')⟩)

/-- The frame over any float values: each argument ends as launched and every counter is at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨
    (run_at m rfl (h.1 c)).trans (V8_main_arg0 m (outs m) c), (run_at m rfl (h.1 c)).trans (V8_main_arg1 m (outs m) c),
    (run_at m rfl (h.1 c)).trans (V8_main_arg2 m (outs m) c)⟩, h.2⟩) (run_main m ρ)

end Cert.Proof.Attn
-- ==== Proof.AttnFrame.lean ====
module

public import proofs.«01_k».proof.Defs
public import proofs.«01_k».proof.Proof.AttnRun
public import proofs.«01_k».proof.Proof.AttnKRun
public import proofs.«01_k».proof.Proof.Gen.Kernel
public import proofs.«01_k».proof.Proof.Gen.ReferenceIdeal
public import proofs.«01_k».proof.Proof.Gen.ReferenceIdeal.Run

@[expose] public section

set_option maxRecDepth 16384

noncomputable section

namespace Cert.Proof.Attn

open Idealize.ShloMosaic Idealize.ShloMosaic.TcCoe Idealize.SL.Sem

/-- The attention as compiled leaves its arguments alone and its counters at zero. -/
theorem frame_kernel : Cert.quiescent_Kernel := fun m ρ _ => Cert.Proof.AttnK.frame_any (F := Bits) m ρ

/-- The same over the extended reals. -/
theorem frame_ideal : Cert.quiescent_KernelIdeal := fun m ρ _ => frame_any (F := Ideal) m ρ

/-- The reference's run leaves its arguments alone; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof.Attn

end
-- ==== Proof.GatedPay.lean ====
module

public import proofs.«01_k».proof.Proof.Post3Pay
public import proofs.«01_k».proof.Proof.Gen.Kernel5Ideal.Value
public import Idealize.ShloMosaic.Lib.Pointwise
public import Idealize.ShloMosaic.Lib.Pipeline.ValueKit

@[expose] public section

set_option maxRecDepth 16384

noncomputable section

namespace Cert.Proof.Gated

open Cert.Kernel5Ideal Cert.Kernel5Ideal.Gen Idealize.ShloMosaic
open Cert.Proof.Post (Row rnorm modr)

/-- The modulation row of a token: its sequence's for a latent token, the last one for a context token. -/
def mrow (R : Fin 34816) : Fin 9 := ⟨if R.val < 32768 then R.val / 4096 else 8, by split <;> omega⟩

/-- One row of a layer's input projection: the row normed, modulated and multiplied by `w`. -/
def proj {n : ℕ} (x g sc sh : Row) (w : Fin 1024 → Fin n → EReal) (j : Fin n) : EReal := ∑ k, modr x g sc sh k * w k j

/-- The short convolution's first gate: the first third of the projection. -/
def gate0 (x g sc sh : Row) (w : Fin 1024 → Fin 3072 → EReal) (j : Fin 1024) : EReal :=
  proj x g sc sh w ⟨j.val, by omega⟩

/-- The short convolution's input: the product of the other two thirds. -/
def gate1 (x g sc sh : Row) (w : Fin 1024 → Fin 3072 → EReal) (j : Fin 1024) : EReal :=
  proj x g sc sh w ⟨1024 + j.val, by omega⟩ * proj x g sc sh w ⟨2048 + j.val, by omega⟩

/-- The first chunk's projected row at an index. -/
theorem first_acc (x0 : Vec Ideal S1024x1024 .f32) (x1 : Vec Ideal S1x1x6x1024 .f32) (x2 : Vec Ideal S1x1x1024 .f32) (x3 : Vec Ideal S1024x3072 .bf16)
    (r : Fin 256) (l : Fin 3072) :
    k0_pay2 (View.ld x0 r0_0) (View.ld x2 r0_1) (View.ld x1 r0_2) (View.ld x1 r0_3) (View.ld x3 r0_4) (ix2 r l)
      = proj (fun k => x0 (ix2 (⟨r.val, by omega⟩ : Fin 1024) k)) (fun k => x2 (ix3 0 0 k)) (fun k => x1 (ix4 0 0 1 k)) (fun k => x1 (ix4 0 0 0 k)) (fun i j => x3 (ix2 i j)) l := by
  unfold proj modr rnorm
  pointwise [k0_pay2]

/-- The second chunk's projected row at an index. -/
theorem second_acc (x0 : Vec Ideal S1024x1024 .f32) (x1 : Vec Ideal S1x1x6x1024 .f32) (x2 : Vec Ideal S1x1x1024 .f32) (x3 : Vec Ideal S1024x3072 .bf16)
    (r : Fin 256) (l : Fin 3072) :
    k0_pay5 (View.ld x0 r0_5) (View.ld x2 r0_1) (View.ld x1 r0_2) (View.ld x1 r0_3) (View.ld x3 r0_4) (ix2 r l)
      = proj (fun k => x0 (ix2 (⟨256 + r.val, by omega⟩ : Fin 1024) k)) (fun k => x2 (ix3 0 0 k)) (fun k => x1 (ix4 0 0 1 k)) (fun k => x1 (ix4 0 0 0 k)) (fun i j => x3 (ix2 i j)) l := by
  unfold proj modr rnorm
  pointwise [k0_pay5]

/-- The third chunk's projected row at an index. -/
theorem third_acc (x0 : Vec Ideal S1024x1024 .f32) (x1 : Vec Ideal S1x1x6x1024 .f32) (x2 : Vec Ideal S1x1x1024 .f32) (x3 : Vec Ideal S1024x3072 .bf16)
    (r : Fin 256) (l : Fin 3072) :
    k0_pay8 (View.ld x0 r0_6) (View.ld x2 r0_1) (View.ld x1 r0_2) (View.ld x1 r0_3) (View.ld x3 r0_4) (ix2 r l)
      = proj (fun k => x0 (ix2 (⟨512 + r.val, by omega⟩ : Fin 1024) k)) (fun k => x2 (ix3 0 0 k)) (fun k => x1 (ix4 0 0 1 k)) (fun k => x1 (ix4 0 0 0 k)) (fun i j => x3 (ix2 i j)) l := by
  unfold proj modr rnorm
  pointwise [k0_pay8]

/-- The fourth chunk's projected row at an index. -/
theorem fourth_acc (x0 : Vec Ideal S1024x1024 .f32) (x1 : Vec Ideal S1x1x6x1024 .f32) (x2 : Vec Ideal S1x1x1024 .f32) (x3 : Vec Ideal S1024x3072 .bf16)
    (r : Fin 256) (l : Fin 3072) :
    k0_pay11 (View.ld x0 r0_7) (View.ld x2 r0_1) (View.ld x1 r0_2) (View.ld x1 r0_3) (View.ld x3 r0_4) (ix2 r l)
      = proj (fun k => x0 (ix2 (⟨768 + r.val, by omega⟩ : Fin 1024) k)) (fun k => x2 (ix3 0 0 k)) (fun k => x1 (ix4 0 0 1 k)) (fun k => x1 (ix4 0 0 0 k)) (fun i j => x3 (ix2 i j)) l := by
  unfold proj modr rnorm
  pointwise [k0_pay11]

/-- A row of output 0's block, by its row number in the block. -/
theorem block0_at (x0 : Vec Ideal S1024x1024 .f32) (x1 : Vec Ideal S1x1x6x1024 .f32) (x2 : Vec Ideal S1x1x1024 .f32) (x3 : Vec Ideal S1024x3072 .bf16) (r l : Fin 1024) :
    out0_4 x0 x1 x2 x3 (ix2 r l) = gate0 (fun k => x0 (ix2 r k)) (fun k => x2 (ix3 0 0 k)) (fun k => x1 (ix4 0 0 1 k)) (fun k => x1 (ix4 0 0 0 k)) (fun i j => x3 (ix2 i j)) l := by
  unfold out0_4 gate0
  canon_tiles x h
  · obtain ⟨p, q, rfl⟩ : ∃ (p : Fin 256) (q : Fin 1024), x = ix2 p q := ⟨x 0, x 1, eq_ix2 x⟩
    have e := fourth_acc x0 x1 x2 x3 p
    rw [show (⟨768 + p.val, by omega⟩ : Fin 1024) = r from Fin.ext h0.symm] at e
    rw [← show q = l from Fin.ext h1.symm]
    unfold k0_pay12
    generalize k0_pay11 (View.ld x0 r0_7) (View.ld x2 r0_1) (View.ld x1 r0_2) (View.ld x1 r0_3) (View.ld x3 r0_4) = A at e ⊢
    pointwise
    simp only [e]
  · obtain ⟨p, q, rfl⟩ : ∃ (p : Fin 256) (q : Fin 1024), x = ix2 p q := ⟨x 0, x 1, eq_ix2 x⟩
    have e := third_acc x0 x1 x2 x3 p
    rw [show (⟨512 + p.val, by omega⟩ : Fin 1024) = r from Fin.ext h0.symm] at e
    rw [← show q = l from Fin.ext h1.symm]
    unfold k0_pay9
    generalize k0_pay8 (View.ld x0 r0_6) (View.ld x2 r0_1) (View.ld x1 r0_2) (View.ld x1 r0_3) (View.ld x3 r0_4) = A at e ⊢
    pointwise
    simp only [e]
  · obtain ⟨p, q, rfl⟩ : ∃ (p : Fin 256) (q : Fin 1024), x = ix2 p q := ⟨x 0, x 1, eq_ix2 x⟩
    have e := second_acc x0 x1 x2 x3 p
    rw [show (⟨256 + p.val, by omega⟩ : Fin 1024) = r from Fin.ext h0.symm] at e
    rw [← show q = l from Fin.ext h1.symm]
    unfold k0_pay6
    generalize k0_pay5 (View.ld x0 r0_5) (View.ld x2 r0_1) (View.ld x1 r0_2) (View.ld x1 r0_3) (View.ld x3 r0_4) = A at e ⊢
    pointwise
    simp only [e]
  · obtain ⟨p, q, rfl⟩ : ∃ (p : Fin 256) (q : Fin 1024), x = ix2 p q := ⟨x 0, x 1, eq_ix2 x⟩
    have e := first_acc x0 x1 x2 x3 p
    rw [show (⟨p.val, by omega⟩ : Fin 1024) = r from Fin.ext h0.symm] at e
    rw [← show q = l from Fin.ext h1.symm]
    unfold k0_pay3
    generalize k0_pay2 (View.ld x0 r0_0) (View.ld x2 r0_1) (View.ld x1 r0_2) (View.ld x1 r0_3) (View.ld x3 r0_4) = A at e ⊢
    pointwise
    simp only [e]

/-- A row of output 1's block, by its row number in the block. -/
theorem block1_at (x0 : Vec Ideal S1024x1024 .f32) (x1 : Vec Ideal S1x1x6x1024 .f32) (x2 : Vec Ideal S1x1x1024 .f32) (x3 : Vec Ideal S1024x3072 .bf16) (r l : Fin 1024) :
    out0_5 x0 x1 x2 x3 (ix2 r l) = gate1 (fun k => x0 (ix2 r k)) (fun k => x2 (ix3 0 0 k)) (fun k => x1 (ix4 0 0 1 k)) (fun k => x1 (ix4 0 0 0 k)) (fun i j => x3 (ix2 i j)) l := by
  unfold out0_5 gate1
  canon_tiles x h
  · obtain ⟨p, q, rfl⟩ : ∃ (p : Fin 256) (q : Fin 1024), x = ix2 p q := ⟨x 0, x 1, eq_ix2 x⟩
    have e := fourth_acc x0 x1 x2 x3 p
    rw [show (⟨768 + p.val, by omega⟩ : Fin 1024) = r from Fin.ext h0.symm] at e
    rw [← show q = l from Fin.ext h1.symm]
    unfold k0_pay1 k0_pay13 k0_pay14
    generalize k0_pay11 (View.ld x0 r0_7) (View.ld x2 r0_1) (View.ld x1 r0_2) (View.ld x1 r0_3) (View.ld x3 r0_4) = A at e ⊢
    pointwise
    simp only [e]
  · obtain ⟨p, q, rfl⟩ : ∃ (p : Fin 256) (q : Fin 1024), x = ix2 p q := ⟨x 0, x 1, eq_ix2 x⟩
    have e := third_acc x0 x1 x2 x3 p
    rw [show (⟨512 + p.val, by omega⟩ : Fin 1024) = r from Fin.ext h0.symm] at e
    rw [← show q = l from Fin.ext h1.symm]
    unfold k0_pay10
    generalize k0_pay8 (View.ld x0 r0_6) (View.ld x2 r0_1) (View.ld x1 r0_2) (View.ld x1 r0_3) (View.ld x3 r0_4) = A at e ⊢
    pointwise
    simp only [e]
  · obtain ⟨p, q, rfl⟩ : ∃ (p : Fin 256) (q : Fin 1024), x = ix2 p q := ⟨x 0, x 1, eq_ix2 x⟩
    have e := second_acc x0 x1 x2 x3 p
    rw [show (⟨256 + p.val, by omega⟩ : Fin 1024) = r from Fin.ext h0.symm] at e
    rw [← show q = l from Fin.ext h1.symm]
    unfold k0_pay7
    generalize k0_pay5 (View.ld x0 r0_5) (View.ld x2 r0_1) (View.ld x1 r0_2) (View.ld x1 r0_3) (View.ld x3 r0_4) = A at e ⊢
    pointwise
    simp only [e]
  · obtain ⟨p, q, rfl⟩ : ∃ (p : Fin 256) (q : Fin 1024), x = ix2 p q := ⟨x 0, x 1, eq_ix2 x⟩
    have e := first_acc x0 x1 x2 x3 p
    rw [show (⟨p.val, by omega⟩ : Fin 1024) = r from Fin.ext h0.symm] at e
    rw [← show q = l from Fin.ext h1.symm]
    unfold k0_pay4
    generalize k0_pay2 (View.ld x0 r0_0) (View.ld x2 r0_1) (View.ld x1 r0_2) (View.ld x1 r0_3) (View.ld x3 r0_4) = A at e ⊢
    pointwise
    simp only [e]

end Cert.Proof.Gated
end
-- ==== Proof.QkvPay.lean ====
module

public import proofs.«01_k».proof.Proof.GatedPay
public import proofs.«01_k».proof.Proof.Gen.Kernel4Ideal.Value
public import Idealize.ShloMosaic.Lib.Pointwise
public import Idealize.ShloMosaic.Lib.Pipeline.ValueKit

@[expose] public section

set_option maxRecDepth 16384

noncomputable section

namespace Cert.Proof.Qkv

open Cert.Kernel4Ideal Cert.Kernel4Ideal.Gen Idealize.ShloMosaic
open Cert.Proof.Post (Row rnorm modr)
open Cert.Proof.Post3 (pick)
open Cert.Proof.Gated (proj)

/-- A projected row laid out by lane groups: group `j`'s lanes are 128 columns; the first eight groups are the query's, in the attention's units. -/
def group (P : Fin 3072 → EReal) (j : Fin 24) (l : Fin 128) : EReal :=
  if j.val < 8 then P ⟨j.val * 128 + l.val, by omega⟩ * Ideal.ofBits .f32 0x3E38AA3B#32 else P ⟨j.val * 128 + l.val, by omega⟩

/-- A tile's projected row `R`: the latent tile's if `b` is 1, else the context tile's. -/
def tile (b : BitVec 1) (x0 x1 : Vec Ideal S1024x1024 .f32) (x2 : Vec Ideal S1x1x6x1024 .f32) (x3 : Vec Ideal S1x1x1024 .f32) (x4 : Vec Ideal S1024x3072 .bf16) (R : Fin 1024) (l : Fin 3072) : EReal :=
  proj (fun k => pick b x0 x1 (ix2 R k)) (fun k => x3 (ix3 0 0 k)) (fun k => x2 (ix4 0 0 1 k)) (fun k => x2 (ix4 0 0 0 k)) (fun i j => x4 (ix2 i j)) l

/-- A block of query lanes, stored at lane group `j` and row `o`, holds what `group` says there. -/
theorem query_piece (j o : ℕ) (hj : j < 8) (ho : o + 256 ≤ 1024) (A : FVec Ideal S256x3072 .f32) (P : Fin 1024 → Fin 3072 → EReal)
    (h : ∀ (p : Fin 256) (l : Fin 3072), A (ix2 p l) = P ⟨o + p.val, by omega⟩ l) (v : FVec Ideal S1x256x128 .bf16)
    (hv : ∀ (p : Fin 256) (q : Fin 128), v (ix3 0 p q) = A (ix2 p (⟨j * 128 + q.val, by omega⟩ : Fin 3072)) * Ideal.ofBits .f32 0x3E38AA3B#32)
    (inb : ∀ a, (![j, o, 0] : Fin 3 → ℕ) a + S1x256x128.size a ≤ S24x1024x128.size a) (x : S1x256x128.Idx) :
    v x = (fun y : S24x1024x128.Idx => group (P (y 1)) (y 0) (y 2)) ((Rect.unit (s := S24x1024x128) ![j, o, 0] S1x256x128.size inb).emb x) := by
  obtain ⟨z, p, q, rfl⟩ : ∃ (z : Fin 1) (p : Fin 256) (q : Fin 128), x = ix3 z p q := ⟨x 0, x 1, x 2, eq_ix3 x⟩
  obtain rfl : z = 0 := Subsingleton.elim _ _
  have e0 : (Rect.unit (s := S24x1024x128) ![j, o, 0] S1x256x128.size inb).emb (ix3 0 p q) 0 = (⟨j, by omega⟩ : Fin 24) :=
    Fin.ext (ValueKit.rect_emb_unit_val _ _ inb _ 0)
  have e1 : (Rect.unit (s := S24x1024x128) ![j, o, 0] S1x256x128.size inb).emb (ix3 0 p q) 1 = (⟨o + p.val, by omega⟩ : Fin 1024) :=
    Fin.ext (ValueKit.rect_emb_unit_val _ _ inb _ 1)
  have e2 : (Rect.unit (s := S24x1024x128) ![j, o, 0] S1x256x128.size inb).emb (ix3 0 p q) 2 = q :=
    Fin.ext ((ValueKit.rect_emb_unit_val _ _ inb _ 2).trans (Nat.zero_add _))
  rw [hv, h]
  show _ = group (P ((Rect.unit (s := S24x1024x128) ![j, o, 0] S1x256x128.size inb).emb (ix3 0 p q) 1)) _ _
  rw [e0, e1, e2, group, if_pos hj]

/-- The same for key and value lanes, which are not scaled. -/
theorem plain_piece (j o : ℕ) (hj : ¬ j < 8) (hj' : j < 24) (ho : o + 256 ≤ 1024) (A : FVec Ideal S256x3072 .f32) (P : Fin 1024 → Fin 3072 → EReal)
    (h : ∀ (p : Fin 256) (l : Fin 3072), A (ix2 p l) = P ⟨o + p.val, by omega⟩ l) (v : FVec Ideal S1x256x128 .bf16)
    (hv : ∀ (p : Fin 256) (q : Fin 128), v (ix3 0 p q) = A (ix2 p (⟨j * 128 + q.val, by omega⟩ : Fin 3072)))
    (inb : ∀ a, (![j, o, 0] : Fin 3 → ℕ) a + S1x256x128.size a ≤ S24x1024x128.size a) (x : S1x256x128.Idx) :
    v x = (fun y : S24x1024x128.Idx => group (P (y 1)) (y 0) (y 2)) ((Rect.unit (s := S24x1024x128) ![j, o, 0] S1x256x128.size inb).emb x) := by
  obtain ⟨z, p, q, rfl⟩ : ∃ (z : Fin 1) (p : Fin 256) (q : Fin 128), x = ix3 z p q := ⟨x 0, x 1, x 2, eq_ix3 x⟩
  obtain rfl : z = 0 := Subsingleton.elim _ _
  have e0 : (Rect.unit (s := S24x1024x128) ![j, o, 0] S1x256x128.size inb).emb (ix3 0 p q) 0 = (⟨j, by omega⟩ : Fin 24) :=
    Fin.ext (ValueKit.rect_emb_unit_val _ _ inb _ 0)
  have e1 : (Rect.unit (s := S24x1024x128) ![j, o, 0] S1x256x128.size inb).emb (ix3 0 p q) 1 = (⟨o + p.val, by omega⟩ : Fin 1024) :=
    Fin.ext (ValueKit.rect_emb_unit_val _ _ inb _ 1)
  have e2 : (Rect.unit (s := S24x1024x128) ![j, o, 0] S1x256x128.size inb).emb (ix3 0 p q) 2 = q :=
    Fin.ext ((ValueKit.rect_emb_unit_val _ _ inb _ 2).trans (Nat.zero_add _))
  rw [hv, h]
  show _ = group (P ((Rect.unit (s := S24x1024x128) ![j, o, 0] S1x256x128.size inb).emb (ix3 0 p q) 1)) _ _
  rw [e0, e1, e2, group, if_neg hj]

/-- The first chunk's projected rows at an index. -/
theorem first_acc (i : grid0.Coords) (b : BitVec 1) (hb : Scalar.cmpi .slt (BitVec.ofNat 32 (i 0).val) 32#32 = b) (x0 x1 : Vec Ideal S1024x1024 .f32) (x2 : Vec Ideal S1x1x6x1024 .f32) (x3 : Vec Ideal S1x1x1024 .f32) (x4 : Vec Ideal S1024x3072 .bf16)
    (r : Fin 256) (l : Fin 3072) :
    k0_pay114 i x0 x1 x2 x3 x4 (ix2 r l)
      = tile b x0 x1 x2 x3 x4 ⟨0 + r.val, by omega⟩ l := by
  unfold tile proj modr rnorm pick
  obtain rfl | rfl : b = 1#1 ∨ b = 0#1 := (by decide : ∀ b : BitVec 1, b = 1#1 ∨ b = 0#1) b
  · pointwise [k0_pay114, k0_pay2]
    simp only [hb, Scalar.select, show ((1#1 : BitVec 1) = 1) = True from eq_true rfl, if_true]
  · pointwise [k0_pay114, k0_pay2]
    simp only [hb, Scalar.select, show ((0#1 : BitVec 1) = 1) = False from eq_false (by decide), show ((0#1 : BitVec 1) = 1#1) = False from eq_false (by decide), if_false]

/-- The second chunk's projected rows at an index. -/
theorem second_acc (i : grid0.Coords) (b : BitVec 1) (hb : Scalar.cmpi .slt (BitVec.ofNat 32 (i 0).val) 32#32 = b) (x0 x1 : Vec Ideal S1024x1024 .f32) (x2 : Vec Ideal S1x1x6x1024 .f32) (x3 : Vec Ideal S1x1x1024 .f32) (x4 : Vec Ideal S1024x3072 .bf16)
    (r : Fin 256) (l : Fin 3072) :
    k0_pay115 i x0 x1 x2 x3 x4 (ix2 r l)
      = tile b x0 x1 x2 x3 x4 ⟨256 + r.val, by omega⟩ l := by
  unfold tile proj modr rnorm pick
  obtain rfl | rfl : b = 1#1 ∨ b = 0#1 := (by decide : ∀ b : BitVec 1, b = 1#1 ∨ b = 0#1) b
  · pointwise [k0_pay115, k0_pay30]
    simp only [hb, Scalar.select, show ((1#1 : BitVec 1) = 1) = True from eq_true rfl, if_true]
  · pointwise [k0_pay115, k0_pay30]
    simp only [hb, Scalar.select, show ((0#1 : BitVec 1) = 1) = False from eq_false (by decide), show ((0#1 : BitVec 1) = 1#1) = False from eq_false (by decide), if_false]

/-- The third chunk's projected rows at an index. -/
theorem third_acc (i : grid0.Coords) (b : BitVec 1) (hb : Scalar.cmpi .slt (BitVec.ofNat 32 (i 0).val) 32#32 = b) (x0 x1 : Vec Ideal S1024x1024 .f32) (x2 : Vec Ideal S1x1x6x1024 .f32) (x3 : Vec Ideal S1x1x1024 .f32) (x4 : Vec Ideal S1024x3072 .bf16)
    (r : Fin 256) (l : Fin 3072) :
    k0_pay116 i x0 x1 x2 x3 x4 (ix2 r l)
      = tile b x0 x1 x2 x3 x4 ⟨512 + r.val, by omega⟩ l := by
  unfold tile proj modr rnorm pick
  obtain rfl | rfl : b = 1#1 ∨ b = 0#1 := (by decide : ∀ b : BitVec 1, b = 1#1 ∨ b = 0#1) b
  · pointwise [k0_pay116, k0_pay58]
    simp only [hb, Scalar.select, show ((1#1 : BitVec 1) = 1) = True from eq_true rfl, if_true]
  · pointwise [k0_pay116, k0_pay58]
    simp only [hb, Scalar.select, show ((0#1 : BitVec 1) = 1) = False from eq_false (by decide), show ((0#1 : BitVec 1) = 1#1) = False from eq_false (by decide), if_false]

/-- The fourth chunk's projected rows at an index. -/
theorem fourth_acc (i : grid0.Coords) (b : BitVec 1) (hb : Scalar.cmpi .slt (BitVec.ofNat 32 (i 0).val) 32#32 = b) (x0 x1 : Vec Ideal S1024x1024 .f32) (x2 : Vec Ideal S1x1x6x1024 .f32) (x3 : Vec Ideal S1x1x1024 .f32) (x4 : Vec Ideal S1024x3072 .bf16)
    (r : Fin 256) (l : Fin 3072) :
    k0_pay118 i x0 x1 x2 x3 x4 (ix2 r l)
      = tile b x0 x1 x2 x3 x4 ⟨768 + r.val, by omega⟩ l := by
  unfold tile proj modr rnorm pick
  obtain rfl | rfl : b = 1#1 ∨ b = 0#1 := (by decide : ∀ b : BitVec 1, b = 1#1 ∨ b = 0#1) b
  · pointwise [k0_pay118, k0_pay88, k0_pay117, k0_pay87]
    simp only [hb, Scalar.select, show ((1#1 : BitVec 1) = 1) = True from eq_true rfl, if_true]
  · pointwise [k0_pay118, k0_pay88, k0_pay117, k0_pay87]
    simp only [hb, Scalar.select, show ((0#1 : BitVec 1) = 1) = False from eq_false (by decide), show ((0#1 : BitVec 1) = 1#1) = False from eq_false (by decide), if_false]

/-- The stored lanes of group 23, the fourth chunk, at an index. -/
theorem lanes_768_23 (A : FVec Ideal S256x3072 .f32) (p : Fin 256) (q : Fin 128) :
    (k0_pay1 (k0_pay113 A) : FVec Ideal S1x256x128 .bf16) (ix3 0 p q) = A (ix2 p (⟨23 * 128 + q.val, by omega⟩ : Fin 3072)) := by
  pointwise [k0_pay1, k0_pay113]

/-- The stored lanes of group 22, the fourth chunk, at an index. -/
theorem lanes_768_22 (A : FVec Ideal S256x3072 .f32) (p : Fin 256) (q : Fin 128) :
    (k0_pay112 A : FVec Ideal S1x256x128 .bf16) (ix3 0 p q) = A (ix2 p (⟨22 * 128 + q.val, by omega⟩ : Fin 3072)) := by
  pointwise [k0_pay112]

/-- The stored lanes of group 21, the fourth chunk, at an index. -/
theorem lanes_768_21 (A : FVec Ideal S256x3072 .f32) (p : Fin 256) (q : Fin 128) :
    (k0_pay111 A : FVec Ideal S1x256x128 .bf16) (ix3 0 p q) = A (ix2 p (⟨21 * 128 + q.val, by omega⟩ : Fin 3072)) := by
  pointwise [k0_pay111]

/-- The stored lanes of group 20, the fourth chunk, at an index. -/
theorem lanes_768_20 (A : FVec Ideal S256x3072 .f32) (p : Fin 256) (q : Fin 128) :
    (k0_pay110 A : FVec Ideal S1x256x128 .bf16) (ix3 0 p q) = A (ix2 p (⟨20 * 128 + q.val, by omega⟩ : Fin 3072)) := by
  pointwise [k0_pay110]

/-- The stored lanes of group 19, the fourth chunk, at an index. -/
theorem lanes_768_19 (A : FVec Ideal S256x3072 .f32) (p : Fin 256) (q : Fin 128) :
    (k0_pay109 A : FVec Ideal S1x256x128 .bf16) (ix3 0 p q) = A (ix2 p (⟨19 * 128 + q.val, by omega⟩ : Fin 3072)) := by
  pointwise [k0_pay109]

/-- The stored lanes of group 18, the fourth chunk, at an index. -/
theorem lanes_768_18 (A : FVec Ideal S256x3072 .f32) (p : Fin 256) (q : Fin 128) :
    (k0_pay108 (k0_pay107 A) : FVec Ideal S1x256x128 .bf16) (ix3 0 p q) = A (ix2 p (⟨18 * 128 + q.val, by omega⟩ : Fin 3072)) := by
  pointwise [k0_pay108, k0_pay107]

/-- The stored lanes of group 17, the fourth chunk, at an index. -/
theorem lanes_768_17 (A : FVec Ideal S256x3072 .f32) (p : Fin 256) (q : Fin 128) :
    (k0_pay106 A : FVec Ideal S1x256x128 .bf16) (ix3 0 p q) = A (ix2 p (⟨17 * 128 + q.val, by omega⟩ : Fin 3072)) := by
  pointwise [k0_pay106]

/-- The stored lanes of group 16, the fourth chunk, at an index. -/
theorem lanes_768_16 (A : FVec Ideal S256x3072 .f32) (p : Fin 256) (q : Fin 128) :
    (k0_pay105 A : FVec Ideal S1x256x128 .bf16) (ix3 0 p q) = A (ix2 p (⟨16 * 128 + q.val, by omega⟩ : Fin 3072)) := by
  pointwise [k0_pay105]

/-- The stored lanes of group 15, the fourth chunk, at an index. -/
theorem lanes_768_15 (A : FVec Ideal S256x3072 .f32) (p : Fin 256) (q : Fin 128) :
    (k0_pay104 A : FVec Ideal S1x256x128 .bf16) (ix3 0 p q) = A (ix2 p (⟨15 * 128 + q.val, by omega⟩ : Fin 3072)) := by
  pointwise [k0_pay104]

/-- The stored lanes of group 14, the fourth chunk, at an index. -/
theorem lanes_768_14 (A : FVec Ideal S256x3072 .f32) (p : Fin 256) (q : Fin 128) :
    (k0_pay103 A : FVec Ideal S1x256x128 .bf16) (ix3 0 p q) = A (ix2 p (⟨14 * 128 + q.val, by omega⟩ : Fin 3072)) := by
  pointwise [k0_pay103]

/-- The stored lanes of group 13, the fourth chunk, at an index. -/
theorem lanes_768_13 (A : FVec Ideal S256x3072 .f32) (p : Fin 256) (q : Fin 128) :
    (k0_pay102 A : FVec Ideal S1x256x128 .bf16) (ix3 0 p q) = A (ix2 p (⟨13 * 128 + q.val, by omega⟩ : Fin 3072)) := by
  pointwise [k0_pay102]

/-- The stored lanes of group 12, the fourth chunk, at an index. -/
theorem lanes_768_12 (A : FVec Ideal S256x3072 .f32) (p : Fin 256) (q : Fin 128) :
    (k0_pay101 A : FVec Ideal S1x256x128 .bf16) (ix3 0 p q) = A (ix2 p (⟨12 * 128 + q.val, by omega⟩ : Fin 3072)) := by
  pointwise [k0_pay101]

/-- The stored lanes of group 11, the fourth chunk, at an index. -/
theorem lanes_768_11 (A : FVec Ideal S256x3072 .f32) (p : Fin 256) (q : Fin 128) :
    (k0_pay100 A : FVec Ideal S1x256x128 .bf16) (ix3 0 p q) = A (ix2 p (⟨11 * 128 + q.val, by omega⟩ : Fin 3072)) := by
  pointwise [k0_pay100]

/-- The stored lanes of group 10, the fourth chunk, at an index. -/
theorem lanes_768_10 (A : FVec Ideal S256x3072 .f32) (p : Fin 256) (q : Fin 128) :
    (k0_pay99 A : FVec Ideal S1x256x128 .bf16) (ix3 0 p q) = A (ix2 p (⟨10 * 128 + q.val, by omega⟩ : Fin 3072)) := by
  pointwise [k0_pay99]

/-- The stored lanes of group 9, the fourth chunk, at an index. -/
theorem lanes_768_9 (A : FVec Ideal S256x3072 .f32) (p : Fin 256) (q : Fin 128) :
    (k0_pay98 A : FVec Ideal S1x256x128 .bf16) (ix3 0 p q) = A (ix2 p (⟨9 * 128 + q.val, by omega⟩ : Fin 3072)) := by
  pointwise [k0_pay98]

/-- The stored lanes of group 8, the fourth chunk, at an index. -/
theorem lanes_768_8 (A : FVec Ideal S256x3072 .f32) (p : Fin 256) (q : Fin 128) :
    (k0_pay97 A : FVec Ideal S1x256x128 .bf16) (ix3 0 p q) = A (ix2 p (⟨8 * 128 + q.val, by omega⟩ : Fin 3072)) := by
  pointwise [k0_pay97]

/-- The stored lanes of group 7, the fourth chunk, at an index. -/
theorem lanes_768_7 (A : FVec Ideal S256x3072 .f32) (p : Fin 256) (q : Fin 128) :
    (k0_pay96 A : FVec Ideal S1x256x128 .bf16) (ix3 0 p q) = A (ix2 p (⟨7 * 128 + q.val, by omega⟩ : Fin 3072)) * Ideal.ofBits .f32 0x3E38AA3B#32 := by
  pointwise [k0_pay96]

/-- The stored lanes of group 6, the fourth chunk, at an index. -/
theorem lanes_768_6 (A : FVec Ideal S256x3072 .f32) (p : Fin 256) (q : Fin 128) :
    (k0_pay95 A : FVec Ideal S1x256x128 .bf16) (ix3 0 p q) = A (ix2 p (⟨6 * 128 + q.val, by omega⟩ : Fin 3072)) * Ideal.ofBits .f32 0x3E38AA3B#32 := by
  pointwise [k0_pay95]

/-- The stored lanes of group 5, the fourth chunk, at an index. -/
theorem lanes_768_5 (A : FVec Ideal S256x3072 .f32) (p : Fin 256) (q : Fin 128) :
    (k0_pay94 A : FVec Ideal S1x256x128 .bf16) (ix3 0 p q) = A (ix2 p (⟨5 * 128 + q.val, by omega⟩ : Fin 3072)) * Ideal.ofBits .f32 0x3E38AA3B#32 := by
  pointwise [k0_pay94]

/-- The stored lanes of group 4, the fourth chunk, at an index. -/
theorem lanes_768_4 (A : FVec Ideal S256x3072 .f32) (p : Fin 256) (q : Fin 128) :
    (k0_pay93 A : FVec Ideal S1x256x128 .bf16) (ix3 0 p q) = A (ix2 p (⟨4 * 128 + q.val, by omega⟩ : Fin 3072)) * Ideal.ofBits .f32 0x3E38AA3B#32 := by
  pointwise [k0_pay93]

/-- The stored lanes of group 3, the fourth chunk, at an index. -/
theorem lanes_768_3 (A : FVec Ideal S256x3072 .f32) (p : Fin 256) (q : Fin 128) :
    (k0_pay92 A : FVec Ideal S1x256x128 .bf16) (ix3 0 p q) = A (ix2 p (⟨3 * 128 + q.val, by omega⟩ : Fin 3072)) * Ideal.ofBits .f32 0x3E38AA3B#32 := by
  pointwise [k0_pay92]

/-- The stored lanes of group 2, the fourth chunk, at an index. -/
theorem lanes_768_2 (A : FVec Ideal S256x3072 .f32) (p : Fin 256) (q : Fin 128) :
    (k0_pay91 A : FVec Ideal S1x256x128 .bf16) (ix3 0 p q) = A (ix2 p (⟨2 * 128 + q.val, by omega⟩ : Fin 3072)) * Ideal.ofBits .f32 0x3E38AA3B#32 := by
  pointwise [k0_pay91]

/-- The stored lanes of group 1, the fourth chunk, at an index. -/
theorem lanes_768_1 (A : FVec Ideal S256x3072 .f32) (p : Fin 256) (q : Fin 128) :
    (k0_pay90 A : FVec Ideal S1x256x128 .bf16) (ix3 0 p q) = A (ix2 p (⟨1 * 128 + q.val, by omega⟩ : Fin 3072)) * Ideal.ofBits .f32 0x3E38AA3B#32 := by
  pointwise [k0_pay90]

/-- The stored lanes of group 0, the fourth chunk, at an index. -/
theorem lanes_768_0 (A : FVec Ideal S256x3072 .f32) (p : Fin 256) (q : Fin 128) :
    (shapeCast S1x256x128 (truncf .bf16 (mulf (extractStridedSlice S256x128 ![0, 0] A slices_S256x3072_o0_0_S256x128) (broadcast S256x128 (Scalar.ofBits .f32 0x3E38AA3B#32))) bitsLt_bf16_f32) shapeCasts_S256x128_S1x256x128 : FVec Ideal S1x256x128 .bf16) (ix3 0 p q) = A (ix2 p (⟨0 * 128 + q.val, by omega⟩ : Fin 3072)) * Ideal.ofBits .f32 0x3E38AA3B#32 := by
  pointwise

/-- The stored lanes of group 23, the third chunk, at an index. -/
theorem lanes_512_23 (A : FVec Ideal S256x3072 .f32) (p : Fin 256) (q : Fin 128) :
    (k0_pay86 A : FVec Ideal S1x256x128 .bf16) (ix3 0 p q) = A (ix2 p (⟨23 * 128 + q.val, by omega⟩ : Fin 3072)) := by
  pointwise [k0_pay86]

/-- The stored lanes of group 22, the third chunk, at an index. -/
theorem lanes_512_22 (A : FVec Ideal S256x3072 .f32) (p : Fin 256) (q : Fin 128) :
    (k0_pay85 A : FVec Ideal S1x256x128 .bf16) (ix3 0 p q) = A (ix2 p (⟨22 * 128 + q.val, by omega⟩ : Fin 3072)) := by
  pointwise [k0_pay85]

/-- The stored lanes of group 21, the third chunk, at an index. -/
theorem lanes_512_21 (A : FVec Ideal S256x3072 .f32) (p : Fin 256) (q : Fin 128) :
    (k0_pay84 A : FVec Ideal S1x256x128 .bf16) (ix3 0 p q) = A (ix2 p (⟨21 * 128 + q.val, by omega⟩ : Fin 3072)) := by
  pointwise [k0_pay84]

/-- The stored lanes of group 20, the third chunk, at an index. -/
theorem lanes_512_20 (A : FVec Ideal S256x3072 .f32) (p : Fin 256) (q : Fin 128) :
    (k0_pay83 A : FVec Ideal S1x256x128 .bf16) (ix3 0 p q) = A (ix2 p (⟨20 * 128 + q.val, by omega⟩ : Fin 3072)) := by
  pointwise [k0_pay83]

/-- The stored lanes of group 19, the third chunk, at an index. -/
theorem lanes_512_19 (A : FVec Ideal S256x3072 .f32) (p : Fin 256) (q : Fin 128) :
    (k0_pay82 A : FVec Ideal S1x256x128 .bf16) (ix3 0 p q) = A (ix2 p (⟨19 * 128 + q.val, by omega⟩ : Fin 3072)) := by
  pointwise [k0_pay82]

/-- The stored lanes of group 18, the third chunk, at an index. -/
theorem lanes_512_18 (A : FVec Ideal S256x3072 .f32) (p : Fin 256) (q : Fin 128) :
    (k0_pay81 (k0_pay80 A) : FVec Ideal S1x256x128 .bf16) (ix3 0 p q) = A (ix2 p (⟨18 * 128 + q.val, by omega⟩ : Fin 3072)) := by
  pointwise [k0_pay81, k0_pay80]

/-- The stored lanes of group 17, the third chunk, at an index. -/
theorem lanes_512_17 (A : FVec Ideal S256x3072 .f32) (p : Fin 256) (q : Fin 128) :
    (k0_pay79 A : FVec Ideal S1x256x128 .bf16) (ix3 0 p q) = A (ix2 p (⟨17 * 128 + q.val, by omega⟩ : Fin 3072)) := by
  pointwise [k0_pay79]

/-- The stored lanes of group 16, the third chunk, at an index. -/
theorem lanes_512_16 (A : FVec Ideal S256x3072 .f32) (p : Fin 256) (q : Fin 128) :
    (k0_pay78 A : FVec Ideal S1x256x128 .bf16) (ix3 0 p q) = A (ix2 p (⟨16 * 128 + q.val, by omega⟩ : Fin 3072)) := by
  pointwise [k0_pay78]

/-- The stored lanes of group 15, the third chunk, at an index. -/
theorem lanes_512_15 (A : FVec Ideal S256x3072 .f32) (p : Fin 256) (q : Fin 128) :
    (k0_pay77 A : FVec Ideal S1x256x128 .bf16) (ix3 0 p q) = A (ix2 p (⟨15 * 128 + q.val, by omega⟩ : Fin 3072)) := by
  pointwise [k0_pay77]

/-- The stored lanes of group 14, the third chunk, at an index. -/
theorem lanes_512_14 (A : FVec Ideal S256x3072 .f32) (p : Fin 256) (q : Fin 128) :
    (k0_pay76 A : FVec Ideal S1x256x128 .bf16) (ix3 0 p q) = A (ix2 p (⟨14 * 128 + q.val, by omega⟩ : Fin 3072)) := by
  pointwise [k0_pay76]

/-- The stored lanes of group 13, the third chunk, at an index. -/
theorem lanes_512_13 (A : FVec Ideal S256x3072 .f32) (p : Fin 256) (q : Fin 128) :
    (k0_pay75 A : FVec Ideal S1x256x128 .bf16) (ix3 0 p q) = A (ix2 p (⟨13 * 128 + q.val, by omega⟩ : Fin 3072)) := by
  pointwise [k0_pay75]

/-- The stored lanes of group 12, the third chunk, at an index. -/
theorem lanes_512_12 (A : FVec Ideal S256x3072 .f32) (p : Fin 256) (q : Fin 128) :
    (k0_pay74 A : FVec Ideal S1x256x128 .bf16) (ix3 0 p q) = A (ix2 p (⟨12 * 128 + q.val, by omega⟩ : Fin 3072)) := by
  pointwise [k0_pay74]

/-- The stored lanes of group 11, the third chunk, at an index. -/
theorem lanes_512_11 (A : FVec Ideal S256x3072 .f32) (p : Fin 256) (q : Fin 128) :
    (k0_pay73 (k0_pay72 A) : FVec Ideal S1x256x128 .bf16) (ix3 0 p q) = A (ix2 p (⟨11 * 128 + q.val, by omega⟩ : Fin 3072)) := by
  pointwise [k0_pay73, k0_pay72]

/-- The stored lanes of group 10, the third chunk, at an index. -/
theorem lanes_512_10 (A : FVec Ideal S256x3072 .f32) (p : Fin 256) (q : Fin 128) :
    (k0_pay71 A : FVec Ideal S1x256x128 .bf16) (ix3 0 p q) = A (ix2 p (⟨10 * 128 + q.val, by omega⟩ : Fin 3072)) := by
  pointwise [k0_pay71]

/-- The stored lanes of group 9, the third chunk, at an index. -/
theorem lanes_512_9 (A : FVec Ideal S256x3072 .f32) (p : Fin 256) (q : Fin 128) :
    (k0_pay70 A : FVec Ideal S1x256x128 .bf16) (ix3 0 p q) = A (ix2 p (⟨9 * 128 + q.val, by omega⟩ : Fin 3072)) := by
  pointwise [k0_pay70]

/-- The stored lanes of group 8, the third chunk, at an index. -/
theorem lanes_512_8 (A : FVec Ideal S256x3072 .f32) (p : Fin 256) (q : Fin 128) :
    (k0_pay69 A : FVec Ideal S1x256x128 .bf16) (ix3 0 p q) = A (ix2 p (⟨8 * 128 + q.val, by omega⟩ : Fin 3072)) := by
  pointwise [k0_pay69]

/-- The stored lanes of group 7, the third chunk, at an index. -/
theorem lanes_512_7 (A : FVec Ideal S256x3072 .f32) (p : Fin 256) (q : Fin 128) :
    (k0_pay68 A : FVec Ideal S1x256x128 .bf16) (ix3 0 p q) = A (ix2 p (⟨7 * 128 + q.val, by omega⟩ : Fin 3072)) * Ideal.ofBits .f32 0x3E38AA3B#32 := by
  pointwise [k0_pay68]

/-- The stored lanes of group 6, the third chunk, at an index. -/
theorem lanes_512_6 (A : FVec Ideal S256x3072 .f32) (p : Fin 256) (q : Fin 128) :
    (k0_pay67 A : FVec Ideal S1x256x128 .bf16) (ix3 0 p q) = A (ix2 p (⟨6 * 128 + q.val, by omega⟩ : Fin 3072)) * Ideal.ofBits .f32 0x3E38AA3B#32 := by
  pointwise [k0_pay67]

/-- The stored lanes of group 5, the third chunk, at an index. -/
theorem lanes_512_5 (A : FVec Ideal S256x3072 .f32) (p : Fin 256) (q : Fin 128) :
    (k0_pay66 (k0_pay65 A) : FVec Ideal S1x256x128 .bf16) (ix3 0 p q) = A (ix2 p (⟨5 * 128 + q.val, by omega⟩ : Fin 3072)) * Ideal.ofBits .f32 0x3E38AA3B#32 := by
  pointwise [k0_pay66, k0_pay65]

/-- The stored lanes of group 4, the third chunk, at an index. -/
theorem lanes_512_4 (A : FVec Ideal S256x3072 .f32) (p : Fin 256) (q : Fin 128) :
    (k0_pay64 A : FVec Ideal S1x256x128 .bf16) (ix3 0 p q) = A (ix2 p (⟨4 * 128 + q.val, by omega⟩ : Fin 3072)) * Ideal.ofBits .f32 0x3E38AA3B#32 := by
  pointwise [k0_pay64]

/-- The stored lanes of group 3, the third chunk, at an index. -/
theorem lanes_512_3 (A : FVec Ideal S256x3072 .f32) (p : Fin 256) (q : Fin 128) :
    (k0_pay63 A : FVec Ideal S1x256x128 .bf16) (ix3 0 p q) = A (ix2 p (⟨3 * 128 + q.val, by omega⟩ : Fin 3072)) * Ideal.ofBits .f32 0x3E38AA3B#32 := by
  pointwise [k0_pay63]

/-- The stored lanes of group 2, the third chunk, at an index. -/
theorem lanes_512_2 (A : FVec Ideal S256x3072 .f32) (p : Fin 256) (q : Fin 128) :
    (k0_pay62 A : FVec Ideal S1x256x128 .bf16) (ix3 0 p q) = A (ix2 p (⟨2 * 128 + q.val, by omega⟩ : Fin 3072)) * Ideal.ofBits .f32 0x3E38AA3B#32 := by
  pointwise [k0_pay62]

/-- The stored lanes of group 1, the third chunk, at an index. -/
theorem lanes_512_1 (A : FVec Ideal S256x3072 .f32) (p : Fin 256) (q : Fin 128) :
    (k0_pay61 A : FVec Ideal S1x256x128 .bf16) (ix3 0 p q) = A (ix2 p (⟨1 * 128 + q.val, by omega⟩ : Fin 3072)) * Ideal.ofBits .f32 0x3E38AA3B#32 := by
  pointwise [k0_pay61]

/-- The stored lanes of group 0, the third chunk, at an index. -/
theorem lanes_512_0 (A : FVec Ideal S256x3072 .f32) (p : Fin 256) (q : Fin 128) :
    (k0_pay60 (truncf .bf16 (mulf (extractStridedSlice S256x128 ![0, 0] A slices_S256x3072_o0_0_S256x128) (broadcast S256x128 (Scalar.ofBits .f32 0x3E38AA3B#32))) bitsLt_bf16_f32) : FVec Ideal S1x256x128 .bf16) (ix3 0 p q) = A (ix2 p (⟨0 * 128 + q.val, by omega⟩ : Fin 3072)) * Ideal.ofBits .f32 0x3E38AA3B#32 := by
  pointwise [k0_pay60]

/-- The stored lanes of group 23, the second chunk, at an index. -/
theorem lanes_256_23 (A : FVec Ideal S256x3072 .f32) (p : Fin 256) (q : Fin 128) :
    (k0_pay57 A : FVec Ideal S1x256x128 .bf16) (ix3 0 p q) = A (ix2 p (⟨23 * 128 + q.val, by omega⟩ : Fin 3072)) := by
  pointwise [k0_pay57]

/-- The stored lanes of group 22, the second chunk, at an index. -/
theorem lanes_256_22 (A : FVec Ideal S256x3072 .f32) (p : Fin 256) (q : Fin 128) :
    (k0_pay56 A : FVec Ideal S1x256x128 .bf16) (ix3 0 p q) = A (ix2 p (⟨22 * 128 + q.val, by omega⟩ : Fin 3072)) := by
  pointwise [k0_pay56]

/-- The stored lanes of group 21, the second chunk, at an index. -/
theorem lanes_256_21 (A : FVec Ideal S256x3072 .f32) (p : Fin 256) (q : Fin 128) :
    (k0_pay55 A : FVec Ideal S1x256x128 .bf16) (ix3 0 p q) = A (ix2 p (⟨21 * 128 + q.val, by omega⟩ : Fin 3072)) := by
  pointwise [k0_pay55]

/-- The stored lanes of group 20, the second chunk, at an index. -/
theorem lanes_256_20 (A : FVec Ideal S256x3072 .f32) (p : Fin 256) (q : Fin 128) :
    (k0_pay54 A : FVec Ideal S1x256x128 .bf16) (ix3 0 p q) = A (ix2 p (⟨20 * 128 + q.val, by omega⟩ : Fin 3072)) := by
  pointwise [k0_pay54]

/-- The stored lanes of group 19, the second chunk, at an index. -/
theorem lanes_256_19 (A : FVec Ideal S256x3072 .f32) (p : Fin 256) (q : Fin 128) :
    (k0_pay53 A : FVec Ideal S1x256x128 .bf16) (ix3 0 p q) = A (ix2 p (⟨19 * 128 + q.val, by omega⟩ : Fin 3072)) := by
  pointwise [k0_pay53]

/-- The stored lanes of group 18, the second chunk, at an index. -/
theorem lanes_256_18 (A : FVec Ideal S256x3072 .f32) (p : Fin 256) (q : Fin 128) :
    (k0_pay52 A : FVec Ideal S1x256x128 .bf16) (ix3 0 p q) = A (ix2 p (⟨18 * 128 + q.val, by omega⟩ : Fin 3072)) := by
  pointwise [k0_pay52]

/-- The stored lanes of group 17, the second chunk, at an index. -/
theorem lanes_256_17 (A : FVec Ideal S256x3072 .f32) (p : Fin 256) (q : Fin 128) :
    (k0_pay51 A : FVec Ideal S1x256x128 .bf16) (ix3 0 p q) = A (ix2 p (⟨17 * 128 + q.val, by omega⟩ : Fin 3072)) := by
  pointwise [k0_pay51]

/-- The stored lanes of group 16, the second chunk, at an index. -/
theorem lanes_256_16 (A : FVec Ideal S256x3072 .f32) (p : Fin 256) (q : Fin 128) :
    (k0_pay50 A : FVec Ideal S1x256x128 .bf16) (ix3 0 p q) = A (ix2 p (⟨16 * 128 + q.val, by omega⟩ : Fin 3072)) := by
  pointwise [k0_pay50]

/-- The stored lanes of group 15, the second chunk, at an index. -/
theorem lanes_256_15 (A : FVec Ideal S256x3072 .f32) (p : Fin 256) (q : Fin 128) :
    (k0_pay49 A : FVec Ideal S1x256x128 .bf16) (ix3 0 p q) = A (ix2 p (⟨15 * 128 + q.val, by omega⟩ : Fin 3072)) := by
  pointwise [k0_pay49]

/-- The stored lanes of group 14, the second chunk, at an index. -/
theorem lanes_256_14 (A : FVec Ideal S256x3072 .f32) (p : Fin 256) (q : Fin 128) :
    (k0_pay48 A : FVec Ideal S1x256x128 .bf16) (ix3 0 p q) = A (ix2 p (⟨14 * 128 + q.val, by omega⟩ : Fin 3072)) := by
  pointwise [k0_pay48]

/-- The stored lanes of group 13, the second chunk, at an index. -/
theorem lanes_256_13 (A : FVec Ideal S256x3072 .f32) (p : Fin 256) (q : Fin 128) :
    (k0_pay47 A : FVec Ideal S1x256x128 .bf16) (ix3 0 p q) = A (ix2 p (⟨13 * 128 + q.val, by omega⟩ : Fin 3072)) := by
  pointwise [k0_pay47]

/-- The stored lanes of group 12, the second chunk, at an index. -/
theorem lanes_256_12 (A : FVec Ideal S256x3072 .f32) (p : Fin 256) (q : Fin 128) :
    (k0_pay46 A : FVec Ideal S1x256x128 .bf16) (ix3 0 p q) = A (ix2 p (⟨12 * 128 + q.val, by omega⟩ : Fin 3072)) := by
  pointwise [k0_pay46]

/-- The stored lanes of group 11, the second chunk, at an index. -/
theorem lanes_256_11 (A : FVec Ideal S256x3072 .f32) (p : Fin 256) (q : Fin 128) :
    (k0_pay45 (k0_pay44 A) : FVec Ideal S1x256x128 .bf16) (ix3 0 p q) = A (ix2 p (⟨11 * 128 + q.val, by omega⟩ : Fin 3072)) := by
  pointwise [k0_pay45, k0_pay44]

/-- The stored lanes of group 10, the second chunk, at an index. -/
theorem lanes_256_10 (A : FVec Ideal S256x3072 .f32) (p : Fin 256) (q : Fin 128) :
    (k0_pay43 A : FVec Ideal S1x256x128 .bf16) (ix3 0 p q) = A (ix2 p (⟨10 * 128 + q.val, by omega⟩ : Fin 3072)) := by
  pointwise [k0_pay43]

/-- The stored lanes of group 9, the second chunk, at an index. -/
theorem lanes_256_9 (A : FVec Ideal S256x3072 .f32) (p : Fin 256) (q : Fin 128) :
    (k0_pay42 A : FVec Ideal S1x256x128 .bf16) (ix3 0 p q) = A (ix2 p (⟨9 * 128 + q.val, by omega⟩ : Fin 3072)) := by
  pointwise [k0_pay42]

/-- The stored lanes of group 8, the second chunk, at an index. -/
theorem lanes_256_8 (A : FVec Ideal S256x3072 .f32) (p : Fin 256) (q : Fin 128) :
    (k0_pay41 A : FVec Ideal S1x256x128 .bf16) (ix3 0 p q) = A (ix2 p (⟨8 * 128 + q.val, by omega⟩ : Fin 3072)) := by
  pointwise [k0_pay41]

/-- The stored lanes of group 7, the second chunk, at an index. -/
theorem lanes_256_7 (A : FVec Ideal S256x3072 .f32) (p : Fin 256) (q : Fin 128) :
    (k0_pay40 A : FVec Ideal S1x256x128 .bf16) (ix3 0 p q) = A (ix2 p (⟨7 * 128 + q.val, by omega⟩ : Fin 3072)) * Ideal.ofBits .f32 0x3E38AA3B#32 := by
  pointwise [k0_pay40]

/-- The stored lanes of group 6, the second chunk, at an index. -/
theorem lanes_256_6 (A : FVec Ideal S256x3072 .f32) (p : Fin 256) (q : Fin 128) :
    (k0_pay39 A : FVec Ideal S1x256x128 .bf16) (ix3 0 p q) = A (ix2 p (⟨6 * 128 + q.val, by omega⟩ : Fin 3072)) * Ideal.ofBits .f32 0x3E38AA3B#32 := by
  pointwise [k0_pay39]

/-- The stored lanes of group 5, the second chunk, at an index. -/
theorem lanes_256_5 (A : FVec Ideal S256x3072 .f32) (p : Fin 256) (q : Fin 128) :
    (k0_pay38 (k0_pay37 A) : FVec Ideal S1x256x128 .bf16) (ix3 0 p q) = A (ix2 p (⟨5 * 128 + q.val, by omega⟩ : Fin 3072)) * Ideal.ofBits .f32 0x3E38AA3B#32 := by
  pointwise [k0_pay38, k0_pay37]

/-- The stored lanes of group 4, the second chunk, at an index. -/
theorem lanes_256_4 (A : FVec Ideal S256x3072 .f32) (p : Fin 256) (q : Fin 128) :
    (k0_pay36 A : FVec Ideal S1x256x128 .bf16) (ix3 0 p q) = A (ix2 p (⟨4 * 128 + q.val, by omega⟩ : Fin 3072)) * Ideal.ofBits .f32 0x3E38AA3B#32 := by
  pointwise [k0_pay36]

/-- The stored lanes of group 3, the second chunk, at an index. -/
theorem lanes_256_3 (A : FVec Ideal S256x3072 .f32) (p : Fin 256) (q : Fin 128) :
    (k0_pay35 A : FVec Ideal S1x256x128 .bf16) (ix3 0 p q) = A (ix2 p (⟨3 * 128 + q.val, by omega⟩ : Fin 3072)) * Ideal.ofBits .f32 0x3E38AA3B#32 := by
  pointwise [k0_pay35]

/-- The stored lanes of group 2, the second chunk, at an index. -/
theorem lanes_256_2 (A : FVec Ideal S256x3072 .f32) (p : Fin 256) (q : Fin 128) :
    (k0_pay34 A : FVec Ideal S1x256x128 .bf16) (ix3 0 p q) = A (ix2 p (⟨2 * 128 + q.val, by omega⟩ : Fin 3072)) * Ideal.ofBits .f32 0x3E38AA3B#32 := by
  pointwise [k0_pay34]

/-- The stored lanes of group 1, the second chunk, at an index. -/
theorem lanes_256_1 (A : FVec Ideal S256x3072 .f32) (p : Fin 256) (q : Fin 128) :
    (k0_pay33 A : FVec Ideal S1x256x128 .bf16) (ix3 0 p q) = A (ix2 p (⟨1 * 128 + q.val, by omega⟩ : Fin 3072)) * Ideal.ofBits .f32 0x3E38AA3B#32 := by
  pointwise [k0_pay33]

/-- The stored lanes of group 0, the second chunk, at an index. -/
theorem lanes_256_0 (A : FVec Ideal S256x3072 .f32) (p : Fin 256) (q : Fin 128) :
    (k0_pay32 (truncf .bf16 (mulf (extractStridedSlice S256x128 ![0, 0] A slices_S256x3072_o0_0_S256x128) (broadcast S256x128 (Scalar.ofBits .f32 0x3E38AA3B#32))) bitsLt_bf16_f32) : FVec Ideal S1x256x128 .bf16) (ix3 0 p q) = A (ix2 p (⟨0 * 128 + q.val, by omega⟩ : Fin 3072)) * Ideal.ofBits .f32 0x3E38AA3B#32 := by
  pointwise [k0_pay32]

/-- The stored lanes of group 23, the first chunk, at an index. -/
theorem lanes_0_23 (A : FVec Ideal S256x3072 .f32) (p : Fin 256) (q : Fin 128) :
    (k0_pay29 A : FVec Ideal S1x256x128 .bf16) (ix3 0 p q) = A (ix2 p (⟨23 * 128 + q.val, by omega⟩ : Fin 3072)) := by
  pointwise [k0_pay29]

/-- The stored lanes of group 22, the first chunk, at an index. -/
theorem lanes_0_22 (A : FVec Ideal S256x3072 .f32) (p : Fin 256) (q : Fin 128) :
    (k0_pay28 A : FVec Ideal S1x256x128 .bf16) (ix3 0 p q) = A (ix2 p (⟨22 * 128 + q.val, by omega⟩ : Fin 3072)) := by
  pointwise [k0_pay28]

/-- The stored lanes of group 21, the first chunk, at an index. -/
theorem lanes_0_21 (A : FVec Ideal S256x3072 .f32) (p : Fin 256) (q : Fin 128) :
    (k0_pay27 A : FVec Ideal S1x256x128 .bf16) (ix3 0 p q) = A (ix2 p (⟨21 * 128 + q.val, by omega⟩ : Fin 3072)) := by
  pointwise [k0_pay27]

/-- The stored lanes of group 20, the first chunk, at an index. -/
theorem lanes_0_20 (A : FVec Ideal S256x3072 .f32) (p : Fin 256) (q : Fin 128) :
    (k0_pay26 A : FVec Ideal S1x256x128 .bf16) (ix3 0 p q) = A (ix2 p (⟨20 * 128 + q.val, by omega⟩ : Fin 3072)) := by
  pointwise [k0_pay26]

/-- The stored lanes of group 19, the first chunk, at an index. -/
theorem lanes_0_19 (A : FVec Ideal S256x3072 .f32) (p : Fin 256) (q : Fin 128) :
    (k0_pay25 A : FVec Ideal S1x256x128 .bf16) (ix3 0 p q) = A (ix2 p (⟨19 * 128 + q.val, by omega⟩ : Fin 3072)) := by
  pointwise [k0_pay25]

/-- The stored lanes of group 18, the first chunk, at an index. -/
theorem lanes_0_18 (A : FVec Ideal S256x3072 .f32) (p : Fin 256) (q : Fin 128) :
    (k0_pay24 A : FVec Ideal S1x256x128 .bf16) (ix3 0 p q) = A (ix2 p (⟨18 * 128 + q.val, by omega⟩ : Fin 3072)) := by
  pointwise [k0_pay24]

/-- The stored lanes of group 17, the first chunk, at an index. -/
theorem lanes_0_17 (A : FVec Ideal S256x3072 .f32) (p : Fin 256) (q : Fin 128) :
    (k0_pay23 (k0_pay22 A) : FVec Ideal S1x256x128 .bf16) (ix3 0 p q) = A (ix2 p (⟨17 * 128 + q.val, by omega⟩ : Fin 3072)) := by
  pointwise [k0_pay23, k0_pay22]

/-- The stored lanes of group 16, the first chunk, at an index. -/
theorem lanes_0_16 (A : FVec Ideal S256x3072 .f32) (p : Fin 256) (q : Fin 128) :
    (k0_pay21 A : FVec Ideal S1x256x128 .bf16) (ix3 0 p q) = A (ix2 p (⟨16 * 128 + q.val, by omega⟩ : Fin 3072)) := by
  pointwise [k0_pay21]

/-- The stored lanes of group 15, the first chunk, at an index. -/
theorem lanes_0_15 (A : FVec Ideal S256x3072 .f32) (p : Fin 256) (q : Fin 128) :
    (k0_pay20 A : FVec Ideal S1x256x128 .bf16) (ix3 0 p q) = A (ix2 p (⟨15 * 128 + q.val, by omega⟩ : Fin 3072)) := by
  pointwise [k0_pay20]

/-- The stored lanes of group 14, the first chunk, at an index. -/
theorem lanes_0_14 (A : FVec Ideal S256x3072 .f32) (p : Fin 256) (q : Fin 128) :
    (k0_pay19 A : FVec Ideal S1x256x128 .bf16) (ix3 0 p q) = A (ix2 p (⟨14 * 128 + q.val, by omega⟩ : Fin 3072)) := by
  pointwise [k0_pay19]

/-- The stored lanes of group 13, the first chunk, at an index. -/
theorem lanes_0_13 (A : FVec Ideal S256x3072 .f32) (p : Fin 256) (q : Fin 128) :
    (k0_pay18 A : FVec Ideal S1x256x128 .bf16) (ix3 0 p q) = A (ix2 p (⟨13 * 128 + q.val, by omega⟩ : Fin 3072)) := by
  pointwise [k0_pay18]

/-- The stored lanes of group 12, the first chunk, at an index. -/
theorem lanes_0_12 (A : FVec Ideal S256x3072 .f32) (p : Fin 256) (q : Fin 128) :
    (k0_pay17 A : FVec Ideal S1x256x128 .bf16) (ix3 0 p q) = A (ix2 p (⟨12 * 128 + q.val, by omega⟩ : Fin 3072)) := by
  pointwise [k0_pay17]

/-- The stored lanes of group 11, the first chunk, at an index. -/
theorem lanes_0_11 (A : FVec Ideal S256x3072 .f32) (p : Fin 256) (q : Fin 128) :
    (k0_pay16 A : FVec Ideal S1x256x128 .bf16) (ix3 0 p q) = A (ix2 p (⟨11 * 128 + q.val, by omega⟩ : Fin 3072)) := by
  pointwise [k0_pay16]

/-- The stored lanes of group 10, the first chunk, at an index. -/
theorem lanes_0_10 (A : FVec Ideal S256x3072 .f32) (p : Fin 256) (q : Fin 128) :
    (k0_pay15 A : FVec Ideal S1x256x128 .bf16) (ix3 0 p q) = A (ix2 p (⟨10 * 128 + q.val, by omega⟩ : Fin 3072)) := by
  pointwise [k0_pay15]

/-- The stored lanes of group 9, the first chunk, at an index. -/
theorem lanes_0_9 (A : FVec Ideal S256x3072 .f32) (p : Fin 256) (q : Fin 128) :
    (k0_pay14 A : FVec Ideal S1x256x128 .bf16) (ix3 0 p q) = A (ix2 p (⟨9 * 128 + q.val, by omega⟩ : Fin 3072)) := by
  pointwise [k0_pay14]

/-- The stored lanes of group 8, the first chunk, at an index. -/
theorem lanes_0_8 (A : FVec Ideal S256x3072 .f32) (p : Fin 256) (q : Fin 128) :
    (k0_pay13 A : FVec Ideal S1x256x128 .bf16) (ix3 0 p q) = A (ix2 p (⟨8 * 128 + q.val, by omega⟩ : Fin 3072)) := by
  pointwise [k0_pay13]

/-- The stored lanes of group 7, the first chunk, at an index. -/
theorem lanes_0_7 (A : FVec Ideal S256x3072 .f32) (p : Fin 256) (q : Fin 128) :
    (k0_pay12 A : FVec Ideal S1x256x128 .bf16) (ix3 0 p q) = A (ix2 p (⟨7 * 128 + q.val, by omega⟩ : Fin 3072)) * Ideal.ofBits .f32 0x3E38AA3B#32 := by
  pointwise [k0_pay12]

/-- The stored lanes of group 6, the first chunk, at an index. -/
theorem lanes_0_6 (A : FVec Ideal S256x3072 .f32) (p : Fin 256) (q : Fin 128) :
    (k0_pay11 A : FVec Ideal S1x256x128 .bf16) (ix3 0 p q) = A (ix2 p (⟨6 * 128 + q.val, by omega⟩ : Fin 3072)) * Ideal.ofBits .f32 0x3E38AA3B#32 := by
  pointwise [k0_pay11]

/-- The stored lanes of group 5, the first chunk, at an index. -/
theorem lanes_0_5 (A : FVec Ideal S256x3072 .f32) (p : Fin 256) (q : Fin 128) :
    (k0_pay10 (k0_pay9 A) (Scalar.ofBits .f32 0x3E38AA3B#32) : FVec Ideal S1x256x128 .bf16) (ix3 0 p q) = A (ix2 p (⟨5 * 128 + q.val, by omega⟩ : Fin 3072)) * Ideal.ofBits .f32 0x3E38AA3B#32 := by
  pointwise [k0_pay10, k0_pay9]

/-- The stored lanes of group 4, the first chunk, at an index. -/
theorem lanes_0_4 (A : FVec Ideal S256x3072 .f32) (p : Fin 256) (q : Fin 128) :
    (k0_pay8 A : FVec Ideal S1x256x128 .bf16) (ix3 0 p q) = A (ix2 p (⟨4 * 128 + q.val, by omega⟩ : Fin 3072)) * Ideal.ofBits .f32 0x3E38AA3B#32 := by
  pointwise [k0_pay8]

/-- The stored lanes of group 3, the first chunk, at an index. -/
theorem lanes_0_3 (A : FVec Ideal S256x3072 .f32) (p : Fin 256) (q : Fin 128) :
    (k0_pay7 A : FVec Ideal S1x256x128 .bf16) (ix3 0 p q) = A (ix2 p (⟨3 * 128 + q.val, by omega⟩ : Fin 3072)) * Ideal.ofBits .f32 0x3E38AA3B#32 := by
  pointwise [k0_pay7]

/-- The stored lanes of group 2, the first chunk, at an index. -/
theorem lanes_0_2 (A : FVec Ideal S256x3072 .f32) (p : Fin 256) (q : Fin 128) :
    (k0_pay6 A : FVec Ideal S1x256x128 .bf16) (ix3 0 p q) = A (ix2 p (⟨2 * 128 + q.val, by omega⟩ : Fin 3072)) * Ideal.ofBits .f32 0x3E38AA3B#32 := by
  pointwise [k0_pay6]

/-- The stored lanes of group 1, the first chunk, at an index. -/
theorem lanes_0_1 (A : FVec Ideal S256x3072 .f32) (p : Fin 256) (q : Fin 128) :
    (k0_pay5 A : FVec Ideal S1x256x128 .bf16) (ix3 0 p q) = A (ix2 p (⟨1 * 128 + q.val, by omega⟩ : Fin 3072)) * Ideal.ofBits .f32 0x3E38AA3B#32 := by
  pointwise [k0_pay5]

/-- The stored lanes of group 0, the first chunk, at an index. -/
theorem lanes_0_0 (A : FVec Ideal S256x3072 .f32) (p : Fin 256) (q : Fin 128) :
    (k0_pay4 (extractStridedSlice S256x128 ![0, 0] A slices_S256x3072_o0_0_S256x128) (Scalar.ofBits .f32 0x3E38AA3B#32) : FVec Ideal S1x256x128 .bf16) (ix3 0 p q) = A (ix2 p (⟨0 * 128 + q.val, by omega⟩ : Fin 3072)) * Ideal.ofBits .f32 0x3E38AA3B#32 := by
  pointwise [k0_pay4]

/-- The result's block, by lane group, row in the block and lane. -/
theorem block_at (i : grid0.Coords) (b : BitVec 1) (hb : Scalar.cmpi .slt (BitVec.ofNat 32 (i 0).val) 32#32 = b) (x0 x1 : Vec Ideal S1024x1024 .f32) (x2 : Vec Ideal S1x1x6x1024 .f32) (x3 : Vec Ideal S1x1x1024 .f32) (x4 : Vec Ideal S1024x3072 .bf16)
    (j : Fin 24) (r : Fin 1024) (l : Fin 128) :
    out0_5 i x0 x1 x2 x3 x4 (ix3 j r l)
      = group (tile b x0 x1 x2 x3 x4 r) j l := by
  unfold out0_5
  refine View.canon_apply_of_pieces (Val := Elt Ideal) (e := .bf16) (fun y : S24x1024x128.Idx => group (tile b x0 x1 x2 x3 x4 (y 1)) (y 0) (y 2)) _ ?_ (ix3 j r l) (cover0_5 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (ix3 j r l))
  dsimp only
  refine List.forall_mem_cons.2 ⟨fun x => plain_piece 23 768 (by omega) (by omega) (by omega) _ (tile b x0 x1 x2 x3 x4) (fourth_acc i b hb x0 x1 x2 x3 x4) _ (lanes_768_23 (k0_pay118 i x0 x1 x2 x3 x4)) inb_S24x1024x128_S1x256x128_23_768_0 x, ?_⟩
  refine List.forall_mem_cons.2 ⟨fun x => plain_piece 22 768 (by omega) (by omega) (by omega) _ (tile b x0 x1 x2 x3 x4) (fourth_acc i b hb x0 x1 x2 x3 x4) _ (lanes_768_22 (k0_pay118 i x0 x1 x2 x3 x4)) inb_S24x1024x128_S1x256x128_22_768_0 x, ?_⟩
  refine List.forall_mem_cons.2 ⟨fun x => plain_piece 21 768 (by omega) (by omega) (by omega) _ (tile b x0 x1 x2 x3 x4) (fourth_acc i b hb x0 x1 x2 x3 x4) _ (lanes_768_21 (k0_pay118 i x0 x1 x2 x3 x4)) inb_S24x1024x128_S1x256x128_21_768_0 x, ?_⟩
  refine List.forall_mem_cons.2 ⟨fun x => plain_piece 20 768 (by omega) (by omega) (by omega) _ (tile b x0 x1 x2 x3 x4) (fourth_acc i b hb x0 x1 x2 x3 x4) _ (lanes_768_20 (k0_pay118 i x0 x1 x2 x3 x4)) inb_S24x1024x128_S1x256x128_20_768_0 x, ?_⟩
  refine List.forall_mem_cons.2 ⟨fun x => plain_piece 19 768 (by omega) (by omega) (by omega) _ (tile b x0 x1 x2 x3 x4) (fourth_acc i b hb x0 x1 x2 x3 x4) _ (lanes_768_19 (k0_pay118 i x0 x1 x2 x3 x4)) inb_S24x1024x128_S1x256x128_19_768_0 x, ?_⟩
  refine List.forall_mem_cons.2 ⟨fun x => plain_piece 18 768 (by omega) (by omega) (by omega) _ (tile b x0 x1 x2 x3 x4) (fourth_acc i b hb x0 x1 x2 x3 x4) _ (lanes_768_18 (k0_pay118 i x0 x1 x2 x3 x4)) inb_S24x1024x128_S1x256x128_18_768_0 x, ?_⟩
  refine List.forall_mem_cons.2 ⟨fun x => plain_piece 17 768 (by omega) (by omega) (by omega) _ (tile b x0 x1 x2 x3 x4) (fourth_acc i b hb x0 x1 x2 x3 x4) _ (lanes_768_17 (k0_pay118 i x0 x1 x2 x3 x4)) inb_S24x1024x128_S1x256x128_17_768_0 x, ?_⟩
  refine List.forall_mem_cons.2 ⟨fun x => plain_piece 16 768 (by omega) (by omega) (by omega) _ (tile b x0 x1 x2 x3 x4) (fourth_acc i b hb x0 x1 x2 x3 x4) _ (lanes_768_16 (k0_pay118 i x0 x1 x2 x3 x4)) inb_S24x1024x128_S1x256x128_16_768_0 x, ?_⟩
  refine List.forall_mem_cons.2 ⟨fun x => plain_piece 15 768 (by omega) (by omega) (by omega) _ (tile b x0 x1 x2 x3 x4) (fourth_acc i b hb x0 x1 x2 x3 x4) _ (lanes_768_15 (k0_pay118 i x0 x1 x2 x3 x4)) inb_S24x1024x128_S1x256x128_15_768_0 x, ?_⟩
  refine List.forall_mem_cons.2 ⟨fun x => plain_piece 14 768 (by omega) (by omega) (by omega) _ (tile b x0 x1 x2 x3 x4) (fourth_acc i b hb x0 x1 x2 x3 x4) _ (lanes_768_14 (k0_pay118 i x0 x1 x2 x3 x4)) inb_S24x1024x128_S1x256x128_14_768_0 x, ?_⟩
  refine List.forall_mem_cons.2 ⟨fun x => plain_piece 13 768 (by omega) (by omega) (by omega) _ (tile b x0 x1 x2 x3 x4) (fourth_acc i b hb x0 x1 x2 x3 x4) _ (lanes_768_13 (k0_pay118 i x0 x1 x2 x3 x4)) inb_S24x1024x128_S1x256x128_13_768_0 x, ?_⟩
  refine List.forall_mem_cons.2 ⟨fun x => plain_piece 12 768 (by omega) (by omega) (by omega) _ (tile b x0 x1 x2 x3 x4) (fourth_acc i b hb x0 x1 x2 x3 x4) _ (lanes_768_12 (k0_pay118 i x0 x1 x2 x3 x4)) inb_S24x1024x128_S1x256x128_12_768_0 x, ?_⟩
  refine List.forall_mem_cons.2 ⟨fun x => plain_piece 11 768 (by omega) (by omega) (by omega) _ (tile b x0 x1 x2 x3 x4) (fourth_acc i b hb x0 x1 x2 x3 x4) _ (lanes_768_11 (k0_pay118 i x0 x1 x2 x3 x4)) inb_S24x1024x128_S1x256x128_11_768_0 x, ?_⟩
  refine List.forall_mem_cons.2 ⟨fun x => plain_piece 10 768 (by omega) (by omega) (by omega) _ (tile b x0 x1 x2 x3 x4) (fourth_acc i b hb x0 x1 x2 x3 x4) _ (lanes_768_10 (k0_pay118 i x0 x1 x2 x3 x4)) inb_S24x1024x128_S1x256x128_10_768_0 x, ?_⟩
  refine List.forall_mem_cons.2 ⟨fun x => plain_piece 9 768 (by omega) (by omega) (by omega) _ (tile b x0 x1 x2 x3 x4) (fourth_acc i b hb x0 x1 x2 x3 x4) _ (lanes_768_9 (k0_pay118 i x0 x1 x2 x3 x4)) inb_S24x1024x128_S1x256x128_9_768_0 x, ?_⟩
  refine List.forall_mem_cons.2 ⟨fun x => plain_piece 8 768 (by omega) (by omega) (by omega) _ (tile b x0 x1 x2 x3 x4) (fourth_acc i b hb x0 x1 x2 x3 x4) _ (lanes_768_8 (k0_pay118 i x0 x1 x2 x3 x4)) inb_S24x1024x128_S1x256x128_8_768_0 x, ?_⟩
  refine List.forall_mem_cons.2 ⟨fun x => query_piece 7 768 (by omega) (by omega) _ (tile b x0 x1 x2 x3 x4) (fourth_acc i b hb x0 x1 x2 x3 x4) _ (lanes_768_7 (k0_pay118 i x0 x1 x2 x3 x4)) inb_S24x1024x128_S1x256x128_7_768_0 x, ?_⟩
  refine List.forall_mem_cons.2 ⟨fun x => query_piece 6 768 (by omega) (by omega) _ (tile b x0 x1 x2 x3 x4) (fourth_acc i b hb x0 x1 x2 x3 x4) _ (lanes_768_6 (k0_pay118 i x0 x1 x2 x3 x4)) inb_S24x1024x128_S1x256x128_6_768_0 x, ?_⟩
  refine List.forall_mem_cons.2 ⟨fun x => query_piece 5 768 (by omega) (by omega) _ (tile b x0 x1 x2 x3 x4) (fourth_acc i b hb x0 x1 x2 x3 x4) _ (lanes_768_5 (k0_pay118 i x0 x1 x2 x3 x4)) inb_S24x1024x128_S1x256x128_5_768_0 x, ?_⟩
  refine List.forall_mem_cons.2 ⟨fun x => query_piece 4 768 (by omega) (by omega) _ (tile b x0 x1 x2 x3 x4) (fourth_acc i b hb x0 x1 x2 x3 x4) _ (lanes_768_4 (k0_pay118 i x0 x1 x2 x3 x4)) inb_S24x1024x128_S1x256x128_4_768_0 x, ?_⟩
  refine List.forall_mem_cons.2 ⟨fun x => query_piece 3 768 (by omega) (by omega) _ (tile b x0 x1 x2 x3 x4) (fourth_acc i b hb x0 x1 x2 x3 x4) _ (lanes_768_3 (k0_pay118 i x0 x1 x2 x3 x4)) inb_S24x1024x128_S1x256x128_3_768_0 x, ?_⟩
  refine List.forall_mem_cons.2 ⟨fun x => query_piece 2 768 (by omega) (by omega) _ (tile b x0 x1 x2 x3 x4) (fourth_acc i b hb x0 x1 x2 x3 x4) _ (lanes_768_2 (k0_pay118 i x0 x1 x2 x3 x4)) inb_S24x1024x128_S1x256x128_2_768_0 x, ?_⟩
  refine List.forall_mem_cons.2 ⟨fun x => query_piece 1 768 (by omega) (by omega) _ (tile b x0 x1 x2 x3 x4) (fourth_acc i b hb x0 x1 x2 x3 x4) _ (lanes_768_1 (k0_pay118 i x0 x1 x2 x3 x4)) inb_S24x1024x128_S1x256x128_1_768_0 x, ?_⟩
  refine List.forall_mem_cons.2 ⟨fun x => query_piece 0 768 (by omega) (by omega) _ (tile b x0 x1 x2 x3 x4) (fourth_acc i b hb x0 x1 x2 x3 x4) _ (lanes_768_0 (k0_pay118 i x0 x1 x2 x3 x4)) inb_S24x1024x128_S1x256x128_0_768_0 x, ?_⟩
  refine List.forall_mem_cons.2 ⟨fun x => plain_piece 23 512 (by omega) (by omega) (by omega) _ (tile b x0 x1 x2 x3 x4) (third_acc i b hb x0 x1 x2 x3 x4) _ (lanes_512_23 (k0_pay116 i x0 x1 x2 x3 x4)) inb_S24x1024x128_S1x256x128_23_512_0 x, ?_⟩
  refine List.forall_mem_cons.2 ⟨fun x => plain_piece 22 512 (by omega) (by omega) (by omega) _ (tile b x0 x1 x2 x3 x4) (third_acc i b hb x0 x1 x2 x3 x4) _ (lanes_512_22 (k0_pay116 i x0 x1 x2 x3 x4)) inb_S24x1024x128_S1x256x128_22_512_0 x, ?_⟩
  refine List.forall_mem_cons.2 ⟨fun x => plain_piece 21 512 (by omega) (by omega) (by omega) _ (tile b x0 x1 x2 x3 x4) (third_acc i b hb x0 x1 x2 x3 x4) _ (lanes_512_21 (k0_pay116 i x0 x1 x2 x3 x4)) inb_S24x1024x128_S1x256x128_21_512_0 x, ?_⟩
  refine List.forall_mem_cons.2 ⟨fun x => plain_piece 20 512 (by omega) (by omega) (by omega) _ (tile b x0 x1 x2 x3 x4) (third_acc i b hb x0 x1 x2 x3 x4) _ (lanes_512_20 (k0_pay116 i x0 x1 x2 x3 x4)) inb_S24x1024x128_S1x256x128_20_512_0 x, ?_⟩
  refine List.forall_mem_cons.2 ⟨fun x => plain_piece 19 512 (by omega) (by omega) (by omega) _ (tile b x0 x1 x2 x3 x4) (third_acc i b hb x0 x1 x2 x3 x4) _ (lanes_512_19 (k0_pay116 i x0 x1 x2 x3 x4)) inb_S24x1024x128_S1x256x128_19_512_0 x, ?_⟩
  refine List.forall_mem_cons.2 ⟨fun x => plain_piece 18 512 (by omega) (by omega) (by omega) _ (tile b x0 x1 x2 x3 x4) (third_acc i b hb x0 x1 x2 x3 x4) _ (lanes_512_18 (k0_pay116 i x0 x1 x2 x3 x4)) inb_S24x1024x128_S1x256x128_18_512_0 x, ?_⟩
  refine List.forall_mem_cons.2 ⟨fun x => plain_piece 17 512 (by omega) (by omega) (by omega) _ (tile b x0 x1 x2 x3 x4) (third_acc i b hb x0 x1 x2 x3 x4) _ (lanes_512_17 (k0_pay116 i x0 x1 x2 x3 x4)) inb_S24x1024x128_S1x256x128_17_512_0 x, ?_⟩
  refine List.forall_mem_cons.2 ⟨fun x => plain_piece 16 512 (by omega) (by omega) (by omega) _ (tile b x0 x1 x2 x3 x4) (third_acc i b hb x0 x1 x2 x3 x4) _ (lanes_512_16 (k0_pay116 i x0 x1 x2 x3 x4)) inb_S24x1024x128_S1x256x128_16_512_0 x, ?_⟩
  refine List.forall_mem_cons.2 ⟨fun x => plain_piece 15 512 (by omega) (by omega) (by omega) _ (tile b x0 x1 x2 x3 x4) (third_acc i b hb x0 x1 x2 x3 x4) _ (lanes_512_15 (k0_pay116 i x0 x1 x2 x3 x4)) inb_S24x1024x128_S1x256x128_15_512_0 x, ?_⟩
  refine List.forall_mem_cons.2 ⟨fun x => plain_piece 14 512 (by omega) (by omega) (by omega) _ (tile b x0 x1 x2 x3 x4) (third_acc i b hb x0 x1 x2 x3 x4) _ (lanes_512_14 (k0_pay116 i x0 x1 x2 x3 x4)) inb_S24x1024x128_S1x256x128_14_512_0 x, ?_⟩
  refine List.forall_mem_cons.2 ⟨fun x => plain_piece 13 512 (by omega) (by omega) (by omega) _ (tile b x0 x1 x2 x3 x4) (third_acc i b hb x0 x1 x2 x3 x4) _ (lanes_512_13 (k0_pay116 i x0 x1 x2 x3 x4)) inb_S24x1024x128_S1x256x128_13_512_0 x, ?_⟩
  refine List.forall_mem_cons.2 ⟨fun x => plain_piece 12 512 (by omega) (by omega) (by omega) _ (tile b x0 x1 x2 x3 x4) (third_acc i b hb x0 x1 x2 x3 x4) _ (lanes_512_12 (k0_pay116 i x0 x1 x2 x3 x4)) inb_S24x1024x128_S1x256x128_12_512_0 x, ?_⟩
  refine List.forall_mem_cons.2 ⟨fun x => plain_piece 11 512 (by omega) (by omega) (by omega) _ (tile b x0 x1 x2 x3 x4) (third_acc i b hb x0 x1 x2 x3 x4) _ (lanes_512_11 (k0_pay116 i x0 x1 x2 x3 x4)) inb_S24x1024x128_S1x256x128_11_512_0 x, ?_⟩
  refine List.forall_mem_cons.2 ⟨fun x => plain_piece 10 512 (by omega) (by omega) (by omega) _ (tile b x0 x1 x2 x3 x4) (third_acc i b hb x0 x1 x2 x3 x4) _ (lanes_512_10 (k0_pay116 i x0 x1 x2 x3 x4)) inb_S24x1024x128_S1x256x128_10_512_0 x, ?_⟩
  refine List.forall_mem_cons.2 ⟨fun x => plain_piece 9 512 (by omega) (by omega) (by omega) _ (tile b x0 x1 x2 x3 x4) (third_acc i b hb x0 x1 x2 x3 x4) _ (lanes_512_9 (k0_pay116 i x0 x1 x2 x3 x4)) inb_S24x1024x128_S1x256x128_9_512_0 x, ?_⟩
  refine List.forall_mem_cons.2 ⟨fun x => plain_piece 8 512 (by omega) (by omega) (by omega) _ (tile b x0 x1 x2 x3 x4) (third_acc i b hb x0 x1 x2 x3 x4) _ (lanes_512_8 (k0_pay116 i x0 x1 x2 x3 x4)) inb_S24x1024x128_S1x256x128_8_512_0 x, ?_⟩
  refine List.forall_mem_cons.2 ⟨fun x => query_piece 7 512 (by omega) (by omega) _ (tile b x0 x1 x2 x3 x4) (third_acc i b hb x0 x1 x2 x3 x4) _ (lanes_512_7 (k0_pay116 i x0 x1 x2 x3 x4)) inb_S24x1024x128_S1x256x128_7_512_0 x, ?_⟩
  refine List.forall_mem_cons.2 ⟨fun x => query_piece 6 512 (by omega) (by omega) _ (tile b x0 x1 x2 x3 x4) (third_acc i b hb x0 x1 x2 x3 x4) _ (lanes_512_6 (k0_pay116 i x0 x1 x2 x3 x4)) inb_S24x1024x128_S1x256x128_6_512_0 x, ?_⟩
  refine List.forall_mem_cons.2 ⟨fun x => query_piece 5 512 (by omega) (by omega) _ (tile b x0 x1 x2 x3 x4) (third_acc i b hb x0 x1 x2 x3 x4) _ (lanes_512_5 (k0_pay116 i x0 x1 x2 x3 x4)) inb_S24x1024x128_S1x256x128_5_512_0 x, ?_⟩
  refine List.forall_mem_cons.2 ⟨fun x => query_piece 4 512 (by omega) (by omega) _ (tile b x0 x1 x2 x3 x4) (third_acc i b hb x0 x1 x2 x3 x4) _ (lanes_512_4 (k0_pay116 i x0 x1 x2 x3 x4)) inb_S24x1024x128_S1x256x128_4_512_0 x, ?_⟩
  refine List.forall_mem_cons.2 ⟨fun x => query_piece 3 512 (by omega) (by omega) _ (tile b x0 x1 x2 x3 x4) (third_acc i b hb x0 x1 x2 x3 x4) _ (lanes_512_3 (k0_pay116 i x0 x1 x2 x3 x4)) inb_S24x1024x128_S1x256x128_3_512_0 x, ?_⟩
  refine List.forall_mem_cons.2 ⟨fun x => query_piece 2 512 (by omega) (by omega) _ (tile b x0 x1 x2 x3 x4) (third_acc i b hb x0 x1 x2 x3 x4) _ (lanes_512_2 (k0_pay116 i x0 x1 x2 x3 x4)) inb_S24x1024x128_S1x256x128_2_512_0 x, ?_⟩
  refine List.forall_mem_cons.2 ⟨fun x => query_piece 1 512 (by omega) (by omega) _ (tile b x0 x1 x2 x3 x4) (third_acc i b hb x0 x1 x2 x3 x4) _ (lanes_512_1 (k0_pay116 i x0 x1 x2 x3 x4)) inb_S24x1024x128_S1x256x128_1_512_0 x, ?_⟩
  refine List.forall_mem_cons.2 ⟨fun x => query_piece 0 512 (by omega) (by omega) _ (tile b x0 x1 x2 x3 x4) (third_acc i b hb x0 x1 x2 x3 x4) _ (lanes_512_0 (k0_pay116 i x0 x1 x2 x3 x4)) inb_S24x1024x128_S1x256x128_0_512_0 x, ?_⟩
  refine List.forall_mem_cons.2 ⟨fun x => plain_piece 23 256 (by omega) (by omega) (by omega) _ (tile b x0 x1 x2 x3 x4) (second_acc i b hb x0 x1 x2 x3 x4) _ (lanes_256_23 (k0_pay115 i x0 x1 x2 x3 x4)) inb_S24x1024x128_S1x256x128_23_256_0 x, ?_⟩
  refine List.forall_mem_cons.2 ⟨fun x => plain_piece 22 256 (by omega) (by omega) (by omega) _ (tile b x0 x1 x2 x3 x4) (second_acc i b hb x0 x1 x2 x3 x4) _ (lanes_256_22 (k0_pay115 i x0 x1 x2 x3 x4)) inb_S24x1024x128_S1x256x128_22_256_0 x, ?_⟩
  refine List.forall_mem_cons.2 ⟨fun x => plain_piece 21 256 (by omega) (by omega) (by omega) _ (tile b x0 x1 x2 x3 x4) (second_acc i b hb x0 x1 x2 x3 x4) _ (lanes_256_21 (k0_pay115 i x0 x1 x2 x3 x4)) inb_S24x1024x128_S1x256x128_21_256_0 x, ?_⟩
  refine List.forall_mem_cons.2 ⟨fun x => plain_piece 20 256 (by omega) (by omega) (by omega) _ (tile b x0 x1 x2 x3 x4) (second_acc i b hb x0 x1 x2 x3 x4) _ (lanes_256_20 (k0_pay115 i x0 x1 x2 x3 x4)) inb_S24x1024x128_S1x256x128_20_256_0 x, ?_⟩
  refine List.forall_mem_cons.2 ⟨fun x => plain_piece 19 256 (by omega) (by omega) (by omega) _ (tile b x0 x1 x2 x3 x4) (second_acc i b hb x0 x1 x2 x3 x4) _ (lanes_256_19 (k0_pay115 i x0 x1 x2 x3 x4)) inb_S24x1024x128_S1x256x128_19_256_0 x, ?_⟩
  refine List.forall_mem_cons.2 ⟨fun x => plain_piece 18 256 (by omega) (by omega) (by omega) _ (tile b x0 x1 x2 x3 x4) (second_acc i b hb x0 x1 x2 x3 x4) _ (lanes_256_18 (k0_pay115 i x0 x1 x2 x3 x4)) inb_S24x1024x128_S1x256x128_18_256_0 x, ?_⟩
  refine List.forall_mem_cons.2 ⟨fun x => plain_piece 17 256 (by omega) (by omega) (by omega) _ (tile b x0 x1 x2 x3 x4) (second_acc i b hb x0 x1 x2 x3 x4) _ (lanes_256_17 (k0_pay115 i x0 x1 x2 x3 x4)) inb_S24x1024x128_S1x256x128_17_256_0 x, ?_⟩
  refine List.forall_mem_cons.2 ⟨fun x => plain_piece 16 256 (by omega) (by omega) (by omega) _ (tile b x0 x1 x2 x3 x4) (second_acc i b hb x0 x1 x2 x3 x4) _ (lanes_256_16 (k0_pay115 i x0 x1 x2 x3 x4)) inb_S24x1024x128_S1x256x128_16_256_0 x, ?_⟩
  refine List.forall_mem_cons.2 ⟨fun x => plain_piece 15 256 (by omega) (by omega) (by omega) _ (tile b x0 x1 x2 x3 x4) (second_acc i b hb x0 x1 x2 x3 x4) _ (lanes_256_15 (k0_pay115 i x0 x1 x2 x3 x4)) inb_S24x1024x128_S1x256x128_15_256_0 x, ?_⟩
  refine List.forall_mem_cons.2 ⟨fun x => plain_piece 14 256 (by omega) (by omega) (by omega) _ (tile b x0 x1 x2 x3 x4) (second_acc i b hb x0 x1 x2 x3 x4) _ (lanes_256_14 (k0_pay115 i x0 x1 x2 x3 x4)) inb_S24x1024x128_S1x256x128_14_256_0 x, ?_⟩
  refine List.forall_mem_cons.2 ⟨fun x => plain_piece 13 256 (by omega) (by omega) (by omega) _ (tile b x0 x1 x2 x3 x4) (second_acc i b hb x0 x1 x2 x3 x4) _ (lanes_256_13 (k0_pay115 i x0 x1 x2 x3 x4)) inb_S24x1024x128_S1x256x128_13_256_0 x, ?_⟩
  refine List.forall_mem_cons.2 ⟨fun x => plain_piece 12 256 (by omega) (by omega) (by omega) _ (tile b x0 x1 x2 x3 x4) (second_acc i b hb x0 x1 x2 x3 x4) _ (lanes_256_12 (k0_pay115 i x0 x1 x2 x3 x4)) inb_S24x1024x128_S1x256x128_12_256_0 x, ?_⟩
  refine List.forall_mem_cons.2 ⟨fun x => plain_piece 11 256 (by omega) (by omega) (by omega) _ (tile b x0 x1 x2 x3 x4) (second_acc i b hb x0 x1 x2 x3 x4) _ (lanes_256_11 (k0_pay115 i x0 x1 x2 x3 x4)) inb_S24x1024x128_S1x256x128_11_256_0 x, ?_⟩
  refine List.forall_mem_cons.2 ⟨fun x => plain_piece 10 256 (by omega) (by omega) (by omega) _ (tile b x0 x1 x2 x3 x4) (second_acc i b hb x0 x1 x2 x3 x4) _ (lanes_256_10 (k0_pay115 i x0 x1 x2 x3 x4)) inb_S24x1024x128_S1x256x128_10_256_0 x, ?_⟩
  refine List.forall_mem_cons.2 ⟨fun x => plain_piece 9 256 (by omega) (by omega) (by omega) _ (tile b x0 x1 x2 x3 x4) (second_acc i b hb x0 x1 x2 x3 x4) _ (lanes_256_9 (k0_pay115 i x0 x1 x2 x3 x4)) inb_S24x1024x128_S1x256x128_9_256_0 x, ?_⟩
  refine List.forall_mem_cons.2 ⟨fun x => plain_piece 8 256 (by omega) (by omega) (by omega) _ (tile b x0 x1 x2 x3 x4) (second_acc i b hb x0 x1 x2 x3 x4) _ (lanes_256_8 (k0_pay115 i x0 x1 x2 x3 x4)) inb_S24x1024x128_S1x256x128_8_256_0 x, ?_⟩
  refine List.forall_mem_cons.2 ⟨fun x => query_piece 7 256 (by omega) (by omega) _ (tile b x0 x1 x2 x3 x4) (second_acc i b hb x0 x1 x2 x3 x4) _ (lanes_256_7 (k0_pay115 i x0 x1 x2 x3 x4)) inb_S24x1024x128_S1x256x128_7_256_0 x, ?_⟩
  refine List.forall_mem_cons.2 ⟨fun x => query_piece 6 256 (by omega) (by omega) _ (tile b x0 x1 x2 x3 x4) (second_acc i b hb x0 x1 x2 x3 x4) _ (lanes_256_6 (k0_pay115 i x0 x1 x2 x3 x4)) inb_S24x1024x128_S1x256x128_6_256_0 x, ?_⟩
  refine List.forall_mem_cons.2 ⟨fun x => query_piece 5 256 (by omega) (by omega) _ (tile b x0 x1 x2 x3 x4) (second_acc i b hb x0 x1 x2 x3 x4) _ (lanes_256_5 (k0_pay115 i x0 x1 x2 x3 x4)) inb_S24x1024x128_S1x256x128_5_256_0 x, ?_⟩
  refine List.forall_mem_cons.2 ⟨fun x => query_piece 4 256 (by omega) (by omega) _ (tile b x0 x1 x2 x3 x4) (second_acc i b hb x0 x1 x2 x3 x4) _ (lanes_256_4 (k0_pay115 i x0 x1 x2 x3 x4)) inb_S24x1024x128_S1x256x128_4_256_0 x, ?_⟩
  refine List.forall_mem_cons.2 ⟨fun x => query_piece 3 256 (by omega) (by omega) _ (tile b x0 x1 x2 x3 x4) (second_acc i b hb x0 x1 x2 x3 x4) _ (lanes_256_3 (k0_pay115 i x0 x1 x2 x3 x4)) inb_S24x1024x128_S1x256x128_3_256_0 x, ?_⟩
  refine List.forall_mem_cons.2 ⟨fun x => query_piece 2 256 (by omega) (by omega) _ (tile b x0 x1 x2 x3 x4) (second_acc i b hb x0 x1 x2 x3 x4) _ (lanes_256_2 (k0_pay115 i x0 x1 x2 x3 x4)) inb_S24x1024x128_S1x256x128_2_256_0 x, ?_⟩
  refine List.forall_mem_cons.2 ⟨fun x => query_piece 1 256 (by omega) (by omega) _ (tile b x0 x1 x2 x3 x4) (second_acc i b hb x0 x1 x2 x3 x4) _ (lanes_256_1 (k0_pay115 i x0 x1 x2 x3 x4)) inb_S24x1024x128_S1x256x128_1_256_0 x, ?_⟩
  refine List.forall_mem_cons.2 ⟨fun x => query_piece 0 256 (by omega) (by omega) _ (tile b x0 x1 x2 x3 x4) (second_acc i b hb x0 x1 x2 x3 x4) _ (lanes_256_0 (k0_pay115 i x0 x1 x2 x3 x4)) inb_S24x1024x128_S1x256x128_0_256_0 x, ?_⟩
  refine List.forall_mem_cons.2 ⟨fun x => plain_piece 23 0 (by omega) (by omega) (by omega) _ (tile b x0 x1 x2 x3 x4) (first_acc i b hb x0 x1 x2 x3 x4) _ (lanes_0_23 (k0_pay114 i x0 x1 x2 x3 x4)) inb_S24x1024x128_S1x256x128_23_0_0 x, ?_⟩
  refine List.forall_mem_cons.2 ⟨fun x => plain_piece 22 0 (by omega) (by omega) (by omega) _ (tile b x0 x1 x2 x3 x4) (first_acc i b hb x0 x1 x2 x3 x4) _ (lanes_0_22 (k0_pay114 i x0 x1 x2 x3 x4)) inb_S24x1024x128_S1x256x128_22_0_0 x, ?_⟩
  refine List.forall_mem_cons.2 ⟨fun x => plain_piece 21 0 (by omega) (by omega) (by omega) _ (tile b x0 x1 x2 x3 x4) (first_acc i b hb x0 x1 x2 x3 x4) _ (lanes_0_21 (k0_pay114 i x0 x1 x2 x3 x4)) inb_S24x1024x128_S1x256x128_21_0_0 x, ?_⟩
  refine List.forall_mem_cons.2 ⟨fun x => plain_piece 20 0 (by omega) (by omega) (by omega) _ (tile b x0 x1 x2 x3 x4) (first_acc i b hb x0 x1 x2 x3 x4) _ (lanes_0_20 (k0_pay114 i x0 x1 x2 x3 x4)) inb_S24x1024x128_S1x256x128_20_0_0 x, ?_⟩
  refine List.forall_mem_cons.2 ⟨fun x => plain_piece 19 0 (by omega) (by omega) (by omega) _ (tile b x0 x1 x2 x3 x4) (first_acc i b hb x0 x1 x2 x3 x4) _ (lanes_0_19 (k0_pay114 i x0 x1 x2 x3 x4)) inb_S24x1024x128_S1x256x128_19_0_0 x, ?_⟩
  refine List.forall_mem_cons.2 ⟨fun x => plain_piece 18 0 (by omega) (by omega) (by omega) _ (tile b x0 x1 x2 x3 x4) (first_acc i b hb x0 x1 x2 x3 x4) _ (lanes_0_18 (k0_pay114 i x0 x1 x2 x3 x4)) inb_S24x1024x128_S1x256x128_18_0_0 x, ?_⟩
  refine List.forall_mem_cons.2 ⟨fun x => plain_piece 17 0 (by omega) (by omega) (by omega) _ (tile b x0 x1 x2 x3 x4) (first_acc i b hb x0 x1 x2 x3 x4) _ (lanes_0_17 (k0_pay114 i x0 x1 x2 x3 x4)) inb_S24x1024x128_S1x256x128_17_0_0 x, ?_⟩
  refine List.forall_mem_cons.2 ⟨fun x => plain_piece 16 0 (by omega) (by omega) (by omega) _ (tile b x0 x1 x2 x3 x4) (first_acc i b hb x0 x1 x2 x3 x4) _ (lanes_0_16 (k0_pay114 i x0 x1 x2 x3 x4)) inb_S24x1024x128_S1x256x128_16_0_0 x, ?_⟩
  refine List.forall_mem_cons.2 ⟨fun x => plain_piece 15 0 (by omega) (by omega) (by omega) _ (tile b x0 x1 x2 x3 x4) (first_acc i b hb x0 x1 x2 x3 x4) _ (lanes_0_15 (k0_pay114 i x0 x1 x2 x3 x4)) inb_S24x1024x128_S1x256x128_15_0_0 x, ?_⟩
  refine List.forall_mem_cons.2 ⟨fun x => plain_piece 14 0 (by omega) (by omega) (by omega) _ (tile b x0 x1 x2 x3 x4) (first_acc i b hb x0 x1 x2 x3 x4) _ (lanes_0_14 (k0_pay114 i x0 x1 x2 x3 x4)) inb_S24x1024x128_S1x256x128_14_0_0 x, ?_⟩
  refine List.forall_mem_cons.2 ⟨fun x => plain_piece 13 0 (by omega) (by omega) (by omega) _ (tile b x0 x1 x2 x3 x4) (first_acc i b hb x0 x1 x2 x3 x4) _ (lanes_0_13 (k0_pay114 i x0 x1 x2 x3 x4)) inb_S24x1024x128_S1x256x128_13_0_0 x, ?_⟩
  refine List.forall_mem_cons.2 ⟨fun x => plain_piece 12 0 (by omega) (by omega) (by omega) _ (tile b x0 x1 x2 x3 x4) (first_acc i b hb x0 x1 x2 x3 x4) _ (lanes_0_12 (k0_pay114 i x0 x1 x2 x3 x4)) inb_S24x1024x128_S1x256x128_12_0_0 x, ?_⟩
  refine List.forall_mem_cons.2 ⟨fun x => plain_piece 11 0 (by omega) (by omega) (by omega) _ (tile b x0 x1 x2 x3 x4) (first_acc i b hb x0 x1 x2 x3 x4) _ (lanes_0_11 (k0_pay114 i x0 x1 x2 x3 x4)) inb_S24x1024x128_S1x256x128_11_0_0 x, ?_⟩
  refine List.forall_mem_cons.2 ⟨fun x => plain_piece 10 0 (by omega) (by omega) (by omega) _ (tile b x0 x1 x2 x3 x4) (first_acc i b hb x0 x1 x2 x3 x4) _ (lanes_0_10 (k0_pay114 i x0 x1 x2 x3 x4)) inb_S24x1024x128_S1x256x128_10_0_0 x, ?_⟩
  refine List.forall_mem_cons.2 ⟨fun x => plain_piece 9 0 (by omega) (by omega) (by omega) _ (tile b x0 x1 x2 x3 x4) (first_acc i b hb x0 x1 x2 x3 x4) _ (lanes_0_9 (k0_pay114 i x0 x1 x2 x3 x4)) inb_S24x1024x128_S1x256x128_9_0_0 x, ?_⟩
  refine List.forall_mem_cons.2 ⟨fun x => plain_piece 8 0 (by omega) (by omega) (by omega) _ (tile b x0 x1 x2 x3 x4) (first_acc i b hb x0 x1 x2 x3 x4) _ (lanes_0_8 (k0_pay114 i x0 x1 x2 x3 x4)) inb_S24x1024x128_S1x256x128_8_0_0 x, ?_⟩
  refine List.forall_mem_cons.2 ⟨fun x => query_piece 7 0 (by omega) (by omega) _ (tile b x0 x1 x2 x3 x4) (first_acc i b hb x0 x1 x2 x3 x4) _ (lanes_0_7 (k0_pay114 i x0 x1 x2 x3 x4)) inb_S24x1024x128_S1x256x128_7_0_0 x, ?_⟩
  refine List.forall_mem_cons.2 ⟨fun x => query_piece 6 0 (by omega) (by omega) _ (tile b x0 x1 x2 x3 x4) (first_acc i b hb x0 x1 x2 x3 x4) _ (lanes_0_6 (k0_pay114 i x0 x1 x2 x3 x4)) inb_S24x1024x128_S1x256x128_6_0_0 x, ?_⟩
  refine List.forall_mem_cons.2 ⟨fun x => query_piece 5 0 (by omega) (by omega) _ (tile b x0 x1 x2 x3 x4) (first_acc i b hb x0 x1 x2 x3 x4) _ (lanes_0_5 (k0_pay114 i x0 x1 x2 x3 x4)) inb_S24x1024x128_S1x256x128_5_0_0 x, ?_⟩
  refine List.forall_mem_cons.2 ⟨fun x => query_piece 4 0 (by omega) (by omega) _ (tile b x0 x1 x2 x3 x4) (first_acc i b hb x0 x1 x2 x3 x4) _ (lanes_0_4 (k0_pay114 i x0 x1 x2 x3 x4)) inb_S24x1024x128_S1x256x128_4_0_0 x, ?_⟩
  refine List.forall_mem_cons.2 ⟨fun x => query_piece 3 0 (by omega) (by omega) _ (tile b x0 x1 x2 x3 x4) (first_acc i b hb x0 x1 x2 x3 x4) _ (lanes_0_3 (k0_pay114 i x0 x1 x2 x3 x4)) inb_S24x1024x128_S1x256x128_3_0_0 x, ?_⟩
  refine List.forall_mem_cons.2 ⟨fun x => query_piece 2 0 (by omega) (by omega) _ (tile b x0 x1 x2 x3 x4) (first_acc i b hb x0 x1 x2 x3 x4) _ (lanes_0_2 (k0_pay114 i x0 x1 x2 x3 x4)) inb_S24x1024x128_S1x256x128_2_0_0 x, ?_⟩
  refine List.forall_mem_cons.2 ⟨fun x => query_piece 1 0 (by omega) (by omega) _ (tile b x0 x1 x2 x3 x4) (first_acc i b hb x0 x1 x2 x3 x4) _ (lanes_0_1 (k0_pay114 i x0 x1 x2 x3 x4)) inb_S24x1024x128_S1x256x128_1_0_0 x, ?_⟩
  refine List.forall_mem_cons.2 ⟨fun x => query_piece 0 0 (by omega) (by omega) _ (tile b x0 x1 x2 x3 x4) (first_acc i b hb x0 x1 x2 x3 x4) _ (lanes_0_0 (k0_pay114 i x0 x1 x2 x3 x4)) inb_S24x1024x128_S1x256x128_0_0_0 x, ?_⟩
  exact fun p hp => absurd hp List.not_mem_nil

end Cert.Proof.Qkv
end
-- ==== Proof.QkvRef.lean ====
module

public import proofs.«01_k».proof.Proof.GatedPay
public import proofs.«01_k».proof.Proof.Gen.Reference4Ideal.Run
public import Idealize.ShloMosaic.Lib.Claim

@[expose] public section

set_option maxRecDepth 16384

noncomputable section

namespace Cert.Proof.Qkv

open Idealize.ShloMosaic Idealize.ShloMosaic.TcCoe Idealize.SL.Sem
open Cert.Proof.Post (Row rnorm modr)
open Cert.Proof.Gated (proj)

/-- The projection at row `R` and feature `l`, from the argument arrays: latent tokens first, then the context's. -/
def rows (X : FVec Ideal ⟨3, ![8, 4096, 1024]⟩ .f32) (C : FVec Ideal ⟨3, ![8, 256, 1024]⟩ .f32)
    (M : FVec Ideal ⟨4, ![4, 9, 6, 1024]⟩ .f32) (N : FVec Ideal ⟨2, ![4, 1024]⟩ .f32) (W : FVec Ideal ⟨2, ![1024, 3072]⟩ .f32)
    (R : Fin 34816) (l : Fin 3072) : EReal :=
  if h : R.val < 32768 then
    proj (fun k => X (ix3 (⟨R.val / 4096, by omega⟩ : Fin 8) (⟨R.val % 4096, by omega⟩ : Fin 4096) k)) (fun k => N (ix2 0 k))
      (fun k => M (ix4 0 (⟨R.val / 4096, by omega⟩ : Fin 9) 1 k)) (fun k => M (ix4 0 (⟨R.val / 4096, by omega⟩ : Fin 9) 0 k)) (fun i j => W (ix2 i j)) l
  else
    proj (fun k => C (ix3 (⟨(R.val - 32768) / 256, by omega⟩ : Fin 8) (⟨(R.val - 32768) % 256, by omega⟩ : Fin 256) k)) (fun k => N (ix2 0 k))
      (fun k => M (ix4 0 8 1 k)) (fun k => M (ix4 0 8 0 k)) (fun i j => W (ix2 i j)) l

/-- The result array at lane group `j`, row `R` and lane `l`: the projection, the query part in the attention's units. -/
def target (X : FVec Ideal ⟨3, ![8, 4096, 1024]⟩ .f32) (C : FVec Ideal ⟨3, ![8, 256, 1024]⟩ .f32)
    (M : FVec Ideal ⟨4, ![4, 9, 6, 1024]⟩ .f32) (N : FVec Ideal ⟨2, ![4, 1024]⟩ .f32) (W : FVec Ideal ⟨2, ![1024, 3072]⟩ .f32)
    (j : Fin 24) (R : Fin 34816) (l : Fin 128) : EReal :=
  if j.val < 8 then rows X C M N W R ⟨j.val * 128 + l.val, by omega⟩ * Ideal.ofBits .f32 0x3E38AA3B#32
  else rows X C M N W R ⟨j.val * 128 + l.val, by omega⟩

open Cert.Reference4Ideal Cert.Reference4Ideal.Gen

/-- The latent tokens' modulation vectors. -/
def lMod (M : FVec Ideal S4x9x6x1024 .f32) : FVec Ideal S8x6x1x1024 .f32 :=
  shapeCast S8x6x1x1024 (shapeCast S8x6x1024 (extractStridedSlice S1x8x6x1024 ![0, 0, 0, 0] M slices_S4x9x6x1024_S1x8x6x1024_0_0_0_0) shapeCasts_S1x8x6x1024_S8x6x1024) shapeCasts_S8x6x1024_S8x6x1x1024

/-- The reference's root-mean-square norm of the latent tokens. -/
def lNorm (v : FVec Ideal S8x4096x1024 .f32) (g : FVec Ideal S1024 .f32) : FVec Ideal S8x4096x1024 .f32 :=
  mulf (mulf v (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf v v) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 g))

/-- The norm at an index. -/
theorem lNorm_at (v : FVec Ideal S8x4096x1024 .f32) (g : FVec Ideal S1024 .f32) (b : Fin 8) (r : Fin 4096) (l : Fin 1024) :
    lNorm v g (ix3 b r l) = rnorm (fun k => v (ix3 b r k)) (fun k => g (ix1 k)) l := by
  unfold rnorm
  pointwise [lNorm]

/-- The reference's modulated normed latent tokens. -/
def lModr (x1 : FVec Ideal S8x4096x1024 .f32) (M : FVec Ideal S4x9x6x1024 .f32) (N2 : FVec Ideal S4x1024 .f32) : FVec Ideal S8x4096x1024 .f32 :=
  addf (mulf (lNorm x1 (shapeCast S1024 (extractStridedSlice S1x1024 ![0, 0] N2 slices_S4x1024_S1x1024_0_0) shapeCasts_S1x1024_S1024)) (broadcastInDim S8x4096x1024 ![0, 1, 2] bcast_S8x1x1024_S8x4096x1024_0_1_2 (addf (broadcastInDim S8x1x1024 ![] bcast_S_S8x1x1024 (constant S_ .f32 0x3F800000#32)) (shapeCast S8x1x1024 (extractStridedSlice S8x1x1x1024 ![0, 1, 0, 0] (lMod M) slices_S8x6x1x1024_S8x1x1x1024_0_1_0_0) shapeCasts_S8x1x1x1024_S8x1x1024)))) (broadcastInDim S8x4096x1024 ![0, 1, 2] bcast_S8x1x1024_S8x4096x1024_0_1_2 (shapeCast S8x1x1024 (extractStridedSlice S8x1x1x1024 ![0, 0, 0, 0] (lMod M) slices_S8x6x1x1024_S8x1x1x1024_0_0_0_0) shapeCasts_S8x1x1x1024_S8x1x1024))

/-- The modulated normed row at an index. -/
theorem lModr_at (x1 : FVec Ideal S8x4096x1024 .f32) (M : FVec Ideal S4x9x6x1024 .f32) (N2 : FVec Ideal S4x1024 .f32) (b : Fin 8) (r : Fin 4096) (l : Fin 1024) :
    lModr x1 M N2 (ix3 b r l) = modr (fun k => x1 (ix3 b r k)) (fun k => N2 (ix2 0 k)) (fun k => M (ix4 0 (⟨b.val, by omega⟩ : Fin 9) 1 k)) (fun k => M (ix4 0 (⟨b.val, by omega⟩ : Fin 9) 0 k)) l := by
  unfold modr
  pointwise [lModr, lMod, lNorm_at]

/-- The reference's projected latent tokens. -/
def lProj (x : FVec Ideal S8x4096x1024 .f32) (M : FVec Ideal S4x9x6x1024 .f32) (N2 : FVec Ideal S4x1024 .f32) (W : FVec Ideal S1024x3072 .f32) : FVec Ideal S8x4096x3072 .f32 :=
  Host.dotGeneral dot_S8x4096x1024_S1024x3072_S8x4096x3072_2_0_01_1_n_n none (lModr x M N2) W

/-- The projection at an index. -/
theorem lProj_at (x : FVec Ideal S8x4096x1024 .f32) (M : FVec Ideal S4x9x6x1024 .f32) (N2 : FVec Ideal S4x1024 .f32) (W : FVec Ideal S1024x3072 .f32) (b : Fin 8) (r : Fin 4096) (l : Fin 3072) :
    lProj x M N2 W (ix3 b r l) = proj (fun k => x (ix3 b r k)) (fun k => N2 (ix2 0 k)) (fun k => M (ix4 0 (⟨b.val, by omega⟩ : Fin 9) 1 k)) (fun k => M (ix4 0 (⟨b.val, by omega⟩ : Fin 9) 0 k)) (fun i j => W (ix2 i j)) l := by
  unfold proj
  pointwise [lProj, lModr_at]

/-- The context tokens' modulation vectors. -/
def cMod (M : FVec Ideal S4x9x6x1024 .f32) : FVec Ideal S1x6x1x1024 .f32 :=
  shapeCast S1x6x1x1024 (shapeCast S1x6x1024 (extractStridedSlice S1x1x6x1024 ![0, 8, 0, 0] M slices_S4x9x6x1024_S1x1x6x1024_0_8_0_0) shapeCasts_S1x1x6x1024_S1x6x1024) shapeCasts_S1x6x1024_S1x6x1x1024

/-- The reference's root-mean-square norm of the context tokens. -/
def cNorm (v : FVec Ideal S8x256x1024 .f32) (g : FVec Ideal S1024 .f32) : FVec Ideal S8x256x1024 .f32 :=
  mulf (mulf v (broadcastInDim S8x256x1024 ![0, 1, 2] bcast_S8x256x1_S8x256x1024_0_1_2 (Host.rsqrt (addf (Host.divf (broadcastInDim S8x256x1 ![0, 1] bcast_S8x256_S8x256x1_0_1 (Host.reduceAdd (mulf v v) (constant S_ .f32 0x00000000#32) reducesTo_S8x256x1024_S8x256_d2 h_S_)) (broadcastInDim S8x256x1 ![] bcast_S_S8x256x1 (constant S_ .f32 0x44800000#32))) (broadcastInDim S8x256x1 ![] bcast_S_S8x256x1 (constant S_ .f32 0x358637BD#32)))))) (broadcastInDim S8x256x1024 ![0, 1, 2] bcast_S1x1x1024_S8x256x1024_0_1_2 (broadcastInDim S1x1x1024 ![2] bcast_S1024_S1x1x1024_2 g))

/-- The norm at an index. -/
theorem cNorm_at (v : FVec Ideal S8x256x1024 .f32) (g : FVec Ideal S1024 .f32) (b : Fin 8) (r : Fin 256) (l : Fin 1024) :
    cNorm v g (ix3 b r l) = rnorm (fun k => v (ix3 b r k)) (fun k => g (ix1 k)) l := by
  unfold rnorm
  pointwise [cNorm]

/-- The reference's modulated normed context tokens. -/
def cModr (x1 : FVec Ideal S8x256x1024 .f32) (M : FVec Ideal S4x9x6x1024 .f32) (N2 : FVec Ideal S4x1024 .f32) : FVec Ideal S8x256x1024 .f32 :=
  addf (mulf (cNorm x1 (shapeCast S1024 (extractStridedSlice S1x1024 ![0, 0] N2 slices_S4x1024_S1x1024_0_0) shapeCasts_S1x1024_S1024)) (broadcastInDim S8x256x1024 ![0, 1, 2] bcast_S1x1x1024_S8x256x1024_0_1_2 (addf (broadcastInDim S1x1x1024 ![] bcast_S_S1x1x1024 (constant S_ .f32 0x3F800000#32)) (shapeCast S1x1x1024 (extractStridedSlice S1x1x1x1024 ![0, 1, 0, 0] (cMod M) slices_S1x6x1x1024_S1x1x1x1024_0_1_0_0) shapeCasts_S1x1x1x1024_S1x1x1024)))) (broadcastInDim S8x256x1024 ![0, 1, 2] bcast_S1x1x1024_S8x256x1024_0_1_2 (shapeCast S1x1x1024 (extractStridedSlice S1x1x1x1024 ![0, 0, 0, 0] (cMod M) slices_S1x6x1x1024_S1x1x1x1024_0_0_0_0) shapeCasts_S1x1x1x1024_S1x1x1024))

/-- The modulated normed row at an index. -/
theorem cModr_at (x1 : FVec Ideal S8x256x1024 .f32) (M : FVec Ideal S4x9x6x1024 .f32) (N2 : FVec Ideal S4x1024 .f32) (b : Fin 8) (r : Fin 256) (l : Fin 1024) :
    cModr x1 M N2 (ix3 b r l) = modr (fun k => x1 (ix3 b r k)) (fun k => N2 (ix2 0 k)) (fun k => M (ix4 0 8 1 k)) (fun k => M (ix4 0 8 0 k)) l := by
  unfold modr
  pointwise [cModr, cMod, cNorm_at]

/-- The reference's projected context tokens. -/
def cProj (x : FVec Ideal S8x256x1024 .f32) (M : FVec Ideal S4x9x6x1024 .f32) (N2 : FVec Ideal S4x1024 .f32) (W : FVec Ideal S1024x3072 .f32) : FVec Ideal S8x256x3072 .f32 :=
  Host.dotGeneral dot_S8x256x1024_S1024x3072_S8x256x3072_2_0_01_1_n_n none (cModr x M N2) W

/-- The projection at an index. -/
theorem cProj_at (x : FVec Ideal S8x256x1024 .f32) (M : FVec Ideal S4x9x6x1024 .f32) (N2 : FVec Ideal S4x1024 .f32) (W : FVec Ideal S1024x3072 .f32) (b : Fin 8) (r : Fin 256) (l : Fin 3072) :
    cProj x M N2 W (ix3 b r l) = proj (fun k => x (ix3 b r k)) (fun k => N2 (ix2 0 k)) (fun k => M (ix4 0 8 1 k)) (fun k => M (ix4 0 8 0 k)) (fun i j => W (ix2 i j)) l := by
  unfold proj
  pointwise [cProj, cModr_at]

/-- The reference's projected tokens, latent ones first. -/
def allProj (X : FVec Ideal S8x4096x1024 .f32) (C : FVec Ideal S8x256x1024 .f32) (M : FVec Ideal S4x9x6x1024 .f32) (N2 : FVec Ideal S4x1024 .f32) (W : FVec Ideal S1024x3072 .f32) : FVec Ideal S34816x3072 .f32 :=
  concatenate S34816x3072 0
    [⟨S32768x3072, shapeCast S32768x3072 (lProj X M N2 W) shapeCasts_S8x4096x3072_S32768x3072⟩,
     ⟨S2048x3072, shapeCast S2048x3072 (cProj C M N2 W) shapeCasts_S8x256x3072_S2048x3072⟩] concatenates_S32768x3072_S2048x3072_S34816x3072_d0

/-- The projected tokens at an index. -/
theorem allProj_at (X : FVec Ideal S8x4096x1024 .f32) (C : FVec Ideal S8x256x1024 .f32) (M : FVec Ideal S4x9x6x1024 .f32) (N2 : FVec Ideal S4x1024 .f32) (W : FVec Ideal S1024x3072 .f32) (R : Fin 34816) (l : Fin 3072) :
    allProj X C M N2 W (ix2 R l) = rows X C M N2 W R l := by
  unfold rows
  pointwise [allProj, lProj_at, cProj_at]

/-- The scale of a query, and its change of base, are one factor. -/
theorem scale_eq (x : EReal) : x * Ideal.ofBits .f32 0x3E000000#32 * Ideal.ofBits .f32 0x3FB8AA3B#32 = x * Ideal.ofBits .f32 0x3E38AA3B#32 := by
  rw [mul_assoc]
  congr 1
  rw [show Ideal.ofBits .f32 0x3E000000#32 = ((1 / 8 : ℝ) : EReal) by simp [Ideal.ofBits, Ideal.ieee, -EReal.coe_mul]; norm_num,
    show Ideal.ofBits .f32 0x3FB8AA3B#32 = ((12102203 / 8388608 : ℝ) : EReal) by simp [Ideal.ofBits, Ideal.ieee, -EReal.coe_mul]; norm_num,
    show Ideal.ofBits .f32 0x3E38AA3B#32 = ((12102203 / 67108864 : ℝ) : EReal) by simp [Ideal.ofBits, Ideal.ieee, -EReal.coe_mul]; norm_num,
    ← EReal.coe_mul]
  norm_num

/-- The reference's result at an index. -/
theorem ref_at (m : (ℓ : Loc nD τ sig) → Buf (Elt Ideal) ℓ) (c : Dev nD) (j : Fin 24) (R : Fin 34816) (l : Fin 128) :
    Cert.Reference4Ideal.Value.res_out0 m c (ix3 j R l) = target (m ((c : Thread nD τ).loc main_arg0)) (m ((c : Thread nD τ).loc main_arg1)) (m ((c : Thread nD τ).loc main_arg2)) (m ((c : Thread nD τ).loc main_arg3)) (m ((c : Thread nD τ).loc main_arg4)) j R l := by
  have e : Cert.Reference4Ideal.Value.res_out0 m c = fun i => truncf .bf16 (transpose S24x34816x128 [1, 0, 2] (shapeCast S34816x24x128 (concatenate S34816x3072 1
      [⟨S34816x1024, mulf (mulf (extractStridedSlice S34816x1024 ![0, 0] (allProj (m ((c : Thread nD τ).loc main_arg0)) (m ((c : Thread nD τ).loc main_arg1)) (m ((c : Thread nD τ).loc main_arg2)) (m ((c : Thread nD τ).loc main_arg3)) (m ((c : Thread nD τ).loc main_arg4))) slices_S34816x3072_S34816x1024_0_0) (broadcastInDim S34816x1024 ![] bcast_S_S34816x1024 (constant S_ .f32 0x3E000000#32))) (broadcastInDim S34816x1024 ![] bcast_S_S34816x1024 (constant S_ .f32 0x3FB8AA3B#32))⟩,
       ⟨S34816x2048, extractStridedSlice S34816x2048 ![0, 1024] (allProj (m ((c : Thread nD τ).loc main_arg0)) (m ((c : Thread nD τ).loc main_arg1)) (m ((c : Thread nD τ).loc main_arg2)) (m ((c : Thread nD τ).loc main_arg3)) (m ((c : Thread nD τ).loc main_arg4))) slices_S34816x3072_S34816x2048_0_1024⟩]
      concatenates_S34816x1024_S34816x2048_S34816x3072_d1) shapeCasts_S34816x3072_S34816x24x128) transposes_S34816x24x128_S24x34816x128_1_0_2) bitsLt_bf16_f32 i := rfl
  rw [e]
  unfold target
  pointwise [allProj_at, scale_eq]
  by_cases h : j.val < 8
  · rw [dif_pos (by omega), if_pos h]
  · rw [dif_neg (by omega), if_neg h]
    exact congrArg _ (Fin.ext (show 1024 + (j.val * 128 + l.val - 1024) = j.val * 128 + l.val by omega))

end Cert.Proof.Qkv
end
-- ==== Proof.QkvValue.lean ====
module

public import proofs.«01_k».proof.Proof.QkvPay
public import proofs.«01_k».proof.Proof.QkvRef
public import Idealize.ShloMosaic.Lib.Claim

@[expose] public section

set_option maxRecDepth 16384

noncomputable section

namespace Cert.Proof.Qkv

open Cert.Kernel4Ideal Cert.Kernel4Ideal.Gen Idealize.ShloMosaic Idealize.ShloMosaic.TcCoe Idealize.SL.Sem
open Cert.Proof.Post3 (pick)
open Cert.Proof.Gated (proj)
variable (m : (ℓ : Loc nD τ sig) → Buf (Elt Ideal) ℓ)

/-- Where each window's block stands at a grid point. -/
theorem idx_facts : ∀ t : Fin cfg0.N, win0_3.index t = ![0, 0, 0] ∧ win0_4.index t = ![0, 0] ∧ win0_5.index t = ![0, t.val, 0] := by
  decide +kernel

/-- Where the token windows stand at a tile of latent tokens. -/
theorem idx_lat : ∀ t : Fin cfg0.N, t.val < 32 → win0_0.index t = ![t.val, 0] ∧ win0_2.index t = ![0, t.val / 4, 0, 0]
    ∧ Scalar.cmpi .slt (BitVec.ofNat 32 (grid0.coords t 0).val) 32#32 = 1#1 := by
  decide +kernel

/-- Where they stand at a tile of context tokens. -/
theorem idx_ctx : ∀ t : Fin cfg0.N, ¬ t.val < 32 → win0_1.index t = ![t.val - 32, 0] ∧ win0_2.index t = ![0, 8, 0, 0]
    ∧ Scalar.cmpi .slt (BitVec.ofNat 32 (grid0.coords t 0).val) 32#32 = 0#1 := by
  decide +kernel

/-- A latent tile's block at an index, from the argument array. -/
theorem blk0 (c : Dev nD) (t : Fin cfg0.N) (ht : t.val < 32) (r : Fin 1024) (k : Fin 1024) (R : Fin 34816) (hR : R.val = t.val * 1024 + r.val) :
    iblk m c 0 t (ix2 r k) = (m ((c : Thread nD τ).loc main_arg0)) (ix3 (⟨R.val / 4096, by omega⟩ : Fin 8) (⟨R.val % 4096, by omega⟩ : Fin 4096) k) := by
  blk_simp [iblk]; entry_read; pointwise
  blk_ext [idx_lat t ht]

/-- A context tile's block at an index, from the argument array. -/
theorem blk1 (c : Dev nD) (t : Fin cfg0.N) (ht : ¬ t.val < 32) (r : Fin 1024) (k : Fin 1024) (R : Fin 34816) (hR : R.val = t.val * 1024 + r.val) :
    iblk m c 1 t (ix2 r k) = (m ((c : Thread nD τ).loc main_arg1)) (ix3 (⟨(R.val - 32768) / 256, by omega⟩ : Fin 8) (⟨(R.val - 32768) % 256, by omega⟩ : Fin 256) k) := by
  blk_simp [iblk]; entry_read; pointwise
  blk_ext [idx_ctx t ht]

/-- A latent tile's modulation rows at an index, from the argument array. -/
theorem blk2 (c : Dev nD) (t : Fin cfg0.N) (ht : t.val < 32) (i : Fin 6) (k : Fin 1024) (r : Fin 1024) (R : Fin 34816) (hR : R.val = t.val * 1024 + r.val) :
    iblk m c 2 t (ix4 0 0 i k) = (m ((c : Thread nD τ).loc main_arg2)) (ix4 0 (⟨R.val / 4096, by omega⟩ : Fin 9) i k) := by
  blk_simp [iblk]; entry_read; pointwise
  have hb : ((win0_2.blk t).view.emb (ix4 0 0 i k) 1).val = t.val / 4 := by blk_simp [idx_lat t ht]; exact Nat.add_zero _
  rw [dif_pos (lt_of_eq_of_lt hb (by omega))]
  blk_ext [idx_lat t ht]

/-- A context tile's modulation rows at an index, from the argument array. -/
theorem blk2c (c : Dev nD) (t : Fin cfg0.N) (ht : ¬ t.val < 32) (i : Fin 6) (k : Fin 1024) :
    iblk m c 2 t (ix4 0 0 i k) = (m ((c : Thread nD τ).loc main_arg2)) (ix4 0 8 i k) := by
  blk_simp [iblk]; entry_read; pointwise
  have hb : ((win0_2.blk t).view.emb (ix4 0 0 i k) 1).val = 8 := by blk_simp [idx_ctx t ht]; exact Nat.add_zero _
  rw [dif_pos (lt_of_eq_of_lt hb (by omega))]
  blk_ext [idx_ctx t ht]

/-- The norm's weights at an index, from the argument array. -/
theorem blk3 (c : Dev nD) (t : Fin cfg0.N) (k : Fin 1024) :
    iblk m c 3 t (ix3 0 0 k) = (m ((c : Thread nD τ).loc main_arg3)) (ix2 0 k) := by
  blk_simp [iblk]; entry_read; pointwise
  blk_ext [idx_facts t]

/-- The projection's weights at an index, from the argument array. -/
theorem blk4 (c : Dev nD) (t : Fin cfg0.N) (i : Fin 1024) (j : Fin 3072) :
    iblk m c 4 t (ix2 i j) = (m ((c : Thread nD τ).loc main_arg4)) (ix2 i j) := by
  blk_simp [iblk]; entry_read; pointwise
  blk_ext [idx_facts t]

/-- A tile's projection at an index. -/
theorem tile_at (c : Dev nD) (t : Fin cfg0.N) (r : Fin 1024) (l : Fin 3072) (R : Fin 34816) (hR : R.val = t.val * 1024 + r.val) (b : BitVec 1)
    (hb : Scalar.cmpi .slt (BitVec.ofNat 32 (grid0.coords t 0).val) 32#32 = b) :
    proj (fun k => pick b (iblk m c 0 t) (iblk m c 1 t) (ix2 r k)) (fun k => iblk m c 3 t (ix3 0 0 k)) (fun k => iblk m c 2 t (ix4 0 0 1 k)) (fun k => iblk m c 2 t (ix4 0 0 0 k)) (fun i j => iblk m c 4 t (ix2 i j)) l
      = rows (m ((c : Thread nD τ).loc main_arg0)) (m ((c : Thread nD τ).loc main_arg1)) (m ((c : Thread nD τ).loc main_arg2)) (m ((c : Thread nD τ).loc main_arg3)) (m ((c : Thread nD τ).loc main_arg4)) R l := by
  have hr := r.isLt
  by_cases ht : t.val < 32
  · obtain rfl : b = 1#1 := hb.symm.trans (idx_lat t ht).2.2
    rw [rows, dif_pos (by omega)]
    simp only [pick, if_true, blk3, blk4]
    rw [show (fun k => iblk m c 0 t (ix2 r k)) = _ from funext fun k => blk0 m c t ht r k R hR,
      show (fun k => iblk m c 2 t (ix4 0 0 1 k)) = _ from funext fun k => blk2 m c t ht 1 k r R hR,
      show (fun k => iblk m c 2 t (ix4 0 0 0 k)) = _ from funext fun k => blk2 m c t ht 0 k r R hR]
  · obtain rfl : b = 0#1 := hb.symm.trans (idx_ctx t ht).2.2
    rw [rows, dif_neg (by omega)]
    simp only [pick, show ((0#1 : BitVec 1) = 1#1) = False from eq_false (by decide), if_false, blk3, blk4]
    rw [show (fun k => iblk m c 1 t (ix2 r k)) = _ from funext fun k => blk1 m c t ht r k R hR,
      show (fun k => iblk m c 2 t (ix4 0 0 1 k)) = _ from funext fun k => blk2c m c t ht 1 k,
      show (fun k => iblk m c 2 t (ix4 0 0 0 k)) = _ from funext fun k => blk2c m c t ht 0 k]

/-- A block of the result at an index. -/
theorem out_at (c : Dev nD) (t : Fin cfg0.N) (j : Fin 24) (r : Fin 1024) (l : Fin 128) (R : Fin 34816) (hR : R.val = t.val * 1024 + r.val) :
    out0_5 (grid0.coords t) (iblk m c 0 t) (iblk m c 1 t) (iblk m c 2 t) (iblk m c 3 t) (iblk m c 4 t) (ix3 j r l) = target (m ((c : Thread nD τ).loc main_arg0)) (m ((c : Thread nD τ).loc main_arg1)) (m ((c : Thread nD τ).loc main_arg2)) (m ((c : Thread nD τ).loc main_arg3)) (m ((c : Thread nD τ).loc main_arg4)) j R l := by
  rw [block_at (grid0.coords t) _ rfl, target]
  unfold group tile
  rw [tile_at m c t r _ R hR _ rfl]

/-- The kernel's result, at every index. -/
theorem kernel_final (c : Dev nD) :
    (dats m 0 c).arrAt 5 cfg0.N = fun i => target (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) (i 2) := by
  refine (dats m 0 c).arrAt_eq_of_covers 5 _ (by decide +kernel) fun t hf y => ?_
  blk_simp
  rw [after0_5]
  have e0 : (win0_5.blk t).view.emb y 0 = y 0 := Fin.ext (by blk_simp [idx_facts t])
  have e1 : ((win0_5.blk t).view.emb y 1).val = t.val * 1024 + (y 1).val := by blk_simp [idx_facts t]
  have e2 : (win0_5.blk t).view.emb y 2 = y 2 := Fin.ext (by blk_simp [idx_facts t])
  rw [e0, e2]
  exact (congrArg _ (eq_ix3 y)).trans (out_at m c t (y 0) (y 1) (y 2) _ e1)

end Cert.Proof.Qkv
end
-- ==== Proof.Qkv.lean ====
module

public import proofs.«01_k».proof.Defs
public import proofs.«01_k».proof.Proof.QkvValue
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import Idealize.ShloMosaic.Adequacy
public import Idealize.ShloMosaic.Init

@[expose] public section

set_option maxRecDepth 16384

noncomputable section

namespace Cert.Proof.Qkv

open Idealize.ShloMosaic Idealize.SL.Sem

/-- The first layer's first call, as compiled: it leaves its arguments alone and its counters at zero. -/
theorem frame_kernel : Cert.quiescent_Kernel4 := fun m ρ _ => Cert.Kernel4.Gen.frame m ρ

/-- The same over the extended reals. -/
theorem frame_ideal : Cert.quiescent_Kernel4Ideal := fun m ρ _ => Cert.Kernel4Ideal.Gen.frame m ρ

/-- The reference's run leaves its arguments alone; it declares no semaphore. -/
theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- Both results are the plain formula's, read from the arguments the two programs share. -/
theorem algebraic : Cert.algebraic_Kernel4Ideal_Reference4Ideal := by
  intro m g m' g' _ h
  refine ⟨fun c => (Cert.Kernel4Ideal.Gen.dats m 0 c).arrAt 5 Cert.Kernel4Ideal.cfg0.N, Cert.Kernel4Ideal.Value.run_blocks m g, ?_⟩
  refine (θ_run Cert.Reference4Ideal.defs _ _).mono (fun r hr c => ⟨(hr c).1.trans ?_, (hr c).2⟩) (Cert.Reference4Ideal.Value.run (F := Ideal) m' g')
  obtain ⟨h0, h1, h2, h3, h4⟩ := h c
  refine Eq.trans ?_ (kernel_final m c).symm
  funext i
  rw [eq_ix3 i]
  refine (ref_at m' c (i 0) (i 1) (i 2)).trans ?_
  rw [h0, h1, h2, h3, h4]
  rfl

end Cert.Proof.Qkv
end
-- ==== Proof.GatedRef.lean ====
module

public import proofs.«01_k».proof.Proof.GatedPay
public import proofs.«01_k».proof.Proof.Gen.Reference5Ideal.Run
public import Idealize.ShloMosaic.Lib.Claim

@[expose] public section

set_option maxRecDepth 16384

noncomputable section

namespace Cert.Proof.Gated

open Idealize.ShloMosaic Idealize.ShloMosaic.TcCoe Idealize.SL.Sem
open Cert.Proof.Post (Row rnorm modr)

/-- The first result array at row `R` and feature `l`, from the argument arrays: latent tokens first, then the context's. -/
def target0 (T : FVec Ideal ⟨2, ![34816, 1024]⟩ .f32) (M : FVec Ideal ⟨4, ![4, 9, 6, 1024]⟩ .f32) (N : FVec Ideal ⟨2, ![4, 1024]⟩ .f32) (W : FVec Ideal ⟨2, ![1024, 3072]⟩ .f32)
    (R : Fin 34816) (l : Fin 1024) : EReal :=
  gate0 (fun k => T (ix2 R k)) (fun k => N (ix2 2 k)) (fun k => M (ix4 2 (mrow R) 1 k)) (fun k => M (ix4 2 (mrow R) 0 k)) (fun i j => W (ix2 i j)) l

/-- The same from the latent and the context tokens apart. -/
def split0 (X : FVec Ideal ⟨3, ![8, 4096, 1024]⟩ .f32) (C : FVec Ideal ⟨3, ![8, 256, 1024]⟩ .f32)
    (M : FVec Ideal ⟨4, ![4, 9, 6, 1024]⟩ .f32) (N : FVec Ideal ⟨2, ![4, 1024]⟩ .f32) (W : FVec Ideal ⟨2, ![1024, 3072]⟩ .f32)
    (R : Fin 34816) (l : Fin 1024) : EReal :=
  if h : R.val < 32768 then
    gate0 (fun k => X (ix3 (⟨R.val / 4096, by omega⟩ : Fin 8) (⟨R.val % 4096, by omega⟩ : Fin 4096) k)) (fun k => N (ix2 2 k))
      (fun k => M (ix4 2 (⟨R.val / 4096, by omega⟩ : Fin 9) 1 k)) (fun k => M (ix4 2 (⟨R.val / 4096, by omega⟩ : Fin 9) 0 k)) (fun i j => W (ix2 i j)) l
  else
    gate0 (fun k => C (ix3 (⟨(R.val - 32768) / 256, by omega⟩ : Fin 8) (⟨(R.val - 32768) % 256, by omega⟩ : Fin 256) k)) (fun k => N (ix2 2 k))
      (fun k => M (ix4 2 8 1 k)) (fun k => M (ix4 2 8 0 k)) (fun i j => W (ix2 i j)) l

/-- The second result array at row `R` and feature `l`, from the argument arrays: latent tokens first, then the context's. -/
def target1 (T : FVec Ideal ⟨2, ![34816, 1024]⟩ .f32) (M : FVec Ideal ⟨4, ![4, 9, 6, 1024]⟩ .f32) (N : FVec Ideal ⟨2, ![4, 1024]⟩ .f32) (W : FVec Ideal ⟨2, ![1024, 3072]⟩ .f32)
    (R : Fin 34816) (l : Fin 1024) : EReal :=
  gate1 (fun k => T (ix2 R k)) (fun k => N (ix2 2 k)) (fun k => M (ix4 2 (mrow R) 1 k)) (fun k => M (ix4 2 (mrow R) 0 k)) (fun i j => W (ix2 i j)) l

/-- The same from the latent and the context tokens apart. -/
def split1 (X : FVec Ideal ⟨3, ![8, 4096, 1024]⟩ .f32) (C : FVec Ideal ⟨3, ![8, 256, 1024]⟩ .f32)
    (M : FVec Ideal ⟨4, ![4, 9, 6, 1024]⟩ .f32) (N : FVec Ideal ⟨2, ![4, 1024]⟩ .f32) (W : FVec Ideal ⟨2, ![1024, 3072]⟩ .f32)
    (R : Fin 34816) (l : Fin 1024) : EReal :=
  if h : R.val < 32768 then
    gate1 (fun k => X (ix3 (⟨R.val / 4096, by omega⟩ : Fin 8) (⟨R.val % 4096, by omega⟩ : Fin 4096) k)) (fun k => N (ix2 2 k))
      (fun k => M (ix4 2 (⟨R.val / 4096, by omega⟩ : Fin 9) 1 k)) (fun k => M (ix4 2 (⟨R.val / 4096, by omega⟩ : Fin 9) 0 k)) (fun i j => W (ix2 i j)) l
  else
    gate1 (fun k => C (ix3 (⟨(R.val - 32768) / 256, by omega⟩ : Fin 8) (⟨(R.val - 32768) % 256, by omega⟩ : Fin 256) k)) (fun k => N (ix2 2 k))
      (fun k => M (ix4 2 8 1 k)) (fun k => M (ix4 2 8 0 k)) (fun i j => W (ix2 i j)) l

open Cert.Reference5Ideal Cert.Reference5Ideal.Gen

/-- The latent tokens of the one token array. -/
def lTok (T : FVec Ideal S34816x1024 .f32) : FVec Ideal S8x4096x1024 .f32 :=
  shapeCast S8x4096x1024 (extractStridedSlice S32768x1024 ![0, 0] T slices_S34816x1024_S32768x1024_0_0) shapeCasts_S32768x1024_S8x4096x1024

/-- The latent tokens at an index. -/
theorem lTok_at (T : FVec Ideal S34816x1024 .f32) (b : Fin 8) (r : Fin 4096) (k : Fin 1024) (R : Fin 34816) (h : R.val = b.val * 4096 + r.val) :
    lTok T (ix3 b r k) = T (ix2 R k) := by
  rw [show R = (⟨b.val * 4096 + r.val, by omega⟩ : Fin 34816) from Fin.ext h]
  pointwise [lTok]

/-- The context tokens of the one token array. -/
def cTok (T : FVec Ideal S34816x1024 .f32) : FVec Ideal S8x256x1024 .f32 :=
  shapeCast S8x256x1024 (extractStridedSlice S2048x1024 ![32768, 0] T slices_S34816x1024_S2048x1024_32768_0) shapeCasts_S2048x1024_S8x256x1024

/-- The context tokens at an index. -/
theorem cTok_at (T : FVec Ideal S34816x1024 .f32) (b : Fin 8) (r : Fin 256) (k : Fin 1024) (R : Fin 34816) (h : R.val = 32768 + (b.val * 256 + r.val)) :
    cTok T (ix3 b r k) = T (ix2 R k) := by
  rw [show R = (⟨32768 + (b.val * 256 + r.val), by omega⟩ : Fin 34816) from Fin.ext h]
  pointwise [cTok]

/-- The two forms of the result agree. -/
theorem split0_eq (T : FVec Ideal ⟨2, ![34816, 1024]⟩ .f32) (M : FVec Ideal ⟨4, ![4, 9, 6, 1024]⟩ .f32) (N : FVec Ideal ⟨2, ![4, 1024]⟩ .f32) (W : FVec Ideal ⟨2, ![1024, 3072]⟩ .f32)
    (R : Fin 34816) (l : Fin 1024) :
    split0 (lTok T) (cTok T) M N W R l = target0 T M N W R l := by
  unfold split0 target0
  split
  · rename_i h
    rw [show mrow R = (⟨R.val / 4096, by omega⟩ : Fin 9) from Fin.ext (if_pos h)]
    simp only [fun k => lTok_at T (⟨R.val / 4096, by omega⟩ : Fin 8) (⟨R.val % 4096, by omega⟩ : Fin 4096) k R (Nat.div_add_mod' R.val 4096).symm]
  · rename_i h
    have hR := R.isLt
    rw [show mrow R = 8 from Fin.ext (if_neg h)]
    simp only [fun k => cTok_at T (⟨(R.val - 32768) / 256, by omega⟩ : Fin 8) (⟨(R.val - 32768) % 256, by omega⟩ : Fin 256) k R (by simp only []; omega)]

/-- The two forms of the result agree. -/
theorem split1_eq (T : FVec Ideal ⟨2, ![34816, 1024]⟩ .f32) (M : FVec Ideal ⟨4, ![4, 9, 6, 1024]⟩ .f32) (N : FVec Ideal ⟨2, ![4, 1024]⟩ .f32) (W : FVec Ideal ⟨2, ![1024, 3072]⟩ .f32)
    (R : Fin 34816) (l : Fin 1024) :
    split1 (lTok T) (cTok T) M N W R l = target1 T M N W R l := by
  unfold split1 target1
  split
  · rename_i h
    rw [show mrow R = (⟨R.val / 4096, by omega⟩ : Fin 9) from Fin.ext (if_pos h)]
    simp only [fun k => lTok_at T (⟨R.val / 4096, by omega⟩ : Fin 8) (⟨R.val % 4096, by omega⟩ : Fin 4096) k R (Nat.div_add_mod' R.val 4096).symm]
  · rename_i h
    have hR := R.isLt
    rw [show mrow R = 8 from Fin.ext (if_neg h)]
    simp only [fun k => cTok_at T (⟨(R.val - 32768) / 256, by omega⟩ : Fin 8) (⟨(R.val - 32768) % 256, by omega⟩ : Fin 256) k R (by simp only []; omega)]

/-- The latent tokens' modulation vectors. -/
def lMod (M : FVec Ideal S4x9x6x1024 .f32) : FVec Ideal S8x6x1x1024 .f32 :=
  shapeCast S8x6x1x1024 (shapeCast S8x6x1024 (extractStridedSlice S1x8x6x1024 ![2, 0, 0, 0] M slices_S4x9x6x1024_S1x8x6x1024_2_0_0_0) shapeCasts_S1x8x6x1024_S8x6x1024) shapeCasts_S8x6x1024_S8x6x1x1024

/-- The reference's root-mean-square norm of the latent tokens. -/
def lNorm (v : FVec Ideal S8x4096x1024 .f32) (g : FVec Ideal S1024 .f32) : FVec Ideal S8x4096x1024 .f32 :=
  mulf (mulf v (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf v v) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 g))

/-- The norm at an index. -/
theorem lNorm_at (v : FVec Ideal S8x4096x1024 .f32) (g : FVec Ideal S1024 .f32) (b : Fin 8) (r : Fin 4096) (l : Fin 1024) :
    lNorm v g (ix3 b r l) = rnorm (fun k => v (ix3 b r k)) (fun k => g (ix1 k)) l := by
  unfold rnorm
  pointwise [lNorm]

/-- The reference's modulated normed latent tokens. -/
def lModr (x1 : FVec Ideal S8x4096x1024 .f32) (M : FVec Ideal S4x9x6x1024 .f32) (N2 : FVec Ideal S4x1024 .f32) : FVec Ideal S8x4096x1024 .f32 :=
  addf (mulf (lNorm x1 (shapeCast S1024 (extractStridedSlice S1x1024 ![2, 0] N2 slices_S4x1024_S1x1024_2_0) shapeCasts_S1x1024_S1024)) (broadcastInDim S8x4096x1024 ![0, 1, 2] bcast_S8x1x1024_S8x4096x1024_0_1_2 (addf (broadcastInDim S8x1x1024 ![] bcast_S_S8x1x1024 (constant S_ .f32 0x3F800000#32)) (shapeCast S8x1x1024 (extractStridedSlice S8x1x1x1024 ![0, 1, 0, 0] (lMod M) slices_S8x6x1x1024_S8x1x1x1024_0_1_0_0) shapeCasts_S8x1x1x1024_S8x1x1024)))) (broadcastInDim S8x4096x1024 ![0, 1, 2] bcast_S8x1x1024_S8x4096x1024_0_1_2 (shapeCast S8x1x1024 (extractStridedSlice S8x1x1x1024 ![0, 0, 0, 0] (lMod M) slices_S8x6x1x1024_S8x1x1x1024_0_0_0_0) shapeCasts_S8x1x1x1024_S8x1x1024))

/-- The modulated normed row at an index. -/
theorem lModr_at (x1 : FVec Ideal S8x4096x1024 .f32) (M : FVec Ideal S4x9x6x1024 .f32) (N2 : FVec Ideal S4x1024 .f32) (b : Fin 8) (r : Fin 4096) (l : Fin 1024) :
    lModr x1 M N2 (ix3 b r l) = modr (fun k => x1 (ix3 b r k)) (fun k => N2 (ix2 2 k)) (fun k => M (ix4 2 (⟨b.val, by omega⟩ : Fin 9) 1 k)) (fun k => M (ix4 2 (⟨b.val, by omega⟩ : Fin 9) 0 k)) l := by
  unfold modr
  pointwise [lModr, lMod, lNorm_at]

/-- The reference's projected latent tokens. -/
def lProj (x : FVec Ideal S8x4096x1024 .f32) (M : FVec Ideal S4x9x6x1024 .f32) (N2 : FVec Ideal S4x1024 .f32) (W : FVec Ideal S1024x3072 .f32) : FVec Ideal S8x4096x3072 .f32 :=
  Host.dotGeneral dot_S8x4096x1024_S1024x3072_S8x4096x3072_2_0_01_1_n_n none (lModr x M N2) W

/-- The projection at an index. -/
theorem lProj_at (x : FVec Ideal S8x4096x1024 .f32) (M : FVec Ideal S4x9x6x1024 .f32) (N2 : FVec Ideal S4x1024 .f32) (W : FVec Ideal S1024x3072 .f32) (b : Fin 8) (r : Fin 4096) (l : Fin 3072) :
    lProj x M N2 W (ix3 b r l) = proj (fun k => x (ix3 b r k)) (fun k => N2 (ix2 2 k)) (fun k => M (ix4 2 (⟨b.val, by omega⟩ : Fin 9) 1 k)) (fun k => M (ix4 2 (⟨b.val, by omega⟩ : Fin 9) 0 k)) (fun i j => W (ix2 i j)) l := by
  unfold proj
  pointwise [lProj, lModr_at]

/-- The context tokens' modulation vectors. -/
def cMod (M : FVec Ideal S4x9x6x1024 .f32) : FVec Ideal S1x6x1x1024 .f32 :=
  shapeCast S1x6x1x1024 (shapeCast S1x6x1024 (extractStridedSlice S1x1x6x1024 ![2, 8, 0, 0] M slices_S4x9x6x1024_S1x1x6x1024_2_8_0_0) shapeCasts_S1x1x6x1024_S1x6x1024) shapeCasts_S1x6x1024_S1x6x1x1024

/-- The reference's root-mean-square norm of the context tokens. -/
def cNorm (v : FVec Ideal S8x256x1024 .f32) (g : FVec Ideal S1024 .f32) : FVec Ideal S8x256x1024 .f32 :=
  mulf (mulf v (broadcastInDim S8x256x1024 ![0, 1, 2] bcast_S8x256x1_S8x256x1024_0_1_2 (Host.rsqrt (addf (Host.divf (broadcastInDim S8x256x1 ![0, 1] bcast_S8x256_S8x256x1_0_1 (Host.reduceAdd (mulf v v) (constant S_ .f32 0x00000000#32) reducesTo_S8x256x1024_S8x256_d2 h_S_)) (broadcastInDim S8x256x1 ![] bcast_S_S8x256x1 (constant S_ .f32 0x44800000#32))) (broadcastInDim S8x256x1 ![] bcast_S_S8x256x1 (constant S_ .f32 0x358637BD#32)))))) (broadcastInDim S8x256x1024 ![0, 1, 2] bcast_S1x1x1024_S8x256x1024_0_1_2 (broadcastInDim S1x1x1024 ![2] bcast_S1024_S1x1x1024_2 g))

/-- The norm at an index. -/
theorem cNorm_at (v : FVec Ideal S8x256x1024 .f32) (g : FVec Ideal S1024 .f32) (b : Fin 8) (r : Fin 256) (l : Fin 1024) :
    cNorm v g (ix3 b r l) = rnorm (fun k => v (ix3 b r k)) (fun k => g (ix1 k)) l := by
  unfold rnorm
  pointwise [cNorm]

/-- The reference's modulated normed context tokens. -/
def cModr (x1 : FVec Ideal S8x256x1024 .f32) (M : FVec Ideal S4x9x6x1024 .f32) (N2 : FVec Ideal S4x1024 .f32) : FVec Ideal S8x256x1024 .f32 :=
  addf (mulf (cNorm x1 (shapeCast S1024 (extractStridedSlice S1x1024 ![2, 0] N2 slices_S4x1024_S1x1024_2_0) shapeCasts_S1x1024_S1024)) (broadcastInDim S8x256x1024 ![0, 1, 2] bcast_S1x1x1024_S8x256x1024_0_1_2 (addf (broadcastInDim S1x1x1024 ![] bcast_S_S1x1x1024 (constant S_ .f32 0x3F800000#32)) (shapeCast S1x1x1024 (extractStridedSlice S1x1x1x1024 ![0, 1, 0, 0] (cMod M) slices_S1x6x1x1024_S1x1x1x1024_0_1_0_0) shapeCasts_S1x1x1x1024_S1x1x1024)))) (broadcastInDim S8x256x1024 ![0, 1, 2] bcast_S1x1x1024_S8x256x1024_0_1_2 (shapeCast S1x1x1024 (extractStridedSlice S1x1x1x1024 ![0, 0, 0, 0] (cMod M) slices_S1x6x1x1024_S1x1x1x1024_0_0_0_0) shapeCasts_S1x1x1x1024_S1x1x1024))

/-- The modulated normed row at an index. -/
theorem cModr_at (x1 : FVec Ideal S8x256x1024 .f32) (M : FVec Ideal S4x9x6x1024 .f32) (N2 : FVec Ideal S4x1024 .f32) (b : Fin 8) (r : Fin 256) (l : Fin 1024) :
    cModr x1 M N2 (ix3 b r l) = modr (fun k => x1 (ix3 b r k)) (fun k => N2 (ix2 2 k)) (fun k => M (ix4 2 8 1 k)) (fun k => M (ix4 2 8 0 k)) l := by
  unfold modr
  pointwise [cModr, cMod, cNorm_at]

/-- The reference's projected context tokens. -/
def cProj (x : FVec Ideal S8x256x1024 .f32) (M : FVec Ideal S4x9x6x1024 .f32) (N2 : FVec Ideal S4x1024 .f32) (W : FVec Ideal S1024x3072 .f32) : FVec Ideal S8x256x3072 .f32 :=
  Host.dotGeneral dot_S8x256x1024_S1024x3072_S8x256x3072_2_0_01_1_n_n none (cModr x M N2) W

/-- The projection at an index. -/
theorem cProj_at (x : FVec Ideal S8x256x1024 .f32) (M : FVec Ideal S4x9x6x1024 .f32) (N2 : FVec Ideal S4x1024 .f32) (W : FVec Ideal S1024x3072 .f32) (b : Fin 8) (r : Fin 256) (l : Fin 3072) :
    cProj x M N2 W (ix3 b r l) = proj (fun k => x (ix3 b r k)) (fun k => N2 (ix2 2 k)) (fun k => M (ix4 2 8 1 k)) (fun k => M (ix4 2 8 0 k)) (fun i j => W (ix2 i j)) l := by
  unfold proj
  pointwise [cProj, cModr_at]

/-- The first third of the latent tokens' projection. -/
def lOut0 (P : FVec Ideal S8x4096x3072 .f32) : FVec Ideal S8x4096x1024 .f32 :=
  extractStridedSlice S8x4096x1024 ![0, 0, 0] P slices_S8x4096x3072_S8x4096x1024_0_0_0

/-- The first third at an index. -/
theorem lOut0_at (P : FVec Ideal S8x4096x3072 .f32) (b : Fin 8) (r : Fin 4096) (l : Fin 1024) :
    lOut0 P (ix3 b r l) = P (ix3 b r (⟨l.val, by omega⟩ : Fin 3072)) := by
  pointwise [lOut0]

/-- The product of the other two thirds of the latent tokens' projection. -/
def lOut1 (P : FVec Ideal S8x4096x3072 .f32) : FVec Ideal S8x4096x1024 .f32 :=
  mulf (extractStridedSlice S8x4096x1024 ![0, 0, 1024] P slices_S8x4096x3072_S8x4096x1024_0_0_1024) (extractStridedSlice S8x4096x1024 ![0, 0, 2048] P slices_S8x4096x3072_S8x4096x1024_0_0_2048)

/-- The product at an index. -/
theorem lOut1_at (P : FVec Ideal S8x4096x3072 .f32) (b : Fin 8) (r : Fin 4096) (l : Fin 1024) :
    lOut1 P (ix3 b r l) = P (ix3 b r (⟨1024 + l.val, by omega⟩ : Fin 3072)) * P (ix3 b r (⟨2048 + l.val, by omega⟩ : Fin 3072)) := by
  pointwise [lOut1]

/-- The first third of the context tokens' projection. -/
def cOut0 (P : FVec Ideal S8x256x3072 .f32) : FVec Ideal S8x256x1024 .f32 :=
  extractStridedSlice S8x256x1024 ![0, 0, 0] P slices_S8x256x3072_S8x256x1024_0_0_0

/-- The first third at an index. -/
theorem cOut0_at (P : FVec Ideal S8x256x3072 .f32) (b : Fin 8) (r : Fin 256) (l : Fin 1024) :
    cOut0 P (ix3 b r l) = P (ix3 b r (⟨l.val, by omega⟩ : Fin 3072)) := by
  pointwise [cOut0]

/-- The product of the other two thirds of the context tokens' projection. -/
def cOut1 (P : FVec Ideal S8x256x3072 .f32) : FVec Ideal S8x256x1024 .f32 :=
  mulf (extractStridedSlice S8x256x1024 ![0, 0, 1024] P slices_S8x256x3072_S8x256x1024_0_0_1024) (extractStridedSlice S8x256x1024 ![0, 0, 2048] P slices_S8x256x3072_S8x256x1024_0_0_2048)

/-- The product at an index. -/
theorem cOut1_at (P : FVec Ideal S8x256x3072 .f32) (b : Fin 8) (r : Fin 256) (l : Fin 1024) :
    cOut1 P (ix3 b r l) = P (ix3 b r (⟨1024 + l.val, by omega⟩ : Fin 3072)) * P (ix3 b r (⟨2048 + l.val, by omega⟩ : Fin 3072)) := by
  pointwise [cOut1]

/-- The reference's result 0 at an index. -/
theorem ref0_at (m : (ℓ : Loc nD τ sig) → Buf (Elt Ideal) ℓ) (c : Dev nD) (R : Fin 34816) (l : Fin 1024) :
    Cert.Reference5Ideal.Value.res_out0 m c (ix2 R l) = target0 (m ((c : Thread nD τ).loc main_arg0)) (m ((c : Thread nD τ).loc main_arg1)) (m ((c : Thread nD τ).loc main_arg2)) (m ((c : Thread nD τ).loc main_arg3)) R l := by
  have e : Cert.Reference5Ideal.Value.res_out0 m c = fun i => concatenate S34816x1024 0
      [⟨S32768x1024, shapeCast S32768x1024 (lOut0 (lProj (lTok (m ((c : Thread nD τ).loc main_arg0))) (m ((c : Thread nD τ).loc main_arg1)) (m ((c : Thread nD τ).loc main_arg2)) (m ((c : Thread nD τ).loc main_arg3)))) shapeCasts_S8x4096x1024_S32768x1024⟩,
       ⟨S2048x1024, shapeCast S2048x1024 (cOut0 (cProj (cTok (m ((c : Thread nD τ).loc main_arg0))) (m ((c : Thread nD τ).loc main_arg1)) (m ((c : Thread nD τ).loc main_arg2)) (m ((c : Thread nD τ).loc main_arg3)))) shapeCasts_S8x256x1024_S2048x1024⟩]
      concatenates_S32768x1024_S2048x1024_S34816x1024_d0 i := rfl
  rw [e, ← split0_eq]
  unfold split0 gate0
  pointwise [lOut0_at, cOut0_at, lProj_at, cProj_at]

/-- The reference's result 1 at an index. -/
theorem ref1_at (m : (ℓ : Loc nD τ sig) → Buf (Elt Ideal) ℓ) (c : Dev nD) (R : Fin 34816) (l : Fin 1024) :
    Cert.Reference5Ideal.Value.res_out1 m c (ix2 R l) = target1 (m ((c : Thread nD τ).loc main_arg0)) (m ((c : Thread nD τ).loc main_arg1)) (m ((c : Thread nD τ).loc main_arg2)) (m ((c : Thread nD τ).loc main_arg3)) R l := by
  have e : Cert.Reference5Ideal.Value.res_out1 m c = fun i => concatenate S34816x1024 0
      [⟨S32768x1024, shapeCast S32768x1024 (lOut1 (lProj (lTok (m ((c : Thread nD τ).loc main_arg0))) (m ((c : Thread nD τ).loc main_arg1)) (m ((c : Thread nD τ).loc main_arg2)) (m ((c : Thread nD τ).loc main_arg3)))) shapeCasts_S8x4096x1024_S32768x1024⟩,
       ⟨S2048x1024, shapeCast S2048x1024 (cOut1 (cProj (cTok (m ((c : Thread nD τ).loc main_arg0))) (m ((c : Thread nD τ).loc main_arg1)) (m ((c : Thread nD τ).loc main_arg2)) (m ((c : Thread nD τ).loc main_arg3)))) shapeCasts_S8x256x1024_S2048x1024⟩]
      concatenates_S32768x1024_S2048x1024_S34816x1024_d0 i := rfl
  rw [e, ← split1_eq]
  unfold split1 gate1
  pointwise [lOut1_at, cOut1_at, lProj_at, cProj_at]

end Cert.Proof.Gated
end
-- ==== Proof.GatedValue.lean ====
module

public import proofs.«01_k».proof.Proof.GatedPay
public import proofs.«01_k».proof.Proof.GatedRef
public import Idealize.ShloMosaic.Lib.Claim

@[expose] public section

set_option maxRecDepth 16384

noncomputable section

namespace Cert.Proof.Gated

open Cert.Kernel5Ideal Cert.Kernel5Ideal.Gen Idealize.ShloMosaic Idealize.ShloMosaic.TcCoe Idealize.SL.Sem

variable (m : (ℓ : Loc nD τ sig) → Buf (Elt Ideal) ℓ)

/-- Where each window's block stands at a grid point. -/
theorem idx_facts : ∀ t : Fin cfg0.N, win0_0.index t = ![t.val, 0] ∧ win0_2.index t = ![2, 0, 0] ∧ win0_3.index t = ![0, 0] ∧ win0_4.index t = ![t.val, 0] ∧ win0_5.index t = ![t.val, 0] := by
  decide +kernel

/-- Where the modulation window stands at a tile of latent tokens. -/
theorem idx_lat : ∀ t : Fin cfg0.N, t.val < 32 → win0_1.index t = ![2, t.val / 4, 0, 0] := by
  decide +kernel

/-- Where it stands at a tile of context tokens. -/
theorem idx_ctx : ∀ t : Fin cfg0.N, ¬ t.val < 32 → win0_1.index t = ![2, 8, 0, 0] := by
  decide +kernel

/-- A tile's block of tokens at an index, from the argument array. -/
theorem blk0 (c : Dev nD) (t : Fin cfg0.N) (r : Fin 1024) (k : Fin 1024) (R : Fin 34816) (hR : R.val = t.val * 1024 + r.val) :
    iblk m c 0 t (ix2 r k) = (m ((c : Thread nD τ).loc main_arg0)) (ix2 R k) := by
  blk_ext [iblk, V, idx_facts t]

/-- A tile's modulation rows at an index, from the argument array. -/
theorem blk1 (c : Dev nD) (t : Fin cfg0.N) (i : Fin 6) (k : Fin 1024) (r : Fin 1024) (R : Fin 34816) (hR : R.val = t.val * 1024 + r.val) :
    iblk m c 1 t (ix4 0 0 i k) = (m ((c : Thread nD τ).loc main_arg1)) (ix4 2 (mrow R) i k) := by
  have hr := r.isLt
  by_cases ht : t.val < 32
  · rw [show mrow R = (⟨R.val / 4096, by omega⟩ : Fin 9) from Fin.ext (if_pos (by omega))]
    blk_simp [iblk]; entry_read; pointwise
    have hb : ((win0_1.blk t).view.emb (ix4 0 0 i k) 1).val = t.val / 4 := by blk_simp [idx_lat t ht]; exact Nat.add_zero _
    rw [dif_pos (lt_of_eq_of_lt hb (by omega))]
    blk_ext [idx_lat t ht]
  · rw [show mrow R = 8 from Fin.ext (if_neg (by omega))]
    blk_simp [iblk]; entry_read; pointwise
    have hb : ((win0_1.blk t).view.emb (ix4 0 0 i k) 1).val = 8 := by blk_simp [idx_ctx t ht]; exact Nat.add_zero _
    rw [dif_pos (lt_of_eq_of_lt hb (by omega))]
    blk_ext [idx_ctx t ht]

/-- The norm's weights at an index, from the argument array. -/
theorem blk2 (c : Dev nD) (t : Fin cfg0.N) (k : Fin 1024) :
    iblk m c 2 t (ix3 0 0 k) = (m ((c : Thread nD τ).loc main_arg2)) (ix2 2 k) := by
  blk_simp [iblk]; entry_read; pointwise
  blk_ext [idx_facts t]

/-- The projection's weights at an index, from the argument array. -/
theorem blk3 (c : Dev nD) (t : Fin cfg0.N) (i : Fin 1024) (j : Fin 3072) :
    iblk m c 3 t (ix2 i j) = (m ((c : Thread nD τ).loc main_arg3)) (ix2 i j) := by
  blk_simp [iblk]; entry_read; pointwise
  blk_ext [idx_facts t]

/-- A block of result 0 at an index. -/
theorem out0_at (c : Dev nD) (t : Fin cfg0.N) (r : Fin 1024) (l : Fin 1024) (R : Fin 34816) (hR : R.val = t.val * 1024 + r.val) :
    out0_4 (iblk m c 0 t) (iblk m c 1 t) (iblk m c 2 t) (iblk m c 3 t) (ix2 r l) = target0 (m ((c : Thread nD τ).loc main_arg0)) (m ((c : Thread nD τ).loc main_arg1)) (m ((c : Thread nD τ).loc main_arg2)) (m ((c : Thread nD τ).loc main_arg3)) R l := by
  rw [block0_at, target0]
  simp only [blk2, blk3, fun k => blk0 m c t r k R hR, fun i k => blk1 m c t i k r R hR]

/-- The kernel's result 0, at every index. -/
theorem kernel_final0 (c : Dev nD) :
    (dats m 0 c).arrAt 4 cfg0.N = fun i => target0 (m ((c : Thread nD τ).loc main_arg0)) (m ((c : Thread nD τ).loc main_arg1)) (m ((c : Thread nD τ).loc main_arg2)) (m ((c : Thread nD τ).loc main_arg3)) (i 0) (i 1) := by
  refine (dats m 0 c).arrAt_eq_of_covers 4 _ (by decide +kernel) fun t hf y => ?_
  blk_simp
  rw [after0_4]
  have e0 : ((win0_4.blk t).view.emb y 0).val = t.val * 1024 + (y 0).val := by blk_simp [idx_facts t]
  have e1 : (win0_4.blk t).view.emb y 1 = y 1 := Fin.ext (by blk_simp [idx_facts t])
  rw [e1]
  exact (congrArg _ (eq_ix2 y)).trans (out0_at m c t (y 0) (y 1) _ e0)

/-- A block of result 1 at an index. -/
theorem out1_at (c : Dev nD) (t : Fin cfg0.N) (r : Fin 1024) (l : Fin 1024) (R : Fin 34816) (hR : R.val = t.val * 1024 + r.val) :
    out0_5 (iblk m c 0 t) (iblk m c 1 t) (iblk m c 2 t) (iblk m c 3 t) (ix2 r l) = target1 (m ((c : Thread nD τ).loc main_arg0)) (m ((c : Thread nD τ).loc main_arg1)) (m ((c : Thread nD τ).loc main_arg2)) (m ((c : Thread nD τ).loc main_arg3)) R l := by
  rw [block1_at, target1]
  simp only [blk2, blk3, fun k => blk0 m c t r k R hR, fun i k => blk1 m c t i k r R hR]

/-- The kernel's result 1, at every index. -/
theorem kernel_final1 (c : Dev nD) :
    (dats m 0 c).arrAt 5 cfg0.N = fun i => target1 (m ((c : Thread nD τ).loc main_arg0)) (m ((c : Thread nD τ).loc main_arg1)) (m ((c : Thread nD τ).loc main_arg2)) (m ((c : Thread nD τ).loc main_arg3)) (i 0) (i 1) := by
  refine (dats m 0 c).arrAt_eq_of_covers 5 _ (by decide +kernel) fun t hf y => ?_
  blk_simp
  rw [after0_5]
  have e0 : ((win0_5.blk t).view.emb y 0).val = t.val * 1024 + (y 0).val := by blk_simp [idx_facts t]
  have e1 : (win0_5.blk t).view.emb y 1 = y 1 := Fin.ext (by blk_simp [idx_facts t])
  rw [e1]
  exact (congrArg _ (eq_ix2 y)).trans (out1_at m c t (y 0) (y 1) _ e0)

end Cert.Proof.Gated
end
-- ==== Proof.Gated.lean ====
module

public import proofs.«01_k».proof.Defs
public import proofs.«01_k».proof.Proof.GatedValue
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import Idealize.ShloMosaic.Adequacy
public import Idealize.ShloMosaic.Init

@[expose] public section

set_option maxRecDepth 16384

noncomputable section

namespace Cert.Proof.Gated

open Idealize.ShloMosaic Idealize.SL.Sem

/-- The short-convolution layer's first call, as compiled: it leaves its arguments alone and its counters at zero. -/
theorem frame_kernel : Cert.quiescent_Kernel5 := fun m ρ _ => Cert.Kernel5.Gen.frame m ρ

/-- The same over the extended reals. -/
theorem frame_ideal : Cert.quiescent_Kernel5Ideal := fun m ρ _ => Cert.Kernel5Ideal.Gen.frame m ρ

/-- The reference's run leaves its arguments alone; it declares no semaphore. -/
theorem frame_reference : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

/-- Both programs' two results are the plain formulas', read from the arguments the two programs share. -/
theorem algebraic : Cert.algebraic_Kernel5Ideal_Reference5Ideal := by
  intro m g m' g' _ h
  refine ⟨fun c => (Cert.Kernel5Ideal.Gen.dats m 0 c).arrAt 4 Cert.Kernel5Ideal.cfg0.N, fun c => (Cert.Kernel5Ideal.Gen.dats m 0 c).arrAt 5 Cert.Kernel5Ideal.cfg0.N, Cert.Kernel5Ideal.Value.run_blocks m g, ?_⟩
  refine (θ_run Cert.Reference5Ideal.defs _ _).mono (fun r hr c => ⟨(hr c).1.trans ?_, (hr c).2.1.trans ?_, (hr c).2.2⟩) (Cert.Reference5Ideal.Value.run (F := Ideal) m' g')
  · obtain ⟨h0, h1, h2, h3⟩ := h c
    refine Eq.trans ?_ (kernel_final0 m c).symm
    funext i
    rw [eq_ix2 i]
    refine (ref0_at m' c (i 0) (i 1)).trans ?_
    rw [h0, h1, h2, h3]
    rfl
  · obtain ⟨h0, h1, h2, h3⟩ := h c
    refine Eq.trans ?_ (kernel_final1 m c).symm
    funext i
    rw [eq_ix2 i]
    refine (ref1_at m' c (i 0) (i 1)).trans ?_
    rw [h0, h1, h2, h3]
    rfl

end Cert.Proof.Gated
end
-- ==== Proof.ConvScr.lean ====
module

public import proofs.«01_k».proof.Proof.GatedPay
public import proofs.«01_k».proof.Proof.Gen.Kernel6Ideal.Value
public import Idealize.ShloMosaic.Lib.Pointwise
public import Idealize.ShloMosaic.Lib.Pipeline.ValueKit

@[expose] public section

set_option maxRecDepth 16384

noncomputable section

namespace Cert.Proof.Conv

open Cert.Kernel6Ideal Cert.Kernel6Ideal.Gen Idealize.ShloMosaic
open Cert.Proof.Post (Row rnorm res modr hid res2)
open Cert.Proof.Post3 (post pick)

/-- One row of the gated depthwise convolution of width three: the row's gate times the weighted sum of the rows before, at and after it. -/
def gated (a p c n w0 w1 w2 : Row) : Row := fun k => a k * (w0 k * p k + w1 k * c k + w2 k * n k)

/-! The rectangles the body loads and stores through. -/

abbrev rHalo : Rect S8x1024 := Rect.unit (s := S8x1024) ![0, 0] S8x1024.size inb_S8x1024_S8x1024_0_0
abbrev rNext : Rect S512x1024 := Rect.unit (s := S512x1024) ![256, 0] S8x1024.size inb_S512x1024_S8x1024_256_0
abbrev rPrev : Rect S512x1024 := Rect.unit (s := S512x1024) ![248, 0] S8x1024.size inb_S512x1024_S8x1024_248_0
abbrev rTop : Rect S512x1024 := Rect.unit (s := S512x1024) ![0, 0] S256x1024.size inb_S512x1024_S256x1024_0_0
abbrev rBot : Rect S512x1024 := Rect.unit (s := S512x1024) ![256, 0] S256x1024.size inb_S512x1024_S256x1024_256_0
abbrev rW0 : Rect S3x1024 := Rect.unit (s := S3x1024) ![0, 0] S1x1024.size inb_S3x1024_S1x1024_0_0
abbrev rW1 : Rect S3x1024 := Rect.unit (s := S3x1024) ![1, 0] S1x1024.size inb_S3x1024_S1x1024_1_0
abbrev rW2 : Rect S3x1024 := Rect.unit (s := S3x1024) ![2, 0] S1x1024.size inb_S3x1024_S1x1024_2_0
abbrev rM2 : Rect S1x1x6x1024 := Rect.unit (s := S1x1x6x1024) ![0, 0, 2, 0] S1x1x1x1024.size inb_S1x1x6x1024_S1x1x1x1024_0_0_2_0
abbrev rM3 : Rect S1x1x6x1024 := Rect.unit (s := S1x1x6x1024) ![0, 0, 3, 0] S1x1x1x1024.size inb_S1x1x6x1024_S1x1x1x1024_0_0_3_0
abbrev rM4 : Rect S1x1x6x1024 := Rect.unit (s := S1x1x6x1024) ![0, 0, 4, 0] S1x1x1x1024.size inb_S1x1x6x1024_S1x1x1x1024_0_0_4_0
abbrev rM5 : Rect S1x1x6x1024 := Rect.unit (s := S1x1x6x1024) ![0, 0, 5, 0] S1x1x1x1024.size inb_S1x1x6x1024_S1x1x1x1024_0_0_5_0
abbrev rN : Rect S1x1x1024 := Rect.unit (s := S1x1x1024) ![0, 0, 0] S1x1x1024.size inb_S1x1x1024_S1x1x1024_0_0_0
abbrev rO : Rect S1024x1024 := Rect.unit (s := S1024x1024) ![0, 0] S1024x1024.size inb_S1024x1024_S1024x1024_0_0
abbrev rA : Rect S1x1024x4096 := Rect.unit (s := S1x1024x4096) ![0, 0, 0] S1x1024x4096.size inb_S1x1024x4096_S1x1024x4096_0_0_0
abbrev rB : Rect S1x4096x1024 := Rect.unit (s := S1x4096x1024) ![0, 0, 0] S1x4096x1024.size inb_S1x4096x1024_S1x4096x1024_0_0_0
abbrev rS0_0 : Rect S2x272x1024 := Rect.unit (s := S2x272x1024) ![0, 0, 0] S1x8x1024.size inb_S2x272x1024_S1x8x1024_0_0_0
abbrev rS0_8 : Rect S2x272x1024 := Rect.unit (s := S2x272x1024) ![0, 8, 0] S1x256x1024.size inb_S2x272x1024_S1x256x1024_0_8_0
abbrev rS0_264 : Rect S2x272x1024 := Rect.unit (s := S2x272x1024) ![0, 264, 0] S1x8x1024.size inb_S2x272x1024_S1x8x1024_0_264_0
abbrev rS0_7 : Rect S2x272x1024 := Rect.unit (s := S2x272x1024) ![0, 7, 0] S1x256x1024.size inb_S2x272x1024_S1x256x1024_0_7_0
abbrev rS0_9 : Rect S2x272x1024 := Rect.unit (s := S2x272x1024) ![0, 9, 0] S1x256x1024.size inb_S2x272x1024_S1x256x1024_0_9_0
abbrev rS1_0 : Rect S2x272x1024 := Rect.unit (s := S2x272x1024) ![1, 0, 0] S1x8x1024.size inb_S2x272x1024_S1x8x1024_1_0_0
abbrev rS1_8 : Rect S2x272x1024 := Rect.unit (s := S2x272x1024) ![1, 8, 0] S1x256x1024.size inb_S2x272x1024_S1x256x1024_1_8_0
abbrev rS1_264 : Rect S2x272x1024 := Rect.unit (s := S2x272x1024) ![1, 264, 0] S1x8x1024.size inb_S2x272x1024_S1x8x1024_1_264_0
abbrev rS1_7 : Rect S2x272x1024 := Rect.unit (s := S2x272x1024) ![1, 7, 0] S1x256x1024.size inb_S2x272x1024_S1x256x1024_1_7_0
abbrev rS1_9 : Rect S2x272x1024 := Rect.unit (s := S2x272x1024) ![1, 9, 0] S1x256x1024.size inb_S2x272x1024_S1x256x1024_1_9_0

/-- Length of the sequence a tile's rows belong to. -/
abbrev seqLen (i : grid0.Coords) : BitVec 32 :=
  Scalar.select (Scalar.cmpi .slt (Scalar.muli (BitVec.ofNat 32 (i 0).val) 512#32) 32768#32) 4096#32 256#32

/-- Whether the tile's first chunk begins a sequence. -/
abbrev start0 (i : grid0.Coords) : BitVec 1 :=
  Scalar.cmpi .eq (Scalar.remsi (Scalar.addi (Scalar.muli (BitVec.ofNat 32 (i 0).val) 512#32) 0#32) (seqLen i)) 0#32

/-- Whether the tile's first chunk ends a sequence. -/
abbrev end0 (i : grid0.Coords) : BitVec 1 :=
  Scalar.cmpi .eq (Scalar.remsi (Scalar.addi (Scalar.addi (Scalar.muli (BitVec.ofNat 32 (i 0).val) 512#32) 0#32) 256#32) (seqLen i)) 0#32

/-- Whether the tile's second chunk begins a sequence. -/
abbrev start1 (i : grid0.Coords) : BitVec 1 :=
  Scalar.cmpi .eq (Scalar.remsi (Scalar.addi (Scalar.muli (BitVec.ofNat 32 (i 0).val) 512#32) 256#32) (seqLen i)) 0#32

/-- Whether the tile's second chunk ends a sequence. -/
abbrev end1 (i : grid0.Coords) : BitVec 1 :=
  Scalar.cmpi .eq (Scalar.remsi (Scalar.addi (Scalar.addi (Scalar.muli (BitVec.ofNat 32 (i 0).val) 512#32) 256#32) 256#32) (seqLen i)) 0#32

/-- The rows kept before the first chunk, zero at a sequence's edge. -/
theorem pay2_at (i : grid0.Coords) (y : Vec Ideal S8x1024 .f32) (r : Fin 8) (l : Fin 1024) :
    k0_pay2 i y (ix3 0 r l) = pick (start0 i) 0 (y (ix2 r l)) := by
  unfold pick
  pointwise [k0_pay2]
  by_cases hb : start0 i = 1#1
  · rw [if_pos hb, Scalar.select, if_pos (show start0 i = 1 from hb)]
  · rw [if_neg hb, Scalar.select, if_neg (show ¬ start0 i = 1 from hb)]

/-- The rows kept after the first chunk, zero at a sequence's edge. -/
theorem pay4_at (i : grid0.Coords) (y : Vec Ideal S8x1024 .f32) (r : Fin 8) (l : Fin 1024) :
    k0_pay4 i y (ix3 0 r l) = pick (end0 i) 0 (y (ix2 r l)) := by
  unfold pick
  pointwise [k0_pay4]
  by_cases hb : end0 i = 1#1
  · rw [if_pos hb, Scalar.select, if_pos (show end0 i = 1 from hb)]
  · rw [if_neg hb, Scalar.select, if_neg (show ¬ end0 i = 1 from hb)]

/-- The rows kept before the second chunk, zero at a sequence's edge. -/
theorem pay9_at (i : grid0.Coords) (y : Vec Ideal S8x1024 .f32) (r : Fin 8) (l : Fin 1024) :
    k0_pay9 (BitVec.ofNat 32 (i 0).val) y (ix3 0 r l) = pick (start1 i) 0 (y (ix2 r l)) := by
  unfold pick
  pointwise [k0_pay9]
  by_cases hb : start1 i = 1#1
  · rw [if_pos hb, Scalar.select, if_pos (show start1 i = 1 from hb)]
  · rw [if_neg hb, Scalar.select, if_neg (show ¬ start1 i = 1 from hb)]

/-- The rows kept after the second chunk, zero at a sequence's edge. -/
theorem pay11_at (i : grid0.Coords) (y : Vec Ideal S8x1024 .f32) (r : Fin 8) (l : Fin 1024) :
    k0_pay11 (BitVec.ofNat 32 (i 0).val) y (ix3 0 r l) = pick (end1 i) 0 (y (ix2 r l)) := by
  unfold pick
  pointwise [k0_pay11]
  by_cases hb : end1 i = 1#1
  · rw [if_pos hb, Scalar.select, if_pos (show end1 i = 1 from hb)]
  · rw [if_neg hb, Scalar.select, if_neg (show ¬ end1 i = 1 from hb)]

/-- The chunk's own rows. -/
theorem pay3_at (y : Vec Ideal S256x1024 .f32) (r : Fin 256) (l : Fin 1024) : k0_pay3 y (ix3 0 r l) = y (ix2 r l) := by
  pointwise [k0_pay3]

/-- The chunk's own rows. -/
theorem pay10_at (y : Vec Ideal S256x1024 .f32) (r : Fin 256) (l : Fin 1024) : k0_pay10 y (ix3 0 r l) = y (ix2 r l) := by
  pointwise [k0_pay10]

/-- What the first chunk stores in the scratch rows, last first. -/
abbrev scr0 (i : grid0.Coords) (x0 : Vec Ideal S8x1024 .f32) (x1 : Vec Ideal S512x1024 .f32) : List (View.Piece (Elt Ideal) S2x272x1024 .f32) :=
  [⟨rS0_264, k0_pay4 i (View.ld x1 rNext)⟩, ⟨rS0_8, k0_pay3 (View.ld x1 rTop)⟩, ⟨rS0_0, k0_pay2 i (View.ld x0 rHalo)⟩]

/-- What both chunks store in the scratch rows, last first. -/
abbrev scr1 (i : grid0.Coords) (x0 : Vec Ideal S8x1024 .f32) (x1 : Vec Ideal S512x1024 .f32) (x2 : Vec Ideal S8x1024 .f32) : List (View.Piece (Elt Ideal) S2x272x1024 .f32) :=
  [⟨rS1_264, k0_pay11 (BitVec.ofNat 32 (i 0).val) (View.ld x2 rHalo)⟩, ⟨rS1_8, k0_pay10 (View.ld x1 rBot)⟩, ⟨rS1_0, k0_pay9 (BitVec.ofNat 32 (i 0).val) (View.ld x1 rPrev)⟩,
   ⟨rS0_264, k0_pay4 i (View.ld x1 rNext)⟩, ⟨rS0_8, k0_pay3 (View.ld x1 rTop)⟩, ⟨rS0_0, k0_pay2 i (View.ld x0 rHalo)⟩]

/-- An index inside the last store reads its payload. -/
theorem canon_hit {off size : Fin S2x272x1024.rank → ℕ} {inb : ∀ a, off a + size a ≤ S2x272x1024.size a} (w : (Rect.unit (s := S2x272x1024) off size inb).shape.Idx → Elt Ideal .f32)
    (L : List (View.Piece (Elt Ideal) S2x272x1024 .f32)) (x : (Rect.unit (s := S2x272x1024) off size inb).shape.Idx) (y : S2x272x1024.Idx)
    (h : ∀ a, (y a).val = off a + (x a).val) : View.canon (⟨Rect.unit (s := S2x272x1024) off size inb, w⟩ :: L) y = w x := by
  rw [show y = (Rect.unit (s := S2x272x1024) off size inb).emb x from funext fun a => Fin.ext ((h a).trans (ValueKit.rect_emb_unit_val ..).symm)]
  exact View.canon_cons_emb ..

/-- An index outside the last store reads the earlier ones. -/
theorem canon_miss {off size : Fin S2x272x1024.rank → ℕ} {inb : ∀ a, off a + size a ≤ S2x272x1024.size a} (w : (Rect.unit (s := S2x272x1024) off size inb).shape.Idx → Elt Ideal .f32)
    (L : List (View.Piece (Elt Ideal) S2x272x1024 .f32)) (y : S2x272x1024.Idx) (h : (y 1).val < off 1 ∨ off 1 + size 1 ≤ (y 1).val) :
    View.canon (⟨Rect.unit (s := S2x272x1024) off size inb, w⟩ :: L) y = View.canon L y := by
  refine View.canon_cons_of_not_mem _ _ ?_
  show y ∉ (Rect.unit (s := S2x272x1024) off size inb).set
  rw [Rect.mem_set_unit]
  intro hh
  have := hh 1
  omega

/-- A scratch row before chunk 0. -/
theorem scr0_lo (i : grid0.Coords) (x0 : Vec Ideal S8x1024 .f32) (x1 : Vec Ideal S512x1024 .f32) (d : Fin 272) (l : Fin 1024) (h : d.val < 8) :
    View.canon (scr0 i x0 x1) (ix3 0 d l) = pick (start0 i) 0 (x0 (ix2 ⟨d.val, by omega⟩ l)) := by
  refine (canon_miss _ _ _ (Or.inl ?_)).trans ?_
  · show d.val < 264
    omega
  refine (canon_miss _ _ _ (Or.inl ?_)).trans ?_
  · show d.val < 8
    omega
  refine (canon_hit _ _ (ix3 0 (⟨d.val, by omega⟩ : Fin 8) l) _ ?_).trans ?_
  · intro a
    match a with
    | ⟨0, _⟩ => rfl
    | ⟨1, _⟩ => show d.val = 0 + (d.val); omega
    | ⟨2, _⟩ => exact (Nat.zero_add _).symm
  · rw [pay2_at]
    pointwise

/-- A scratch row of chunk 0. -/
theorem scr0_mid (i : grid0.Coords) (x0 : Vec Ideal S8x1024 .f32) (x1 : Vec Ideal S512x1024 .f32) (d : Fin 272) (l : Fin 1024) (h : 8 ≤ d.val ∧ d.val < 264) :
    View.canon (scr0 i x0 x1) (ix3 0 d l) = x1 (ix2 ⟨d.val - 8, by omega⟩ l) := by
  refine (canon_miss _ _ _ (Or.inl ?_)).trans ?_
  · show d.val < 264
    omega
  refine (canon_hit _ _ (ix3 0 (⟨d.val - 8, by omega⟩ : Fin 256) l) _ ?_).trans ?_
  · intro a
    match a with
    | ⟨0, _⟩ => rfl
    | ⟨1, _⟩ => show d.val = 8 + (d.val - 8); omega
    | ⟨2, _⟩ => exact (Nat.zero_add _).symm
  · rw [pay3_at]
    pointwise

/-- A scratch row after chunk 0. -/
theorem scr0_hi (i : grid0.Coords) (x0 : Vec Ideal S8x1024 .f32) (x1 : Vec Ideal S512x1024 .f32) (d : Fin 272) (l : Fin 1024) (h : 264 ≤ d.val) :
    View.canon (scr0 i x0 x1) (ix3 0 d l) = pick (end0 i) 0 (x1 (ix2 ⟨256 + (d.val - 264), by omega⟩ l)) := by
  refine (canon_hit _ _ (ix3 0 (⟨d.val - 264, by omega⟩ : Fin 8) l) _ ?_).trans ?_
  · intro a
    match a with
    | ⟨0, _⟩ => rfl
    | ⟨1, _⟩ => show d.val = 264 + (d.val - 264); omega
    | ⟨2, _⟩ => exact (Nat.zero_add _).symm
  · rw [pay4_at]
    pointwise

/-- A scratch row before chunk 1. -/
theorem scr1_lo (i : grid0.Coords) (x0 : Vec Ideal S8x1024 .f32) (x1 : Vec Ideal S512x1024 .f32) (x2 : Vec Ideal S8x1024 .f32) (d : Fin 272) (l : Fin 1024) (h : d.val < 8) :
    View.canon (scr1 i x0 x1 x2) (ix3 1 d l) = pick (start1 i) 0 (x1 (ix2 ⟨248 + d.val, by omega⟩ l)) := by
  refine (canon_miss _ _ _ (Or.inl ?_)).trans ?_
  · show d.val < 264
    omega
  refine (canon_miss _ _ _ (Or.inl ?_)).trans ?_
  · show d.val < 8
    omega
  refine (canon_hit _ _ (ix3 0 (⟨d.val, by omega⟩ : Fin 8) l) _ ?_).trans ?_
  · intro a
    match a with
    | ⟨0, _⟩ => rfl
    | ⟨1, _⟩ => show d.val = 0 + (d.val); omega
    | ⟨2, _⟩ => exact (Nat.zero_add _).symm
  · rw [pay9_at]
    pointwise

/-- A scratch row of chunk 1. -/
theorem scr1_mid (i : grid0.Coords) (x0 : Vec Ideal S8x1024 .f32) (x1 : Vec Ideal S512x1024 .f32) (x2 : Vec Ideal S8x1024 .f32) (d : Fin 272) (l : Fin 1024) (h : 8 ≤ d.val ∧ d.val < 264) :
    View.canon (scr1 i x0 x1 x2) (ix3 1 d l) = x1 (ix2 ⟨256 + (d.val - 8), by omega⟩ l) := by
  refine (canon_miss _ _ _ (Or.inl ?_)).trans ?_
  · show d.val < 264
    omega
  refine (canon_hit _ _ (ix3 0 (⟨d.val - 8, by omega⟩ : Fin 256) l) _ ?_).trans ?_
  · intro a
    match a with
    | ⟨0, _⟩ => rfl
    | ⟨1, _⟩ => show d.val = 8 + (d.val - 8); omega
    | ⟨2, _⟩ => exact (Nat.zero_add _).symm
  · rw [pay10_at]
    pointwise

/-- A scratch row after chunk 1. -/
theorem scr1_hi (i : grid0.Coords) (x0 : Vec Ideal S8x1024 .f32) (x1 : Vec Ideal S512x1024 .f32) (x2 : Vec Ideal S8x1024 .f32) (d : Fin 272) (l : Fin 1024) (h : 264 ≤ d.val) :
    View.canon (scr1 i x0 x1 x2) (ix3 1 d l) = pick (end1 i) 0 (x2 (ix2 ⟨d.val - 264, by omega⟩ l)) := by
  refine (canon_hit _ _ (ix3 0 (⟨d.val - 264, by omega⟩ : Fin 8) l) _ ?_).trans ?_
  · intro a
    match a with
    | ⟨0, _⟩ => rfl
    | ⟨1, _⟩ => show d.val = 264 + (d.val - 264); omega
    | ⟨2, _⟩ => exact (Nat.zero_add _).symm
  · rw [pay11_at]
    pointwise

/-- The row before a row of chunk 0. -/
theorem prev0_at {sig : RefSig} {κ : Kind} {sp : Space} (v : View sig κ sp S2x272x1024 .f32) (i : grid0.Coords) (x0 : Vec Ideal S8x1024 .f32) (x1 : Vec Ideal S512x1024 .f32) (r : Fin 256) (l : Fin 1024) :
    v.readCov (scr0 i x0 x1) rS0_7.toLoadRect (ix3 0 r l) = if r.val = 0 then pick (start0 i) 0 (x0 (ix2 7 l)) else x1 (ix2 ⟨r.val - 1, by omega⟩ l) := by
  rw [View.readCov_eq_canon']
  show View.canon (scr0 i x0 x1) (rS0_7.toLoadRect.idx (ix3 0 r l)) = _
  have e : rS0_7.toLoadRect.idx (ix3 0 r l) = ix3 0 (⟨7 + r.val, by omega⟩ : Fin 272) l := by
    funext a
    match a with
    | ⟨0, _⟩ => rfl
    | ⟨1, _⟩ => exact Fin.ext (Rect.idx_unit_val ..)
    | ⟨2, _⟩ => exact Fin.ext ((Rect.idx_unit_val ..).trans (Nat.zero_add _))
  rw [e]
  by_cases h : r.val = 0
  · rw [if_pos h, scr0_lo _ _ _ _ _ (show 7 + r.val < 8 by omega)]
    congr 3
    exact Fin.ext (show 7 + r.val = 7 by omega)
  · rw [if_neg h, scr0_mid _ _ _ _ _ (show 8 ≤ 7 + r.val ∧ 7 + r.val < 264 by omega)]
    congr 2
    exact Fin.ext (show (7 + r.val - 8) = r.val - 1 by omega)

/-- The row at a row of chunk 0. -/
theorem cur0_at {sig : RefSig} {κ : Kind} {sp : Space} (v : View sig κ sp S2x272x1024 .f32) (i : grid0.Coords) (x0 : Vec Ideal S8x1024 .f32) (x1 : Vec Ideal S512x1024 .f32) (r : Fin 256) (l : Fin 1024) :
    v.readCov (scr0 i x0 x1) rS0_8.toLoadRect (ix3 0 r l) = x1 (ix2 ⟨r.val, by omega⟩ l) := by
  rw [View.readCov_eq_canon']
  show View.canon (scr0 i x0 x1) (rS0_8.toLoadRect.idx (ix3 0 r l)) = _
  have e : rS0_8.toLoadRect.idx (ix3 0 r l) = ix3 0 (⟨8 + r.val, by omega⟩ : Fin 272) l := by
    funext a
    match a with
    | ⟨0, _⟩ => rfl
    | ⟨1, _⟩ => exact Fin.ext (Rect.idx_unit_val ..)
    | ⟨2, _⟩ => exact Fin.ext ((Rect.idx_unit_val ..).trans (Nat.zero_add _))
  rw [e]
  rw [scr0_mid _ _ _ _ _ (show 8 ≤ 8 + r.val ∧ 8 + r.val < 264 by omega)]
  congr 2
  exact Fin.ext (show (8 + r.val - 8) = r.val by omega)

/-- The row after a row of chunk 0. -/
theorem next0_at {sig : RefSig} {κ : Kind} {sp : Space} (v : View sig κ sp S2x272x1024 .f32) (i : grid0.Coords) (x0 : Vec Ideal S8x1024 .f32) (x1 : Vec Ideal S512x1024 .f32) (r : Fin 256) (l : Fin 1024) :
    v.readCov (scr0 i x0 x1) rS0_9.toLoadRect (ix3 0 r l) = if r.val = 255 then pick (end0 i) 0 (x1 (ix2 256 l)) else x1 (ix2 ⟨r.val + 1, by omega⟩ l) := by
  rw [View.readCov_eq_canon']
  show View.canon (scr0 i x0 x1) (rS0_9.toLoadRect.idx (ix3 0 r l)) = _
  have e : rS0_9.toLoadRect.idx (ix3 0 r l) = ix3 0 (⟨9 + r.val, by omega⟩ : Fin 272) l := by
    funext a
    match a with
    | ⟨0, _⟩ => rfl
    | ⟨1, _⟩ => exact Fin.ext (Rect.idx_unit_val ..)
    | ⟨2, _⟩ => exact Fin.ext ((Rect.idx_unit_val ..).trans (Nat.zero_add _))
  rw [e]
  by_cases h : r.val = 255
  · rw [if_pos h, scr0_hi _ _ _ _ _ (show 264 ≤ 9 + r.val by omega)]
    congr 3
    exact Fin.ext (show 256 + (9 + r.val - 264) = 256 by omega)
  · rw [if_neg h, scr0_mid _ _ _ _ _ (show 8 ≤ 9 + r.val ∧ 9 + r.val < 264 by omega)]
    congr 2
    exact Fin.ext (show (9 + r.val - 8) = r.val + 1 by omega)

/-- The row before a row of chunk 1. -/
theorem prev1_at {sig : RefSig} {κ : Kind} {sp : Space} (v : View sig κ sp S2x272x1024 .f32) (i : grid0.Coords) (x0 : Vec Ideal S8x1024 .f32) (x1 : Vec Ideal S512x1024 .f32) (x2 : Vec Ideal S8x1024 .f32) (r : Fin 256) (l : Fin 1024) :
    v.readCov (scr1 i x0 x1 x2) rS1_7.toLoadRect (ix3 0 r l) = if r.val = 0 then pick (start1 i) 0 (x1 (ix2 255 l)) else x1 (ix2 ⟨256 + r.val - 1, by omega⟩ l) := by
  rw [View.readCov_eq_canon']
  show View.canon (scr1 i x0 x1 x2) (rS1_7.toLoadRect.idx (ix3 0 r l)) = _
  have e : rS1_7.toLoadRect.idx (ix3 0 r l) = ix3 1 (⟨7 + r.val, by omega⟩ : Fin 272) l := by
    funext a
    match a with
    | ⟨0, _⟩ => rfl
    | ⟨1, _⟩ => exact Fin.ext (Rect.idx_unit_val ..)
    | ⟨2, _⟩ => exact Fin.ext ((Rect.idx_unit_val ..).trans (Nat.zero_add _))
  rw [e]
  by_cases h : r.val = 0
  · rw [if_pos h, scr1_lo _ _ _ _ _ _ (show 7 + r.val < 8 by omega)]
    congr 3
    exact Fin.ext (show 248 + (7 + r.val) = 255 by omega)
  · rw [if_neg h, scr1_mid _ _ _ _ _ _ (show 8 ≤ 7 + r.val ∧ 7 + r.val < 264 by omega)]
    congr 2
    exact Fin.ext (show 256 + (7 + r.val - 8) = 256 + r.val - 1 by omega)

/-- The row at a row of chunk 1. -/
theorem cur1_at {sig : RefSig} {κ : Kind} {sp : Space} (v : View sig κ sp S2x272x1024 .f32) (i : grid0.Coords) (x0 : Vec Ideal S8x1024 .f32) (x1 : Vec Ideal S512x1024 .f32) (x2 : Vec Ideal S8x1024 .f32) (r : Fin 256) (l : Fin 1024) :
    v.readCov (scr1 i x0 x1 x2) rS1_8.toLoadRect (ix3 0 r l) = x1 (ix2 ⟨256 + r.val, by omega⟩ l) := by
  rw [View.readCov_eq_canon']
  show View.canon (scr1 i x0 x1 x2) (rS1_8.toLoadRect.idx (ix3 0 r l)) = _
  have e : rS1_8.toLoadRect.idx (ix3 0 r l) = ix3 1 (⟨8 + r.val, by omega⟩ : Fin 272) l := by
    funext a
    match a with
    | ⟨0, _⟩ => rfl
    | ⟨1, _⟩ => exact Fin.ext (Rect.idx_unit_val ..)
    | ⟨2, _⟩ => exact Fin.ext ((Rect.idx_unit_val ..).trans (Nat.zero_add _))
  rw [e]
  rw [scr1_mid _ _ _ _ _ _ (show 8 ≤ 8 + r.val ∧ 8 + r.val < 264 by omega)]
  congr 2
  exact Fin.ext (show 256 + (8 + r.val - 8) = 256 + r.val by omega)

/-- The row after a row of chunk 1. -/
theorem next1_at {sig : RefSig} {κ : Kind} {sp : Space} (v : View sig κ sp S2x272x1024 .f32) (i : grid0.Coords) (x0 : Vec Ideal S8x1024 .f32) (x1 : Vec Ideal S512x1024 .f32) (x2 : Vec Ideal S8x1024 .f32) (r : Fin 256) (l : Fin 1024) :
    v.readCov (scr1 i x0 x1 x2) rS1_9.toLoadRect (ix3 0 r l) = if h : r.val = 255 then pick (end1 i) 0 (x2 (ix2 0 l)) else x1 (ix2 ⟨256 + r.val + 1, by omega⟩ l) := by
  rw [View.readCov_eq_canon']
  show View.canon (scr1 i x0 x1 x2) (rS1_9.toLoadRect.idx (ix3 0 r l)) = _
  have e : rS1_9.toLoadRect.idx (ix3 0 r l) = ix3 1 (⟨9 + r.val, by omega⟩ : Fin 272) l := by
    funext a
    match a with
    | ⟨0, _⟩ => rfl
    | ⟨1, _⟩ => exact Fin.ext (Rect.idx_unit_val ..)
    | ⟨2, _⟩ => exact Fin.ext ((Rect.idx_unit_val ..).trans (Nat.zero_add _))
  rw [e]
  by_cases h : r.val = 255
  · rw [dif_pos h, scr1_hi _ _ _ _ _ _ (show 264 ≤ 9 + r.val by omega)]
    congr 3
    exact Fin.ext (show (9 + r.val - 264) = 0 by omega)
  · rw [dif_neg h, scr1_mid _ _ _ _ _ _ (show 8 ≤ 9 + r.val ∧ 9 + r.val < 264 by omega)]
    congr 2
    exact Fin.ext (show 256 + (9 + r.val - 8) = 256 + r.val + 1 by omega)

end Cert.Proof.Conv
end
-- ==== Proof.ConvPay.lean ====
module

public import proofs.«01_k».proof.Proof.ConvScr

@[expose] public section

set_option maxRecDepth 16384

noncomputable section

namespace Cert.Proof.Conv

open Cert.Kernel6Ideal Cert.Kernel6Ideal.Gen Idealize.ShloMosaic
open Cert.Proof.Post (Row rnorm res modr hid res2)
open Cert.Proof.Post3 (post pick)

/-- The first chunk's residual row at an index. -/
theorem first_res (s7 s8 s9 : Vec Ideal S1x256x1024 .f32) (x3 : Vec Ideal S512x1024 .f32) (x4 : Vec Ideal S3x1024 .f32) (x5 : Vec Ideal S512x1024 .f32) (x6 : Vec Ideal S1x1x6x1024 .f32) (x7 : Vec Ideal S1x1x1024 .f32) (x8 : Vec Ideal S1024x1024 .bf16) (x9 : Vec Ideal S1x1024x4096 .bf16) (x10 : Vec Ideal S1x4096x1024 .bf16)
    (r : Fin 256) (l : Fin 1024) :
    k0_pay5 (View.ld x4 rW0) s7 (View.ld x4 rW1) s8 (View.ld x4 rW2) s9 (View.ld x3 rTop) (View.ld x8 rO) (View.ld x5 rTop) (View.ld x6 rM2) (ix2 r l)
      = res (fun k => x5 (ix2 (⟨r.val, by omega⟩ : Fin 512) k)) (gated (fun k => x3 (ix2 (⟨r.val, by omega⟩ : Fin 512) k)) (fun k => s7 (ix3 0 r k)) (fun k => s8 (ix3 0 r k)) (fun k => s9 (ix3 0 r k)) (fun k => x4 (ix2 0 k)) (fun k => x4 (ix2 1 k)) (fun k => x4 (ix2 2 k))) (fun k => x6 (ix4 0 0 2 k)) (fun i j => x8 (ix2 i j)) l := by
  unfold res gated
  pointwise [k0_pay5]

/-- The first chunk's stored row at an index. -/
theorem first_at (s7 s8 s9 : Vec Ideal S1x256x1024 .f32) (x3 : Vec Ideal S512x1024 .f32) (x4 : Vec Ideal S3x1024 .f32) (x5 : Vec Ideal S512x1024 .f32) (x6 : Vec Ideal S1x1x6x1024 .f32) (x7 : Vec Ideal S1x1x1024 .f32) (x8 : Vec Ideal S1024x1024 .bf16) (x9 : Vec Ideal S1x1024x4096 .bf16) (x10 : Vec Ideal S1x4096x1024 .bf16)
    (r : Fin 256) (l : Fin 1024) :
    k0_pay8 (k0_pay5 (View.ld x4 rW0) s7 (View.ld x4 rW1) s8 (View.ld x4 rW2) s9 (View.ld x3 rTop) (View.ld x8 rO) (View.ld x5 rTop) (View.ld x6 rM2)) (k0_pay6 (View.ld x7 rN)) (k0_pay7 (View.ld x4 rW0) s7 (View.ld x4 rW1) s8 (View.ld x4 rW2) s9 (View.ld x3 rTop) (View.ld x8 rO) (View.ld x5 rTop) (View.ld x6 rM2)) (View.ld x6 rM4) (View.ld x6 rM3) (View.ld x9 rA) (View.ld x6 rM5) (View.ld x10 rB) (ix2 r l)
      = post (fun k => x5 (ix2 (⟨r.val, by omega⟩ : Fin 512) k)) (gated (fun k => x3 (ix2 (⟨r.val, by omega⟩ : Fin 512) k)) (fun k => s7 (ix3 0 r k)) (fun k => s8 (ix3 0 r k)) (fun k => s9 (ix3 0 r k)) (fun k => x4 (ix2 0 k)) (fun k => x4 (ix2 1 k)) (fun k => x4 (ix2 2 k))) (fun k => x6 (ix4 0 0 2 k)) (fun k => x6 (ix4 0 0 3 k)) (fun k => x6 (ix4 0 0 4 k)) (fun k => x6 (ix4 0 0 5 k)) (fun k => x7 (ix3 0 0 k)) (fun i j => x8 (ix2 i j)) (fun i j => x9 (ix3 0 i j)) (fun i j => x10 (ix3 0 i j)) l := by
  unfold Post3.post
  have e := first_res s7 s8 s9 x3 x4 x5 x6 x7 x8 x9 x10 r
  unfold k0_pay7
  generalize k0_pay5 (View.ld x4 rW0) s7 (View.ld x4 rW1) s8 (View.ld x4 rW2) s9 (View.ld x3 rTop) (View.ld x8 rO) (View.ld x5 rTop) (View.ld x6 rM2) = A at e ⊢
  pointwise [k0_pay8, k0_pay6]
  simp only [e]
  generalize res _ _ _ _ = X
  rfl

/-- The second chunk's residual row at an index. -/
theorem second_res (s7 s8 s9 : Vec Ideal S1x256x1024 .f32) (x3 : Vec Ideal S512x1024 .f32) (x4 : Vec Ideal S3x1024 .f32) (x5 : Vec Ideal S512x1024 .f32) (x6 : Vec Ideal S1x1x6x1024 .f32) (x7 : Vec Ideal S1x1x1024 .f32) (x8 : Vec Ideal S1024x1024 .bf16) (x9 : Vec Ideal S1x1024x4096 .bf16) (x10 : Vec Ideal S1x4096x1024 .bf16)
    (r : Fin 256) (l : Fin 1024) :
    k0_pay12 (View.ld x4 rW0) s7 (View.ld x4 rW1) s8 (View.ld x4 rW2) s9 (View.ld x3 rBot) (View.ld x8 rO) (View.ld x5 rBot) (View.ld x6 rM2) (ix2 r l)
      = res (fun k => x5 (ix2 (⟨256 + r.val, by omega⟩ : Fin 512) k)) (gated (fun k => x3 (ix2 (⟨256 + r.val, by omega⟩ : Fin 512) k)) (fun k => s7 (ix3 0 r k)) (fun k => s8 (ix3 0 r k)) (fun k => s9 (ix3 0 r k)) (fun k => x4 (ix2 0 k)) (fun k => x4 (ix2 1 k)) (fun k => x4 (ix2 2 k))) (fun k => x6 (ix4 0 0 2 k)) (fun i j => x8 (ix2 i j)) l := by
  unfold res gated
  pointwise [k0_pay12]

/-- The second chunk's stored row at an index. -/
theorem second_at (s7 s8 s9 : Vec Ideal S1x256x1024 .f32) (x3 : Vec Ideal S512x1024 .f32) (x4 : Vec Ideal S3x1024 .f32) (x5 : Vec Ideal S512x1024 .f32) (x6 : Vec Ideal S1x1x6x1024 .f32) (x7 : Vec Ideal S1x1x1024 .f32) (x8 : Vec Ideal S1024x1024 .bf16) (x9 : Vec Ideal S1x1024x4096 .bf16) (x10 : Vec Ideal S1x4096x1024 .bf16)
    (r : Fin 256) (l : Fin 1024) :
    k0_pay1 (k0_pay12 (View.ld x4 rW0) s7 (View.ld x4 rW1) s8 (View.ld x4 rW2) s9 (View.ld x3 rBot) (View.ld x8 rO) (View.ld x5 rBot) (View.ld x6 rM2)) (k0_pay15 (k0_pay12 (View.ld x4 rW0) s7 (View.ld x4 rW1) s8 (View.ld x4 rW2) s9 (View.ld x3 rBot) (View.ld x8 rO) (View.ld x5 rBot) (View.ld x6 rM2)) (k0_pay13 (View.ld x7 rN)) (k0_pay14 (View.ld x4 rW0) s7 (View.ld x4 rW1) s8 (View.ld x4 rW2) s9 (View.ld x3 rBot) (View.ld x8 rO) (View.ld x5 rBot) (View.ld x6 rM2)) (View.ld x6 rM4) (View.ld x6 rM3) (View.ld x9 rA) (View.ld x6 rM5) (View.ld x10 rB)) (ix2 r l)
      = post (fun k => x5 (ix2 (⟨256 + r.val, by omega⟩ : Fin 512) k)) (gated (fun k => x3 (ix2 (⟨256 + r.val, by omega⟩ : Fin 512) k)) (fun k => s7 (ix3 0 r k)) (fun k => s8 (ix3 0 r k)) (fun k => s9 (ix3 0 r k)) (fun k => x4 (ix2 0 k)) (fun k => x4 (ix2 1 k)) (fun k => x4 (ix2 2 k))) (fun k => x6 (ix4 0 0 2 k)) (fun k => x6 (ix4 0 0 3 k)) (fun k => x6 (ix4 0 0 4 k)) (fun k => x6 (ix4 0 0 5 k)) (fun k => x7 (ix3 0 0 k)) (fun i j => x8 (ix2 i j)) (fun i j => x9 (ix3 0 i j)) (fun i j => x10 (ix3 0 i j)) l := by
  unfold Post3.post
  have e := second_res s7 s8 s9 x3 x4 x5 x6 x7 x8 x9 x10 r
  unfold k0_pay14
  generalize k0_pay12 (View.ld x4 rW0) s7 (View.ld x4 rW1) s8 (View.ld x4 rW2) s9 (View.ld x3 rBot) (View.ld x8 rO) (View.ld x5 rBot) (View.ld x6 rM2) = A at e ⊢
  pointwise [k0_pay1, k0_pay15, k0_pay13]
  simp only [e]
  generalize res _ _ _ _ = X
  rfl

/-- What the run leaves in the output's buffer: the two chunks' stores. -/
theorem out_eq (c : Dev nD) (i : grid0.Coords) (arg1 : Memref sig .tc .vmem S8x1024 .f32) (harg1 : arg1.IsWhole) (arg2 : Memref sig .tc .vmem S512x1024 .f32) (harg2 : arg2.IsWhole) (arg3 : Memref sig .tc .vmem S8x1024 .f32) (harg3 : arg3.IsWhole) (arg4 : Memref sig .tc .vmem S512x1024 .f32) (harg4 : arg4.IsWhole) (arg5 : Memref sig .tc .vmem S3x1024 .f32) (harg5 : arg5.IsWhole) (arg6 : Memref sig .tc .vmem S512x1024 .f32) (harg6 : arg6.IsWhole) (arg7 : Memref sig .tc .vmem S1x1x6x1024 .f32) (harg7 : arg7.IsWhole) (arg8 : Memref sig .tc .vmem S1x1x1024 .f32) (harg8 : arg8.IsWhole) (arg9 : Memref sig .tc .vmem S1024x1024 .bf16) (harg9 : arg9.IsWhole) (arg10 : Memref sig .tc .vmem S1x1024x4096 .bf16) (harg10 : arg10.IsWhole) (arg11 : Memref sig .tc .vmem S1x4096x1024 .bf16) (harg11 : arg11.IsWhole) (arg12 : Memref sig .tc .vmem S512x1024 .f32) (harg12 : arg12.IsWhole) (arg13 : Memref sig .tc .vmem S2x272x1024 .f32) (harg13 : arg13.IsWhole)
    (x0 : Vec Ideal S8x1024 .f32) (x1 : Vec Ideal S512x1024 .f32) (x2 : Vec Ideal S8x1024 .f32) (x3 : Vec Ideal S512x1024 .f32) (x4 : Vec Ideal S3x1024 .f32) (x5 : Vec Ideal S512x1024 .f32) (x6 : Vec Ideal S1x1x6x1024 .f32) (x7 : Vec Ideal S1x1x1024 .f32) (x8 : Vec Ideal S1024x1024 .bf16) (x9 : Vec Ideal S1x1024x4096 .bf16) (x10 : Vec Ideal S1x4096x1024 .bf16) :
    out0_A_11 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 = View.canon
      [⟨rBot, k0_pay1 (k0_pay12 (View.ld x4 rW0) (arg13.view.readCov (scr1 i x0 x1 x2) rS1_7.toLoadRect) (View.ld x4 rW1) (arg13.view.readCov (scr1 i x0 x1 x2) rS1_8.toLoadRect) (View.ld x4 rW2) (arg13.view.readCov (scr1 i x0 x1 x2) rS1_9.toLoadRect) (View.ld x3 rBot) (View.ld x8 rO) (View.ld x5 rBot) (View.ld x6 rM2)) (k0_pay15 (k0_pay12 (View.ld x4 rW0) (arg13.view.readCov (scr1 i x0 x1 x2) rS1_7.toLoadRect) (View.ld x4 rW1) (arg13.view.readCov (scr1 i x0 x1 x2) rS1_8.toLoadRect) (View.ld x4 rW2) (arg13.view.readCov (scr1 i x0 x1 x2) rS1_9.toLoadRect) (View.ld x3 rBot) (View.ld x8 rO) (View.ld x5 rBot) (View.ld x6 rM2)) (k0_pay13 (View.ld x7 rN)) (k0_pay14 (View.ld x4 rW0) (arg13.view.readCov (scr1 i x0 x1 x2) rS1_7.toLoadRect) (View.ld x4 rW1) (arg13.view.readCov (scr1 i x0 x1 x2) rS1_8.toLoadRect) (View.ld x4 rW2) (arg13.view.readCov (scr1 i x0 x1 x2) rS1_9.toLoadRect) (View.ld x3 rBot) (View.ld x8 rO) (View.ld x5 rBot) (View.ld x6 rM2)) (View.ld x6 rM4) (View.ld x6 rM3) (View.ld x9 rA) (View.ld x6 rM5) (View.ld x10 rB))⟩,
       ⟨rTop, k0_pay8 (k0_pay5 (View.ld x4 rW0) (arg13.view.readCov (scr0 i x0 x1) rS0_7.toLoadRect) (View.ld x4 rW1) (arg13.view.readCov (scr0 i x0 x1) rS0_8.toLoadRect) (View.ld x4 rW2) (arg13.view.readCov (scr0 i x0 x1) rS0_9.toLoadRect) (View.ld x3 rTop) (View.ld x8 rO) (View.ld x5 rTop) (View.ld x6 rM2)) (k0_pay6 (View.ld x7 rN)) (k0_pay7 (View.ld x4 rW0) (arg13.view.readCov (scr0 i x0 x1) rS0_7.toLoadRect) (View.ld x4 rW1) (arg13.view.readCov (scr0 i x0 x1) rS0_8.toLoadRect) (View.ld x4 rW2) (arg13.view.readCov (scr0 i x0 x1) rS0_9.toLoadRect) (View.ld x3 rTop) (View.ld x8 rO) (View.ld x5 rTop) (View.ld x6 rM2)) (View.ld x6 rM4) (View.ld x6 rM3) (View.ld x9 rA) (View.ld x6 rM5) (View.ld x10 rB)⟩] := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread]

/-- The row before row `r` of the tile, zero at a sequence's edge. -/
def prevRow (b0 b1 : BitVec 1) (x0 : Vec Ideal S8x1024 .f32) (x1 : Vec Ideal S512x1024 .f32) (r : Fin 512) : Row := fun k =>
  if r.val = 0 then pick b0 0 (x0 (ix2 7 k)) else if r.val = 256 then pick b1 0 (x1 (ix2 255 k)) else x1 (ix2 ⟨r.val - 1, by omega⟩ k)

/-- The row after row `r` of the tile, zero at a sequence's edge. -/
def nextRow (b0 b1 : BitVec 1) (x1 : Vec Ideal S512x1024 .f32) (x2 : Vec Ideal S8x1024 .f32) (r : Fin 512) : Row := fun k =>
  if r.val = 255 then pick b0 0 (x1 (ix2 256 k)) else if h : r.val = 511 then pick b1 0 (x2 (ix2 0 k)) else x1 (ix2 ⟨r.val + 1, by omega⟩ k)

/-- A row of the output block, by its row number in the block. -/
theorem block_at (c : Dev nD) (i : grid0.Coords) (arg1 : Memref sig .tc .vmem S8x1024 .f32) (harg1 : arg1.IsWhole) (arg2 : Memref sig .tc .vmem S512x1024 .f32) (harg2 : arg2.IsWhole) (arg3 : Memref sig .tc .vmem S8x1024 .f32) (harg3 : arg3.IsWhole) (arg4 : Memref sig .tc .vmem S512x1024 .f32) (harg4 : arg4.IsWhole) (arg5 : Memref sig .tc .vmem S3x1024 .f32) (harg5 : arg5.IsWhole) (arg6 : Memref sig .tc .vmem S512x1024 .f32) (harg6 : arg6.IsWhole) (arg7 : Memref sig .tc .vmem S1x1x6x1024 .f32) (harg7 : arg7.IsWhole) (arg8 : Memref sig .tc .vmem S1x1x1024 .f32) (harg8 : arg8.IsWhole) (arg9 : Memref sig .tc .vmem S1024x1024 .bf16) (harg9 : arg9.IsWhole) (arg10 : Memref sig .tc .vmem S1x1024x4096 .bf16) (harg10 : arg10.IsWhole) (arg11 : Memref sig .tc .vmem S1x4096x1024 .bf16) (harg11 : arg11.IsWhole) (arg12 : Memref sig .tc .vmem S512x1024 .f32) (harg12 : arg12.IsWhole) (arg13 : Memref sig .tc .vmem S2x272x1024 .f32) (harg13 : arg13.IsWhole)
    (x0 : Vec Ideal S8x1024 .f32) (x1 : Vec Ideal S512x1024 .f32) (x2 : Vec Ideal S8x1024 .f32) (x3 : Vec Ideal S512x1024 .f32) (x4 : Vec Ideal S3x1024 .f32) (x5 : Vec Ideal S512x1024 .f32) (x6 : Vec Ideal S1x1x6x1024 .f32) (x7 : Vec Ideal S1x1x1024 .f32) (x8 : Vec Ideal S1024x1024 .bf16) (x9 : Vec Ideal S1x1024x4096 .bf16) (x10 : Vec Ideal S1x4096x1024 .bf16) (r : Fin 512) (l : Fin 1024) :
    out0_A_11 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 (ix2 r l)
      = post (fun k => x5 (ix2 r k)) (gated (fun k => x3 (ix2 r k)) (prevRow (start0 i) (start1 i) x0 x1 r) (fun k => x1 (ix2 r k)) (nextRow (end0 i) (end1 i) x1 x2 r) (fun k => x4 (ix2 0 k)) (fun k => x4 (ix2 1 k)) (fun k => x4 (ix2 2 k))) (fun k => x6 (ix4 0 0 2 k)) (fun k => x6 (ix4 0 0 3 k)) (fun k => x6 (ix4 0 0 4 k)) (fun k => x6 (ix4 0 0 5 k)) (fun k => x7 (ix3 0 0 k)) (fun i j => x8 (ix2 i j)) (fun i j => x9 (ix3 0 i j)) (fun i j => x10 (ix3 0 i j)) l := by
  rw [out_eq]
  canon_tiles x h
  · obtain ⟨p, q, rfl⟩ : ∃ (p : Fin 256) (q : Fin 1024), x = ix2 p q := ⟨x 0, x 1, eq_ix2 x⟩
    rw [second_at]
    rw [show r = (⟨256 + p.val, by omega⟩ : Fin 512) from Fin.ext h0, show l = q from Fin.ext h1]
    simp only [prev1_at, cur1_at, next1_at]
    have e1 : (fun k => if p.val = 0 then pick (start1 i) 0 (x1 (ix2 255 k)) else x1 (ix2 ⟨256 + p.val - 1, by omega⟩ k)) = prevRow (start0 i) (start1 i) x0 x1 ⟨256 + p.val, by omega⟩ := by
      funext k
      unfold prevRow
      dsimp only
      rw [if_neg (show ¬ 256 + p.val = 0 by omega)]
      exact if_congr (by omega) rfl rfl
    have e2 : (fun k => if h : p.val = 255 then pick (end1 i) 0 (x2 (ix2 0 k)) else x1 (ix2 ⟨256 + p.val + 1, by omega⟩ k)) = nextRow (end0 i) (end1 i) x1 x2 ⟨256 + p.val, by omega⟩ := by
      funext k
      unfold nextRow
      dsimp only
      rw [if_neg (show ¬ 256 + p.val = 255 by omega)]
      by_cases hp : p.val = 255
      · rw [dif_pos hp, dif_pos (by omega)]
      · rw [dif_neg hp, dif_neg (by omega)]
    rw [e1, e2]
  · obtain ⟨p, q, rfl⟩ : ∃ (p : Fin 256) (q : Fin 1024), x = ix2 p q := ⟨x 0, x 1, eq_ix2 x⟩
    rw [first_at]
    rw [show r = (⟨p.val, by omega⟩ : Fin 512) from Fin.ext h0, show l = q from Fin.ext h1]
    simp only [prev0_at, cur0_at, next0_at]
    have e1 : (fun k => if p.val = 0 then pick (start0 i) 0 (x0 (ix2 7 k)) else x1 (ix2 ⟨p.val - 1, by omega⟩ k)) = prevRow (start0 i) (start1 i) x0 x1 ⟨p.val, by omega⟩ := by
      funext k
      unfold prevRow
      dsimp only
      rw [if_neg (show ¬ p.val = 256 by omega)]
    have e2 : (fun k => if p.val = 255 then pick (end0 i) 0 (x1 (ix2 256 k)) else x1 (ix2 ⟨p.val + 1, by omega⟩ k)) = nextRow (end0 i) (end1 i) x1 x2 ⟨p.val, by omega⟩ := by
      funext k
      unfold nextRow
      dsimp only
      rw [dif_neg (show ¬ p.val = 511 by omega)]
    rw [e1, e2]

end Cert.Proof.Conv
end
-- ==== Proof.ConvTgt.lean ====
module

public import proofs.«01_k».proof.Proof.ConvScr
public import proofs.«01_k».proof.Proof.GatedPay
public import Idealize.ShloMosaic.Lib.Claim

@[expose] public section

set_option maxRecDepth 16384

noncomputable section

namespace Cert.Proof.Conv

open Idealize.ShloMosaic Idealize.ShloMosaic.TcCoe Idealize.SL.Sem
open Cert.Proof.Post (Row rnorm res modr hid res2)
open Cert.Proof.Post3 (post)
open Cert.Proof.Gated (mrow)

/-- The length of the sequence a row lies in: latent tokens first, then the context's. -/
def seqL (R : Fin 34816) : ℕ := if R.val < 32768 then 4096 else 256

/-- The row before, zero where a sequence begins. -/
def prevT (G : FVec Ideal ⟨2, ![34816, 1024]⟩ .f32) (R : Fin 34816) : Row := fun k =>
  if R.val % seqL R = 0 then 0 else G (ix2 (⟨R.val - 1, by omega⟩ : Fin 34816) k)

/-- The row after, zero where a sequence ends. -/
def nextT (G : FVec Ideal ⟨2, ![34816, 1024]⟩ .f32) (R : Fin 34816) : Row := fun k =>
  if h : (R.val + 1) % seqL R = 0 then 0 else G (ix2 (⟨R.val + 1, by unfold seqL at h; split at h <;> omega⟩ : Fin 34816) k)

/-- The result array at row `R` and feature `l`, from the argument arrays. -/
def target (BG G T : FVec Ideal ⟨2, ![34816, 1024]⟩ .f32) (M : FVec Ideal ⟨4, ![4, 9, 6, 1024]⟩ .f32) (N2 : FVec Ideal ⟨2, ![4, 1024]⟩ .f32) (CW : FVec Ideal ⟨2, ![3, 1024]⟩ .f32)
    (WO : FVec Ideal ⟨2, ![1024, 1024]⟩ .f32) (W1 : FVec Ideal ⟨3, ![4, 1024, 4096]⟩ .f32) (W2 : FVec Ideal ⟨3, ![4, 4096, 1024]⟩ .f32)
    (R : Fin 34816) (l : Fin 1024) : EReal :=
  post (fun k => T (ix2 R k))
    (gated (fun k => BG (ix2 R k)) (prevT G R) (fun k => G (ix2 R k)) (nextT G R) (fun k => CW (ix2 0 k)) (fun k => CW (ix2 1 k)) (fun k => CW (ix2 2 k)))
    (fun k => M (ix4 2 (mrow R) 2 k)) (fun k => M (ix4 2 (mrow R) 3 k)) (fun k => M (ix4 2 (mrow R) 4 k)) (fun k => M (ix4 2 (mrow R) 5 k))
    (fun k => N2 (ix2 2 k)) (fun i j => WO (ix2 i j)) (fun i j => W1 (ix3 2 i j)) (fun i j => W2 (ix3 2 i j)) l

end Cert.Proof.Conv
end
-- ==== Proof.ConvValue.lean ====
module

public import proofs.«01_k».proof.Proof.ConvPay
public import proofs.«01_k».proof.Proof.ConvTgt
public import proofs.«01_k».proof.Proof.Gen.Kernel6Ideal.Value
public import Idealize.ShloMosaic.Lib.Claim

@[expose] public section

set_option maxRecDepth 16384

noncomputable section

namespace Cert.Proof.Conv

open Cert.Kernel6Ideal Cert.Kernel6Ideal.Gen Idealize.ShloMosaic Idealize.ShloMosaic.TcCoe Idealize.SL.Sem
open Cert.Proof.Post (Row rnorm res modr hid res2)
open Cert.Proof.Post3 (post pick)
open Cert.Proof.Gated (mrow)

variable (m : (ℓ : Loc nD τ sig) → Buf (Elt Ideal) ℓ)

/-- Where each window's block stands at a grid point. -/
theorem idx_facts : ∀ t : Fin cfg0.N, win0_1.index t = ![t.val, 0] ∧ win0_3.index t = ![t.val, 0] ∧ win0_4.index t = ![0, 0] ∧ win0_5.index t = ![t.val, 0]
    ∧ win0_7.index t = ![2, 0, 0] ∧ win0_8.index t = ![0, 0] ∧ win0_9.index t = ![2, 0, 0] ∧ win0_10.index t = ![2, 0, 0] ∧ win0_11.index t = ![t.val, 0] := by
  decide +kernel

/-- Where the window of the rows before a tile stands. -/
theorem idx_prev : ∀ t : Fin cfg0.N, win0_0.index t = ![t.val * 64 - 1, 0] := by
  decide +kernel

/-- Where the window of the rows after a tile stands. -/
theorem idx_next : ∀ t : Fin cfg0.N, t.val < 67 → win0_2.index t = ![t.val * 64 + 64, 0] := by
  decide +kernel

/-- Where the modulation window stands at a tile of latent tokens. -/
theorem idx_lat : ∀ t : Fin cfg0.N, t.val < 64 → win0_6.index t = ![2, t.val / 8, 0, 0] := by
  decide +kernel

/-- Where it stands at a tile of context tokens. -/
theorem idx_ctx : ∀ t : Fin cfg0.N, ¬ t.val < 64 → win0_6.index t = ![2, 8, 0, 0] := by
  decide +kernel

/-- Which chunks of a tile begin a sequence. -/
theorem starts : ∀ t : Fin cfg0.N, (start0 (grid0.coords t) = 1#1 ↔ (¬ t.val < 64 ∨ t.val % 8 = 0)) ∧ (start1 (grid0.coords t) = 1#1 ↔ ¬ t.val < 64) := by
  decide +kernel

/-- Which chunks of a tile end a sequence. -/
theorem ends : ∀ t : Fin cfg0.N, (end0 (grid0.coords t) = 1#1 ↔ ¬ t.val < 64) ∧ (end1 (grid0.coords t) = 1#1 ↔ (¬ t.val < 64 ∨ (t.val + 1) % 8 = 0)) := by
  decide +kernel

/-- A tile's block of the gated rows at an index, from the argument array. -/
theorem blk1 (c : Dev nD) (t : Fin cfg0.N) (r : Fin 512) (k : Fin 1024) (R : Fin 34816) (hR : R.val = t.val * 512 + r.val) :
    iblk m c 1 t (ix2 r k) = (m ((c : Thread nD τ).loc main_arg1)) (ix2 R k) := by
  blk_ext [iblk, V, idx_facts t]

/-- The row before a tile, from the argument array. -/
theorem blk0 (c : Dev nD) (t : Fin cfg0.N) (k : Fin 1024) (R : Fin 34816) (hR : R.val + 1 = t.val * 512) :
    iblk m c 0 t (ix2 7 k) = (m ((c : Thread nD τ).loc main_arg1)) (ix2 R k) := by
  blk_ext [iblk, V, idx_prev t]

/-- The row after a tile, from the argument array. -/
theorem blk2 (c : Dev nD) (t : Fin cfg0.N) (ht : t.val < 67) (k : Fin 1024) (R : Fin 34816) (hR : R.val = t.val * 512 + 512) :
    iblk m c 2 t (ix2 0 k) = (m ((c : Thread nD τ).loc main_arg1)) (ix2 R k) := by
  blk_ext [iblk, V, idx_next t ht]

/-- A tile's block of the gates at an index, from the argument array. -/
theorem blk3 (c : Dev nD) (t : Fin cfg0.N) (r : Fin 512) (k : Fin 1024) (R : Fin 34816) (hR : R.val = t.val * 512 + r.val) :
    iblk m c 3 t (ix2 r k) = (m ((c : Thread nD τ).loc main_arg0)) (ix2 R k) := by
  blk_ext [iblk, V, idx_facts t]

/-- The convolution's taps at an index, from the argument array. -/
theorem blk4 (c : Dev nD) (t : Fin cfg0.N) (i : Fin 3) (k : Fin 1024) :
    iblk m c 4 t (ix2 i k) = (m ((c : Thread nD τ).loc main_arg5)) (ix2 i k) := by
  blk_ext [iblk, V, idx_facts t]

/-- A tile's block of tokens at an index, from the argument array. -/
theorem blk5 (c : Dev nD) (t : Fin cfg0.N) (r : Fin 512) (k : Fin 1024) (R : Fin 34816) (hR : R.val = t.val * 512 + r.val) :
    iblk m c 5 t (ix2 r k) = (m ((c : Thread nD τ).loc main_arg2)) (ix2 R k) := by
  blk_ext [iblk, V, idx_facts t]

/-- A tile's modulation rows at an index, from the argument array. -/
theorem blk6 (c : Dev nD) (t : Fin cfg0.N) (i : Fin 6) (k : Fin 1024) (r : Fin 512) (R : Fin 34816) (hR : R.val = t.val * 512 + r.val) :
    iblk m c 6 t (ix4 0 0 i k) = (m ((c : Thread nD τ).loc main_arg3)) (ix4 2 (mrow R) i k) := by
  have hr := r.isLt
  by_cases ht : t.val < 64
  · rw [show mrow R = (⟨R.val / 4096, by omega⟩ : Fin 9) from Fin.ext (if_pos (by omega))]
    blk_simp [iblk]; entry_read; pointwise
    have hb : ((win0_6.blk t).view.emb (ix4 0 0 i k) 1).val = t.val / 8 := by blk_simp [idx_lat t ht]; exact Nat.add_zero _
    rw [dif_pos (lt_of_eq_of_lt hb (by omega))]
    blk_ext [idx_lat t ht]
  · rw [show mrow R = 8 from Fin.ext (if_neg (by omega))]
    blk_simp [iblk]; entry_read; pointwise
    have hb : ((win0_6.blk t).view.emb (ix4 0 0 i k) 1).val = 8 := by blk_simp [idx_ctx t ht]; exact Nat.add_zero _
    rw [dif_pos (lt_of_eq_of_lt hb (by omega))]
    blk_ext [idx_ctx t ht]

/-- The norm's weights at an index, from the argument array. -/
theorem blk7 (c : Dev nD) (t : Fin cfg0.N) (k : Fin 1024) :
    iblk m c 7 t (ix3 0 0 k) = (m ((c : Thread nD τ).loc main_arg4)) (ix2 2 k) := by
  blk_simp [iblk]; entry_read; pointwise
  blk_ext [idx_facts t]

/-- The output product's weights at an index, from the argument array. -/
theorem blk8 (c : Dev nD) (t : Fin cfg0.N) (i j : Fin 1024) :
    iblk m c 8 t (ix2 i j) = (m ((c : Thread nD τ).loc main_arg6)) (ix2 i j) := by
  blk_ext [iblk, V, idx_facts t]

/-- The MLP's first weights at an index, from the argument array. -/
theorem blk9 (c : Dev nD) (t : Fin cfg0.N) (i : Fin 1024) (j : Fin 4096) :
    iblk m c 9 t (ix3 0 i j) = (m ((c : Thread nD τ).loc main_arg7)) (ix3 2 i j) := by
  blk_ext [iblk, V, idx_facts t]

/-- The MLP's second weights at an index, from the argument array. -/
theorem blk10 (c : Dev nD) (t : Fin cfg0.N) (i : Fin 4096) (j : Fin 1024) :
    iblk m c 10 t (ix3 0 i j) = (m ((c : Thread nD τ).loc main_arg8)) (ix3 2 i j) := by
  blk_ext [iblk, V, idx_facts t]

/-- The row before a tile's row `r` is the array's row before, zero where a sequence begins. -/
theorem prev_eq (c : Dev nD) (t : Fin cfg0.N) (r : Fin 512) (R : Fin 34816) (hR : R.val = t.val * 512 + r.val) :
    prevRow (start0 (grid0.coords t)) (start1 (grid0.coords t)) (iblk m c 0 t) (iblk m c 1 t) r = prevT (m ((c : Thread nD τ).loc main_arg1)) R := by
  have hr := r.isLt
  have hRl := R.isLt
  have hs : seqL R = if t.val < 64 then 4096 else 256 := by
    unfold seqL
    exact if_congr (by omega) rfl rfl
  funext k
  unfold prevRow prevT pick
  rw [hs]
  by_cases h0 : r.val = 0
  · rw [if_pos h0]
    have hs0 := (starts t).1
    by_cases hb : ¬ t.val < 64 ∨ t.val % 8 = 0
    · rw [if_pos (hs0.2 hb), if_pos (by split <;> omega)]
    · rw [if_neg (fun h => hb (hs0.1 h)), if_neg (by split <;> omega)]
      exact blk0 m c t k _ (by show R.val - 1 + 1 = t.val * 512; omega)
  · rw [if_neg h0]
    by_cases h1 : r.val = 256
    · rw [if_pos h1, blk1 m c t 255 k (⟨R.val - 1, by omega⟩ : Fin 34816) (by show R.val - 1 = t.val * 512 + 255; omega)]
      refine if_congr ((starts t).2.trans ?_) rfl rfl
      split <;> omega
    · rw [if_neg h1, if_neg (by split <;> omega)]
      exact blk1 m c t _ k _ (by show R.val - 1 = t.val * 512 + (r.val - 1); omega)

/-- The row after a tile's row `r` is the array's row after, zero where a sequence ends. -/
theorem next_eq (c : Dev nD) (t : Fin cfg0.N) (r : Fin 512) (R : Fin 34816) (hR : R.val = t.val * 512 + r.val) :
    nextRow (end0 (grid0.coords t)) (end1 (grid0.coords t)) (iblk m c 1 t) (iblk m c 2 t) r = nextT (m ((c : Thread nD τ).loc main_arg1)) R := by
  have hr := r.isLt
  have hRl := R.isLt
  have hs : seqL R = if t.val < 64 then 4096 else 256 := by
    unfold seqL
    exact if_congr (by omega) rfl rfl
  have he := ends t
  funext k
  unfold nextRow nextT pick
  by_cases h0 : r.val = 255
  · rw [if_pos h0]
    by_cases ht : t.val < 64
    · rw [if_neg (fun h => he.1.1 h ht), dif_neg (by rw [hs, if_pos ht]; omega)]
      exact blk1 m c t _ k _ (by show R.val + 1 = t.val * 512 + 256; omega)
    · rw [if_pos (he.1.2 ht), dif_pos (by rw [hs, if_neg ht]; omega)]
  · rw [if_neg h0]
    by_cases h1 : r.val = 511
    · rw [dif_pos h1]
      by_cases ht : ¬ t.val < 64 ∨ (t.val + 1) % 8 = 0
      · rw [if_pos (he.2.2 ht), dif_pos (by rw [hs]; split <;> omega)]
      · rw [if_neg (fun h => ht (he.2.1 h)), dif_neg (by rw [hs]; split <;> omega)]
        exact blk2 m c t (by omega) k _ (by show R.val + 1 = t.val * 512 + 512; omega)
    · rw [dif_neg h1, dif_neg (by rw [hs]; split <;> omega)]
      exact blk1 m c t _ k _ (by show R.val + 1 = t.val * 512 + (r.val + 1); omega)

/-- A block of the result at an index. -/
theorem out_at (c : Dev nD) (t : Fin cfg0.N) (r : Fin 512) (l : Fin 1024) (R : Fin 34816) (hR : R.val = t.val * 512 + r.val) :
    outsAt0 m c t (ix2 r l) = target (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) R l := by
  refine (block_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) r l).trans ?_
  unfold target
  rw [prev_eq m c t r R hR, next_eq m c t r R hR]
  simp only [blk4, blk7, blk8, blk9, blk10, fun k => blk1 m c t r k R hR, fun k => blk3 m c t r k R hR, fun k => blk5 m c t r k R hR, fun i k => blk6 m c t i k r R hR]

/-- The kernel's result array, at every index. -/
theorem kernel_final (c : Dev nD) :
    (dats m 0 c).arrAt 11 cfg0.N = fun i => target (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (i 0) (i 1) := by
  refine (dats m 0 c).arrAt_eq_of_covers 11 _ (by decide +kernel) fun t hf y => ?_
  blk_simp
  rw [after0_11]
  have e0 : ((win0_11.blk t).view.emb y 0).val = t.val * 512 + (y 0).val := by blk_simp [idx_facts t]
  have e1 : (win0_11.blk t).view.emb y 1 = y 1 := Fin.ext (by blk_simp [idx_facts t])
  rw [e1]
  exact (congrArg _ (eq_ix2 y)).trans (out_at m c t (y 0) (y 1) _ e0)

end Cert.Proof.Conv
end
-- ==== Proof.ConvRef.lean ====
module

public import proofs.«01_k».proof.Proof.ConvTgt
public import proofs.«01_k».proof.Proof.Gen.Reference6Ideal
public import Idealize.ShloMosaic.Lib.Claim

@[expose] public section

set_option maxRecDepth 16384

noncomputable section

namespace Cert.Proof.Conv

open Idealize.ShloMosaic Idealize.ShloMosaic.TcCoe Idealize.SL.Sem
open Cert.Proof.Post (Row rnorm res modr hid res2)
open Cert.Proof.Post3 (post)
open Cert.Proof.Gated (mrow)

open Cert.Reference6Ideal Cert.Reference6Ideal.Gen

/-- The latent tokens' modulation vectors. -/
def lMod (M : FVec Ideal S4x9x6x1024 .f32) : FVec Ideal S8x6x1x1024 .f32 :=
  shapeCast S8x6x1x1024 (shapeCast S8x6x1024 (extractStridedSlice S1x8x6x1024 ![2, 0, 0, 0] M slices_S4x9x6x1024_S1x8x6x1024_2_0_0_0) shapeCasts_S1x8x6x1024_S8x6x1024) shapeCasts_S8x6x1024_S8x6x1x1024

/-- The context tokens' modulation vectors. -/
def cMod (M : FVec Ideal S4x9x6x1024 .f32) : FVec Ideal S1x6x1x1024 .f32 :=
  shapeCast S1x6x1x1024 (shapeCast S1x6x1024 (extractStridedSlice S1x1x6x1024 ![2, 8, 0, 0] M slices_S4x9x6x1024_S1x1x6x1024_2_8_0_0) shapeCasts_S1x1x6x1024_S1x6x1024) shapeCasts_S1x6x1024_S1x6x1x1024

/-- The reference's root-mean-square norm of the latent tokens. -/
def lNorm (v : FVec Ideal S8x4096x1024 .f32) (g : FVec Ideal S1024 .f32) : FVec Ideal S8x4096x1024 .f32 :=
  mulf (mulf v (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf v v) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 g))

/-- The reference's latent tokens after the mixer. -/
def lX1 (A X : FVec Ideal S8x4096x1024 .f32) (M : FVec Ideal S4x9x6x1024 .f32) (WO : FVec Ideal S1024x1024 .f32) : FVec Ideal S8x4096x1024 .f32 :=
  addf X (mulf (broadcastInDim S8x4096x1024 ![0, 1, 2] bcast_S8x1x1024_S8x4096x1024_0_1_2 (shapeCast S8x1x1024 (extractStridedSlice S8x1x1x1024 ![0, 2, 0, 0] (lMod M) slices_S8x6x1x1024_S8x1x1x1024_0_2_0_0) shapeCasts_S8x1x1x1024_S8x1x1024)) (Host.dotGeneral dot_S8x4096x1024_S1024x1024_S8x4096x1024_2_0_01_1_n_n none A WO))

/-- The reference's modulated normed latent tokens. -/
def lModr (x1 : FVec Ideal S8x4096x1024 .f32) (M : FVec Ideal S4x9x6x1024 .f32) (N2 : FVec Ideal S4x1024 .f32) : FVec Ideal S8x4096x1024 .f32 :=
  addf (mulf (lNorm x1 (shapeCast S1024 (extractStridedSlice S1x1024 ![2, 0] N2 slices_S4x1024_S1x1024_2_0) shapeCasts_S1x1024_S1024)) (broadcastInDim S8x4096x1024 ![0, 1, 2] bcast_S8x1x1024_S8x4096x1024_0_1_2 (addf (broadcastInDim S8x1x1024 ![] bcast_S_S8x1x1024 (constant S_ .f32 0x3F800000#32)) (shapeCast S8x1x1024 (extractStridedSlice S8x1x1x1024 ![0, 4, 0, 0] (lMod M) slices_S8x6x1x1024_S8x1x1x1024_0_4_0_0) shapeCasts_S8x1x1x1024_S8x1x1024)))) (broadcastInDim S8x4096x1024 ![0, 1, 2] bcast_S8x1x1024_S8x4096x1024_0_1_2 (shapeCast S8x1x1024 (extractStridedSlice S8x1x1x1024 ![0, 3, 0, 0] (lMod M) slices_S8x6x1x1024_S8x1x1x1024_0_3_0_0) shapeCasts_S8x1x1x1024_S8x1x1024))

/-- The reference's hidden units of the latent tokens before the square. -/
def lRelu (mr : FVec Ideal S8x4096x1024 .f32) (W1 : FVec Ideal S4x1024x4096 .f32) : FVec Ideal S8x4096x4096 .f32 :=
  maximumf (Host.dotGeneral dot_S8x4096x1024_S1024x4096_S8x4096x4096_2_0_01_1_n_n none mr (shapeCast S1024x4096 (extractStridedSlice S1x1024x4096 ![2, 0, 0] W1 slices_S4x1024x4096_S1x1024x4096_2_0_0) shapeCasts_S1x1024x4096_S1024x4096)) (broadcastInDim S8x4096x4096 ![] bcast_S_S8x4096x4096 (constant S_ .f32 0x00000000#32))

/-- The reference's latent tokens after the MLP. -/
def lX2 (x1 : FVec Ideal S8x4096x1024 .f32) (h : FVec Ideal S8x4096x4096 .f32) (M : FVec Ideal S4x9x6x1024 .f32) (W2 : FVec Ideal S4x4096x1024 .f32) : FVec Ideal S8x4096x1024 .f32 :=
  addf x1 (mulf (broadcastInDim S8x4096x1024 ![0, 1, 2] bcast_S8x1x1024_S8x4096x1024_0_1_2 (shapeCast S8x1x1024 (extractStridedSlice S8x1x1x1024 ![0, 5, 0, 0] (lMod M) slices_S8x6x1x1024_S8x1x1x1024_0_5_0_0) shapeCasts_S8x1x1x1024_S8x1x1024)) (Host.dotGeneral dot_S8x4096x4096_S4096x1024_S8x4096x1024_2_0_01_1_n_n none (mulf h h) (shapeCast S4096x1024 (extractStridedSlice S1x4096x1024 ![2, 0, 0] W2 slices_S4x4096x1024_S1x4096x1024_2_0_0) shapeCasts_S1x4096x1024_S4096x1024)))

/-- The norm at an index. -/
theorem lNorm_at (v : FVec Ideal S8x4096x1024 .f32) (g : FVec Ideal S1024 .f32) (b : Fin 8) (r : Fin 4096) (l : Fin 1024) :
    lNorm v g (ix3 b r l) = rnorm (fun k => v (ix3 b r k)) (fun k => g (ix1 k)) l := by
  unfold rnorm
  pointwise [lNorm]

/-- The residual stream after the mixer at an index. -/
theorem lX1_at (A X : FVec Ideal S8x4096x1024 .f32) (M : FVec Ideal S4x9x6x1024 .f32) (WO : FVec Ideal S1024x1024 .f32) (b : Fin 8) (r : Fin 4096) (l : Fin 1024) :
    lX1 A X M WO (ix3 b r l) = res (fun k => X (ix3 b r k)) (fun k => A (ix3 b r k)) (fun k => M (ix4 2 (⟨b.val, by omega⟩ : Fin 9) 2 k)) (fun i j => WO (ix2 i j)) l := by
  unfold res
  pointwise [lX1, lMod]

/-- The modulated normed row at an index. -/
theorem lModr_at (x1 : FVec Ideal S8x4096x1024 .f32) (M : FVec Ideal S4x9x6x1024 .f32) (N2 : FVec Ideal S4x1024 .f32) (b : Fin 8) (r : Fin 4096) (l : Fin 1024) :
    lModr x1 M N2 (ix3 b r l) = modr (fun k => x1 (ix3 b r k)) (fun k => N2 (ix2 2 k)) (fun k => M (ix4 2 (⟨b.val, by omega⟩ : Fin 9) 4 k)) (fun k => M (ix4 2 (⟨b.val, by omega⟩ : Fin 9) 3 k)) l := by
  unfold modr
  pointwise [lModr, lMod, lNorm_at]

/-- The hidden units at an index. -/
theorem lRelu_at (mr : FVec Ideal S8x4096x1024 .f32) (W1 : FVec Ideal S4x1024x4096 .f32) (b : Fin 8) (r : Fin 4096) (l : Fin 4096) :
    lRelu mr W1 (ix3 b r l) = max (∑ k, mr (ix3 b r k) * W1 (ix3 2 k l)) 0 := by
  pointwise [lRelu]

/-- The residual stream after the MLP at an index. -/
theorem lX2_at (x1 : FVec Ideal S8x4096x1024 .f32) (h : FVec Ideal S8x4096x4096 .f32) (M : FVec Ideal S4x9x6x1024 .f32) (W2 : FVec Ideal S4x4096x1024 .f32) (b : Fin 8) (r : Fin 4096) (l : Fin 1024) :
    lX2 x1 h M W2 (ix3 b r l) = res2 (fun k => x1 (ix3 b r k)) (fun k => M (ix4 2 (⟨b.val, by omega⟩ : Fin 9) 5 k)) (fun f => h (ix3 b r f) * h (ix3 b r f)) (fun i j => W2 (ix3 2 i j)) l := by
  unfold res2
  pointwise [lX2, lMod]

/-- The reference's latent tokens at the layer's end. -/
def lAll (A X : FVec Ideal S8x4096x1024 .f32) (M : FVec Ideal S4x9x6x1024 .f32) (N2 : FVec Ideal S4x1024 .f32) (WO : FVec Ideal S1024x1024 .f32) (W1 : FVec Ideal S4x1024x4096 .f32) (W2 : FVec Ideal S4x4096x1024 .f32) : FVec Ideal S8x4096x1024 .f32 :=
  lX2 (lX1 A X M WO) (lRelu (lModr (lX1 A X M WO) M N2) W1) M W2

/-- The layer's end at an index. -/
theorem lAll_at (A X : FVec Ideal S8x4096x1024 .f32) (M : FVec Ideal S4x9x6x1024 .f32) (N2 : FVec Ideal S4x1024 .f32) (WO : FVec Ideal S1024x1024 .f32) (W1 : FVec Ideal S4x1024x4096 .f32) (W2 : FVec Ideal S4x4096x1024 .f32) (b : Fin 8) (r : Fin 4096) (l : Fin 1024) :
    lAll A X M N2 WO W1 W2 (ix3 b r l) = post (fun k => X (ix3 b r k)) (fun k => A (ix3 b r k)) (fun k => M (ix4 2 (⟨b.val, by omega⟩ : Fin 9) 2 k)) (fun k => M (ix4 2 (⟨b.val, by omega⟩ : Fin 9) 3 k))
      (fun k => M (ix4 2 (⟨b.val, by omega⟩ : Fin 9) 4 k)) (fun k => M (ix4 2 (⟨b.val, by omega⟩ : Fin 9) 5 k)) (fun k => N2 (ix2 2 k)) (fun i j => WO (ix2 i j)) (fun i j => W1 (ix3 2 i j)) (fun i j => W2 (ix3 2 i j)) l := by
  unfold lAll
  simp only [lX2_at, lRelu_at, lModr_at, lX1_at]
  rfl

/-- The reference's root-mean-square norm of the context tokens. -/
def cNorm (v : FVec Ideal S8x256x1024 .f32) (g : FVec Ideal S1024 .f32) : FVec Ideal S8x256x1024 .f32 :=
  mulf (mulf v (broadcastInDim S8x256x1024 ![0, 1, 2] bcast_S8x256x1_S8x256x1024_0_1_2 (Host.rsqrt (addf (Host.divf (broadcastInDim S8x256x1 ![0, 1] bcast_S8x256_S8x256x1_0_1 (Host.reduceAdd (mulf v v) (constant S_ .f32 0x00000000#32) reducesTo_S8x256x1024_S8x256_d2 h_S_)) (broadcastInDim S8x256x1 ![] bcast_S_S8x256x1 (constant S_ .f32 0x44800000#32))) (broadcastInDim S8x256x1 ![] bcast_S_S8x256x1 (constant S_ .f32 0x358637BD#32)))))) (broadcastInDim S8x256x1024 ![0, 1, 2] bcast_S1x1x1024_S8x256x1024_0_1_2 (broadcastInDim S1x1x1024 ![2] bcast_S1024_S1x1x1024_2 g))

/-- The reference's context tokens after the mixer. -/
def cX1 (A X : FVec Ideal S8x256x1024 .f32) (M : FVec Ideal S4x9x6x1024 .f32) (WO : FVec Ideal S1024x1024 .f32) : FVec Ideal S8x256x1024 .f32 :=
  addf X (mulf (broadcastInDim S8x256x1024 ![0, 1, 2] bcast_S1x1x1024_S8x256x1024_0_1_2 (shapeCast S1x1x1024 (extractStridedSlice S1x1x1x1024 ![0, 2, 0, 0] (cMod M) slices_S1x6x1x1024_S1x1x1x1024_0_2_0_0) shapeCasts_S1x1x1x1024_S1x1x1024)) (Host.dotGeneral dot_S8x256x1024_S1024x1024_S8x256x1024_2_0_01_1_n_n none A WO))

/-- The reference's modulated normed context tokens. -/
def cModr (x1 : FVec Ideal S8x256x1024 .f32) (M : FVec Ideal S4x9x6x1024 .f32) (N2 : FVec Ideal S4x1024 .f32) : FVec Ideal S8x256x1024 .f32 :=
  addf (mulf (cNorm x1 (shapeCast S1024 (extractStridedSlice S1x1024 ![2, 0] N2 slices_S4x1024_S1x1024_2_0) shapeCasts_S1x1024_S1024)) (broadcastInDim S8x256x1024 ![0, 1, 2] bcast_S1x1x1024_S8x256x1024_0_1_2 (addf (broadcastInDim S1x1x1024 ![] bcast_S_S1x1x1024 (constant S_ .f32 0x3F800000#32)) (shapeCast S1x1x1024 (extractStridedSlice S1x1x1x1024 ![0, 4, 0, 0] (cMod M) slices_S1x6x1x1024_S1x1x1x1024_0_4_0_0) shapeCasts_S1x1x1x1024_S1x1x1024)))) (broadcastInDim S8x256x1024 ![0, 1, 2] bcast_S1x1x1024_S8x256x1024_0_1_2 (shapeCast S1x1x1024 (extractStridedSlice S1x1x1x1024 ![0, 3, 0, 0] (cMod M) slices_S1x6x1x1024_S1x1x1x1024_0_3_0_0) shapeCasts_S1x1x1x1024_S1x1x1024))

/-- The reference's hidden units of the context tokens before the square. -/
def cRelu (mr : FVec Ideal S8x256x1024 .f32) (W1 : FVec Ideal S4x1024x4096 .f32) : FVec Ideal S8x256x4096 .f32 :=
  maximumf (Host.dotGeneral dot_S8x256x1024_S1024x4096_S8x256x4096_2_0_01_1_n_n none mr (shapeCast S1024x4096 (extractStridedSlice S1x1024x4096 ![2, 0, 0] W1 slices_S4x1024x4096_S1x1024x4096_2_0_0) shapeCasts_S1x1024x4096_S1024x4096)) (broadcastInDim S8x256x4096 ![] bcast_S_S8x256x4096 (constant S_ .f32 0x00000000#32))

/-- The reference's context tokens after the MLP. -/
def cX2 (x1 : FVec Ideal S8x256x1024 .f32) (h : FVec Ideal S8x256x4096 .f32) (M : FVec Ideal S4x9x6x1024 .f32) (W2 : FVec Ideal S4x4096x1024 .f32) : FVec Ideal S8x256x1024 .f32 :=
  addf x1 (mulf (broadcastInDim S8x256x1024 ![0, 1, 2] bcast_S1x1x1024_S8x256x1024_0_1_2 (shapeCast S1x1x1024 (extractStridedSlice S1x1x1x1024 ![0, 5, 0, 0] (cMod M) slices_S1x6x1x1024_S1x1x1x1024_0_5_0_0) shapeCasts_S1x1x1x1024_S1x1x1024)) (Host.dotGeneral dot_S8x256x4096_S4096x1024_S8x256x1024_2_0_01_1_n_n none (mulf h h) (shapeCast S4096x1024 (extractStridedSlice S1x4096x1024 ![2, 0, 0] W2 slices_S4x4096x1024_S1x4096x1024_2_0_0) shapeCasts_S1x4096x1024_S4096x1024)))

/-- The norm at an index. -/
theorem cNorm_at (v : FVec Ideal S8x256x1024 .f32) (g : FVec Ideal S1024 .f32) (b : Fin 8) (r : Fin 256) (l : Fin 1024) :
    cNorm v g (ix3 b r l) = rnorm (fun k => v (ix3 b r k)) (fun k => g (ix1 k)) l := by
  unfold rnorm
  pointwise [cNorm]

/-- The residual stream after the mixer at an index. -/
theorem cX1_at (A X : FVec Ideal S8x256x1024 .f32) (M : FVec Ideal S4x9x6x1024 .f32) (WO : FVec Ideal S1024x1024 .f32) (b : Fin 8) (r : Fin 256) (l : Fin 1024) :
    cX1 A X M WO (ix3 b r l) = res (fun k => X (ix3 b r k)) (fun k => A (ix3 b r k)) (fun k => M (ix4 2 8 2 k)) (fun i j => WO (ix2 i j)) l := by
  unfold res
  pointwise [cX1, cMod]

/-- The modulated normed row at an index. -/
theorem cModr_at (x1 : FVec Ideal S8x256x1024 .f32) (M : FVec Ideal S4x9x6x1024 .f32) (N2 : FVec Ideal S4x1024 .f32) (b : Fin 8) (r : Fin 256) (l : Fin 1024) :
    cModr x1 M N2 (ix3 b r l) = modr (fun k => x1 (ix3 b r k)) (fun k => N2 (ix2 2 k)) (fun k => M (ix4 2 8 4 k)) (fun k => M (ix4 2 8 3 k)) l := by
  unfold modr
  pointwise [cModr, cMod, cNorm_at]

/-- The hidden units at an index. -/
theorem cRelu_at (mr : FVec Ideal S8x256x1024 .f32) (W1 : FVec Ideal S4x1024x4096 .f32) (b : Fin 8) (r : Fin 256) (l : Fin 4096) :
    cRelu mr W1 (ix3 b r l) = max (∑ k, mr (ix3 b r k) * W1 (ix3 2 k l)) 0 := by
  pointwise [cRelu]

/-- The residual stream after the MLP at an index. -/
theorem cX2_at (x1 : FVec Ideal S8x256x1024 .f32) (h : FVec Ideal S8x256x4096 .f32) (M : FVec Ideal S4x9x6x1024 .f32) (W2 : FVec Ideal S4x4096x1024 .f32) (b : Fin 8) (r : Fin 256) (l : Fin 1024) :
    cX2 x1 h M W2 (ix3 b r l) = res2 (fun k => x1 (ix3 b r k)) (fun k => M (ix4 2 8 5 k)) (fun f => h (ix3 b r f) * h (ix3 b r f)) (fun i j => W2 (ix3 2 i j)) l := by
  unfold res2
  pointwise [cX2, cMod]

/-- The reference's context tokens at the layer's end. -/
def cAll (A X : FVec Ideal S8x256x1024 .f32) (M : FVec Ideal S4x9x6x1024 .f32) (N2 : FVec Ideal S4x1024 .f32) (WO : FVec Ideal S1024x1024 .f32) (W1 : FVec Ideal S4x1024x4096 .f32) (W2 : FVec Ideal S4x4096x1024 .f32) : FVec Ideal S8x256x1024 .f32 :=
  cX2 (cX1 A X M WO) (cRelu (cModr (cX1 A X M WO) M N2) W1) M W2

/-- The layer's end at an index. -/
theorem cAll_at (A X : FVec Ideal S8x256x1024 .f32) (M : FVec Ideal S4x9x6x1024 .f32) (N2 : FVec Ideal S4x1024 .f32) (WO : FVec Ideal S1024x1024 .f32) (W1 : FVec Ideal S4x1024x4096 .f32) (W2 : FVec Ideal S4x4096x1024 .f32) (b : Fin 8) (r : Fin 256) (l : Fin 1024) :
    cAll A X M N2 WO W1 W2 (ix3 b r l) = post (fun k => X (ix3 b r k)) (fun k => A (ix3 b r k)) (fun k => M (ix4 2 8 2 k)) (fun k => M (ix4 2 8 3 k))
      (fun k => M (ix4 2 8 4 k)) (fun k => M (ix4 2 8 5 k)) (fun k => N2 (ix2 2 k)) (fun i j => WO (ix2 i j)) (fun i j => W1 (ix3 2 i j)) (fun i j => W2 (ix3 2 i j)) l := by
  unfold cAll
  simp only [cX2_at, cRelu_at, cModr_at, cX1_at]
  rfl

/-- The latent rows of a flat array. -/
def lTok (T : FVec Ideal S34816x1024 .f32) : FVec Ideal S8x4096x1024 .f32 :=
  shapeCast S8x4096x1024 (extractStridedSlice S32768x1024 ![0, 0] T slices_S34816x1024_S32768x1024_0_0) shapeCasts_S32768x1024_S8x4096x1024

/-- The latent rows at an index. -/
theorem lTok_at (T : FVec Ideal S34816x1024 .f32) (b : Fin 8) (r : Fin 4096) (k : Fin 1024) (R : Fin 34816) (h : R.val = b.val * 4096 + r.val) :
    lTok T (ix3 b r k) = T (ix2 R k) := by
  rw [show R = (⟨b.val * 4096 + r.val, by omega⟩ : Fin 34816) from Fin.ext h]
  pointwise [lTok]

/-- The latent rows with a zero row before and after each sequence. -/
def lPad (G : FVec Ideal S8x4096x1024 .f32) : FVec Ideal S8x4098x1024 .f32 :=
  pad S8x4098x1024 ![0, 1, 0] ![0, 1, 0] ![0, 0, 0] G (constant S_ .f32 0x00000000#32) pads_S8x4096x1024_S8x4098x1024_000_110_000 h_S_

/-- Inside, the padded rows are the rows. -/
theorem lPad_in (G : FVec Ideal S8x4096x1024 .f32) (b : Fin 8) (q : Fin 4098) (r : Fin 4096) (k : Fin 1024) (h : q.val = r.val + 1) :
    lPad G (ix3 b q k) = G (ix3 b r k) := by
  unfold lPad
  rw [pad_apply]
  split
  · refine congrArg G (funext fun a => Fin.ext ?_)
    match a with
    | ⟨0, _⟩ => show (b.val - 0) / (0 + 1) = b.val; omega
    | ⟨1, _⟩ => show (q.val - 1) / (0 + 1) = r.val; omega
    | ⟨2, _⟩ => show (k.val - 0) / (0 + 1) = k.val; omega
  · rename_i hn
    refine (hn fun a => ?_).elim
    match a with
    | ⟨0, _⟩ => show 0 ≤ b.val ∧ (b.val - 0) % (0 + 1) = 0 ∧ (b.val - 0) / (0 + 1) < 8; omega
    | ⟨1, _⟩ => show 1 ≤ q.val ∧ (q.val - 1) % (0 + 1) = 0 ∧ (q.val - 1) / (0 + 1) < 4096; omega
    | ⟨2, _⟩ => show 0 ≤ k.val ∧ (k.val - 0) % (0 + 1) = 0 ∧ (k.val - 0) / (0 + 1) < 1024; omega

/-- Outside they are zero. -/
theorem lPad_out (G : FVec Ideal S8x4096x1024 .f32) (b : Fin 8) (q : Fin 4098) (k : Fin 1024) (h : q.val = 0 ∨ q.val = 4097) :
    lPad G (ix3 b q k) = 0 := by
  unfold lPad
  rw [pad_apply]
  split
  · rename_i hin
    have h1 : 1 ≤ q.val := (hin 1).1
    have h2 : (q.val - 1) / (0 + 1) < 4096 := (hin 1).2.2
    omega
  · pointwise

/-- The reference's gated convolution of the latent rows. -/
def lConv (BG G : FVec Ideal S8x4096x1024 .f32) (CW : FVec Ideal S3x1024 .f32) : FVec Ideal S8x4096x1024 .f32 :=
  mulf BG (addf (addf (mulf (broadcastInDim S8x4096x1024 ![0, 1, 2] bcast_S1x1x1024_S8x4096x1024_0_1_2 (broadcastInDim S1x1x1024 ![2] bcast_S1024_S1x1x1024_2 (shapeCast S1024 (extractStridedSlice S1x1024 ![0, 0] CW slices_S3x1024_S1x1024_0_0) shapeCasts_S1x1024_S1024))) (extractStridedSlice S8x4096x1024 ![0, 0, 0] (lPad G) slices_S8x4098x1024_S8x4096x1024_0_0_0)) (mulf (broadcastInDim S8x4096x1024 ![0, 1, 2] bcast_S1x1x1024_S8x4096x1024_0_1_2 (broadcastInDim S1x1x1024 ![2] bcast_S1024_S1x1x1024_2 (shapeCast S1024 (extractStridedSlice S1x1024 ![1, 0] CW slices_S3x1024_S1x1024_1_0) shapeCasts_S1x1024_S1024))) (extractStridedSlice S8x4096x1024 ![0, 1, 0] (lPad G) slices_S8x4098x1024_S8x4096x1024_0_1_0))) (mulf (broadcastInDim S8x4096x1024 ![0, 1, 2] bcast_S1x1x1024_S8x4096x1024_0_1_2 (broadcastInDim S1x1x1024 ![2] bcast_S1024_S1x1x1024_2 (shapeCast S1024 (extractStridedSlice S1x1024 ![2, 0] CW slices_S3x1024_S1x1024_2_0) shapeCasts_S1x1024_S1024))) (extractStridedSlice S8x4096x1024 ![0, 2, 0] (lPad G) slices_S8x4098x1024_S8x4096x1024_0_2_0)))

/-- The gated convolution at an index. -/
theorem lConv_at (BG G : FVec Ideal S8x4096x1024 .f32) (CW : FVec Ideal S3x1024 .f32) (b : Fin 8) (r : Fin 4096) (k : Fin 1024) :
    lConv BG G CW (ix3 b r k) = gated (fun k => BG (ix3 b r k)) (fun k => lPad G (ix3 b (⟨r.val, by omega⟩ : Fin 4098) k)) (fun k => lPad G (ix3 b (⟨1 + r.val, by omega⟩ : Fin 4098) k)) (fun k => lPad G (ix3 b (⟨2 + r.val, by omega⟩ : Fin 4098) k))
      (fun k => CW (ix2 0 k)) (fun k => CW (ix2 1 k)) (fun k => CW (ix2 2 k)) k := by
  unfold gated
  pointwise [lConv]

/-- The gated convolution of a latent row, from the flat arrays. -/
theorem lConv_row (BG G : FVec Ideal S34816x1024 .f32) (CW : FVec Ideal S3x1024 .f32) (R : Fin 34816) (h : R.val < 32768) :
    (fun k => lConv (lTok BG) (lTok G) CW (ix3 (⟨R.val / 4096, by omega⟩ : Fin 8) (⟨R.val % 4096, by omega⟩ : Fin 4096) k))
      = gated (fun k => BG (ix2 R k)) (prevT G R) (fun k => G (ix2 R k)) (nextT G R) (fun k => CW (ix2 0 k)) (fun k => CW (ix2 1 k)) (fun k => CW (ix2 2 k)) := by
  have hR := R.isLt
  have hs : seqL R = 4096 := if_pos h
  funext k
  rw [lConv_at]
  have ea : (fun k => lTok BG (ix3 (⟨R.val / 4096, by omega⟩ : Fin 8) (⟨R.val % 4096, by omega⟩ : Fin 4096) k)) = fun k => BG (ix2 R k) :=
    funext fun k => lTok_at BG _ _ k R (by dsimp only; omega)
  have ec : (fun k => lPad (lTok G) (ix3 (⟨R.val / 4096, by omega⟩ : Fin 8) (⟨1 + R.val % 4096, by omega⟩ : Fin 4098) k)) = fun k => G (ix2 R k) :=
    funext fun k => (lPad_in (lTok G) _ _ (⟨R.val % 4096, by omega⟩ : Fin 4096) k (Nat.add_comm _ _)).trans (lTok_at G _ _ k R (by dsimp only; omega))
  have ep : (fun k => lPad (lTok G) (ix3 (⟨R.val / 4096, by omega⟩ : Fin 8) (⟨R.val % 4096, by omega⟩ : Fin 4098) k)) = prevT G R := by
    funext k
    unfold prevT
    rw [hs]
    by_cases h0 : R.val % 4096 = 0
    · rw [if_pos h0]
      exact lPad_out _ _ _ k (Or.inl (by dsimp only; omega))
    · rw [if_neg h0]
      exact (lPad_in (lTok G) _ _ (⟨R.val % 4096 - 1, by omega⟩ : Fin 4096) k (by dsimp only; omega)).trans (lTok_at G _ _ k _ (by dsimp only; omega))
  have en : (fun k => lPad (lTok G) (ix3 (⟨R.val / 4096, by omega⟩ : Fin 8) (⟨2 + R.val % 4096, by omega⟩ : Fin 4098) k)) = nextT G R := by
    funext k
    unfold nextT
    by_cases h0 : (R.val + 1) % 4096 = 0
    · rw [dif_pos (by rw [hs]; exact h0)]
      exact lPad_out _ _ _ k (Or.inr (by dsimp only; omega))
    · rw [dif_neg (by rw [hs]; exact h0)]
      exact (lPad_in (lTok G) _ _ (⟨R.val % 4096 + 1, by omega⟩ : Fin 4096) k (by dsimp only; omega)).trans (lTok_at G _ _ k _ (by dsimp only; omega))
  rw [ea, ec, ep, en]

/-- The layer's end at a latent row, from the flat arrays. -/
theorem lAll_eq (BG G T : FVec Ideal ⟨2, ![34816, 1024]⟩ .f32) (M : FVec Ideal ⟨4, ![4, 9, 6, 1024]⟩ .f32) (N2 : FVec Ideal ⟨2, ![4, 1024]⟩ .f32) (CW : FVec Ideal ⟨2, ![3, 1024]⟩ .f32)
    (WO : FVec Ideal ⟨2, ![1024, 1024]⟩ .f32) (W1 : FVec Ideal ⟨3, ![4, 1024, 4096]⟩ .f32) (W2 : FVec Ideal ⟨3, ![4, 4096, 1024]⟩ .f32) (R : Fin 34816) (l : Fin 1024) (h : R.val < 32768) :
    lAll (lConv (lTok BG) (lTok G) CW) (lTok T) M N2 WO W1 W2 (ix3 (⟨R.val / 4096, by omega⟩ : Fin 8) (⟨R.val % 4096, by omega⟩ : Fin 4096) l) = target BG G T M N2 CW WO W1 W2 R l := by
  have hR := R.isLt
  rw [lAll_at, target, lConv_row BG G CW R h, show mrow R = (⟨R.val / 4096, by omega⟩ : Fin 9) from Fin.ext (if_pos h),
    show (fun k => lTok T (ix3 (⟨R.val / 4096, by omega⟩ : Fin 8) (⟨R.val % 4096, by omega⟩ : Fin 4096) k)) = fun k => T (ix2 R k) from funext fun k => lTok_at T _ _ k R (by dsimp only; omega)]

/-- The context rows of a flat array. -/
def cTok (T : FVec Ideal S34816x1024 .f32) : FVec Ideal S8x256x1024 .f32 :=
  shapeCast S8x256x1024 (extractStridedSlice S2048x1024 ![32768, 0] T slices_S34816x1024_S2048x1024_32768_0) shapeCasts_S2048x1024_S8x256x1024

/-- The context rows at an index. -/
theorem cTok_at (T : FVec Ideal S34816x1024 .f32) (b : Fin 8) (r : Fin 256) (k : Fin 1024) (R : Fin 34816) (h : R.val = 32768 + (b.val * 256 + r.val)) :
    cTok T (ix3 b r k) = T (ix2 R k) := by
  rw [show R = (⟨32768 + (b.val * 256 + r.val), by omega⟩ : Fin 34816) from Fin.ext h]
  pointwise [cTok]

/-- The context rows with a zero row before and after each sequence. -/
def cPad (G : FVec Ideal S8x256x1024 .f32) : FVec Ideal S8x258x1024 .f32 :=
  pad S8x258x1024 ![0, 1, 0] ![0, 1, 0] ![0, 0, 0] G (constant S_ .f32 0x00000000#32) pads_S8x256x1024_S8x258x1024_000_110_000 h_S_

/-- Inside, the padded rows are the rows. -/
theorem cPad_in (G : FVec Ideal S8x256x1024 .f32) (b : Fin 8) (q : Fin 258) (r : Fin 256) (k : Fin 1024) (h : q.val = r.val + 1) :
    cPad G (ix3 b q k) = G (ix3 b r k) := by
  unfold cPad
  rw [pad_apply]
  split
  · refine congrArg G (funext fun a => Fin.ext ?_)
    match a with
    | ⟨0, _⟩ => show (b.val - 0) / (0 + 1) = b.val; omega
    | ⟨1, _⟩ => show (q.val - 1) / (0 + 1) = r.val; omega
    | ⟨2, _⟩ => show (k.val - 0) / (0 + 1) = k.val; omega
  · rename_i hn
    refine (hn fun a => ?_).elim
    match a with
    | ⟨0, _⟩ => show 0 ≤ b.val ∧ (b.val - 0) % (0 + 1) = 0 ∧ (b.val - 0) / (0 + 1) < 8; omega
    | ⟨1, _⟩ => show 1 ≤ q.val ∧ (q.val - 1) % (0 + 1) = 0 ∧ (q.val - 1) / (0 + 1) < 256; omega
    | ⟨2, _⟩ => show 0 ≤ k.val ∧ (k.val - 0) % (0 + 1) = 0 ∧ (k.val - 0) / (0 + 1) < 1024; omega

/-- Outside they are zero. -/
theorem cPad_out (G : FVec Ideal S8x256x1024 .f32) (b : Fin 8) (q : Fin 258) (k : Fin 1024) (h : q.val = 0 ∨ q.val = 257) :
    cPad G (ix3 b q k) = 0 := by
  unfold cPad
  rw [pad_apply]
  split
  · rename_i hin
    have h1 : 1 ≤ q.val := (hin 1).1
    have h2 : (q.val - 1) / (0 + 1) < 256 := (hin 1).2.2
    omega
  · pointwise

/-- The reference's gated convolution of the context rows. -/
def cConv (BG G : FVec Ideal S8x256x1024 .f32) (CW : FVec Ideal S3x1024 .f32) : FVec Ideal S8x256x1024 .f32 :=
  mulf BG (addf (addf (mulf (broadcastInDim S8x256x1024 ![0, 1, 2] bcast_S1x1x1024_S8x256x1024_0_1_2 (broadcastInDim S1x1x1024 ![2] bcast_S1024_S1x1x1024_2 (shapeCast S1024 (extractStridedSlice S1x1024 ![0, 0] CW slices_S3x1024_S1x1024_0_0) shapeCasts_S1x1024_S1024))) (extractStridedSlice S8x256x1024 ![0, 0, 0] (cPad G) slices_S8x258x1024_S8x256x1024_0_0_0)) (mulf (broadcastInDim S8x256x1024 ![0, 1, 2] bcast_S1x1x1024_S8x256x1024_0_1_2 (broadcastInDim S1x1x1024 ![2] bcast_S1024_S1x1x1024_2 (shapeCast S1024 (extractStridedSlice S1x1024 ![1, 0] CW slices_S3x1024_S1x1024_1_0) shapeCasts_S1x1024_S1024))) (extractStridedSlice S8x256x1024 ![0, 1, 0] (cPad G) slices_S8x258x1024_S8x256x1024_0_1_0))) (mulf (broadcastInDim S8x256x1024 ![0, 1, 2] bcast_S1x1x1024_S8x256x1024_0_1_2 (broadcastInDim S1x1x1024 ![2] bcast_S1024_S1x1x1024_2 (shapeCast S1024 (extractStridedSlice S1x1024 ![2, 0] CW slices_S3x1024_S1x1024_2_0) shapeCasts_S1x1024_S1024))) (extractStridedSlice S8x256x1024 ![0, 2, 0] (cPad G) slices_S8x258x1024_S8x256x1024_0_2_0)))

/-- The gated convolution at an index. -/
theorem cConv_at (BG G : FVec Ideal S8x256x1024 .f32) (CW : FVec Ideal S3x1024 .f32) (b : Fin 8) (r : Fin 256) (k : Fin 1024) :
    cConv BG G CW (ix3 b r k) = gated (fun k => BG (ix3 b r k)) (fun k => cPad G (ix3 b (⟨r.val, by omega⟩ : Fin 258) k)) (fun k => cPad G (ix3 b (⟨1 + r.val, by omega⟩ : Fin 258) k)) (fun k => cPad G (ix3 b (⟨2 + r.val, by omega⟩ : Fin 258) k))
      (fun k => CW (ix2 0 k)) (fun k => CW (ix2 1 k)) (fun k => CW (ix2 2 k)) k := by
  unfold gated
  pointwise [cConv]

/-- The gated convolution of a context row, from the flat arrays. -/
theorem cConv_row (BG G : FVec Ideal S34816x1024 .f32) (CW : FVec Ideal S3x1024 .f32) (R : Fin 34816) (h : ¬ R.val < 32768) :
    (fun k => cConv (cTok BG) (cTok G) CW (ix3 (⟨(R.val - 32768) / 256, by omega⟩ : Fin 8) (⟨(R.val - 32768) % 256, by omega⟩ : Fin 256) k))
      = gated (fun k => BG (ix2 R k)) (prevT G R) (fun k => G (ix2 R k)) (nextT G R) (fun k => CW (ix2 0 k)) (fun k => CW (ix2 1 k)) (fun k => CW (ix2 2 k)) := by
  have hR := R.isLt
  have hs : seqL R = 256 := if_neg h
  funext k
  rw [cConv_at]
  have ea : (fun k => cTok BG (ix3 (⟨(R.val - 32768) / 256, by omega⟩ : Fin 8) (⟨(R.val - 32768) % 256, by omega⟩ : Fin 256) k)) = fun k => BG (ix2 R k) :=
    funext fun k => cTok_at BG _ _ k R (by dsimp only; omega)
  have ec : (fun k => cPad (cTok G) (ix3 (⟨(R.val - 32768) / 256, by omega⟩ : Fin 8) (⟨1 + (R.val - 32768) % 256, by omega⟩ : Fin 258) k)) = fun k => G (ix2 R k) :=
    funext fun k => (cPad_in (cTok G) _ _ (⟨(R.val - 32768) % 256, by omega⟩ : Fin 256) k (Nat.add_comm _ _)).trans (cTok_at G _ _ k R (by dsimp only; omega))
  have ep : (fun k => cPad (cTok G) (ix3 (⟨(R.val - 32768) / 256, by omega⟩ : Fin 8) (⟨(R.val - 32768) % 256, by omega⟩ : Fin 258) k)) = prevT G R := by
    funext k
    unfold prevT
    rw [hs]
    by_cases h0 : R.val % 256 = 0
    · rw [if_pos h0]
      exact cPad_out _ _ _ k (Or.inl (by dsimp only; omega))
    · rw [if_neg h0]
      exact (cPad_in (cTok G) _ _ (⟨(R.val - 32768) % 256 - 1, by omega⟩ : Fin 256) k (by dsimp only; omega)).trans (cTok_at G _ _ k _ (by dsimp only; omega))
  have en : (fun k => cPad (cTok G) (ix3 (⟨(R.val - 32768) / 256, by omega⟩ : Fin 8) (⟨2 + (R.val - 32768) % 256, by omega⟩ : Fin 258) k)) = nextT G R := by
    funext k
    unfold nextT
    by_cases h0 : (R.val + 1) % 256 = 0
    · rw [dif_pos (by rw [hs]; exact h0)]
      exact cPad_out _ _ _ k (Or.inr (by dsimp only; omega))
    · rw [dif_neg (by rw [hs]; exact h0)]
      exact (cPad_in (cTok G) _ _ (⟨(R.val - 32768) % 256 + 1, by omega⟩ : Fin 256) k (by dsimp only; omega)).trans (cTok_at G _ _ k _ (by dsimp only; omega))
  rw [ea, ec, ep, en]

/-- The layer's end at a context row, from the flat arrays. -/
theorem cAll_eq (BG G T : FVec Ideal ⟨2, ![34816, 1024]⟩ .f32) (M : FVec Ideal ⟨4, ![4, 9, 6, 1024]⟩ .f32) (N2 : FVec Ideal ⟨2, ![4, 1024]⟩ .f32) (CW : FVec Ideal ⟨2, ![3, 1024]⟩ .f32)
    (WO : FVec Ideal ⟨2, ![1024, 1024]⟩ .f32) (W1 : FVec Ideal ⟨3, ![4, 1024, 4096]⟩ .f32) (W2 : FVec Ideal ⟨3, ![4, 4096, 1024]⟩ .f32) (R : Fin 34816) (l : Fin 1024) (h : ¬ R.val < 32768) :
    cAll (cConv (cTok BG) (cTok G) CW) (cTok T) M N2 WO W1 W2 (ix3 (⟨(R.val - 32768) / 256, by omega⟩ : Fin 8) (⟨(R.val - 32768) % 256, by omega⟩ : Fin 256) l) = target BG G T M N2 CW WO W1 W2 R l := by
  have hR := R.isLt
  rw [cAll_at, target, cConv_row BG G CW R h, show mrow R = 8 from Fin.ext (if_neg h),
    show (fun k => cTok T (ix3 (⟨(R.val - 32768) / 256, by omega⟩ : Fin 8) (⟨(R.val - 32768) % 256, by omega⟩ : Fin 256) k)) = fun k => T (ix2 R k) from funext fun k => cTok_at T _ _ k R (by dsimp only; omega)]

end Cert.Proof.Conv
end
-- ==== Proof.ConvOps.lean ====
module

public import proofs.«01_k».proof.Proof.ConvRef
public import proofs.«01_k».proof.Proof.Gen.Reference6Ideal
public import Idealize.ShloMosaic.Lib.Claim
public import Idealize.ShloMosaic.Lib.StableHlo.Run
public import Idealize.ShloMosaic.Lib.Pipeline.Frame

@[expose] public section

set_option maxRecDepth 16384

noncomputable section

namespace Cert.Proof.Conv

open Cert.Reference6Ideal Cert.Reference6Ideal.Gen Idealize.ShloMosaic Idealize.ShloMosaic.TcCoe Idealize.SL.Sem Idealize.ShloMosaic.StableHlo

variable {F : FTy → Type} [FloatOps F]

/-- Joins the latent and the context rows. -/
def fn_main_v152 : (⟨S32768x1024, .f32⟩ : BufTy).Contents (Elt F) → (⟨S2048x1024, .f32⟩ : BufTy).Contents (Elt F) → (⟨S34816x1024, .f32⟩ : BufTy).Contents (Elt F) :=
  (fun a b => concatenate S34816x1024 0 [⟨S32768x1024, a⟩, ⟨S2048x1024, b⟩] concatenates_S32768x1024_S2048x1024_S34816x1024_d0)

/-- The operations up to the latent tokens after the mixer, part 1. -/
abbrev opsA0 : List (HloOp τ sig (Elt F)) :=
  [ unary main_arg2 main_v0 ((extractStridedSlice S32768x1024 ![0, 0] · slices_S34816x1024_S32768x1024_0_0) : (⟨S34816x1024, .f32⟩ : BufTy).Contents (Elt F) → (⟨S32768x1024, .f32⟩ : BufTy).Contents (Elt F)),
    reshape main_v0 main_v1 (rfl : (.f32 : EltTy) = .f32) shapeCasts_S32768x1024_S8x4096x1024,
    unary main_arg1 main_v2 ((extractStridedSlice S32768x1024 ![0, 0] · slices_S34816x1024_S32768x1024_0_0) : (⟨S34816x1024, .f32⟩ : BufTy).Contents (Elt F) → (⟨S32768x1024, .f32⟩ : BufTy).Contents (Elt F)),
    reshape main_v2 main_v3 (rfl : (.f32 : EltTy) = .f32) shapeCasts_S32768x1024_S8x4096x1024,
    unary main_arg0 main_v4 ((extractStridedSlice S32768x1024 ![0, 0] · slices_S34816x1024_S32768x1024_0_0) : (⟨S34816x1024, .f32⟩ : BufTy).Contents (Elt F) → (⟨S32768x1024, .f32⟩ : BufTy).Contents (Elt F)),
    reshape main_v4 main_v5 (rfl : (.f32 : EltTy) = .f32) shapeCasts_S32768x1024_S8x4096x1024,
    unary main_arg2 main_v6 ((extractStridedSlice S2048x1024 ![32768, 0] · slices_S34816x1024_S2048x1024_32768_0) : (⟨S34816x1024, .f32⟩ : BufTy).Contents (Elt F) → (⟨S2048x1024, .f32⟩ : BufTy).Contents (Elt F)),
    reshape main_v6 main_v7 (rfl : (.f32 : EltTy) = .f32) shapeCasts_S2048x1024_S8x256x1024,
    unary main_arg1 main_v8 ((extractStridedSlice S2048x1024 ![32768, 0] · slices_S34816x1024_S2048x1024_32768_0) : (⟨S34816x1024, .f32⟩ : BufTy).Contents (Elt F) → (⟨S2048x1024, .f32⟩ : BufTy).Contents (Elt F)),
    reshape main_v8 main_v9 (rfl : (.f32 : EltTy) = .f32) shapeCasts_S2048x1024_S8x256x1024,
    unary main_arg0 main_v10 ((extractStridedSlice S2048x1024 ![32768, 0] · slices_S34816x1024_S2048x1024_32768_0) : (⟨S34816x1024, .f32⟩ : BufTy).Contents (Elt F) → (⟨S2048x1024, .f32⟩ : BufTy).Contents (Elt F)),
    reshape main_v10 main_v11 (rfl : (.f32 : EltTy) = .f32) shapeCasts_S2048x1024_S8x256x1024,
    unary main_arg3 main_v12 ((extractStridedSlice S1x8x6x1024 ![2, 0, 0, 0] · slices_S4x9x6x1024_S1x8x6x1024_2_0_0_0) : (⟨S4x9x6x1024, .f32⟩ : BufTy).Contents (Elt F) → (⟨S1x8x6x1024, .f32⟩ : BufTy).Contents (Elt F)),
    reshape main_v12 main_v13 (rfl : (.f32 : EltTy) = .f32) shapeCasts_S1x8x6x1024_S8x6x1024 ]

/-- The operations up to the latent tokens after the mixer, part 2. -/
abbrev opsA1 : List (HloOp τ sig (Elt F)) :=
  [ reshape main_v13 main_v14 (rfl : (.f32 : EltTy) = .f32) shapeCasts_S8x6x1024_S8x6x1x1024,
    unary main_arg3 main_v15 ((extractStridedSlice S1x1x6x1024 ![2, 8, 0, 0] · slices_S4x9x6x1024_S1x1x6x1024_2_8_0_0) : (⟨S4x9x6x1024, .f32⟩ : BufTy).Contents (Elt F) → (⟨S1x1x6x1024, .f32⟩ : BufTy).Contents (Elt F)),
    reshape main_v15 main_v16 (rfl : (.f32 : EltTy) = .f32) shapeCasts_S1x1x6x1024_S1x6x1024,
    reshape main_v16 main_v17 (rfl : (.f32 : EltTy) = .f32) shapeCasts_S1x6x1024_S1x6x1x1024,
    nullary main_cst (constant S_ .f32 0x00000000#32),
    binary main_v3 main_cst main_v18 ((fun x v => pad S8x4098x1024 ![0, 1, 0] ![0, 1, 0] ![0, 0, 0] x v pads_S8x4096x1024_S8x4098x1024_000_110_000 h_S_) : (⟨S8x4096x1024, .f32⟩ : BufTy).Contents (Elt F) → (⟨S_, .f32⟩ : BufTy).Contents (Elt F) → (⟨S8x4098x1024, .f32⟩ : BufTy).Contents (Elt F)),
    unary main_arg5 main_v19 ((extractStridedSlice S1x1024 ![0, 0] · slices_S3x1024_S1x1024_0_0) : (⟨S3x1024, .f32⟩ : BufTy).Contents (Elt F) → (⟨S1x1024, .f32⟩ : BufTy).Contents (Elt F)),
    reshape main_v19 main_v20 (rfl : (.f32 : EltTy) = .f32) shapeCasts_S1x1024_S1024,
    unary main_v18 main_v21 ((extractStridedSlice S8x4096x1024 ![0, 0, 0] · slices_S8x4098x1024_S8x4096x1024_0_0_0) : (⟨S8x4098x1024, .f32⟩ : BufTy).Contents (Elt F) → (⟨S8x4096x1024, .f32⟩ : BufTy).Contents (Elt F)),
    unary main_v20 main_v22 (broadcastInDim S1x1x1024 ![2] bcast_S1024_S1x1x1024_2 : (⟨S1024, .f32⟩ : BufTy).Contents (Elt F) → (⟨S1x1x1024, .f32⟩ : BufTy).Contents (Elt F)),
    unary main_v22 main_v23 (broadcastInDim S8x4096x1024 ![0, 1, 2] bcast_S1x1x1024_S8x4096x1024_0_1_2 : (⟨S1x1x1024, .f32⟩ : BufTy).Contents (Elt F) → (⟨S8x4096x1024, .f32⟩ : BufTy).Contents (Elt F)),
    binary main_v23 main_v21 main_v24 (mulf : (⟨S8x4096x1024, .f32⟩ : BufTy).Contents (Elt F) → (⟨S8x4096x1024, .f32⟩ : BufTy).Contents (Elt F) → (⟨S8x4096x1024, .f32⟩ : BufTy).Contents (Elt F)),
    unary main_arg5 main_v25 ((extractStridedSlice S1x1024 ![1, 0] · slices_S3x1024_S1x1024_1_0) : (⟨S3x1024, .f32⟩ : BufTy).Contents (Elt F) → (⟨S1x1024, .f32⟩ : BufTy).Contents (Elt F)),
    reshape main_v25 main_v26 (rfl : (.f32 : EltTy) = .f32) shapeCasts_S1x1024_S1024 ]

/-- The operations up to the latent tokens after the mixer, part 3. -/
abbrev opsA2 : List (HloOp τ sig (Elt F)) :=
  [ unary main_v18 main_v27 ((extractStridedSlice S8x4096x1024 ![0, 1, 0] · slices_S8x4098x1024_S8x4096x1024_0_1_0) : (⟨S8x4098x1024, .f32⟩ : BufTy).Contents (Elt F) → (⟨S8x4096x1024, .f32⟩ : BufTy).Contents (Elt F)),
    unary main_v26 main_v28 (broadcastInDim S1x1x1024 ![2] bcast_S1024_S1x1x1024_2 : (⟨S1024, .f32⟩ : BufTy).Contents (Elt F) → (⟨S1x1x1024, .f32⟩ : BufTy).Contents (Elt F)),
    unary main_v28 main_v29 (broadcastInDim S8x4096x1024 ![0, 1, 2] bcast_S1x1x1024_S8x4096x1024_0_1_2 : (⟨S1x1x1024, .f32⟩ : BufTy).Contents (Elt F) → (⟨S8x4096x1024, .f32⟩ : BufTy).Contents (Elt F)),
    binary main_v29 main_v27 main_v30 (mulf : (⟨S8x4096x1024, .f32⟩ : BufTy).Contents (Elt F) → (⟨S8x4096x1024, .f32⟩ : BufTy).Contents (Elt F) → (⟨S8x4096x1024, .f32⟩ : BufTy).Contents (Elt F)),
    binary main_v24 main_v30 main_v31 (addf : (⟨S8x4096x1024, .f32⟩ : BufTy).Contents (Elt F) → (⟨S8x4096x1024, .f32⟩ : BufTy).Contents (Elt F) → (⟨S8x4096x1024, .f32⟩ : BufTy).Contents (Elt F)),
    unary main_arg5 main_v32 ((extractStridedSlice S1x1024 ![2, 0] · slices_S3x1024_S1x1024_2_0) : (⟨S3x1024, .f32⟩ : BufTy).Contents (Elt F) → (⟨S1x1024, .f32⟩ : BufTy).Contents (Elt F)),
    reshape main_v32 main_v33 (rfl : (.f32 : EltTy) = .f32) shapeCasts_S1x1024_S1024,
    unary main_v18 main_v34 ((extractStridedSlice S8x4096x1024 ![0, 2, 0] · slices_S8x4098x1024_S8x4096x1024_0_2_0) : (⟨S8x4098x1024, .f32⟩ : BufTy).Contents (Elt F) → (⟨S8x4096x1024, .f32⟩ : BufTy).Contents (Elt F)),
    unary main_v33 main_v35 (broadcastInDim S1x1x1024 ![2] bcast_S1024_S1x1x1024_2 : (⟨S1024, .f32⟩ : BufTy).Contents (Elt F) → (⟨S1x1x1024, .f32⟩ : BufTy).Contents (Elt F)),
    unary main_v35 main_v36 (broadcastInDim S8x4096x1024 ![0, 1, 2] bcast_S1x1x1024_S8x4096x1024_0_1_2 : (⟨S1x1x1024, .f32⟩ : BufTy).Contents (Elt F) → (⟨S8x4096x1024, .f32⟩ : BufTy).Contents (Elt F)),
    binary main_v36 main_v34 main_v37 (mulf : (⟨S8x4096x1024, .f32⟩ : BufTy).Contents (Elt F) → (⟨S8x4096x1024, .f32⟩ : BufTy).Contents (Elt F) → (⟨S8x4096x1024, .f32⟩ : BufTy).Contents (Elt F)),
    binary main_v31 main_v37 main_v38 (addf : (⟨S8x4096x1024, .f32⟩ : BufTy).Contents (Elt F) → (⟨S8x4096x1024, .f32⟩ : BufTy).Contents (Elt F) → (⟨S8x4096x1024, .f32⟩ : BufTy).Contents (Elt F)),
    binary main_v5 main_v38 main_v39 (mulf : (⟨S8x4096x1024, .f32⟩ : BufTy).Contents (Elt F) → (⟨S8x4096x1024, .f32⟩ : BufTy).Contents (Elt F) → (⟨S8x4096x1024, .f32⟩ : BufTy).Contents (Elt F)),
    binary main_v39 main_arg6 main_v40 ((fun l r => Host.dotGeneral dot_S8x4096x1024_S1024x1024_S8x4096x1024_2_0_01_1_n_n none l r) : (⟨S8x4096x1024, .f32⟩ : BufTy).Contents (Elt F) → (⟨S1024x1024, .f32⟩ : BufTy).Contents (Elt F) → (⟨S8x4096x1024, .f32⟩ : BufTy).Contents (Elt F)) ]

/-- The operations up to the latent tokens after the mixer, part 4. -/
abbrev opsA3 : List (HloOp τ sig (Elt F)) :=
  [ nullary main_cst_0 (constant S_ .f32 0x00000000#32),
    binary main_v9 main_cst_0 main_v41 ((fun x v => pad S8x258x1024 ![0, 1, 0] ![0, 1, 0] ![0, 0, 0] x v pads_S8x256x1024_S8x258x1024_000_110_000 h_S_) : (⟨S8x256x1024, .f32⟩ : BufTy).Contents (Elt F) → (⟨S_, .f32⟩ : BufTy).Contents (Elt F) → (⟨S8x258x1024, .f32⟩ : BufTy).Contents (Elt F)),
    unary main_arg5 main_v42 ((extractStridedSlice S1x1024 ![0, 0] · slices_S3x1024_S1x1024_0_0) : (⟨S3x1024, .f32⟩ : BufTy).Contents (Elt F) → (⟨S1x1024, .f32⟩ : BufTy).Contents (Elt F)),
    reshape main_v42 main_v43 (rfl : (.f32 : EltTy) = .f32) shapeCasts_S1x1024_S1024,
    unary main_v41 main_v44 ((extractStridedSlice S8x256x1024 ![0, 0, 0] · slices_S8x258x1024_S8x256x1024_0_0_0) : (⟨S8x258x1024, .f32⟩ : BufTy).Contents (Elt F) → (⟨S8x256x1024, .f32⟩ : BufTy).Contents (Elt F)),
    unary main_v43 main_v45 (broadcastInDim S1x1x1024 ![2] bcast_S1024_S1x1x1024_2 : (⟨S1024, .f32⟩ : BufTy).Contents (Elt F) → (⟨S1x1x1024, .f32⟩ : BufTy).Contents (Elt F)),
    unary main_v45 main_v46 (broadcastInDim S8x256x1024 ![0, 1, 2] bcast_S1x1x1024_S8x256x1024_0_1_2 : (⟨S1x1x1024, .f32⟩ : BufTy).Contents (Elt F) → (⟨S8x256x1024, .f32⟩ : BufTy).Contents (Elt F)),
    binary main_v46 main_v44 main_v47 (mulf : (⟨S8x256x1024, .f32⟩ : BufTy).Contents (Elt F) → (⟨S8x256x1024, .f32⟩ : BufTy).Contents (Elt F) → (⟨S8x256x1024, .f32⟩ : BufTy).Contents (Elt F)),
    unary main_arg5 main_v48 ((extractStridedSlice S1x1024 ![1, 0] · slices_S3x1024_S1x1024_1_0) : (⟨S3x1024, .f32⟩ : BufTy).Contents (Elt F) → (⟨S1x1024, .f32⟩ : BufTy).Contents (Elt F)),
    reshape main_v48 main_v49 (rfl : (.f32 : EltTy) = .f32) shapeCasts_S1x1024_S1024,
    unary main_v41 main_v50 ((extractStridedSlice S8x256x1024 ![0, 1, 0] · slices_S8x258x1024_S8x256x1024_0_1_0) : (⟨S8x258x1024, .f32⟩ : BufTy).Contents (Elt F) → (⟨S8x256x1024, .f32⟩ : BufTy).Contents (Elt F)),
    unary main_v49 main_v51 (broadcastInDim S1x1x1024 ![2] bcast_S1024_S1x1x1024_2 : (⟨S1024, .f32⟩ : BufTy).Contents (Elt F) → (⟨S1x1x1024, .f32⟩ : BufTy).Contents (Elt F)),
    unary main_v51 main_v52 (broadcastInDim S8x256x1024 ![0, 1, 2] bcast_S1x1x1024_S8x256x1024_0_1_2 : (⟨S1x1x1024, .f32⟩ : BufTy).Contents (Elt F) → (⟨S8x256x1024, .f32⟩ : BufTy).Contents (Elt F)),
    binary main_v52 main_v50 main_v53 (mulf : (⟨S8x256x1024, .f32⟩ : BufTy).Contents (Elt F) → (⟨S8x256x1024, .f32⟩ : BufTy).Contents (Elt F) → (⟨S8x256x1024, .f32⟩ : BufTy).Contents (Elt F)) ]

/-- The operations up to the latent tokens after the mixer, part 5. -/
abbrev opsA4 : List (HloOp τ sig (Elt F)) :=
  [ binary main_v47 main_v53 main_v54 (addf : (⟨S8x256x1024, .f32⟩ : BufTy).Contents (Elt F) → (⟨S8x256x1024, .f32⟩ : BufTy).Contents (Elt F) → (⟨S8x256x1024, .f32⟩ : BufTy).Contents (Elt F)),
    unary main_arg5 main_v55 ((extractStridedSlice S1x1024 ![2, 0] · slices_S3x1024_S1x1024_2_0) : (⟨S3x1024, .f32⟩ : BufTy).Contents (Elt F) → (⟨S1x1024, .f32⟩ : BufTy).Contents (Elt F)),
    reshape main_v55 main_v56 (rfl : (.f32 : EltTy) = .f32) shapeCasts_S1x1024_S1024,
    unary main_v41 main_v57 ((extractStridedSlice S8x256x1024 ![0, 2, 0] · slices_S8x258x1024_S8x256x1024_0_2_0) : (⟨S8x258x1024, .f32⟩ : BufTy).Contents (Elt F) → (⟨S8x256x1024, .f32⟩ : BufTy).Contents (Elt F)),
    unary main_v56 main_v58 (broadcastInDim S1x1x1024 ![2] bcast_S1024_S1x1x1024_2 : (⟨S1024, .f32⟩ : BufTy).Contents (Elt F) → (⟨S1x1x1024, .f32⟩ : BufTy).Contents (Elt F)),
    unary main_v58 main_v59 (broadcastInDim S8x256x1024 ![0, 1, 2] bcast_S1x1x1024_S8x256x1024_0_1_2 : (⟨S1x1x1024, .f32⟩ : BufTy).Contents (Elt F) → (⟨S8x256x1024, .f32⟩ : BufTy).Contents (Elt F)),
    binary main_v59 main_v57 main_v60 (mulf : (⟨S8x256x1024, .f32⟩ : BufTy).Contents (Elt F) → (⟨S8x256x1024, .f32⟩ : BufTy).Contents (Elt F) → (⟨S8x256x1024, .f32⟩ : BufTy).Contents (Elt F)),
    binary main_v54 main_v60 main_v61 (addf : (⟨S8x256x1024, .f32⟩ : BufTy).Contents (Elt F) → (⟨S8x256x1024, .f32⟩ : BufTy).Contents (Elt F) → (⟨S8x256x1024, .f32⟩ : BufTy).Contents (Elt F)),
    binary main_v11 main_v61 main_v62 (mulf : (⟨S8x256x1024, .f32⟩ : BufTy).Contents (Elt F) → (⟨S8x256x1024, .f32⟩ : BufTy).Contents (Elt F) → (⟨S8x256x1024, .f32⟩ : BufTy).Contents (Elt F)),
    binary main_v62 main_arg6 main_v63 ((fun l r => Host.dotGeneral dot_S8x256x1024_S1024x1024_S8x256x1024_2_0_01_1_n_n none l r) : (⟨S8x256x1024, .f32⟩ : BufTy).Contents (Elt F) → (⟨S1024x1024, .f32⟩ : BufTy).Contents (Elt F) → (⟨S8x256x1024, .f32⟩ : BufTy).Contents (Elt F)),
    unary main_v14 main_v64 ((extractStridedSlice S8x1x1x1024 ![0, 2, 0, 0] · slices_S8x6x1x1024_S8x1x1x1024_0_2_0_0) : (⟨S8x6x1x1024, .f32⟩ : BufTy).Contents (Elt F) → (⟨S8x1x1x1024, .f32⟩ : BufTy).Contents (Elt F)),
    reshape main_v64 main_v65 (rfl : (.f32 : EltTy) = .f32) shapeCasts_S8x1x1x1024_S8x1x1024,
    unary main_v65 main_v66 (broadcastInDim S8x4096x1024 ![0, 1, 2] bcast_S8x1x1024_S8x4096x1024_0_1_2 : (⟨S8x1x1024, .f32⟩ : BufTy).Contents (Elt F) → (⟨S8x4096x1024, .f32⟩ : BufTy).Contents (Elt F)),
    binary main_v66 main_v40 main_v67 (mulf : (⟨S8x4096x1024, .f32⟩ : BufTy).Contents (Elt F) → (⟨S8x4096x1024, .f32⟩ : BufTy).Contents (Elt F) → (⟨S8x4096x1024, .f32⟩ : BufTy).Contents (Elt F)) ]

/-- The operations up to the latent tokens after the mixer, part 6. -/
abbrev opsA5 : List (HloOp τ sig (Elt F)) :=
  [ binary main_v1 main_v67 main_v68 (addf : (⟨S8x4096x1024, .f32⟩ : BufTy).Contents (Elt F) → (⟨S8x4096x1024, .f32⟩ : BufTy).Contents (Elt F) → (⟨S8x4096x1024, .f32⟩ : BufTy).Contents (Elt F)) ]

/-- The operations up to the context tokens after the mixer, part 1. -/
abbrev opsB0 : List (HloOp τ sig (Elt F)) :=
  [ unary main_arg4 main_v69 ((extractStridedSlice S1x1024 ![2, 0] · slices_S4x1024_S1x1024_2_0) : (⟨S4x1024, .f32⟩ : BufTy).Contents (Elt F) → (⟨S1x1024, .f32⟩ : BufTy).Contents (Elt F)),
    reshape main_v69 main_v70 (rfl : (.f32 : EltTy) = .f32) shapeCasts_S1x1024_S1024,
    binary main_v68 main_v68 main_v71 (mulf : (⟨S8x4096x1024, .f32⟩ : BufTy).Contents (Elt F) → (⟨S8x4096x1024, .f32⟩ : BufTy).Contents (Elt F) → (⟨S8x4096x1024, .f32⟩ : BufTy).Contents (Elt F)),
    nullary main_cst_1 (constant S_ .f32 0x00000000#32),
    binary main_v71 main_cst_1 main_v72 ((fun x v => Host.reduceAdd x v reducesTo_S8x4096x1024_S8x4096_d2 h_S_) : (⟨S8x4096x1024, .f32⟩ : BufTy).Contents (Elt F) → (⟨S_, .f32⟩ : BufTy).Contents (Elt F) → (⟨S8x4096, .f32⟩ : BufTy).Contents (Elt F)),
    unary main_v72 main_v73 (broadcastInDim S8x4096x1 ![0, 1] bcast_S8x4096_S8x4096x1_0_1 : (⟨S8x4096, .f32⟩ : BufTy).Contents (Elt F) → (⟨S8x4096x1, .f32⟩ : BufTy).Contents (Elt F)),
    nullary main_cst_2 (constant S_ .f32 0x44800000#32),
    unary main_cst_2 main_v74 (broadcastInDim S8x4096x1 ![] bcast_S_S8x4096x1 : (⟨S_, .f32⟩ : BufTy).Contents (Elt F) → (⟨S8x4096x1, .f32⟩ : BufTy).Contents (Elt F)),
    binary main_v73 main_v74 main_v75 (Host.divf : (⟨S8x4096x1, .f32⟩ : BufTy).Contents (Elt F) → (⟨S8x4096x1, .f32⟩ : BufTy).Contents (Elt F) → (⟨S8x4096x1, .f32⟩ : BufTy).Contents (Elt F)),
    nullary main_cst_3 (constant S_ .f32 0x358637BD#32),
    unary main_cst_3 main_v76 (broadcastInDim S8x4096x1 ![] bcast_S_S8x4096x1 : (⟨S_, .f32⟩ : BufTy).Contents (Elt F) → (⟨S8x4096x1, .f32⟩ : BufTy).Contents (Elt F)),
    binary main_v75 main_v76 main_v77 (addf : (⟨S8x4096x1, .f32⟩ : BufTy).Contents (Elt F) → (⟨S8x4096x1, .f32⟩ : BufTy).Contents (Elt F) → (⟨S8x4096x1, .f32⟩ : BufTy).Contents (Elt F)),
    unary main_v77 main_v78 (Host.rsqrt : (⟨S8x4096x1, .f32⟩ : BufTy).Contents (Elt F) → (⟨S8x4096x1, .f32⟩ : BufTy).Contents (Elt F)),
    unary main_v78 main_v79 (broadcastInDim S8x4096x1024 ![0, 1, 2] bcast_S8x4096x1_S8x4096x1024_0_1_2 : (⟨S8x4096x1, .f32⟩ : BufTy).Contents (Elt F) → (⟨S8x4096x1024, .f32⟩ : BufTy).Contents (Elt F)) ]

/-- The operations up to the context tokens after the mixer, part 2. -/
abbrev opsB1 : List (HloOp τ sig (Elt F)) :=
  [ binary main_v68 main_v79 main_v80 (mulf : (⟨S8x4096x1024, .f32⟩ : BufTy).Contents (Elt F) → (⟨S8x4096x1024, .f32⟩ : BufTy).Contents (Elt F) → (⟨S8x4096x1024, .f32⟩ : BufTy).Contents (Elt F)),
    unary main_v70 main_v81 (broadcastInDim S1x1x1024 ![2] bcast_S1024_S1x1x1024_2 : (⟨S1024, .f32⟩ : BufTy).Contents (Elt F) → (⟨S1x1x1024, .f32⟩ : BufTy).Contents (Elt F)),
    unary main_v81 main_v82 (broadcastInDim S8x4096x1024 ![0, 1, 2] bcast_S1x1x1024_S8x4096x1024_0_1_2 : (⟨S1x1x1024, .f32⟩ : BufTy).Contents (Elt F) → (⟨S8x4096x1024, .f32⟩ : BufTy).Contents (Elt F)),
    binary main_v80 main_v82 main_v83 (mulf : (⟨S8x4096x1024, .f32⟩ : BufTy).Contents (Elt F) → (⟨S8x4096x1024, .f32⟩ : BufTy).Contents (Elt F) → (⟨S8x4096x1024, .f32⟩ : BufTy).Contents (Elt F)),
    unary main_v14 main_v84 ((extractStridedSlice S8x1x1x1024 ![0, 3, 0, 0] · slices_S8x6x1x1024_S8x1x1x1024_0_3_0_0) : (⟨S8x6x1x1024, .f32⟩ : BufTy).Contents (Elt F) → (⟨S8x1x1x1024, .f32⟩ : BufTy).Contents (Elt F)),
    reshape main_v84 main_v85 (rfl : (.f32 : EltTy) = .f32) shapeCasts_S8x1x1x1024_S8x1x1024,
    unary main_v14 main_v86 ((extractStridedSlice S8x1x1x1024 ![0, 4, 0, 0] · slices_S8x6x1x1024_S8x1x1x1024_0_4_0_0) : (⟨S8x6x1x1024, .f32⟩ : BufTy).Contents (Elt F) → (⟨S8x1x1x1024, .f32⟩ : BufTy).Contents (Elt F)),
    reshape main_v86 main_v87 (rfl : (.f32 : EltTy) = .f32) shapeCasts_S8x1x1x1024_S8x1x1024,
    nullary main_cst_4 (constant S_ .f32 0x3F800000#32),
    unary main_cst_4 main_v88 (broadcastInDim S8x1x1024 ![] bcast_S_S8x1x1024 : (⟨S_, .f32⟩ : BufTy).Contents (Elt F) → (⟨S8x1x1024, .f32⟩ : BufTy).Contents (Elt F)),
    binary main_v88 main_v87 main_v89 (addf : (⟨S8x1x1024, .f32⟩ : BufTy).Contents (Elt F) → (⟨S8x1x1024, .f32⟩ : BufTy).Contents (Elt F) → (⟨S8x1x1024, .f32⟩ : BufTy).Contents (Elt F)),
    unary main_v89 main_v90 (broadcastInDim S8x4096x1024 ![0, 1, 2] bcast_S8x1x1024_S8x4096x1024_0_1_2 : (⟨S8x1x1024, .f32⟩ : BufTy).Contents (Elt F) → (⟨S8x4096x1024, .f32⟩ : BufTy).Contents (Elt F)),
    binary main_v83 main_v90 main_v91 (mulf : (⟨S8x4096x1024, .f32⟩ : BufTy).Contents (Elt F) → (⟨S8x4096x1024, .f32⟩ : BufTy).Contents (Elt F) → (⟨S8x4096x1024, .f32⟩ : BufTy).Contents (Elt F)),
    unary main_v85 main_v92 (broadcastInDim S8x4096x1024 ![0, 1, 2] bcast_S8x1x1024_S8x4096x1024_0_1_2 : (⟨S8x1x1024, .f32⟩ : BufTy).Contents (Elt F) → (⟨S8x4096x1024, .f32⟩ : BufTy).Contents (Elt F)) ]

/-- The operations up to the context tokens after the mixer, part 3. -/
abbrev opsB2 : List (HloOp τ sig (Elt F)) :=
  [ binary main_v91 main_v92 main_v93 (addf : (⟨S8x4096x1024, .f32⟩ : BufTy).Contents (Elt F) → (⟨S8x4096x1024, .f32⟩ : BufTy).Contents (Elt F) → (⟨S8x4096x1024, .f32⟩ : BufTy).Contents (Elt F)),
    unary main_v14 main_v94 ((extractStridedSlice S8x1x1x1024 ![0, 5, 0, 0] · slices_S8x6x1x1024_S8x1x1x1024_0_5_0_0) : (⟨S8x6x1x1024, .f32⟩ : BufTy).Contents (Elt F) → (⟨S8x1x1x1024, .f32⟩ : BufTy).Contents (Elt F)),
    reshape main_v94 main_v95 (rfl : (.f32 : EltTy) = .f32) shapeCasts_S8x1x1x1024_S8x1x1024,
    unary main_arg7 main_v96 ((extractStridedSlice S1x1024x4096 ![2, 0, 0] · slices_S4x1024x4096_S1x1024x4096_2_0_0) : (⟨S4x1024x4096, .f32⟩ : BufTy).Contents (Elt F) → (⟨S1x1024x4096, .f32⟩ : BufTy).Contents (Elt F)),
    reshape main_v96 main_v97 (rfl : (.f32 : EltTy) = .f32) shapeCasts_S1x1024x4096_S1024x4096,
    unary main_arg8 main_v98 ((extractStridedSlice S1x4096x1024 ![2, 0, 0] · slices_S4x4096x1024_S1x4096x1024_2_0_0) : (⟨S4x4096x1024, .f32⟩ : BufTy).Contents (Elt F) → (⟨S1x4096x1024, .f32⟩ : BufTy).Contents (Elt F)),
    reshape main_v98 main_v99 (rfl : (.f32 : EltTy) = .f32) shapeCasts_S1x4096x1024_S4096x1024,
    binary main_v93 main_v97 main_v100 ((fun l r => Host.dotGeneral dot_S8x4096x1024_S1024x4096_S8x4096x4096_2_0_01_1_n_n none l r) : (⟨S8x4096x1024, .f32⟩ : BufTy).Contents (Elt F) → (⟨S1024x4096, .f32⟩ : BufTy).Contents (Elt F) → (⟨S8x4096x4096, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S8x4096x4096, .f32⟩) main_call0_v0) (broadcastInDim S8x4096x4096 ![] bcast_S_S8x4096x4096),
    TRef.binary (TRef.of (T := ⟨S8x4096x4096, .f32⟩) main_v100) (TRef.of (T := ⟨S8x4096x4096, .f32⟩) main_call0_v0) (TRef.of (T := ⟨S8x4096x4096, .f32⟩) main_v101) maximumf,
    binary main_v101 main_v101 main_v102 (mulf : (⟨S8x4096x4096, .f32⟩ : BufTy).Contents (Elt F) → (⟨S8x4096x4096, .f32⟩ : BufTy).Contents (Elt F) → (⟨S8x4096x4096, .f32⟩ : BufTy).Contents (Elt F)),
    binary main_v102 main_v99 main_v103 ((fun l r => Host.dotGeneral dot_S8x4096x4096_S4096x1024_S8x4096x1024_2_0_01_1_n_n none l r) : (⟨S8x4096x4096, .f32⟩ : BufTy).Contents (Elt F) → (⟨S4096x1024, .f32⟩ : BufTy).Contents (Elt F) → (⟨S8x4096x1024, .f32⟩ : BufTy).Contents (Elt F)),
    unary main_v95 main_v104 (broadcastInDim S8x4096x1024 ![0, 1, 2] bcast_S8x1x1024_S8x4096x1024_0_1_2 : (⟨S8x1x1024, .f32⟩ : BufTy).Contents (Elt F) → (⟨S8x4096x1024, .f32⟩ : BufTy).Contents (Elt F)) ]

/-- The operations up to the context tokens after the mixer, part 4. -/
abbrev opsB3 : List (HloOp τ sig (Elt F)) :=
  [ binary main_v104 main_v103 main_v105 (mulf : (⟨S8x4096x1024, .f32⟩ : BufTy).Contents (Elt F) → (⟨S8x4096x1024, .f32⟩ : BufTy).Contents (Elt F) → (⟨S8x4096x1024, .f32⟩ : BufTy).Contents (Elt F)),
    binary main_v68 main_v105 main_v106 (addf : (⟨S8x4096x1024, .f32⟩ : BufTy).Contents (Elt F) → (⟨S8x4096x1024, .f32⟩ : BufTy).Contents (Elt F) → (⟨S8x4096x1024, .f32⟩ : BufTy).Contents (Elt F)),
    unary main_v17 main_v107 ((extractStridedSlice S1x1x1x1024 ![0, 2, 0, 0] · slices_S1x6x1x1024_S1x1x1x1024_0_2_0_0) : (⟨S1x6x1x1024, .f32⟩ : BufTy).Contents (Elt F) → (⟨S1x1x1x1024, .f32⟩ : BufTy).Contents (Elt F)),
    reshape main_v107 main_v108 (rfl : (.f32 : EltTy) = .f32) shapeCasts_S1x1x1x1024_S1x1x1024,
    unary main_v108 main_v109 (broadcastInDim S8x256x1024 ![0, 1, 2] bcast_S1x1x1024_S8x256x1024_0_1_2 : (⟨S1x1x1024, .f32⟩ : BufTy).Contents (Elt F) → (⟨S8x256x1024, .f32⟩ : BufTy).Contents (Elt F)),
    binary main_v109 main_v63 main_v110 (mulf : (⟨S8x256x1024, .f32⟩ : BufTy).Contents (Elt F) → (⟨S8x256x1024, .f32⟩ : BufTy).Contents (Elt F) → (⟨S8x256x1024, .f32⟩ : BufTy).Contents (Elt F)),
    binary main_v7 main_v110 main_v111 (addf : (⟨S8x256x1024, .f32⟩ : BufTy).Contents (Elt F) → (⟨S8x256x1024, .f32⟩ : BufTy).Contents (Elt F) → (⟨S8x256x1024, .f32⟩ : BufTy).Contents (Elt F)) ]

/-- The remaining operations, part 1. -/
abbrev opsC0 : List (HloOp τ sig (Elt F)) :=
  [ unary main_arg4 main_v112 ((extractStridedSlice S1x1024 ![2, 0] · slices_S4x1024_S1x1024_2_0) : (⟨S4x1024, .f32⟩ : BufTy).Contents (Elt F) → (⟨S1x1024, .f32⟩ : BufTy).Contents (Elt F)),
    reshape main_v112 main_v113 (rfl : (.f32 : EltTy) = .f32) shapeCasts_S1x1024_S1024,
    binary main_v111 main_v111 main_v114 (mulf : (⟨S8x256x1024, .f32⟩ : BufTy).Contents (Elt F) → (⟨S8x256x1024, .f32⟩ : BufTy).Contents (Elt F) → (⟨S8x256x1024, .f32⟩ : BufTy).Contents (Elt F)),
    nullary main_cst_5 (constant S_ .f32 0x00000000#32),
    binary main_v114 main_cst_5 main_v115 ((fun x v => Host.reduceAdd x v reducesTo_S8x256x1024_S8x256_d2 h_S_) : (⟨S8x256x1024, .f32⟩ : BufTy).Contents (Elt F) → (⟨S_, .f32⟩ : BufTy).Contents (Elt F) → (⟨S8x256, .f32⟩ : BufTy).Contents (Elt F)),
    unary main_v115 main_v116 (broadcastInDim S8x256x1 ![0, 1] bcast_S8x256_S8x256x1_0_1 : (⟨S8x256, .f32⟩ : BufTy).Contents (Elt F) → (⟨S8x256x1, .f32⟩ : BufTy).Contents (Elt F)),
    nullary main_cst_6 (constant S_ .f32 0x44800000#32),
    unary main_cst_6 main_v117 (broadcastInDim S8x256x1 ![] bcast_S_S8x256x1 : (⟨S_, .f32⟩ : BufTy).Contents (Elt F) → (⟨S8x256x1, .f32⟩ : BufTy).Contents (Elt F)),
    binary main_v116 main_v117 main_v118 (Host.divf : (⟨S8x256x1, .f32⟩ : BufTy).Contents (Elt F) → (⟨S8x256x1, .f32⟩ : BufTy).Contents (Elt F) → (⟨S8x256x1, .f32⟩ : BufTy).Contents (Elt F)),
    nullary main_cst_7 (constant S_ .f32 0x358637BD#32),
    unary main_cst_7 main_v119 (broadcastInDim S8x256x1 ![] bcast_S_S8x256x1 : (⟨S_, .f32⟩ : BufTy).Contents (Elt F) → (⟨S8x256x1, .f32⟩ : BufTy).Contents (Elt F)),
    binary main_v118 main_v119 main_v120 (addf : (⟨S8x256x1, .f32⟩ : BufTy).Contents (Elt F) → (⟨S8x256x1, .f32⟩ : BufTy).Contents (Elt F) → (⟨S8x256x1, .f32⟩ : BufTy).Contents (Elt F)),
    unary main_v120 main_v121 (Host.rsqrt : (⟨S8x256x1, .f32⟩ : BufTy).Contents (Elt F) → (⟨S8x256x1, .f32⟩ : BufTy).Contents (Elt F)),
    unary main_v121 main_v122 (broadcastInDim S8x256x1024 ![0, 1, 2] bcast_S8x256x1_S8x256x1024_0_1_2 : (⟨S8x256x1, .f32⟩ : BufTy).Contents (Elt F) → (⟨S8x256x1024, .f32⟩ : BufTy).Contents (Elt F)) ]

/-- The remaining operations, part 2. -/
abbrev opsC1 : List (HloOp τ sig (Elt F)) :=
  [ binary main_v111 main_v122 main_v123 (mulf : (⟨S8x256x1024, .f32⟩ : BufTy).Contents (Elt F) → (⟨S8x256x1024, .f32⟩ : BufTy).Contents (Elt F) → (⟨S8x256x1024, .f32⟩ : BufTy).Contents (Elt F)),
    unary main_v113 main_v124 (broadcastInDim S1x1x1024 ![2] bcast_S1024_S1x1x1024_2 : (⟨S1024, .f32⟩ : BufTy).Contents (Elt F) → (⟨S1x1x1024, .f32⟩ : BufTy).Contents (Elt F)),
    unary main_v124 main_v125 (broadcastInDim S8x256x1024 ![0, 1, 2] bcast_S1x1x1024_S8x256x1024_0_1_2 : (⟨S1x1x1024, .f32⟩ : BufTy).Contents (Elt F) → (⟨S8x256x1024, .f32⟩ : BufTy).Contents (Elt F)),
    binary main_v123 main_v125 main_v126 (mulf : (⟨S8x256x1024, .f32⟩ : BufTy).Contents (Elt F) → (⟨S8x256x1024, .f32⟩ : BufTy).Contents (Elt F) → (⟨S8x256x1024, .f32⟩ : BufTy).Contents (Elt F)),
    unary main_v17 main_v127 ((extractStridedSlice S1x1x1x1024 ![0, 3, 0, 0] · slices_S1x6x1x1024_S1x1x1x1024_0_3_0_0) : (⟨S1x6x1x1024, .f32⟩ : BufTy).Contents (Elt F) → (⟨S1x1x1x1024, .f32⟩ : BufTy).Contents (Elt F)),
    reshape main_v127 main_v128 (rfl : (.f32 : EltTy) = .f32) shapeCasts_S1x1x1x1024_S1x1x1024,
    unary main_v17 main_v129 ((extractStridedSlice S1x1x1x1024 ![0, 4, 0, 0] · slices_S1x6x1x1024_S1x1x1x1024_0_4_0_0) : (⟨S1x6x1x1024, .f32⟩ : BufTy).Contents (Elt F) → (⟨S1x1x1x1024, .f32⟩ : BufTy).Contents (Elt F)),
    reshape main_v129 main_v130 (rfl : (.f32 : EltTy) = .f32) shapeCasts_S1x1x1x1024_S1x1x1024,
    nullary main_cst_8 (constant S_ .f32 0x3F800000#32),
    unary main_cst_8 main_v131 (broadcastInDim S1x1x1024 ![] bcast_S_S1x1x1024 : (⟨S_, .f32⟩ : BufTy).Contents (Elt F) → (⟨S1x1x1024, .f32⟩ : BufTy).Contents (Elt F)),
    binary main_v131 main_v130 main_v132 (addf : (⟨S1x1x1024, .f32⟩ : BufTy).Contents (Elt F) → (⟨S1x1x1024, .f32⟩ : BufTy).Contents (Elt F) → (⟨S1x1x1024, .f32⟩ : BufTy).Contents (Elt F)),
    unary main_v132 main_v133 (broadcastInDim S8x256x1024 ![0, 1, 2] bcast_S1x1x1024_S8x256x1024_0_1_2 : (⟨S1x1x1024, .f32⟩ : BufTy).Contents (Elt F) → (⟨S8x256x1024, .f32⟩ : BufTy).Contents (Elt F)),
    binary main_v126 main_v133 main_v134 (mulf : (⟨S8x256x1024, .f32⟩ : BufTy).Contents (Elt F) → (⟨S8x256x1024, .f32⟩ : BufTy).Contents (Elt F) → (⟨S8x256x1024, .f32⟩ : BufTy).Contents (Elt F)),
    unary main_v128 main_v135 (broadcastInDim S8x256x1024 ![0, 1, 2] bcast_S1x1x1024_S8x256x1024_0_1_2 : (⟨S1x1x1024, .f32⟩ : BufTy).Contents (Elt F) → (⟨S8x256x1024, .f32⟩ : BufTy).Contents (Elt F)) ]

/-- The remaining operations, part 3. -/
abbrev opsC2 : List (HloOp τ sig (Elt F)) :=
  [ binary main_v134 main_v135 main_v136 (addf : (⟨S8x256x1024, .f32⟩ : BufTy).Contents (Elt F) → (⟨S8x256x1024, .f32⟩ : BufTy).Contents (Elt F) → (⟨S8x256x1024, .f32⟩ : BufTy).Contents (Elt F)),
    unary main_v17 main_v137 ((extractStridedSlice S1x1x1x1024 ![0, 5, 0, 0] · slices_S1x6x1x1024_S1x1x1x1024_0_5_0_0) : (⟨S1x6x1x1024, .f32⟩ : BufTy).Contents (Elt F) → (⟨S1x1x1x1024, .f32⟩ : BufTy).Contents (Elt F)),
    reshape main_v137 main_v138 (rfl : (.f32 : EltTy) = .f32) shapeCasts_S1x1x1x1024_S1x1x1024,
    unary main_arg7 main_v139 ((extractStridedSlice S1x1024x4096 ![2, 0, 0] · slices_S4x1024x4096_S1x1024x4096_2_0_0) : (⟨S4x1024x4096, .f32⟩ : BufTy).Contents (Elt F) → (⟨S1x1024x4096, .f32⟩ : BufTy).Contents (Elt F)),
    reshape main_v139 main_v140 (rfl : (.f32 : EltTy) = .f32) shapeCasts_S1x1024x4096_S1024x4096,
    unary main_arg8 main_v141 ((extractStridedSlice S1x4096x1024 ![2, 0, 0] · slices_S4x4096x1024_S1x4096x1024_2_0_0) : (⟨S4x4096x1024, .f32⟩ : BufTy).Contents (Elt F) → (⟨S1x4096x1024, .f32⟩ : BufTy).Contents (Elt F)),
    reshape main_v141 main_v142 (rfl : (.f32 : EltTy) = .f32) shapeCasts_S1x4096x1024_S4096x1024,
    binary main_v136 main_v140 main_v143 ((fun l r => Host.dotGeneral dot_S8x256x1024_S1024x4096_S8x256x4096_2_0_01_1_n_n none l r) : (⟨S8x256x1024, .f32⟩ : BufTy).Contents (Elt F) → (⟨S1024x4096, .f32⟩ : BufTy).Contents (Elt F) → (⟨S8x256x4096, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S8x256x4096, .f32⟩) main_call1_v0) (broadcastInDim S8x256x4096 ![] bcast_S_S8x256x4096),
    TRef.binary (TRef.of (T := ⟨S8x256x4096, .f32⟩) main_v143) (TRef.of (T := ⟨S8x256x4096, .f32⟩) main_call1_v0) (TRef.of (T := ⟨S8x256x4096, .f32⟩) main_v144) maximumf,
    binary main_v144 main_v144 main_v145 (mulf : (⟨S8x256x4096, .f32⟩ : BufTy).Contents (Elt F) → (⟨S8x256x4096, .f32⟩ : BufTy).Contents (Elt F) → (⟨S8x256x4096, .f32⟩ : BufTy).Contents (Elt F)),
    binary main_v145 main_v142 main_v146 ((fun l r => Host.dotGeneral dot_S8x256x4096_S4096x1024_S8x256x1024_2_0_01_1_n_n none l r) : (⟨S8x256x4096, .f32⟩ : BufTy).Contents (Elt F) → (⟨S4096x1024, .f32⟩ : BufTy).Contents (Elt F) → (⟨S8x256x1024, .f32⟩ : BufTy).Contents (Elt F)),
    unary main_v138 main_v147 (broadcastInDim S8x256x1024 ![0, 1, 2] bcast_S1x1x1024_S8x256x1024_0_1_2 : (⟨S1x1x1024, .f32⟩ : BufTy).Contents (Elt F) → (⟨S8x256x1024, .f32⟩ : BufTy).Contents (Elt F)) ]

/-- The remaining operations, part 4. -/
abbrev opsC3 : List (HloOp τ sig (Elt F)) :=
  [ binary main_v147 main_v146 main_v148 (mulf : (⟨S8x256x1024, .f32⟩ : BufTy).Contents (Elt F) → (⟨S8x256x1024, .f32⟩ : BufTy).Contents (Elt F) → (⟨S8x256x1024, .f32⟩ : BufTy).Contents (Elt F)),
    binary main_v111 main_v148 main_v149 (addf : (⟨S8x256x1024, .f32⟩ : BufTy).Contents (Elt F) → (⟨S8x256x1024, .f32⟩ : BufTy).Contents (Elt F) → (⟨S8x256x1024, .f32⟩ : BufTy).Contents (Elt F)),
    reshape main_v106 main_v150 (rfl : (.f32 : EltTy) = .f32) shapeCasts_S8x4096x1024_S32768x1024,
    reshape main_v149 main_v151 (rfl : (.f32 : EltTy) = .f32) shapeCasts_S8x256x1024_S2048x1024,
    binary main_v150 main_v151 main_v152 (fn_main_v152 (F := F)) ]

/-- The reference's operations up to the latent tokens after the mixer. -/
abbrev opsA : List (HloOp τ sig (Elt F)) := opsA0 ++ (opsA1 ++ (opsA2 ++ (opsA3 ++ (opsA4 ++ opsA5))))

/-- Those up to the context tokens after the mixer. -/
abbrev opsB : List (HloOp τ sig (Elt F)) := opsB0 ++ (opsB1 ++ (opsB2 ++ opsB3))

/-- The rest. -/
abbrev opsC : List (HloOp τ sig (Elt F)) := opsC0 ++ (opsC1 ++ (opsC2 ++ opsC3))

/-- All the operations, in order. -/
abbrev ops : List (HloOp τ sig (Elt F)) := opsA ++ (opsB ++ opsC)

end Cert.Proof.Conv
end
-- ==== Proof.ConvMain.lean ====
module

public import proofs.«01_k».proof.Proof.ConvOps
public import proofs.«01_k».proof.Proof.Gen.Reference6Ideal
public import Idealize.ShloMosaic.Lib.Claim
public import Idealize.ShloMosaic.Lib.StableHlo.Run
public import Idealize.ShloMosaic.Lib.Pipeline.Frame

@[expose] public section

set_option maxRecDepth 16384

noncomputable section

namespace Cert.Proof.Conv

open Cert.Reference6Ideal Cert.Reference6Ideal.Gen Idealize.ShloMosaic Idealize.ShloMosaic.TcCoe Idealize.SL.Sem Idealize.ShloMosaic.StableHlo

variable {F : FTy → Type} [FloatOps F]

/-- They are the three parts, one after the other. -/
theorem ops_split : ops (F := F) = opsA ++ (opsB ++ opsC) := rfl

set_option maxHeartbeats 4000000 in
/-- The reference is its operations in order. -/
theorem main_eq (c : Dev nD) : Cert.Reference6Ideal.main (F := F) c = seq ops := rfl

/-- No buffer is scoped. -/
theorem scopedRefs_eq : (Finset.univ.filter fun b : Ref sig .tc => b.isScoped) = ∅ := by decide

/-- No semaphore is scoped. -/
theorem scopedSems_eq : (Finset.univ.filter fun sm : SemLoc sig => sm.isScoped .tc) = ∅ := by decide

/-- Two lists that touch the program's buffers alone do so together. -/
theorem sub_append {p q : List (HloOp τ sig (Elt F))} (hp : p.Forall fun op => op.bufs ⊆ tcRefs τ sig) (hq : q.Forall fun op => op.bufs ⊆ tcRefs τ sig) :
    (p ++ q).Forall fun op => op.bufs ⊆ tcRefs τ sig :=
  List.forall_append.2 ⟨hp, hq⟩

/-- These operations touch the program's buffers alone. -/
theorem sub_opsA0 : (opsA0 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub ..⟩

/-- These operations touch the program's buffers alone. -/
theorem sub_opsA1 : (opsA1 : List (HloOp τ sig (Elt F))).Forall fun op => op.bufs ⊆ tcRefs τ sig :=
  ⟨reshape_bufs_sub .., unary_bufs_sub .., reshape_bufs_sub .., reshape_bufs_sub .., nullary_bufs_sub .., binary_bufs_sub .., unary_bufs_sub .., reshape_bufs_sub .., unary_bufs_sub .., unary_bufs_sub .., unary_bufs_sub .., binary_bufs_sub .., unary_bufs_sub .., reshape_bufs_sub ..⟩

/-- These operations touch the program's buffers alone. -/
theorem sub_opsA2 : (opsA2 : List (HloOp τ sig (Elt F))).Forall fun op => op.bufs ⊆ tcRefs τ sig :=
  ⟨unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., binary_bufs_sub .., binary_bufs_sub ..⟩

/-- These operations touch the program's buffers alone. -/
theorem sub_opsA3 : (opsA3 : List (HloOp τ sig (Elt F))).Forall fun op => op.bufs ⊆ tcRefs τ sig :=
  ⟨nullary_bufs_sub .., binary_bufs_sub .., unary_bufs_sub .., reshape_bufs_sub .., unary_bufs_sub .., unary_bufs_sub .., unary_bufs_sub .., binary_bufs_sub .., unary_bufs_sub .., reshape_bufs_sub .., unary_bufs_sub .., unary_bufs_sub .., unary_bufs_sub .., binary_bufs_sub ..⟩

/-- These operations touch the program's buffers alone. -/
theorem sub_opsA4 : (opsA4 : List (HloOp τ sig (Elt F))).Forall fun op => op.bufs ⊆ tcRefs τ sig :=
  ⟨binary_bufs_sub .., unary_bufs_sub .., reshape_bufs_sub .., unary_bufs_sub .., unary_bufs_sub .., unary_bufs_sub .., binary_bufs_sub .., binary_bufs_sub .., binary_bufs_sub .., binary_bufs_sub .., unary_bufs_sub .., reshape_bufs_sub .., unary_bufs_sub .., binary_bufs_sub ..⟩

/-- These operations touch the program's buffers alone. -/
theorem sub_opsA5 : (opsA5 : List (HloOp τ sig (Elt F))).Forall fun op => op.bufs ⊆ tcRefs τ sig :=
  binary_bufs_sub ..

/-- These operations touch the program's buffers alone. -/
theorem sub_opsB0 : (opsB0 : List (HloOp τ sig (Elt F))).Forall fun op => op.bufs ⊆ tcRefs τ sig :=
  ⟨unary_bufs_sub .., reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub ..⟩

/-- These operations touch the program's buffers alone. -/
theorem sub_opsB1 : (opsB1 : List (HloOp τ sig (Elt F))).Forall fun op => op.bufs ⊆ tcRefs τ sig :=
  ⟨binary_bufs_sub .., unary_bufs_sub .., unary_bufs_sub .., binary_bufs_sub .., unary_bufs_sub .., reshape_bufs_sub .., unary_bufs_sub .., reshape_bufs_sub .., nullary_bufs_sub .., unary_bufs_sub .., binary_bufs_sub .., unary_bufs_sub .., binary_bufs_sub .., unary_bufs_sub ..⟩

/-- These operations touch the program's buffers alone. -/
theorem sub_opsB2 : (opsB2 : List (HloOp τ sig (Elt F))).Forall fun op => op.bufs ⊆ tcRefs τ sig :=
  ⟨binary_bufs_sub .., unary_bufs_sub .., reshape_bufs_sub .., unary_bufs_sub .., reshape_bufs_sub .., unary_bufs_sub .., reshape_bufs_sub .., binary_bufs_sub .., nullary_bufs_sub .., unary_bufs_sub .., binary_bufs_sub .., binary_bufs_sub .., binary_bufs_sub .., unary_bufs_sub ..⟩

/-- These operations touch the program's buffers alone. -/
theorem sub_opsB3 : (opsB3 : List (HloOp τ sig (Elt F))).Forall fun op => op.bufs ⊆ tcRefs τ sig :=
  ⟨binary_bufs_sub .., binary_bufs_sub .., unary_bufs_sub .., reshape_bufs_sub .., unary_bufs_sub .., binary_bufs_sub .., binary_bufs_sub ..⟩

/-- These operations touch the program's buffers alone. -/
theorem sub_opsC0 : (opsC0 : List (HloOp τ sig (Elt F))).Forall fun op => op.bufs ⊆ tcRefs τ sig :=
  ⟨unary_bufs_sub .., reshape_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub ..⟩

/-- These operations touch the program's buffers alone. -/
theorem sub_opsC1 : (opsC1 : List (HloOp τ sig (Elt F))).Forall fun op => op.bufs ⊆ tcRefs τ sig :=
  ⟨binary_bufs_sub .., unary_bufs_sub .., unary_bufs_sub .., binary_bufs_sub .., unary_bufs_sub .., reshape_bufs_sub .., unary_bufs_sub .., reshape_bufs_sub .., nullary_bufs_sub .., unary_bufs_sub .., binary_bufs_sub .., unary_bufs_sub .., binary_bufs_sub .., unary_bufs_sub ..⟩

/-- These operations touch the program's buffers alone. -/
theorem sub_opsC2 : (opsC2 : List (HloOp τ sig (Elt F))).Forall fun op => op.bufs ⊆ tcRefs τ sig :=
  ⟨binary_bufs_sub .., unary_bufs_sub .., reshape_bufs_sub .., unary_bufs_sub .., reshape_bufs_sub .., unary_bufs_sub .., reshape_bufs_sub .., binary_bufs_sub .., nullary_bufs_sub .., unary_bufs_sub .., binary_bufs_sub .., binary_bufs_sub .., binary_bufs_sub .., unary_bufs_sub ..⟩

/-- These operations touch the program's buffers alone. -/
theorem sub_opsC3 : (opsC3 : List (HloOp τ sig (Elt F))).Forall fun op => op.bufs ⊆ tcRefs τ sig :=
  ⟨binary_bufs_sub .., binary_bufs_sub .., reshape_bufs_sub .., reshape_bufs_sub .., binary_bufs_sub ..⟩

/-- Each operation touches the program's buffers alone. -/
theorem ops_sub : (ops : List (HloOp τ sig (Elt F))).Forall fun op => op.bufs ⊆ tcRefs τ sig :=
  sub_append (sub_append sub_opsA0 (sub_append sub_opsA1 (sub_append sub_opsA2 (sub_append sub_opsA3 (sub_append sub_opsA4 sub_opsA5))))) (sub_append (sub_append sub_opsB0 (sub_append sub_opsB1 (sub_append sub_opsB2 sub_opsB3))) (sub_append sub_opsC0 (sub_append sub_opsC1 (sub_append sub_opsC2 sub_opsC3))))

end Cert.Proof.Conv
end
-- ==== Proof.ConvKeep.lean ====
module

public import proofs.«01_k».proof.Proof.ConvOps
public import proofs.«01_k».proof.Proof.Gen.Reference6Ideal
public import Idealize.ShloMosaic.Lib.Claim
public import Idealize.ShloMosaic.Lib.StableHlo.Run
public import Idealize.ShloMosaic.Lib.Pipeline.Frame

@[expose] public section

set_option maxRecDepth 16384

noncomputable section

namespace Cert.Proof.Conv

open Cert.Reference6Ideal Cert.Reference6Ideal.Gen Idealize.ShloMosaic Idealize.ShloMosaic.TcCoe Idealize.SL.Sem Idealize.ShloMosaic.StableHlo

/-- What these operations leave alone. -/
theorem keepA (V : Valuation τ sig (Elt Ideal)) : after opsA V (Proc.devRef .tc main_arg0) = V (Proc.devRef .tc main_arg0) ∧ after opsA V (Proc.devRef .tc main_arg1) = V (Proc.devRef .tc main_arg1) ∧ after opsA V (Proc.devRef .tc main_arg2) = V (Proc.devRef .tc main_arg2) ∧ after opsA V (Proc.devRef .tc main_arg3) = V (Proc.devRef .tc main_arg3) ∧ after opsA V (Proc.devRef .tc main_arg4) = V (Proc.devRef .tc main_arg4) ∧ after opsA V (Proc.devRef .tc main_arg5) = V (Proc.devRef .tc main_arg5) ∧ after opsA V (Proc.devRef .tc main_arg6) = V (Proc.devRef .tc main_arg6) ∧ after opsA V (Proc.devRef .tc main_arg7) = V (Proc.devRef .tc main_arg7) ∧ after opsA V (Proc.devRef .tc main_arg8) = V (Proc.devRef .tc main_arg8) :=
  ⟨by simp only [opsA, opsA0, opsA1, opsA2, opsA3, opsA4, opsA5, after_append, TRef.binary, TRef.nullary, TRef.unary, TRef.toBuf, TRef.ofBuf, cast_eq]; after_results_simp,
   by simp only [opsA, opsA0, opsA1, opsA2, opsA3, opsA4, opsA5, after_append, TRef.binary, TRef.nullary, TRef.unary, TRef.toBuf, TRef.ofBuf, cast_eq]; after_results_simp,
   by simp only [opsA, opsA0, opsA1, opsA2, opsA3, opsA4, opsA5, after_append, TRef.binary, TRef.nullary, TRef.unary, TRef.toBuf, TRef.ofBuf, cast_eq]; after_results_simp,
   by simp only [opsA, opsA0, opsA1, opsA2, opsA3, opsA4, opsA5, after_append, TRef.binary, TRef.nullary, TRef.unary, TRef.toBuf, TRef.ofBuf, cast_eq]; after_results_simp,
   by simp only [opsA, opsA0, opsA1, opsA2, opsA3, opsA4, opsA5, after_append, TRef.binary, TRef.nullary, TRef.unary, TRef.toBuf, TRef.ofBuf, cast_eq]; after_results_simp,
   by simp only [opsA, opsA0, opsA1, opsA2, opsA3, opsA4, opsA5, after_append, TRef.binary, TRef.nullary, TRef.unary, TRef.toBuf, TRef.ofBuf, cast_eq]; after_results_simp,
   by simp only [opsA, opsA0, opsA1, opsA2, opsA3, opsA4, opsA5, after_append, TRef.binary, TRef.nullary, TRef.unary, TRef.toBuf, TRef.ofBuf, cast_eq]; after_results_simp,
   by simp only [opsA, opsA0, opsA1, opsA2, opsA3, opsA4, opsA5, after_append, TRef.binary, TRef.nullary, TRef.unary, TRef.toBuf, TRef.ofBuf, cast_eq]; after_results_simp,
   by simp only [opsA, opsA0, opsA1, opsA2, opsA3, opsA4, opsA5, after_append, TRef.binary, TRef.nullary, TRef.unary, TRef.toBuf, TRef.ofBuf, cast_eq]; after_results_simp⟩

/-- What these operations leave alone. -/
theorem keepB (V : Valuation τ sig (Elt Ideal)) : after opsB V (Proc.devRef .tc main_arg0) = V (Proc.devRef .tc main_arg0) ∧ after opsB V (Proc.devRef .tc main_arg1) = V (Proc.devRef .tc main_arg1) ∧ after opsB V (Proc.devRef .tc main_arg2) = V (Proc.devRef .tc main_arg2) ∧ after opsB V (Proc.devRef .tc main_arg3) = V (Proc.devRef .tc main_arg3) ∧ after opsB V (Proc.devRef .tc main_arg4) = V (Proc.devRef .tc main_arg4) ∧ after opsB V (Proc.devRef .tc main_arg5) = V (Proc.devRef .tc main_arg5) ∧ after opsB V (Proc.devRef .tc main_arg6) = V (Proc.devRef .tc main_arg6) ∧ after opsB V (Proc.devRef .tc main_arg7) = V (Proc.devRef .tc main_arg7) ∧ after opsB V (Proc.devRef .tc main_arg8) = V (Proc.devRef .tc main_arg8) ∧ after opsB V (Proc.devRef .tc main_v17) = V (Proc.devRef .tc main_v17) :=
  ⟨by simp only [opsB, opsB0, opsB1, opsB2, opsB3, after_append, TRef.binary, TRef.nullary, TRef.unary, TRef.toBuf, TRef.ofBuf, cast_eq]; after_results_simp,
   by simp only [opsB, opsB0, opsB1, opsB2, opsB3, after_append, TRef.binary, TRef.nullary, TRef.unary, TRef.toBuf, TRef.ofBuf, cast_eq]; after_results_simp,
   by simp only [opsB, opsB0, opsB1, opsB2, opsB3, after_append, TRef.binary, TRef.nullary, TRef.unary, TRef.toBuf, TRef.ofBuf, cast_eq]; after_results_simp,
   by simp only [opsB, opsB0, opsB1, opsB2, opsB3, after_append, TRef.binary, TRef.nullary, TRef.unary, TRef.toBuf, TRef.ofBuf, cast_eq]; after_results_simp,
   by simp only [opsB, opsB0, opsB1, opsB2, opsB3, after_append, TRef.binary, TRef.nullary, TRef.unary, TRef.toBuf, TRef.ofBuf, cast_eq]; after_results_simp,
   by simp only [opsB, opsB0, opsB1, opsB2, opsB3, after_append, TRef.binary, TRef.nullary, TRef.unary, TRef.toBuf, TRef.ofBuf, cast_eq]; after_results_simp,
   by simp only [opsB, opsB0, opsB1, opsB2, opsB3, after_append, TRef.binary, TRef.nullary, TRef.unary, TRef.toBuf, TRef.ofBuf, cast_eq]; after_results_simp,
   by simp only [opsB, opsB0, opsB1, opsB2, opsB3, after_append, TRef.binary, TRef.nullary, TRef.unary, TRef.toBuf, TRef.ofBuf, cast_eq]; after_results_simp,
   by simp only [opsB, opsB0, opsB1, opsB2, opsB3, after_append, TRef.binary, TRef.nullary, TRef.unary, TRef.toBuf, TRef.ofBuf, cast_eq]; after_results_simp,
   by simp only [opsB, opsB0, opsB1, opsB2, opsB3, after_append, TRef.binary, TRef.nullary, TRef.unary, TRef.toBuf, TRef.ofBuf, cast_eq]; after_results_simp⟩

/-- What these operations leave alone. -/
theorem keepC (V : Valuation τ sig (Elt Ideal)) : after opsC V (Proc.devRef .tc main_arg0) = V (Proc.devRef .tc main_arg0) ∧ after opsC V (Proc.devRef .tc main_arg1) = V (Proc.devRef .tc main_arg1) ∧ after opsC V (Proc.devRef .tc main_arg2) = V (Proc.devRef .tc main_arg2) ∧ after opsC V (Proc.devRef .tc main_arg3) = V (Proc.devRef .tc main_arg3) ∧ after opsC V (Proc.devRef .tc main_arg4) = V (Proc.devRef .tc main_arg4) ∧ after opsC V (Proc.devRef .tc main_arg5) = V (Proc.devRef .tc main_arg5) ∧ after opsC V (Proc.devRef .tc main_arg6) = V (Proc.devRef .tc main_arg6) ∧ after opsC V (Proc.devRef .tc main_arg7) = V (Proc.devRef .tc main_arg7) ∧ after opsC V (Proc.devRef .tc main_arg8) = V (Proc.devRef .tc main_arg8) :=
  ⟨by simp only [opsC, opsC0, opsC1, opsC2, opsC3, after_append, TRef.binary, TRef.nullary, TRef.unary, TRef.toBuf, TRef.ofBuf, cast_eq]; after_results_simp,
   by simp only [opsC, opsC0, opsC1, opsC2, opsC3, after_append, TRef.binary, TRef.nullary, TRef.unary, TRef.toBuf, TRef.ofBuf, cast_eq]; after_results_simp,
   by simp only [opsC, opsC0, opsC1, opsC2, opsC3, after_append, TRef.binary, TRef.nullary, TRef.unary, TRef.toBuf, TRef.ofBuf, cast_eq]; after_results_simp,
   by simp only [opsC, opsC0, opsC1, opsC2, opsC3, after_append, TRef.binary, TRef.nullary, TRef.unary, TRef.toBuf, TRef.ofBuf, cast_eq]; after_results_simp,
   by simp only [opsC, opsC0, opsC1, opsC2, opsC3, after_append, TRef.binary, TRef.nullary, TRef.unary, TRef.toBuf, TRef.ofBuf, cast_eq]; after_results_simp,
   by simp only [opsC, opsC0, opsC1, opsC2, opsC3, after_append, TRef.binary, TRef.nullary, TRef.unary, TRef.toBuf, TRef.ofBuf, cast_eq]; after_results_simp,
   by simp only [opsC, opsC0, opsC1, opsC2, opsC3, after_append, TRef.binary, TRef.nullary, TRef.unary, TRef.toBuf, TRef.ofBuf, cast_eq]; after_results_simp,
   by simp only [opsC, opsC0, opsC1, opsC2, opsC3, after_append, TRef.binary, TRef.nullary, TRef.unary, TRef.toBuf, TRef.ofBuf, cast_eq]; after_results_simp,
   by simp only [opsC, opsC0, opsC1, opsC2, opsC3, after_append, TRef.binary, TRef.nullary, TRef.unary, TRef.toBuf, TRef.ofBuf, cast_eq]; after_results_simp⟩

end Cert.Proof.Conv
end
-- ==== Proof.ConvStepA.lean ====
module

public import proofs.«01_k».proof.Proof.ConvOps
public import proofs.«01_k».proof.Proof.Gen.Reference6Ideal
public import Idealize.ShloMosaic.Lib.Claim
public import Idealize.ShloMosaic.Lib.StableHlo.Run
public import Idealize.ShloMosaic.Lib.Pipeline.Frame

@[expose] public section

set_option maxRecDepth 16384

noncomputable section

namespace Cert.Proof.Conv

open Cert.Reference6Ideal Cert.Reference6Ideal.Gen Idealize.ShloMosaic Idealize.ShloMosaic.TcCoe Idealize.SL.Sem Idealize.ShloMosaic.StableHlo

/-- The latent tokens after the mixer. -/
theorem afterA_x (V : Valuation τ sig (Elt Ideal)) : after opsA V (Proc.devRef .tc main_v68)
    = lX1 (lConv (lTok (V (Proc.devRef .tc main_arg0))) (lTok (V (Proc.devRef .tc main_arg1))) (V (Proc.devRef .tc main_arg5))) (lTok (V (Proc.devRef .tc main_arg2))) (V (Proc.devRef .tc main_arg3)) (V (Proc.devRef .tc main_arg6)) := by
  simp only [opsA, opsA0, opsA1, opsA2, opsA3, opsA4, opsA5, after_append, TRef.binary, TRef.nullary, TRef.unary, TRef.toBuf, TRef.ofBuf, cast_eq]; after_results_simp; rfl

/-- The context's product with the output weights. -/
theorem afterA_y (V : Valuation τ sig (Elt Ideal)) : after opsA V (Proc.devRef .tc main_v63)
    = Host.dotGeneral (φ₂ := .f32) dot_S8x256x1024_S1024x1024_S8x256x1024_2_0_01_1_n_n none (cConv (cTok (V (Proc.devRef .tc main_arg0))) (cTok (V (Proc.devRef .tc main_arg1))) (V (Proc.devRef .tc main_arg5))) (V (Proc.devRef .tc main_arg6)) := by
  simp only [opsA, opsA0, opsA1, opsA2, opsA3, opsA4, opsA5, after_append, TRef.binary, TRef.nullary, TRef.unary, TRef.toBuf, TRef.ofBuf, cast_eq]; after_results_simp; rfl

/-- The context tokens. -/
theorem afterA_c (V : Valuation τ sig (Elt Ideal)) : after opsA V (Proc.devRef .tc main_v7) = cTok (V (Proc.devRef .tc main_arg2)) := by
  simp only [opsA, opsA0, opsA1, opsA2, opsA3, opsA4, opsA5, after_append, TRef.binary, TRef.nullary, TRef.unary, TRef.toBuf, TRef.ofBuf, cast_eq]; after_results_simp; rfl

/-- The latent modulation vectors. -/
theorem afterA_l (V : Valuation τ sig (Elt Ideal)) : after opsA V (Proc.devRef .tc main_v14) = lMod (V (Proc.devRef .tc main_arg3)) := by
  simp only [opsA, opsA0, opsA1, opsA2, opsA3, opsA4, opsA5, after_append, TRef.binary, TRef.nullary, TRef.unary, TRef.toBuf, TRef.ofBuf, cast_eq]; after_results_simp; rfl

/-- The context's modulation vectors. -/
theorem afterA_m (V : Valuation τ sig (Elt Ideal)) : after opsA V (Proc.devRef .tc main_v17) = cMod (V (Proc.devRef .tc main_arg3)) := by
  simp only [opsA, opsA0, opsA1, opsA2, opsA3, opsA4, opsA5, after_append, TRef.binary, TRef.nullary, TRef.unary, TRef.toBuf, TRef.ofBuf, cast_eq]; after_results_simp; rfl

end Cert.Proof.Conv
end
-- ==== Proof.ConvStepB.lean ====
module

public import proofs.«01_k».proof.Proof.ConvOps
public import proofs.«01_k».proof.Proof.Gen.Reference6Ideal
public import Idealize.ShloMosaic.Lib.Claim
public import Idealize.ShloMosaic.Lib.StableHlo.Run
public import Idealize.ShloMosaic.Lib.Pipeline.Frame

@[expose] public section

set_option maxRecDepth 16384

noncomputable section

namespace Cert.Proof.Conv

open Cert.Reference6Ideal Cert.Reference6Ideal.Gen Idealize.ShloMosaic Idealize.ShloMosaic.TcCoe Idealize.SL.Sem Idealize.ShloMosaic.StableHlo

/-- The latent tokens at the layer's end. -/
theorem afterB_x (V : Valuation τ sig (Elt Ideal)) (M : FVec Ideal S4x9x6x1024 .f32) (h : V (Proc.devRef .tc main_v14) = lMod M) : after opsB V (Proc.devRef .tc main_v106)
    = lX2 (V (Proc.devRef .tc main_v68)) (lRelu (lModr (V (Proc.devRef .tc main_v68)) M (V (Proc.devRef .tc main_arg4))) (V (Proc.devRef .tc main_arg7))) M (V (Proc.devRef .tc main_arg8)) := by
  simp only [opsB, opsB0, opsB1, opsB2, opsB3, after_append, TRef.binary, TRef.nullary, TRef.unary, TRef.toBuf, TRef.ofBuf, cast_eq]; after_results_simp; simp only [h]; rfl

/-- The context tokens after the mixer. -/
theorem afterB_c (V : Valuation τ sig (Elt Ideal)) (M : FVec Ideal S4x9x6x1024 .f32) (A X : FVec Ideal S8x256x1024 .f32) (WO : FVec Ideal S1024x1024 .f32)
    (h : V (Proc.devRef .tc main_v17) = cMod M) (hy : V (Proc.devRef .tc main_v63) = Host.dotGeneral dot_S8x256x1024_S1024x1024_S8x256x1024_2_0_01_1_n_n none A WO)
    (hx : V (Proc.devRef .tc main_v7) = X) : after opsB V (Proc.devRef .tc main_v111) = cX1 A X M WO := by
  simp only [opsB, opsB0, opsB1, opsB2, opsB3, after_append, TRef.binary, TRef.nullary, TRef.unary, TRef.toBuf, TRef.ofBuf, cast_eq]; after_results_simp; simp only [h, hy, hx]; rfl

end Cert.Proof.Conv
end
-- ==== Proof.ConvStepC.lean ====
module

public import proofs.«01_k».proof.Proof.ConvOps
public import proofs.«01_k».proof.Proof.Gen.Reference6Ideal
public import Idealize.ShloMosaic.Lib.Claim
public import Idealize.ShloMosaic.Lib.StableHlo.Run
public import Idealize.ShloMosaic.Lib.Pipeline.Frame

@[expose] public section

set_option maxRecDepth 16384

noncomputable section

namespace Cert.Proof.Conv

open Cert.Reference6Ideal Cert.Reference6Ideal.Gen Idealize.ShloMosaic Idealize.ShloMosaic.TcCoe Idealize.SL.Sem Idealize.ShloMosaic.StableHlo

/-- The result. -/
theorem afterC_out (V : Valuation τ sig (Elt Ideal)) (M : FVec Ideal S4x9x6x1024 .f32) (h : V (Proc.devRef .tc main_v17) = cMod M) : after opsC V (Proc.devRef .tc main_v152)
    = fn_main_v152 (F := Ideal) (shapeCast S32768x1024 (V (Proc.devRef .tc main_v106)) shapeCasts_S8x4096x1024_S32768x1024)
        (shapeCast S2048x1024 (cX2 (V (Proc.devRef .tc main_v111)) (cRelu (cModr (V (Proc.devRef .tc main_v111)) M (V (Proc.devRef .tc main_arg4))) (V (Proc.devRef .tc main_arg7))) M (V (Proc.devRef .tc main_arg8))) shapeCasts_S8x256x1024_S2048x1024) := by
  simp only [opsC, opsC0, opsC1, opsC2, opsC3, after_append, TRef.binary, TRef.nullary, TRef.unary, TRef.toBuf, TRef.ofBuf, cast_eq]; after_results_simp; simp only [h]; rfl

end Cert.Proof.Conv
end
-- ==== Proof.ConvRun.lean ====
module

public import proofs.«01_k».proof.Proof.ConvMain
public import proofs.«01_k».proof.Proof.ConvKeep
public import proofs.«01_k».proof.Proof.ConvStepA
public import proofs.«01_k».proof.Proof.ConvStepB
public import proofs.«01_k».proof.Proof.ConvStepC
public import proofs.«01_k».proof.Proof.Gen.Reference6Ideal
public import Idealize.ShloMosaic.Lib.Claim
public import Idealize.ShloMosaic.Lib.StableHlo.Run
public import Idealize.ShloMosaic.Lib.Pipeline.Frame

@[expose] public section

set_option maxRecDepth 16384

noncomputable section

namespace Cert.Proof.Conv

open Cert.Reference6Ideal Cert.Reference6Ideal.Gen Idealize.ShloMosaic Idealize.ShloMosaic.TcCoe Idealize.SL.Sem Idealize.ShloMosaic.StableHlo

/-- The reference's result as an array of its arguments. -/
def resR (m : (ℓ : Loc nD τ sig) → Buf (Elt Ideal) ℓ) (c : Dev nD) : FVec Ideal S34816x1024 .f32 :=
  fn_main_v152 (F := Ideal) (shapeCast S32768x1024 (lAll (lConv (lTok (m ((c : Thread nD τ).loc main_arg0))) (lTok (m ((c : Thread nD τ).loc main_arg1))) (m ((c : Thread nD τ).loc main_arg5))) (lTok (m ((c : Thread nD τ).loc main_arg2))) (m ((c : Thread nD τ).loc main_arg3)) (m ((c : Thread nD τ).loc main_arg4)) (m ((c : Thread nD τ).loc main_arg6)) (m ((c : Thread nD τ).loc main_arg7)) (m ((c : Thread nD τ).loc main_arg8))) shapeCasts_S8x4096x1024_S32768x1024) (shapeCast S2048x1024 (cAll (cConv (cTok (m ((c : Thread nD τ).loc main_arg0))) (cTok (m ((c : Thread nD τ).loc main_arg1))) (m ((c : Thread nD τ).loc main_arg5))) (cTok (m ((c : Thread nD τ).loc main_arg2))) (m ((c : Thread nD τ).loc main_arg3)) (m ((c : Thread nD τ).loc main_arg4)) (m ((c : Thread nD τ).loc main_arg6)) (m ((c : Thread nD τ).loc main_arg7)) (m ((c : Thread nD τ).loc main_arg8))) shapeCasts_S8x256x1024_S2048x1024)

/-- What the result buffer holds after all the operations. -/
theorem after_out (m : (ℓ : Loc nD τ sig) → Buf (Elt Ideal) ℓ) (c : Dev nD) : after ops (launchContents m c) (Proc.devRef .tc main_v152) = resR m c := by
  rw [ops_split, after_append, after_append]
  have kA := keepA (launchContents m c)
  have kB := keepB (after opsA (launchContents m c))
  rw [afterC_out _ _ (kB.2.2.2.2.2.2.2.2.2.trans (afterA_m _)), afterB_x _ _ (afterA_l _), afterB_c _ _ _ _ _ (afterA_m _) (afterA_y _) (afterA_c _), afterA_x,
    kB.2.2.2.2.1, kB.2.2.2.2.2.2.2.1, kB.2.2.2.2.2.2.2.2.1, kA.2.2.2.2.1, kA.2.2.2.2.2.2.2.1, kA.2.2.2.2.2.2.2.2]
  rfl

/-- The reference's run: its result is that array and its arguments stay. -/
theorem run (m : (ℓ : Loc nD τ sig) → Buf (Elt Ideal) ℓ) (ρ : Dev nD → PrngReg) :
    θ_run defs (onTc (τ := τ) (Cert.Reference6Ideal.main (F := Ideal))) ⟨m, fun _ => 0, ρ⟩ fun r => ∀ c : Dev nD,
      r.2.mem ((c.tc : Thread nD τ).loc main_v152) = resR m c
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) := by
  refine (θ_run defs _ _).mono (fun _ h c => ?_) (run_seq scopedRefs_eq scopedSems_eq defs Cert.Reference6Ideal.main (fun _ => ops) main_eq (fun _ => ops_sub) m ρ)
  have kA := keepA (launchContents m c)
  have kB := keepB (after opsA (launchContents m c))
  have kC := keepC (after opsB (after opsA (launchContents m c)))
  have e : after ops (launchContents m c) = after opsC (after opsB (after opsA (launchContents m c))) := by
    rw [ops_split, after_append, after_append]
  refine ⟨(h c main_v152).trans (after_out m c), (h c main_arg0).trans ((congrFun e _).trans (kC.1.trans (kB.1.trans kA.1))),
    (h c main_arg1).trans ((congrFun e _).trans (kC.2.1.trans (kB.2.1.trans kA.2.1))),
    (h c main_arg2).trans ((congrFun e _).trans (kC.2.2.1.trans (kB.2.2.1.trans kA.2.2.1))),
    (h c main_arg3).trans ((congrFun e _).trans (kC.2.2.2.1.trans (kB.2.2.2.1.trans kA.2.2.2.1))),
    (h c main_arg4).trans ((congrFun e _).trans (kC.2.2.2.2.1.trans (kB.2.2.2.2.1.trans kA.2.2.2.2.1))),
    (h c main_arg5).trans ((congrFun e _).trans (kC.2.2.2.2.2.1.trans (kB.2.2.2.2.2.1.trans kA.2.2.2.2.2.1))),
    (h c main_arg6).trans ((congrFun e _).trans (kC.2.2.2.2.2.2.1.trans (kB.2.2.2.2.2.2.1.trans kA.2.2.2.2.2.2.1))),
    (h c main_arg7).trans ((congrFun e _).trans (kC.2.2.2.2.2.2.2.1.trans (kB.2.2.2.2.2.2.2.1.trans kA.2.2.2.2.2.2.2.1))),
    (h c main_arg8).trans ((congrFun e _).trans (kC.2.2.2.2.2.2.2.2.trans (kB.2.2.2.2.2.2.2.2.1.trans kA.2.2.2.2.2.2.2.2)))⟩

/-- The reference's result at an index. -/
theorem ref_at (m : (ℓ : Loc nD τ sig) → Buf (Elt Ideal) ℓ) (c : Dev nD) (R : Fin 34816) (l : Fin 1024) :
    resR m c (ix2 R l) = target (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) R l := by
  unfold resR fn_main_v152
  by_cases h : R.val < 32768
  · rw [← lAll_eq _ _ _ _ _ _ _ _ _ R l h]
    pointwise
    exact dif_pos h
  · rw [← cAll_eq _ _ _ _ _ _ _ _ _ R l h]
    pointwise
    exact dif_neg h

end Cert.Proof.Conv
end
-- ==== Proof.Conv.lean ====
module

public import proofs.«01_k».proof.Defs
public import proofs.«01_k».proof.Proof.ConvValue
public import proofs.«01_k».proof.Proof.ConvRun
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import Idealize.ShloMosaic.Adequacy
public import Idealize.ShloMosaic.Init

@[expose] public section

set_option maxRecDepth 16384

noncomputable section

namespace Cert.Proof.Conv

open Idealize.ShloMosaic Idealize.SL.Sem

/-- The short-convolution layer from its convolution on, as compiled: it leaves its arguments alone and its counters at zero. -/
theorem frame_kernel : Cert.quiescent_Kernel6 := fun m ρ _ => Cert.Kernel6.Gen.frame m ρ

/-- The same over the extended reals. -/
theorem frame_ideal : Cert.quiescent_Kernel6Ideal := fun m ρ _ => Cert.Kernel6Ideal.Gen.frame m ρ

/-- The reference's run leaves its arguments alone; it declares no semaphore. -/
theorem frame_reference : Cert.quiescent_Reference6Ideal := fun m ρ _ =>
  (θ_run Cert.Reference6Ideal.defs _ _).mono (fun r h => ⟨fun c => (h c).2, sem_eq_zero_of_no_sems (by decide) r.2⟩)
    (run m ρ)

/-- Both results are the plain formula's, read from the arguments the two programs share. -/
theorem algebraic : Cert.algebraic_Kernel6Ideal_Reference6Ideal := by
  intro m g m' g' _ h
  refine ⟨fun c => (Cert.Kernel6Ideal.Gen.dats m 0 c).arrAt 11 Cert.Kernel6Ideal.cfg0.N, Cert.Kernel6Ideal.Value.run_blocks m g, ?_⟩
  refine (θ_run Cert.Reference6Ideal.defs _ _).mono (fun r hr c => ⟨(hr c).1.trans ?_, (hr c).2⟩) (run m' g')
  obtain ⟨h0, h1, h2, h3, h4, h5, h6, h7, h8⟩ := h c
  refine Eq.trans ?_ (kernel_final m c).symm
  funext i
  rw [eq_ix2 i]
  refine (ref_at m' c (i 0) (i 1)).trans ?_
  rw [h0, h1, h2, h3, h4, h5, h6, h7, h8]
  rfl

end Cert.Proof.Conv
end
-- ==== Proof.GluPay.lean ====
module

public import proofs.«01_k».proof.Proof.GatedPay
public import proofs.«01_k».proof.Proof.Gen.Kernel7Ideal.Value
public import Idealize.ShloMosaic.Lib.Pointwise
public import Idealize.ShloMosaic.Lib.Pipeline.ValueKit

@[expose] public section

set_option maxRecDepth 16384

noncomputable section

namespace Cert.Proof.Glu

open Cert.Kernel7Ideal Cert.Kernel7Ideal.Gen Idealize.ShloMosaic
open Cert.Proof.Post (Row rnorm modr)
open Cert.Proof.Gated (mrow proj)

/-- The gated linear unit of a projected row: the first half times the logistic of the second, each with its bias. -/
def glu (x g sc sh : Row) (w : Fin 1024 → Fin 2048 → EReal) (b : Fin 2048 → EReal) (j : Fin 1024) : EReal :=
  (proj x g sc sh w ⟨j.val, by omega⟩ + b ⟨j.val, by omega⟩)
    * Ideal.logistic (proj x g sc sh w ⟨1024 + j.val, by omega⟩ + b ⟨1024 + j.val, by omega⟩)

/-- The first chunk's row at an index. -/
theorem first_at (x0 : Vec Ideal S1024x1024 .f32) (x1 : Vec Ideal S1x1x6x1024 .f32) (x2 : Vec Ideal S1x1x1024 .f32) (x3 : Vec Ideal S1024x2048 .bf16) (x4 : Vec Ideal S1x2048 .f32)
    (r : Fin 256) (l : Fin 1024) :
    k0_pay2 (View.ld x0 r0_0) (View.ld x2 r0_1) (View.ld x1 r0_2) (View.ld x1 r0_3) (View.ld x3 r0_4) (View.ld x4 r0_5) (ix2 r l)
      = glu (fun k => x0 (ix2 (⟨r.val, by omega⟩ : Fin 1024) k)) (fun k => x2 (ix3 0 0 k)) (fun k => x1 (ix4 0 0 1 k)) (fun k => x1 (ix4 0 0 0 k)) (fun i j => x3 (ix2 i j)) (fun j => x4 (ix2 0 j)) l := by
  unfold glu proj modr rnorm
  pointwise [k0_pay2]

/-- The second chunk's row at an index. -/
theorem second_at (x0 : Vec Ideal S1024x1024 .f32) (x1 : Vec Ideal S1x1x6x1024 .f32) (x2 : Vec Ideal S1x1x1024 .f32) (x3 : Vec Ideal S1024x2048 .bf16) (x4 : Vec Ideal S1x2048 .f32)
    (r : Fin 256) (l : Fin 1024) :
    k0_pay5 (k0_pay3 (View.ld x0 r0_6) (View.ld x2 r0_1) (View.ld x1 r0_2) (View.ld x1 r0_3) (View.ld x3 r0_4) (View.ld x4 r0_5)) (k0_pay4 (View.ld x0 r0_6) (View.ld x2 r0_1) (View.ld x1 r0_2) (View.ld x1 r0_3) (View.ld x3 r0_4) (View.ld x4 r0_5)) (ix2 r l)
      = glu (fun k => x0 (ix2 (⟨256 + r.val, by omega⟩ : Fin 1024) k)) (fun k => x2 (ix3 0 0 k)) (fun k => x1 (ix4 0 0 1 k)) (fun k => x1 (ix4 0 0 0 k)) (fun i j => x3 (ix2 i j)) (fun j => x4 (ix2 0 j)) l := by
  unfold glu proj modr rnorm
  pointwise [k0_pay5, k0_pay3, k0_pay4]

/-- The third chunk's row at an index. -/
theorem third_at (x0 : Vec Ideal S1024x1024 .f32) (x1 : Vec Ideal S1x1x6x1024 .f32) (x2 : Vec Ideal S1x1x1024 .f32) (x3 : Vec Ideal S1024x2048 .bf16) (x4 : Vec Ideal S1x2048 .f32)
    (r : Fin 256) (l : Fin 1024) :
    k0_pay8 (k0_pay6 (View.ld x0 r0_7) (View.ld x2 r0_1) (View.ld x1 r0_2) (View.ld x1 r0_3) (View.ld x3 r0_4)) (k0_pay7 (View.ld x4 r0_5)) (ix2 r l)
      = glu (fun k => x0 (ix2 (⟨512 + r.val, by omega⟩ : Fin 1024) k)) (fun k => x2 (ix3 0 0 k)) (fun k => x1 (ix4 0 0 1 k)) (fun k => x1 (ix4 0 0 0 k)) (fun i j => x3 (ix2 i j)) (fun j => x4 (ix2 0 j)) l := by
  unfold glu proj modr rnorm
  pointwise [k0_pay8, k0_pay6, k0_pay7]

/-- The fourth chunk's row at an index. -/
theorem fourth_at (x0 : Vec Ideal S1024x1024 .f32) (x1 : Vec Ideal S1x1x6x1024 .f32) (x2 : Vec Ideal S1x1x1024 .f32) (x3 : Vec Ideal S1024x2048 .bf16) (x4 : Vec Ideal S1x2048 .f32)
    (r : Fin 256) (l : Fin 1024) :
    k0_pay1 (k0_pay9 (View.ld x0 r0_8) (View.ld x2 r0_1) (View.ld x1 r0_2) (View.ld x1 r0_3) (View.ld x3 r0_4)) (View.ld x4 r0_5) (ix2 r l)
      = glu (fun k => x0 (ix2 (⟨768 + r.val, by omega⟩ : Fin 1024) k)) (fun k => x2 (ix3 0 0 k)) (fun k => x1 (ix4 0 0 1 k)) (fun k => x1 (ix4 0 0 0 k)) (fun i j => x3 (ix2 i j)) (fun j => x4 (ix2 0 j)) l := by
  unfold glu proj modr rnorm
  pointwise [k0_pay1, k0_pay9]

/-- A row of the output block, by its row number in the block. -/
theorem block_at (x0 : Vec Ideal S1024x1024 .f32) (x1 : Vec Ideal S1x1x6x1024 .f32) (x2 : Vec Ideal S1x1x1024 .f32) (x3 : Vec Ideal S1024x2048 .bf16) (x4 : Vec Ideal S1x2048 .f32) (r l : Fin 1024) :
    out0_5 x0 x1 x2 x3 x4 (ix2 r l) = glu (fun k => x0 (ix2 r k)) (fun k => x2 (ix3 0 0 k)) (fun k => x1 (ix4 0 0 1 k)) (fun k => x1 (ix4 0 0 0 k)) (fun i j => x3 (ix2 i j)) (fun j => x4 (ix2 0 j)) l := by
  unfold out0_5
  canon_tiles x h
  · obtain ⟨p, q, rfl⟩ : ∃ (p : Fin 256) (q : Fin 1024), x = ix2 p q := ⟨x 0, x 1, eq_ix2 x⟩
    have e := fourth_at x0 x1 x2 x3 x4 p q
    rw [show (⟨768 + p.val, by omega⟩ : Fin 1024) = r from Fin.ext h0.symm, show q = l from Fin.ext h1.symm] at e
    rw [← e, ← show q = l from Fin.ext h1.symm]
  · obtain ⟨p, q, rfl⟩ : ∃ (p : Fin 256) (q : Fin 1024), x = ix2 p q := ⟨x 0, x 1, eq_ix2 x⟩
    have e := third_at x0 x1 x2 x3 x4 p q
    rw [show (⟨512 + p.val, by omega⟩ : Fin 1024) = r from Fin.ext h0.symm, show q = l from Fin.ext h1.symm] at e
    rw [← e, ← show q = l from Fin.ext h1.symm]
  · obtain ⟨p, q, rfl⟩ : ∃ (p : Fin 256) (q : Fin 1024), x = ix2 p q := ⟨x 0, x 1, eq_ix2 x⟩
    have e := second_at x0 x1 x2 x3 x4 p q
    rw [show (⟨256 + p.val, by omega⟩ : Fin 1024) = r from Fin.ext h0.symm, show q = l from Fin.ext h1.symm] at e
    rw [← e, ← show q = l from Fin.ext h1.symm]
  · obtain ⟨p, q, rfl⟩ : ∃ (p : Fin 256) (q : Fin 1024), x = ix2 p q := ⟨x 0, x 1, eq_ix2 x⟩
    have e := first_at x0 x1 x2 x3 x4 p q
    rw [show (⟨p.val, by omega⟩ : Fin 1024) = r from Fin.ext h0.symm, show q = l from Fin.ext h1.symm] at e
    rw [← e, ← show q = l from Fin.ext h1.symm]

end Cert.Proof.Glu
end
-- ==== Proof.GluRef.lean ====
module

public import proofs.«01_k».proof.Proof.GluPay
public import proofs.«01_k».proof.Proof.Gen.Reference7Ideal.Run
public import Idealize.ShloMosaic.Lib.Claim

@[expose] public section

set_option maxRecDepth 16384

noncomputable section

namespace Cert.Proof.Glu

open Idealize.ShloMosaic Idealize.ShloMosaic.TcCoe Idealize.SL.Sem
open Cert.Proof.Post (Row rnorm modr)
open Cert.Proof.Gated (mrow proj)

/-- The result array at row `R` and feature `l`, from the argument arrays: latent tokens first, then the context's. -/
def target0 (T : FVec Ideal ⟨2, ![34816, 1024]⟩ .f32) (M : FVec Ideal ⟨4, ![4, 9, 6, 1024]⟩ .f32) (N : FVec Ideal ⟨2, ![4, 1024]⟩ .f32) (W : FVec Ideal ⟨2, ![1024, 2048]⟩ .f32) (B : FVec Ideal ⟨1, ![2048]⟩ .f32)
    (R : Fin 34816) (l : Fin 1024) : EReal :=
  glu (fun k => T (ix2 R k)) (fun k => N (ix2 1 k)) (fun k => M (ix4 1 (mrow R) 1 k)) (fun k => M (ix4 1 (mrow R) 0 k)) (fun i j => W (ix2 i j)) (fun j => B (ix1 j)) l

/-- The same from the latent and the context tokens apart. -/
def split0 (X : FVec Ideal ⟨3, ![8, 4096, 1024]⟩ .f32) (C : FVec Ideal ⟨3, ![8, 256, 1024]⟩ .f32)
    (M : FVec Ideal ⟨4, ![4, 9, 6, 1024]⟩ .f32) (N : FVec Ideal ⟨2, ![4, 1024]⟩ .f32) (W : FVec Ideal ⟨2, ![1024, 2048]⟩ .f32) (B : FVec Ideal ⟨1, ![2048]⟩ .f32)
    (R : Fin 34816) (l : Fin 1024) : EReal :=
  if h : R.val < 32768 then
    glu (fun k => X (ix3 (⟨R.val / 4096, by omega⟩ : Fin 8) (⟨R.val % 4096, by omega⟩ : Fin 4096) k)) (fun k => N (ix2 1 k))
      (fun k => M (ix4 1 (⟨R.val / 4096, by omega⟩ : Fin 9) 1 k)) (fun k => M (ix4 1 (⟨R.val / 4096, by omega⟩ : Fin 9) 0 k)) (fun i j => W (ix2 i j)) (fun j => B (ix1 j)) l
  else
    glu (fun k => C (ix3 (⟨(R.val - 32768) / 256, by omega⟩ : Fin 8) (⟨(R.val - 32768) % 256, by omega⟩ : Fin 256) k)) (fun k => N (ix2 1 k))
      (fun k => M (ix4 1 8 1 k)) (fun k => M (ix4 1 8 0 k)) (fun i j => W (ix2 i j)) (fun j => B (ix1 j)) l

open Cert.Reference7Ideal Cert.Reference7Ideal.Gen

/-- The latent tokens of the one token array. -/
def lTok (T : FVec Ideal S34816x1024 .f32) : FVec Ideal S8x4096x1024 .f32 :=
  shapeCast S8x4096x1024 (extractStridedSlice S32768x1024 ![0, 0] T slices_S34816x1024_S32768x1024_0_0) shapeCasts_S32768x1024_S8x4096x1024

/-- The latent tokens at an index. -/
theorem lTok_at (T : FVec Ideal S34816x1024 .f32) (b : Fin 8) (r : Fin 4096) (k : Fin 1024) (R : Fin 34816) (h : R.val = b.val * 4096 + r.val) :
    lTok T (ix3 b r k) = T (ix2 R k) := by
  rw [show R = (⟨b.val * 4096 + r.val, by omega⟩ : Fin 34816) from Fin.ext h]
  pointwise [lTok]

/-- The context tokens of the one token array. -/
def cTok (T : FVec Ideal S34816x1024 .f32) : FVec Ideal S8x256x1024 .f32 :=
  shapeCast S8x256x1024 (extractStridedSlice S2048x1024 ![32768, 0] T slices_S34816x1024_S2048x1024_32768_0) shapeCasts_S2048x1024_S8x256x1024

/-- The context tokens at an index. -/
theorem cTok_at (T : FVec Ideal S34816x1024 .f32) (b : Fin 8) (r : Fin 256) (k : Fin 1024) (R : Fin 34816) (h : R.val = 32768 + (b.val * 256 + r.val)) :
    cTok T (ix3 b r k) = T (ix2 R k) := by
  rw [show R = (⟨32768 + (b.val * 256 + r.val), by omega⟩ : Fin 34816) from Fin.ext h]
  pointwise [cTok]

/-- The two forms of the result agree. -/
theorem split0_eq (T : FVec Ideal ⟨2, ![34816, 1024]⟩ .f32) (M : FVec Ideal ⟨4, ![4, 9, 6, 1024]⟩ .f32) (N : FVec Ideal ⟨2, ![4, 1024]⟩ .f32) (W : FVec Ideal ⟨2, ![1024, 2048]⟩ .f32) (B : FVec Ideal ⟨1, ![2048]⟩ .f32)
    (R : Fin 34816) (l : Fin 1024) :
    split0 (lTok T) (cTok T) M N W B R l = target0 T M N W B R l := by
  unfold split0 target0
  split
  · rename_i h
    rw [show mrow R = (⟨R.val / 4096, by omega⟩ : Fin 9) from Fin.ext (if_pos h)]
    simp only [fun k => lTok_at T (⟨R.val / 4096, by omega⟩ : Fin 8) (⟨R.val % 4096, by omega⟩ : Fin 4096) k R (Nat.div_add_mod' R.val 4096).symm]
  · rename_i h
    have hR := R.isLt
    rw [show mrow R = 8 from Fin.ext (if_neg h)]
    simp only [fun k => cTok_at T (⟨(R.val - 32768) / 256, by omega⟩ : Fin 8) (⟨(R.val - 32768) % 256, by omega⟩ : Fin 256) k R (by simp only []; omega)]

/-- The latent tokens' modulation vectors. -/
def lMod (M : FVec Ideal S4x9x6x1024 .f32) : FVec Ideal S8x6x1x1024 .f32 :=
  shapeCast S8x6x1x1024 (shapeCast S8x6x1024 (extractStridedSlice S1x8x6x1024 ![1, 0, 0, 0] M slices_S4x9x6x1024_S1x8x6x1024_1_0_0_0) shapeCasts_S1x8x6x1024_S8x6x1024) shapeCasts_S8x6x1024_S8x6x1x1024

/-- The reference's root-mean-square norm of the latent tokens. -/
def lNorm (v : FVec Ideal S8x4096x1024 .f32) (g : FVec Ideal S1024 .f32) : FVec Ideal S8x4096x1024 .f32 :=
  mulf (mulf v (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf v v) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 g))

/-- The norm at an index. -/
theorem lNorm_at (v : FVec Ideal S8x4096x1024 .f32) (g : FVec Ideal S1024 .f32) (b : Fin 8) (r : Fin 4096) (l : Fin 1024) :
    lNorm v g (ix3 b r l) = rnorm (fun k => v (ix3 b r k)) (fun k => g (ix1 k)) l := by
  unfold rnorm
  pointwise [lNorm]

/-- The reference's modulated normed latent tokens. -/
def lModr (x1 : FVec Ideal S8x4096x1024 .f32) (M : FVec Ideal S4x9x6x1024 .f32) (N2 : FVec Ideal S4x1024 .f32) : FVec Ideal S8x4096x1024 .f32 :=
  addf (mulf (lNorm x1 (shapeCast S1024 (extractStridedSlice S1x1024 ![1, 0] N2 slices_S4x1024_S1x1024_1_0) shapeCasts_S1x1024_S1024)) (broadcastInDim S8x4096x1024 ![0, 1, 2] bcast_S8x1x1024_S8x4096x1024_0_1_2 (addf (broadcastInDim S8x1x1024 ![] bcast_S_S8x1x1024 (constant S_ .f32 0x3F800000#32)) (shapeCast S8x1x1024 (extractStridedSlice S8x1x1x1024 ![0, 1, 0, 0] (lMod M) slices_S8x6x1x1024_S8x1x1x1024_0_1_0_0) shapeCasts_S8x1x1x1024_S8x1x1024)))) (broadcastInDim S8x4096x1024 ![0, 1, 2] bcast_S8x1x1024_S8x4096x1024_0_1_2 (shapeCast S8x1x1024 (extractStridedSlice S8x1x1x1024 ![0, 0, 0, 0] (lMod M) slices_S8x6x1x1024_S8x1x1x1024_0_0_0_0) shapeCasts_S8x1x1x1024_S8x1x1024))

/-- The modulated normed row at an index. -/
theorem lModr_at (x1 : FVec Ideal S8x4096x1024 .f32) (M : FVec Ideal S4x9x6x1024 .f32) (N2 : FVec Ideal S4x1024 .f32) (b : Fin 8) (r : Fin 4096) (l : Fin 1024) :
    lModr x1 M N2 (ix3 b r l) = modr (fun k => x1 (ix3 b r k)) (fun k => N2 (ix2 1 k)) (fun k => M (ix4 1 (⟨b.val, by omega⟩ : Fin 9) 1 k)) (fun k => M (ix4 1 (⟨b.val, by omega⟩ : Fin 9) 0 k)) l := by
  unfold modr
  pointwise [lModr, lMod, lNorm_at]

/-- The reference's projected latent tokens. -/
def lProj (x : FVec Ideal S8x4096x1024 .f32) (M : FVec Ideal S4x9x6x1024 .f32) (N2 : FVec Ideal S4x1024 .f32) (W : FVec Ideal S1024x2048 .f32) : FVec Ideal S8x4096x2048 .f32 :=
  Host.dotGeneral dot_S8x4096x1024_S1024x2048_S8x4096x2048_2_0_01_1_n_n none (lModr x M N2) W

/-- The projection at an index. -/
theorem lProj_at (x : FVec Ideal S8x4096x1024 .f32) (M : FVec Ideal S4x9x6x1024 .f32) (N2 : FVec Ideal S4x1024 .f32) (W : FVec Ideal S1024x2048 .f32) (b : Fin 8) (r : Fin 4096) (l : Fin 2048) :
    lProj x M N2 W (ix3 b r l) = proj (fun k => x (ix3 b r k)) (fun k => N2 (ix2 1 k)) (fun k => M (ix4 1 (⟨b.val, by omega⟩ : Fin 9) 1 k)) (fun k => M (ix4 1 (⟨b.val, by omega⟩ : Fin 9) 0 k)) (fun i j => W (ix2 i j)) l := by
  unfold proj
  pointwise [lProj, lModr_at]

/-- The context tokens' modulation vectors. -/
def cMod (M : FVec Ideal S4x9x6x1024 .f32) : FVec Ideal S1x6x1x1024 .f32 :=
  shapeCast S1x6x1x1024 (shapeCast S1x6x1024 (extractStridedSlice S1x1x6x1024 ![1, 8, 0, 0] M slices_S4x9x6x1024_S1x1x6x1024_1_8_0_0) shapeCasts_S1x1x6x1024_S1x6x1024) shapeCasts_S1x6x1024_S1x6x1x1024

/-- The reference's root-mean-square norm of the context tokens. -/
def cNorm (v : FVec Ideal S8x256x1024 .f32) (g : FVec Ideal S1024 .f32) : FVec Ideal S8x256x1024 .f32 :=
  mulf (mulf v (broadcastInDim S8x256x1024 ![0, 1, 2] bcast_S8x256x1_S8x256x1024_0_1_2 (Host.rsqrt (addf (Host.divf (broadcastInDim S8x256x1 ![0, 1] bcast_S8x256_S8x256x1_0_1 (Host.reduceAdd (mulf v v) (constant S_ .f32 0x00000000#32) reducesTo_S8x256x1024_S8x256_d2 h_S_)) (broadcastInDim S8x256x1 ![] bcast_S_S8x256x1 (constant S_ .f32 0x44800000#32))) (broadcastInDim S8x256x1 ![] bcast_S_S8x256x1 (constant S_ .f32 0x358637BD#32)))))) (broadcastInDim S8x256x1024 ![0, 1, 2] bcast_S1x1x1024_S8x256x1024_0_1_2 (broadcastInDim S1x1x1024 ![2] bcast_S1024_S1x1x1024_2 g))

/-- The norm at an index. -/
theorem cNorm_at (v : FVec Ideal S8x256x1024 .f32) (g : FVec Ideal S1024 .f32) (b : Fin 8) (r : Fin 256) (l : Fin 1024) :
    cNorm v g (ix3 b r l) = rnorm (fun k => v (ix3 b r k)) (fun k => g (ix1 k)) l := by
  unfold rnorm
  pointwise [cNorm]

/-- The reference's modulated normed context tokens. -/
def cModr (x1 : FVec Ideal S8x256x1024 .f32) (M : FVec Ideal S4x9x6x1024 .f32) (N2 : FVec Ideal S4x1024 .f32) : FVec Ideal S8x256x1024 .f32 :=
  addf (mulf (cNorm x1 (shapeCast S1024 (extractStridedSlice S1x1024 ![1, 0] N2 slices_S4x1024_S1x1024_1_0) shapeCasts_S1x1024_S1024)) (broadcastInDim S8x256x1024 ![0, 1, 2] bcast_S1x1x1024_S8x256x1024_0_1_2 (addf (broadcastInDim S1x1x1024 ![] bcast_S_S1x1x1024 (constant S_ .f32 0x3F800000#32)) (shapeCast S1x1x1024 (extractStridedSlice S1x1x1x1024 ![0, 1, 0, 0] (cMod M) slices_S1x6x1x1024_S1x1x1x1024_0_1_0_0) shapeCasts_S1x1x1x1024_S1x1x1024)))) (broadcastInDim S8x256x1024 ![0, 1, 2] bcast_S1x1x1024_S8x256x1024_0_1_2 (shapeCast S1x1x1024 (extractStridedSlice S1x1x1x1024 ![0, 0, 0, 0] (cMod M) slices_S1x6x1x1024_S1x1x1x1024_0_0_0_0) shapeCasts_S1x1x1x1024_S1x1x1024))

/-- The modulated normed row at an index. -/
theorem cModr_at (x1 : FVec Ideal S8x256x1024 .f32) (M : FVec Ideal S4x9x6x1024 .f32) (N2 : FVec Ideal S4x1024 .f32) (b : Fin 8) (r : Fin 256) (l : Fin 1024) :
    cModr x1 M N2 (ix3 b r l) = modr (fun k => x1 (ix3 b r k)) (fun k => N2 (ix2 1 k)) (fun k => M (ix4 1 8 1 k)) (fun k => M (ix4 1 8 0 k)) l := by
  unfold modr
  pointwise [cModr, cMod, cNorm_at]

/-- The reference's projected context tokens. -/
def cProj (x : FVec Ideal S8x256x1024 .f32) (M : FVec Ideal S4x9x6x1024 .f32) (N2 : FVec Ideal S4x1024 .f32) (W : FVec Ideal S1024x2048 .f32) : FVec Ideal S8x256x2048 .f32 :=
  Host.dotGeneral dot_S8x256x1024_S1024x2048_S8x256x2048_2_0_01_1_n_n none (cModr x M N2) W

/-- The projection at an index. -/
theorem cProj_at (x : FVec Ideal S8x256x1024 .f32) (M : FVec Ideal S4x9x6x1024 .f32) (N2 : FVec Ideal S4x1024 .f32) (W : FVec Ideal S1024x2048 .f32) (b : Fin 8) (r : Fin 256) (l : Fin 2048) :
    cProj x M N2 W (ix3 b r l) = proj (fun k => x (ix3 b r k)) (fun k => N2 (ix2 1 k)) (fun k => M (ix4 1 8 1 k)) (fun k => M (ix4 1 8 0 k)) (fun i j => W (ix2 i j)) l := by
  unfold proj
  pointwise [cProj, cModr_at]

/-- The latent tokens' projection with its bias. -/
def lBias (P : FVec Ideal S8x4096x2048 .f32) (B : FVec Ideal S2048 .f32) : FVec Ideal S8x4096x2048 .f32 :=
  addf P (broadcastInDim S8x4096x2048 ![0, 1, 2] bcast_S1x1x2048_S8x4096x2048_0_1_2 (broadcastInDim S1x1x2048 ![2] bcast_S2048_S1x1x2048_2 B))

/-- The biased projection at an index. -/
theorem lBias_at (P : FVec Ideal S8x4096x2048 .f32) (B : FVec Ideal S2048 .f32) (b : Fin 8) (r : Fin 4096) (l : Fin 2048) :
    lBias P B (ix3 b r l) = P (ix3 b r l) + B (ix1 l) := by
  pointwise [lBias]

/-- The gated linear unit of the latent tokens' projection. -/
def lOut (P : FVec Ideal S8x4096x2048 .f32) : FVec Ideal S8x4096x1024 .f32 :=
  mulf (extractStridedSlice S8x4096x1024 ![0, 0, 0] P slices_S8x4096x2048_S8x4096x1024_0_0_0) (Host.divf (broadcastInDim S8x4096x1024 ![] bcast_S_S8x4096x1024 (constant S_ .f32 0x3F800000#32)) (addf (broadcastInDim S8x4096x1024 ![] bcast_S_S8x4096x1024 (constant S_ .f32 0x3F800000#32)) (Host.exp (Host.negf (extractStridedSlice S8x4096x1024 ![0, 0, 1024] P slices_S8x4096x2048_S8x4096x1024_0_0_1024)))))

/-- The gated linear unit at an index. -/
theorem lOut_at (P : FVec Ideal S8x4096x2048 .f32) (b : Fin 8) (r : Fin 4096) (l : Fin 1024) :
    lOut P (ix3 b r l) = P (ix3 b r (⟨l.val, by omega⟩ : Fin 2048)) * Ideal.logistic (P (ix3 b r (⟨1024 + l.val, by omega⟩ : Fin 2048))) := by
  unfold Ideal.logistic
  pointwise [lOut]

/-- The context tokens' projection with its bias. -/
def cBias (P : FVec Ideal S8x256x2048 .f32) (B : FVec Ideal S2048 .f32) : FVec Ideal S8x256x2048 .f32 :=
  addf P (broadcastInDim S8x256x2048 ![0, 1, 2] bcast_S1x1x2048_S8x256x2048_0_1_2 (broadcastInDim S1x1x2048 ![2] bcast_S2048_S1x1x2048_2 B))

/-- The biased projection at an index. -/
theorem cBias_at (P : FVec Ideal S8x256x2048 .f32) (B : FVec Ideal S2048 .f32) (b : Fin 8) (r : Fin 256) (l : Fin 2048) :
    cBias P B (ix3 b r l) = P (ix3 b r l) + B (ix1 l) := by
  pointwise [cBias]

/-- The gated linear unit of the context tokens' projection. -/
def cOut (P : FVec Ideal S8x256x2048 .f32) : FVec Ideal S8x256x1024 .f32 :=
  mulf (extractStridedSlice S8x256x1024 ![0, 0, 0] P slices_S8x256x2048_S8x256x1024_0_0_0) (Host.divf (broadcastInDim S8x256x1024 ![] bcast_S_S8x256x1024 (constant S_ .f32 0x3F800000#32)) (addf (broadcastInDim S8x256x1024 ![] bcast_S_S8x256x1024 (constant S_ .f32 0x3F800000#32)) (Host.exp (Host.negf (extractStridedSlice S8x256x1024 ![0, 0, 1024] P slices_S8x256x2048_S8x256x1024_0_0_1024)))))

/-- The gated linear unit at an index. -/
theorem cOut_at (P : FVec Ideal S8x256x2048 .f32) (b : Fin 8) (r : Fin 256) (l : Fin 1024) :
    cOut P (ix3 b r l) = P (ix3 b r (⟨l.val, by omega⟩ : Fin 2048)) * Ideal.logistic (P (ix3 b r (⟨1024 + l.val, by omega⟩ : Fin 2048))) := by
  unfold Ideal.logistic
  pointwise [cOut]

/-- The reference's result at an index. -/
theorem ref0_at (m : (ℓ : Loc nD τ sig) → Buf (Elt Ideal) ℓ) (c : Dev nD) (R : Fin 34816) (l : Fin 1024) :
    Cert.Reference7Ideal.Value.res_out0 m c (ix2 R l) = target0 (m ((c : Thread nD τ).loc main_arg0)) (m ((c : Thread nD τ).loc main_arg1)) (m ((c : Thread nD τ).loc main_arg2)) (m ((c : Thread nD τ).loc main_arg3)) (m ((c : Thread nD τ).loc main_arg4)) R l := by
  have e : Cert.Reference7Ideal.Value.res_out0 m c = fun i => concatenate S34816x1024 0
      [⟨S32768x1024, shapeCast S32768x1024 (lOut (lBias (lProj (lTok (m ((c : Thread nD τ).loc main_arg0))) (m ((c : Thread nD τ).loc main_arg1)) (m ((c : Thread nD τ).loc main_arg2)) (m ((c : Thread nD τ).loc main_arg3))) (m ((c : Thread nD τ).loc main_arg4)))) shapeCasts_S8x4096x1024_S32768x1024⟩,
       ⟨S2048x1024, shapeCast S2048x1024 (cOut (cBias (cProj (cTok (m ((c : Thread nD τ).loc main_arg0))) (m ((c : Thread nD τ).loc main_arg1)) (m ((c : Thread nD τ).loc main_arg2)) (m ((c : Thread nD τ).loc main_arg3))) (m ((c : Thread nD τ).loc main_arg4)))) shapeCasts_S8x256x1024_S2048x1024⟩]
      concatenates_S32768x1024_S2048x1024_S34816x1024_d0 i := rfl
  rw [e, ← split0_eq]
  unfold split0 glu
  pointwise [lOut_at, cOut_at, lBias_at, cBias_at, lProj_at, cProj_at]

end Cert.Proof.Glu
end
-- ==== Proof.GluValue.lean ====
module

public import proofs.«01_k».proof.Proof.GluPay
public import proofs.«01_k».proof.Proof.GluRef
public import Idealize.ShloMosaic.Lib.Claim

@[expose] public section

set_option maxRecDepth 16384

noncomputable section

namespace Cert.Proof.Glu

open Cert.Kernel7Ideal Cert.Kernel7Ideal.Gen Idealize.ShloMosaic Idealize.ShloMosaic.TcCoe Idealize.SL.Sem
open Cert.Proof.Gated (mrow proj)
variable (m : (ℓ : Loc nD τ sig) → Buf (Elt Ideal) ℓ)

/-- Where each window's block stands at a grid point. -/
theorem idx_facts : ∀ t : Fin cfg0.N, win0_0.index t = ![t.val, 0] ∧ win0_2.index t = ![1, 0, 0] ∧ win0_3.index t = ![0, 0] ∧ win0_4.index t = ![0, 0] ∧ win0_5.index t = ![t.val, 0] := by
  decide +kernel

/-- Where the modulation window stands at a tile of latent tokens. -/
theorem idx_lat : ∀ t : Fin cfg0.N, t.val < 32 → win0_1.index t = ![1, t.val / 4, 0, 0] := by
  decide +kernel

/-- Where it stands at a tile of context tokens. -/
theorem idx_ctx : ∀ t : Fin cfg0.N, ¬ t.val < 32 → win0_1.index t = ![1, 8, 0, 0] := by
  decide +kernel

/-- A tile's block of tokens at an index, from the argument array. -/
theorem blk0 (c : Dev nD) (t : Fin cfg0.N) (r : Fin 1024) (k : Fin 1024) (R : Fin 34816) (hR : R.val = t.val * 1024 + r.val) :
    iblk m c 0 t (ix2 r k) = (m ((c : Thread nD τ).loc main_arg0)) (ix2 R k) := by
  blk_ext [iblk, V, idx_facts t]

/-- A tile's modulation rows at an index, from the argument array. -/
theorem blk1 (c : Dev nD) (t : Fin cfg0.N) (i : Fin 6) (k : Fin 1024) (r : Fin 1024) (R : Fin 34816) (hR : R.val = t.val * 1024 + r.val) :
    iblk m c 1 t (ix4 0 0 i k) = (m ((c : Thread nD τ).loc main_arg1)) (ix4 1 (mrow R) i k) := by
  have hr := r.isLt
  by_cases ht : t.val < 32
  · rw [show mrow R = (⟨R.val / 4096, by omega⟩ : Fin 9) from Fin.ext (if_pos (by omega))]
    blk_simp [iblk]; entry_read; pointwise
    have hb : ((win0_1.blk t).view.emb (ix4 0 0 i k) 1).val = t.val / 4 := by blk_simp [idx_lat t ht]; exact Nat.add_zero _
    rw [dif_pos (lt_of_eq_of_lt hb (by omega))]
    blk_ext [idx_lat t ht]
  · rw [show mrow R = 8 from Fin.ext (if_neg (by omega))]
    blk_simp [iblk]; entry_read; pointwise
    have hb : ((win0_1.blk t).view.emb (ix4 0 0 i k) 1).val = 8 := by blk_simp [idx_ctx t ht]; exact Nat.add_zero _
    rw [dif_pos (lt_of_eq_of_lt hb (by omega))]
    blk_ext [idx_ctx t ht]

/-- The norm's weights at an index, from the argument array. -/
theorem blk2 (c : Dev nD) (t : Fin cfg0.N) (k : Fin 1024) :
    iblk m c 2 t (ix3 0 0 k) = (m ((c : Thread nD τ).loc main_arg2)) (ix2 1 k) := by
  blk_simp [iblk]; entry_read; pointwise
  blk_ext [idx_facts t]

/-- The projection's weights at an index, from the argument array. -/
theorem blk3 (c : Dev nD) (t : Fin cfg0.N) (i : Fin 1024) (j : Fin 2048) :
    iblk m c 3 t (ix2 i j) = (m ((c : Thread nD τ).loc main_arg3)) (ix2 i j) := by
  blk_simp [iblk]; entry_read; pointwise
  blk_ext [idx_facts t]

/-- The projection's bias at an index, from the argument array. -/
theorem blk4 (c : Dev nD) (t : Fin cfg0.N) (j : Fin 2048) :
    iblk m c 4 t (ix2 0 j) = (m ((c : Thread nD τ).loc main_arg4)) (ix1 j) := by
  blk_simp [iblk]; entry_read; pointwise
  blk_ext [idx_facts t]

/-- A block of result 0 at an index. -/
theorem out0_at (c : Dev nD) (t : Fin cfg0.N) (r : Fin 1024) (l : Fin 1024) (R : Fin 34816) (hR : R.val = t.val * 1024 + r.val) :
    out0_5 (iblk m c 0 t) (iblk m c 1 t) (iblk m c 2 t) (iblk m c 3 t) (iblk m c 4 t) (ix2 r l) = target0 (m ((c : Thread nD τ).loc main_arg0)) (m ((c : Thread nD τ).loc main_arg1)) (m ((c : Thread nD τ).loc main_arg2)) (m ((c : Thread nD τ).loc main_arg3)) (m ((c : Thread nD τ).loc main_arg4)) R l := by
  rw [block_at, target0]
  simp only [blk2, blk3, blk4, fun k => blk0 m c t r k R hR, fun i k => blk1 m c t i k r R hR]

/-- The kernel's result 0, at every index. -/
theorem kernel_final0 (c : Dev nD) :
    (dats m 0 c).arrAt 5 cfg0.N = fun i => target0 (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) := by
  refine (dats m 0 c).arrAt_eq_of_covers 5 _ (by decide +kernel) fun t hf y => ?_
  blk_simp
  rw [after0_5]
  have e0 : ((win0_5.blk t).view.emb y 0).val = t.val * 1024 + (y 0).val := by blk_simp [idx_facts t]
  have e1 : (win0_5.blk t).view.emb y 1 = y 1 := Fin.ext (by blk_simp [idx_facts t])
  rw [e1]
  exact (congrArg _ (eq_ix2 y)).trans (out0_at m c t (y 0) (y 1) _ e0)

end Cert.Proof.Glu
end
-- ==== Proof.Glu.lean ====
module

public import proofs.«01_k».proof.Defs
public import proofs.«01_k».proof.Proof.GluValue
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import Idealize.ShloMosaic.Adequacy
public import Idealize.ShloMosaic.Init

@[expose] public section

set_option maxRecDepth 16384

noncomputable section

namespace Cert.Proof.Glu

open Idealize.ShloMosaic Idealize.SL.Sem

/-- The conformer layer's first call, as compiled: it leaves its arguments alone and its counters at zero. -/
theorem frame_kernel : Cert.quiescent_Kernel7 := fun m ρ _ => Cert.Kernel7.Gen.frame m ρ

/-- The same over the extended reals. -/
theorem frame_ideal : Cert.quiescent_Kernel7Ideal := fun m ρ _ => Cert.Kernel7Ideal.Gen.frame m ρ

/-- The reference's run leaves its arguments alone; it declares no semaphore. -/
theorem frame_reference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- Both programs' result is the plain formula's, read from the arguments the two programs share. -/
theorem algebraic : Cert.algebraic_Kernel7Ideal_Reference7Ideal := by
  intro m g m' g' _ h
  refine ⟨fun c => (Cert.Kernel7Ideal.Gen.dats m 0 c).arrAt 5 Cert.Kernel7Ideal.cfg0.N, Cert.Kernel7Ideal.Value.run_blocks m g, ?_⟩
  refine (θ_run Cert.Reference7Ideal.defs _ _).mono (fun r hr c => ⟨(hr c).1.trans ?_, (hr c).2⟩) (Cert.Reference7Ideal.Value.run (F := Ideal) m' g')
  obtain ⟨h0, h1, h2, h3, h4⟩ := h c
  refine Eq.trans ?_ (kernel_final0 m c).symm
  funext i
  rw [eq_ix2 i]
  refine (ref0_at m' c (i 0) (i 1)).trans ?_
  rw [h0, h1, h2, h3, h4]
  rfl

end Cert.Proof.Glu
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.ReferenceIdeal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Post
public import proofs.«01_k».proof.Proof.Post3
public import proofs.«01_k».proof.Proof.AttnFrame
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Qkv
public import proofs.«01_k».proof.Proof.Gated
public import proofs.«01_k».proof.Proof.Conv
public import proofs.«01_k».proof.Proof.Glu
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Attn.frame_kernel, Attn.frame_ideal, Attn.frame_reference,
  Post.frame_kernel, Post.frame_ideal, Post.frame_reference,
  Post3.frame_kernel, Post3.frame_ideal, Post3.frame_reference,
  Qkv.frame_kernel, Qkv.frame_ideal, Qkv.frame_reference,
  Gated.frame_kernel, Gated.frame_ideal, Gated.frame_reference,
  Conv.frame_kernel, Conv.frame_ideal, Conv.frame_reference,
  Glu.frame_kernel, Glu.frame_ideal, Glu.frame_reference,
  trivial, trivial, Post.algebraic, trivial, Post3.algebraic, trivial, Qkv.algebraic, trivial, Gated.algebraic,
  trivial, Conv.algebraic, trivial, Glu.algebraic⟩

end Cert.Proof

end
